-- ==== Defs.lean ====
def Pre_Kernel [hPre_ranges : Cert.Pre_ranges.Facts] (m : (ℓ : Loc Cert.Kernel.nD Cert.Kernel.τ Cert.Kernel.sig) → Buf (Elt Bits) ℓ) : Prop :=
  ∀ c : Dev Cert.Kernel.nD,
    (Cert.Pre_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_ranges : Cert.Pre_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ranges [hPre_ranges : Cert.Pre_ranges.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ranges.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference (m : (ℓ : Loc Cert.Reference.nD Cert.Reference.τ Cert.Reference.sig) → Buf (Elt Bits) ℓ) : Prop :=
  True

def Pre_Reference_ranges [hPre_ranges : Cert.Pre_ranges.Facts] (m : (ℓ : Loc Cert.Reference.nD Cert.Reference.τ Cert.Reference.sig) → Buf (Elt Bits) ℓ) : Prop :=
  ∀ c : Dev Cert.Reference.nD,
    (Cert.Pre_ranges.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ranges [hReferenceIdeal : Cert.ReferenceIdeal.Facts] [hPre_ranges : Cert.Pre_ranges.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ranges m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def quiescent_Reference_pre_ranges [hReference : Cert.Reference.Facts] [hPre_ranges : Cert.Pre_ranges.Facts] : Prop :=
  ∀ (m : (ℓ : Loc Cert.Reference.nD Cert.Reference.τ Cert.Reference.sig) → Buf (Elt Bits) ℓ) (g : Dev Cert.Reference.nD → PrngReg), Pre_Reference_ranges m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ranges : Cert.Pre_ranges.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def bitexact_Kernel_Reference [hKernel : Cert.Kernel.Facts] [hReference : Cert.Reference.Facts] [hPre_ranges : Cert.Pre_ranges.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v5)) (v1 : (c : Dev Cert.Kernel.nD) → Buf (Elt Bits) ((c.tc : Thread Cert.Kernel.nD Cert.Kernel.τ).loc Cert.Kernel.main_v3_1)) (v2 : (c : Dev Cert.Kernel.nD) → Buf (Elt Bits) ((c.tc : Thread Cert.Kernel.nD Cert.Kernel.τ).loc Cert.Kernel.main_v3_2)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v5) = v0 c
          ∧ r.2.mem ((c.tc : Thread Cert.Kernel.nD Cert.Kernel.τ).loc Cert.Kernel.main_v3_1) = v1 c
          ∧ r.2.mem ((c.tc : Thread Cert.Kernel.nD Cert.Kernel.τ).loc Cert.Kernel.main_v3_2) = v2 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_v4) = v1 c
          ∧ r.2.mem ((c.tc : Thread Cert.Reference.nD Cert.Reference.τ).loc Cert.Reference.main_v2) = v2 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def Claim : Prop :=
  ∃ (hKernel : Cert.Kernel.Facts) (hKernelIdeal : Cert.KernelIdeal.Facts) (hReferenceIdeal : Cert.ReferenceIdeal.Facts) (hReference : Cert.Reference.Facts) (hPre_ranges : Cert.Pre_ranges.Facts),
    quiescent_Kernel (hKernel := hKernel) (hPre_ranges := hPre_ranges)
    ∧ quiescent_KernelIdeal (hKernelIdeal := hKernelIdeal) (hPre_ranges := hPre_ranges)
    ∧ quiescent_ReferenceIdeal (hReferenceIdeal := hReferenceIdeal)
    ∧ quiescent_ReferenceIdeal_pre_ranges (hReferenceIdeal := hReferenceIdeal) (hPre_ranges := hPre_ranges)
    ∧ quiescent_Reference (hReference := hReference)
    ∧ quiescent_Reference_pre_ranges (hReference := hReference) (hPre_ranges := hPre_ranges)
    ∧ preserves_Kernel_KernelIdeal
    ∧ algebraic_KernelIdeal_ReferenceIdeal (hKernelIdeal := hKernelIdeal) (hReferenceIdeal := hReferenceIdeal) (hPre_ranges := hPre_ranges)
    ∧ bitexact_Kernel_Reference (hKernel := hKernel) (hReference := hReference) (hPre_ranges := hPre_ranges)
-- ==== Pre_ranges.lean ====
abbrev S16384x200 : Shape := ⟨2, ![16384, 200]⟩
abbrev S16384 : Shape := ⟨1, ![16384]⟩
abbrev S8x8 : Shape := ⟨2, ![8, 8]⟩
abbrev S_ : Shape := ⟨0, ![]⟩

class Facts : Prop where
  bcast_S_S16384x200 : S_.BroadcastsInDim S16384x200 (![] : Fin 0 → Fin S16384x200.rank)
  reducesTo_S16384x200_S_d0_1 : S16384x200.ReducesTo [0, 1] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : IVec S16384x200 32) (main_arg1 : IVec S16384 32) (main_arg2 : FVec F S8x8 .f32) : IVec S_ 1 :=
  let main_c : IVec S_ 32 := constantI S_ 32 0#32
  let main_v0 : IVec S16384x200 32 := broadcastInDim S16384x200 ![] bcast_S_S16384x200 main_c
  let main_v1 : IVec S16384x200 1 := cmpi .sge main_arg0 main_v0
  let main_c_0 : IVec S_ 1 := constantI S_ 1 1#1
  let main_v2 : IVec S_ 1 := (fun x v => Host.reduce IntOp.andi x v reducesTo_S16384x200_S_d0_1 h_S_) main_v1 main_c_0
  let main_c_1 : IVec S_ 32 := constantI S_ 32 8#32
  let main_v3 : IVec S16384x200 32 := broadcastInDim S16384x200 ![] bcast_S_S16384x200 main_c_1
  let main_v4 : IVec S16384x200 1 := cmpi .slt main_arg0 main_v3
  let main_c_2 : IVec S_ 1 := constantI S_ 1 1#1
  let main_v5 : IVec S_ 1 := (fun x v => Host.reduce IntOp.andi x v reducesTo_S16384x200_S_d0_1 h_S_) main_v4 main_c_2
  let main_v6 : IVec S_ 1 := andi main_v2 main_v5
  let main_c_3 : IVec S_ 32 := constantI S_ 32 1#32
  let main_v7 : IVec S16384 32 := broadcastInDim S16384 ![] bcast_S_S16384 main_c_3
  let main_v8 : IVec S16384 1 := cmpi .sge main_arg1 main_v7
  let main_c_4 : IVec S_ 1 := constantI S_ 1 1#1
  let main_v9 : IVec S_ 1 := (fun x v => Host.reduce IntOp.andi x v reducesTo_S16384_S_d0 h_S_) main_v8 main_c_4
  let main_v10 : IVec S_ 1 := andi main_v6 main_v9
  let main_c_5 : IVec S_ 32 := constantI S_ 32 200#32
  let main_v11 : IVec S16384 32 := broadcastInDim S16384 ![] bcast_S_S16384 main_c_5
  let main_v12 : IVec S16384 1 := cmpi .sle main_arg1 main_v11
  let main_c_6 : IVec S_ 1 := constantI S_ 1 1#1
  let main_v13 : IVec S_ 1 := (fun x v => Host.reduce IntOp.andi x v reducesTo_S16384_S_d0 h_S_) main_v12 main_c_6
  let main_v14 : IVec S_ 1 := andi main_v10 main_v13
  main_v14
-- ==== Kernel.lean ====
abbrev S16384x200 : Shape := ⟨2, ![16384, 200]⟩
abbrev S16384 : Shape := ⟨1, ![16384]⟩
abbrev S8x8 : Shape := ⟨2, ![8, 8]⟩
abbrev S_ : Shape := ⟨0, ![]⟩
abbrev S16384x256 : Shape := ⟨2, ![16384, 256]⟩
abbrev S16384x2x128 : Shape := ⟨3, ![16384, 2, 128]⟩
abbrev S64 : Shape := ⟨1, ![64]⟩
abbrev S200x128x8x128 : Shape := ⟨4, ![200, 128, 8, 128]⟩
abbrev S256 : Shape := ⟨1, ![256]⟩
abbrev S512 : Shape := ⟨1, ![512]⟩
abbrev S128x2x128 : Shape := ⟨3, ![128, 2, 128]⟩
abbrev S20x1x8x128 : Shape := ⟨4, ![20, 1, 8, 128]⟩
abbrev S16 : Shape := ⟨1, ![16]⟩
abbrev S128 : Shape := ⟨1, ![128]⟩
abbrev S1x1x1x16 : Shape := ⟨4, ![1, 1, 1, 16]⟩
abbrev S128x128x200x8 : Shape := ⟨4, ![128, 128, 200, 8]⟩
abbrev S16384x200x8 : Shape := ⟨3, ![16384, 200, 8]⟩

abbrev nBuf : Table → Nat
  | .hbm => 13
  | .local .scVector .vmem => 10
  | _ => 0

abbrev bufTy : (tb : Table) → Fin (nBuf tb) → BufTy
  | .hbm, ⟨0, _⟩ => ⟨S16384x200, .i32⟩
  | .hbm, ⟨1, _⟩ => ⟨S16384, .i32⟩
  | .hbm, ⟨2, _⟩ => ⟨S8x8, .f32⟩
  | .hbm, ⟨3, _⟩ => ⟨S_, .i32⟩
  | .hbm, ⟨4, _⟩ => ⟨S_, .i32⟩
  | .hbm, ⟨5, _⟩ => ⟨S16384x256, .i32⟩
  | .hbm, ⟨6, _⟩ => ⟨S16384x2x128, .i32⟩
  | .hbm, ⟨7, _⟩ => ⟨S64, .f32⟩
  | .hbm, ⟨8, _⟩ => ⟨S200x128x8x128, .f32⟩
  | .hbm, ⟨9, _⟩ => ⟨S16384, .i32⟩
  | .hbm, ⟨10, _⟩ => ⟨S16384, .i32⟩
  | .hbm, ⟨11, _⟩ => ⟨S128x128x200x8, .f32⟩
  | .hbm, ⟨12, _⟩ => ⟨S16384x200x8, .f32⟩
  | .local .scVector .vmem, ⟨0, _⟩ => ⟨S16384, .i32⟩
  | .local .scVector .vmem, ⟨1, _⟩ => ⟨S256, .i32⟩
  | .local .scVector .vmem, ⟨2, _⟩ => ⟨S512, .i32⟩
  | .local .scVector .vmem, ⟨3, _⟩ => ⟨S512, .i32⟩
  | .local .scVector .vmem, ⟨4, _⟩ => ⟨S512, .i32⟩
  | .local .scVector .vmem, ⟨5, _⟩ => ⟨S64, .f32⟩
  | .local .scVector .vmem, ⟨6, _⟩ => ⟨S128x2x128, .i32⟩
  | .local .scVector .vmem, ⟨7, _⟩ => ⟨S128x2x128, .i32⟩
  | .local .scVector .vmem, ⟨8, _⟩ => ⟨S20x1x8x128, .f32⟩
  | .local .scVector .vmem, ⟨9, _⟩ => ⟨S20x1x8x128, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev main_v5 : Ref sig .tc := ⟨.hbm, 12, rfl⟩
abbrev main_v1_scv : Ref sig .scVector := ⟨.hbm, 6, rfl⟩
abbrev main_arg1_scv : Ref sig .scVector := ⟨.hbm, 1, rfl⟩
abbrev main_v2_scv : Ref sig .scVector := ⟨.hbm, 7, rfl⟩
abbrev main_v3_0_scv : Ref sig .scVector := ⟨.hbm, 8, rfl⟩
abbrev main_v3_1_scv : Ref sig .scVector := ⟨.hbm, 9, rfl⟩
abbrev main_v3_2_scv : Ref sig .scVector := ⟨.hbm, 10, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_16 : BitVec 32 := 0#32
  let c256_i32 : BitVec 32 := 256#32
  let v40 : BitVec 32 := Scalar.addi c0_i32_16 c256_i32
  let c1_i32 : BitVec 32 := 1#32
  ⟨c0_i32_16, v40, c1_i32⟩
def k0_off1 (k0_t1 : Fin k0_t1_loop.trips) : Fin 1 → Nat :=
  let c0_i32_16 : BitVec 32 := 0#32
  let c1_i32 : BitVec 32 := 1#32
  let arg23 : BitVec 32 := Scf.iv c0_i32_16 c1_i32 k0_t1
  let c4_i32 : BitVec 32 := 4#32
  let v326 : BitVec 32 := Scalar.muli arg23 c4_i32
  let c0_i32_163 : BitVec 32 := 0#32
  let v327 : BitVec 32 := Scalar.addi v326 c0_i32_163
  let c16_i32 : BitVec 32 := 16#32
  let v328 : BitVec 32 := Scalar.muli v327 c16_i32
  let v329 : Index := Scalar.indexCast v328
  ![v329.toNat]

def k0_chk1 (v330 : IVec S16 32) : Prop :=
  (∀ a x, ((![v330] : Fin 1 → IVec S16 32) a x).toNat < S256.size a)
theorem k0_idx1_inb : ∀ (v330 : IVec S16 32) (k0_hw1 : k0_chk1 v330), ∀ a x, ((![v330] : Fin 1 → IVec S16 32) a x).toNat < S256.size a := fun v330 k0_hw1 => k0_hw1
def k0_off2 (k0_t1 : Fin k0_t1_loop.trips) : Fin 1 → Nat :=
  let c0_i32_16 : BitVec 32 := 0#32
  let c1_i32 : BitVec 32 := 1#32
  let arg23 : BitVec 32 := Scf.iv c0_i32_16 c1_i32 k0_t1
  let c4_i32_165 : BitVec 32 := 4#32
  let v332 : BitVec 32 := Scalar.muli arg23 c4_i32_165
  let c1_i32_166 : BitVec 32 := 1#32
  let v333 : BitVec 32 := Scalar.addi v332 c1_i32_166
  let c16_i32_167 : BitVec 32 := 16#32
  let v334 : BitVec 32 := Scalar.muli v333 c16_i32_167
  let v335 : Index := Scalar.indexCast v334
  ![v335.toNat]

def k0_chk2 (v336 : IVec S16 32) : Prop :=
  (∀ a x, ((![v336] : Fin 1 → IVec S16 32) a x).toNat < S256.size a)
theorem k0_idx2_inb : ∀ (v336 : IVec S16 32) (k0_hw2 : k0_chk2 v336), ∀ a x, ((![v336] : Fin 1 → IVec S16 32) a x).toNat < S256.size a := fun v336 k0_hw2 => k0_hw2
def k0_off3 (k0_t1 : Fin k0_t1_loop.trips) : Fin 1 → Nat :=
  let c0_i32_16 : BitVec 32 := 0#32
  let c1_i32 : BitVec 32 := 1#32
  let arg23 : BitVec 32 := Scf.iv c0_i32_16 c1_i32 k0_t1
  let c4_i32_171 : BitVec 32 := 4#32
  let v338 : BitVec 32 := Scalar.muli arg23 c4_i32_171
  let c2_i32_172 : BitVec 32 := 2#32
  let v339 : BitVec 32 := Scalar.addi v338 c2_i32_172
  let c16_i32_173 : BitVec 32 := 16#32
  let v340 : BitVec 32 := Scalar.muli v339 c16_i32_173
  let v341 : Index := Scalar.indexCast v340
  ![v341.toNat]

def k0_chk3 (v342 : IVec S16 32) : Prop :=
  (∀ a x, ((![v342] : Fin 1 → IVec S16 32) a x).toNat < S256.size a)
theorem k0_idx3_inb : ∀ (v342 : IVec S16 32) (k0_hw3 : k0_chk3 v342), ∀ a x, ((![v342] : Fin 1 → IVec S16 32) a x).toNat < S256.size a := fun v342 k0_hw3 => k0_hw3
def k0_off4 (k0_t1 : Fin k0_t1_loop.trips) : Fin 1 → Nat :=
  let c0_i32_16 : BitVec 32 := 0#32
  let c1_i32 : BitVec 32 := 1#32
  let arg23 : BitVec 32 := Scf.iv c0_i32_16 c1_i32 k0_t1
  let c4_i32_177 : BitVec 32 := 4#32
  let v344 : BitVec 32 := Scalar.muli arg23 c4_i32_177
  let c3_i32_178 : BitVec 32 := 3#32
  let v345 : BitVec 32 := Scalar.addi v344 c3_i32_178
  let c16_i32_179 : BitVec 32 := 16#32
  let v346 : BitVec 32 := Scalar.muli v345 c16_i32_179
  let v347 : Index := Scalar.indexCast v346
  ![v347.toNat]

def k0_chk4 (v348 : IVec S16 32) : Prop :=
  (∀ a x, ((![v348] : Fin 1 → IVec S16 32) a x).toNat < S256.size a)
theorem k0_idx4_inb : ∀ (v348 : IVec S16 32) (k0_hw4 : k0_chk4 v348), ∀ a x, ((![v348] : Fin 1 → IVec S16 32) a x).toNat < S256.size a := fun v348 k0_hw4 => k0_hw4
@[reducible] def k0_t2_loop : Scf.Loop 32 :=
  let c0_i32_84 : BitVec 32 := 0#32
  let c512_i32_85 : BitVec 32 := 512#32
  let v218 : BitVec 32 := Scalar.addi c0_i32_84 c512_i32_85
  let c1_i32_86 : BitVec 32 := 1#32
  ⟨c0_i32_84, v218, c1_i32_86⟩
def k0_off5 (k0_t2 : Fin k0_t2_loop.trips) : Fin 1 → Nat :=
  let c0_i32_84 : BitVec 32 := 0#32
  let c1_i32_86 : BitVec 32 := 1#32
  let arg23 : BitVec 32 := Scf.iv c0_i32_84 c1_i32_86 k0_t2
  let c2_i32_163 : BitVec 32 := 2#32
  let v326 : BitVec 32 := Scalar.muli arg23 c2_i32_163
  let c0_i32_164 : BitVec 32 := 0#32
  let v327 : BitVec 32 := Scalar.addi v326 c0_i32_164
  let c16_i32 : BitVec 32 := 16#32
  let v328 : BitVec 32 := Scalar.muli v327 c16_i32
  let v329 : Index := Scalar.indexCast v328
  ![v329.toNat]

def k0_chk5 (v330 : IVec S16 32) : Prop :=
  (∀ a x, ((![v330] : Fin 1 → IVec S16 32) a x).toNat < S256.size a) ∧
  (∀ a x, ((![v330] : Fin 1 → IVec S16 32) a x).toNat < S256.size a)
theorem k0_idx5_inb : ∀ (v330 : IVec S16 32) (k0_hw5 : k0_chk5 v330), ∀ a x, ((![v330] : Fin 1 → IVec S16 32) a x).toNat < S256.size a := fun v330 k0_hw5 => k0_hw5.1
theorem k0_idx6_inb : ∀ (v330 : IVec S16 32) (k0_hw5 : k0_chk5 v330), ∀ a x, ((![v330] : Fin 1 → IVec S16 32) a x).toNat < S256.size a := fun v330 k0_hw5 => k0_hw5.2
def k0_cond1 (i : grid0.Coords) (k0_t2 : Fin k0_t2_loop.trips) : BitVec 1 :=
  let c0_i32_84 : BitVec 32 := 0#32
  let c1_i32_86 : BitVec 32 := 1#32
  let arg23 : BitVec 32 := Scf.iv c0_i32_84 c1_i32_86 k0_t2
  let c2_i32_163 : BitVec 32 := 2#32
  let v326 : BitVec 32 := Scalar.muli arg23 c2_i32_163
  let c0_i32_164 : BitVec 32 := 0#32
  let v327 : BitVec 32 := Scalar.addi v326 c0_i32_164
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v337 : BitVec 32 := Scalar.muli v1 c32_i32
  let v338 : BitVec 1 := Scalar.cmpi .sge v327 v337
  let c1_i32_167 : BitVec 32 := 1#32
  let v339 : BitVec 32 := Scalar.addi v1 c1_i32_167
  let c32_i32_168 : BitVec 32 := 32#32
  let v340 : BitVec 32 := Scalar.muli v339 c32_i32_168
  let v341 : BitVec 1 := Scalar.cmpi .slt v327 v340
  let v342 : BitVec 1 := Scalar.andi v338 v341
  let v343 : BitVec 32 := Scalar.extui v342
  let c0_i32_169 : BitVec 32 := 0#32
  let v344 : BitVec 1 := Scalar.cmpi .ne v343 c0_i32_169
  v344

def k0_off6 (i : grid0.Coords) (k0_t2 : Fin k0_t2_loop.trips) : Fin 1 → Nat :=
  let c0_i32_84 : BitVec 32 := 0#32
  let c1_i32_86 : BitVec 32 := 1#32
  let arg23 : BitVec 32 := Scf.iv c0_i32_84 c1_i32_86 k0_t2
  let c2_i32_163 : BitVec 32 := 2#32
  let v326 : BitVec 32 := Scalar.muli arg23 c2_i32_163
  let c0_i32_164 : BitVec 32 := 0#32
  let v327 : BitVec 32 := Scalar.addi v326 c0_i32_164
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_190 : BitVec 32 := 32#32
  let v388 : BitVec 32 := Scalar.muli v1 c32_i32_190
  let v389 : BitVec 32 := Scalar.subi v327 v388
  let c16_i32_191 : BitVec 32 := 16#32
  let v390 : BitVec 32 := Scalar.muli v389 c16_i32_191
  let v391 : Index := Scalar.indexCast v390
  ![v391.toNat]

def k0_chk6 (v356 : IVec S16 32) : Prop :=
  (∀ a x, ((![v356] : Fin 1 → IVec S16 32) a x).toNat < S512.size a)
theorem k0_idx7_inb : ∀ (v356 : IVec S16 32) (k0_hw6 : k0_chk6 v356), ∀ a x, ((![v356] : Fin 1 → IVec S16 32) a x).toNat < S512.size a := fun v356 k0_hw6 => k0_hw6
def k0_off7 (k0_t2 : Fin k0_t2_loop.trips) : Fin 1 → Nat :=
  let c0_i32_84 : BitVec 32 := 0#32
  let c1_i32_86 : BitVec 32 := 1#32
  let arg23 : BitVec 32 := Scf.iv c0_i32_84 c1_i32_86 k0_t2
  let c2_i32_174 : BitVec 32 := 2#32
  let v357 : BitVec 32 := Scalar.muli arg23 c2_i32_174
  let c1_i32_175 : BitVec 32 := 1#32
  let v358 : BitVec 32 := Scalar.addi v357 c1_i32_175
  let c16_i32_176 : BitVec 32 := 16#32
  let v359 : BitVec 32 := Scalar.muli v358 c16_i32_176
  let v360 : Index := Scalar.indexCast v359
  ![v360.toNat]

def k0_chk7 (v361 : IVec S16 32) : Prop :=
  (∀ a x, ((![v361] : Fin 1 → IVec S16 32) a x).toNat < S256.size a) ∧
  (∀ a x, ((![v361] : Fin 1 → IVec S16 32) a x).toNat < S256.size a)
theorem k0_idx8_inb : ∀ (v361 : IVec S16 32) (k0_hw7 : k0_chk7 v361), ∀ a x, ((![v361] : Fin 1 → IVec S16 32) a x).toNat < S256.size a := fun v361 k0_hw7 => k0_hw7.1
theorem k0_idx9_inb : ∀ (v361 : IVec S16 32) (k0_hw7 : k0_chk7 v361), ∀ a x, ((![v361] : Fin 1 → IVec S16 32) a x).toNat < S256.size a := fun v361 k0_hw7 => k0_hw7.2
def k0_cond2 (i : grid0.Coords) (k0_t2 : Fin k0_t2_loop.trips) : BitVec 1 :=
  let c0_i32_84 : BitVec 32 := 0#32
  let c1_i32_86 : BitVec 32 := 1#32
  let arg23 : BitVec 32 := Scf.iv c0_i32_84 c1_i32_86 k0_t2
  let c2_i32_174 : BitVec 32 := 2#32
  let v357 : BitVec 32 := Scalar.muli arg23 c2_i32_174
  let c1_i32_175 : BitVec 32 := 1#32
  let v358 : BitVec 32 := Scalar.addi v357 c1_i32_175
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_181 : BitVec 32 := 32#32
  let v368 : BitVec 32 := Scalar.muli v1 c32_i32_181
  let v369 : BitVec 1 := Scalar.cmpi .sge v358 v368
  let c1_i32_182 : BitVec 32 := 1#32
  let v370 : BitVec 32 := Scalar.addi v1 c1_i32_182
  let c32_i32_183 : BitVec 32 := 32#32
  let v371 : BitVec 32 := Scalar.muli v370 c32_i32_183
  let v372 : BitVec 1 := Scalar.cmpi .slt v358 v371
  let v373 : BitVec 1 := Scalar.andi v369 v372
  let v374 : BitVec 32 := Scalar.extui v373
  let c0_i32_184 : BitVec 32 := 0#32
  let v375 : BitVec 1 := Scalar.cmpi .ne v374 c0_i32_184
  v375

def k0_off8 (i : grid0.Coords) (k0_t2 : Fin k0_t2_loop.trips) : Fin 1 → Nat :=
  let c0_i32_84 : BitVec 32 := 0#32
  let c1_i32_86 : BitVec 32 := 1#32
  let arg23 : BitVec 32 := Scf.iv c0_i32_84 c1_i32_86 k0_t2
  let c2_i32_174 : BitVec 32 := 2#32
  let v357 : BitVec 32 := Scalar.muli arg23 c2_i32_174
  let c1_i32_175 : BitVec 32 := 1#32
  let v358 : BitVec 32 := Scalar.addi v357 c1_i32_175
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_190 : BitVec 32 := 32#32
  let v388 : BitVec 32 := Scalar.muli v1 c32_i32_190
  let v389 : BitVec 32 := Scalar.subi v358 v388
  let c16_i32_191 : BitVec 32 := 16#32
  let v390 : BitVec 32 := Scalar.muli v389 c16_i32_191
  let v391 : Index := Scalar.indexCast v390
  ![v391.toNat]

def k0_chk8 (v387 : IVec S16 32) : Prop :=
  (∀ a x, ((![v387] : Fin 1 → IVec S16 32) a x).toNat < S512.size a)
theorem k0_idx10_inb : ∀ (v387 : IVec S16 32) (k0_hw8 : k0_chk8 v387), ∀ a x, ((![v387] : Fin 1 → IVec S16 32) a x).toNat < S512.size a := fun v387 k0_hw8 => k0_hw8

def k0_chk9 (v220 : IVec S16 32) : Prop :=
  (∀ a x, ((![v220] : Fin 1 → IVec S16 32) a x).toNat < S16384.size a)
theorem k0_idx11_inb : ∀ (v220 : IVec S16 32) (k0_hw9 : k0_chk9 v220), ∀ a x, ((![v220] : Fin 1 → IVec S16 32) a x).toNat < S16384.size a := fun v220 k0_hw9 => k0_hw9

def k0_chk10 (v223 : IVec S16 32) : Prop :=
  (∀ a x, ((![v223] : Fin 1 → IVec S16 32) a x).toNat < S16384.size a)
theorem k0_idx12_inb : ∀ (v223 : IVec S16 32) (k0_hw10 : k0_chk10 v223), ∀ a x, ((![v223] : Fin 1 → IVec S16 32) a x).toNat < S16384.size a := fun v223 k0_hw10 => k0_hw10

def k0_chk11 (v226 : IVec S16 32) : Prop :=
  (∀ a x, ((![v226] : Fin 1 → IVec S16 32) a x).toNat < S16384.size a)
theorem k0_idx13_inb : ∀ (v226 : IVec S16 32) (k0_hw11 : k0_chk11 v226), ∀ a x, ((![v226] : Fin 1 → IVec S16 32) a x).toNat < S16384.size a := fun v226 k0_hw11 => k0_hw11

def k0_chk12 (v229 : IVec S16 32) : Prop :=
  (∀ a x, ((![v229] : Fin 1 → IVec S16 32) a x).toNat < S16384.size a)
theorem k0_idx14_inb : ∀ (v229 : IVec S16 32) (k0_hw12 : k0_chk12 v229), ∀ a x, ((![v229] : Fin 1 → IVec S16 32) a x).toNat < S16384.size a := fun v229 k0_hw12 => k0_hw12

def k0_chk13 (v232 : IVec S16 32) : Prop :=
  (∀ a x, ((![v232] : Fin 1 → IVec S16 32) a x).toNat < S16384.size a)
theorem k0_idx15_inb : ∀ (v232 : IVec S16 32) (k0_hw13 : k0_chk13 v232), ∀ a x, ((![v232] : Fin 1 → IVec S16 32) a x).toNat < S16384.size a := fun v232 k0_hw13 => k0_hw13

def k0_chk14 (v235 : IVec S16 32) : Prop :=
  (∀ a x, ((![v235] : Fin 1 → IVec S16 32) a x).toNat < S16384.size a)
theorem k0_idx16_inb : ∀ (v235 : IVec S16 32) (k0_hw14 : k0_chk14 v235), ∀ a x, ((![v235] : Fin 1 → IVec S16 32) a x).toNat < S16384.size a := fun v235 k0_hw14 => k0_hw14

def k0_chk15 (v238 : IVec S16 32) : Prop :=
  (∀ a x, ((![v238] : Fin 1 → IVec S16 32) a x).toNat < S16384.size a)
theorem k0_idx17_inb : ∀ (v238 : IVec S16 32) (k0_hw15 : k0_chk15 v238), ∀ a x, ((![v238] : Fin 1 → IVec S16 32) a x).toNat < S16384.size a := fun v238 k0_hw15 => k0_hw15

def k0_chk16 (v241 : IVec S16 32) : Prop :=
  (∀ a x, ((![v241] : Fin 1 → IVec S16 32) a x).toNat < S16384.size a)
theorem k0_idx18_inb : ∀ (v241 : IVec S16 32) (k0_hw16 : k0_chk16 v241), ∀ a x, ((![v241] : Fin 1 → IVec S16 32) a x).toNat < S16384.size a := fun v241 k0_hw16 => k0_hw16

def k0_chk17 (v244 : IVec S16 32) : Prop :=
  (∀ a x, ((![v244] : Fin 1 → IVec S16 32) a x).toNat < S16384.size a)
theorem k0_idx19_inb : ∀ (v244 : IVec S16 32) (k0_hw17 : k0_chk17 v244), ∀ a x, ((![v244] : Fin 1 → IVec S16 32) a x).toNat < S16384.size a := fun v244 k0_hw17 => k0_hw17

def k0_chk18 (v247 : IVec S16 32) : Prop :=
  (∀ a x, ((![v247] : Fin 1 → IVec S16 32) a x).toNat < S16384.size a)
theorem k0_idx20_inb : ∀ (v247 : IVec S16 32) (k0_hw18 : k0_chk18 v247), ∀ a x, ((![v247] : Fin 1 → IVec S16 32) a x).toNat < S16384.size a := fun v247 k0_hw18 => k0_hw18

def k0_chk19 (v250 : IVec S16 32) : Prop :=
  (∀ a x, ((![v250] : Fin 1 → IVec S16 32) a x).toNat < S16384.size a)
theorem k0_idx21_inb : ∀ (v250 : IVec S16 32) (k0_hw19 : k0_chk19 v250), ∀ a x, ((![v250] : Fin 1 → IVec S16 32) a x).toNat < S16384.size a := fun v250 k0_hw19 => k0_hw19

def k0_chk20 (v253 : IVec S16 32) : Prop :=
  (∀ a x, ((![v253] : Fin 1 → IVec S16 32) a x).toNat < S16384.size a)
theorem k0_idx22_inb : ∀ (v253 : IVec S16 32) (k0_hw20 : k0_chk20 v253), ∀ a x, ((![v253] : Fin 1 → IVec S16 32) a x).toNat < S16384.size a := fun v253 k0_hw20 => k0_hw20

def k0_chk21 (v256 : IVec S16 32) : Prop :=
  (∀ a x, ((![v256] : Fin 1 → IVec S16 32) a x).toNat < S16384.size a)
theorem k0_idx23_inb : ∀ (v256 : IVec S16 32) (k0_hw21 : k0_chk21 v256), ∀ a x, ((![v256] : Fin 1 → IVec S16 32) a x).toNat < S16384.size a := fun v256 k0_hw21 => k0_hw21

def k0_chk22 (v259 : IVec S16 32) : Prop :=
  (∀ a x, ((![v259] : Fin 1 → IVec S16 32) a x).toNat < S16384.size a)
theorem k0_idx24_inb : ∀ (v259 : IVec S16 32) (k0_hw22 : k0_chk22 v259), ∀ a x, ((![v259] : Fin 1 → IVec S16 32) a x).toNat < S16384.size a := fun v259 k0_hw22 => k0_hw22

def k0_chk23 (v262 : IVec S16 32) : Prop :=
  (∀ a x, ((![v262] : Fin 1 → IVec S16 32) a x).toNat < S16384.size a)
theorem k0_idx25_inb : ∀ (v262 : IVec S16 32) (k0_hw23 : k0_chk23 v262), ∀ a x, ((![v262] : Fin 1 → IVec S16 32) a x).toNat < S16384.size a := fun v262 k0_hw23 => k0_hw23

def k0_chk24 (v265 : IVec S16 32) : Prop :=
  (∀ a x, ((![v265] : Fin 1 → IVec S16 32) a x).toNat < S16384.size a)
theorem k0_idx26_inb : ∀ (v265 : IVec S16 32) (k0_hw24 : k0_chk24 v265), ∀ a x, ((![v265] : Fin 1 → IVec S16 32) a x).toNat < S16384.size a := fun v265 k0_hw24 => k0_hw24

def k0_chk25 (v268 : IVec S16 32) : Prop :=
  (∀ a x, ((![v268] : Fin 1 → IVec S16 32) a x).toNat < S16384.size a)
theorem k0_idx27_inb : ∀ (v268 : IVec S16 32) (k0_hw25 : k0_chk25 v268), ∀ a x, ((![v268] : Fin 1 → IVec S16 32) a x).toNat < S16384.size a := fun v268 k0_hw25 => k0_hw25

def k0_chk26 (v271 : IVec S16 32) : Prop :=
  (∀ a x, ((![v271] : Fin 1 → IVec S16 32) a x).toNat < S16384.size a)
theorem k0_idx28_inb : ∀ (v271 : IVec S16 32) (k0_hw26 : k0_chk26 v271), ∀ a x, ((![v271] : Fin 1 → IVec S16 32) a x).toNat < S16384.size a := fun v271 k0_hw26 => k0_hw26

def k0_chk27 (v274 : IVec S16 32) : Prop :=
  (∀ a x, ((![v274] : Fin 1 → IVec S16 32) a x).toNat < S16384.size a)
theorem k0_idx29_inb : ∀ (v274 : IVec S16 32) (k0_hw27 : k0_chk27 v274), ∀ a x, ((![v274] : Fin 1 → IVec S16 32) a x).toNat < S16384.size a := fun v274 k0_hw27 => k0_hw27

def k0_chk28 (v277 : IVec S16 32) : Prop :=
  (∀ a x, ((![v277] : Fin 1 → IVec S16 32) a x).toNat < S16384.size a)
theorem k0_idx30_inb : ∀ (v277 : IVec S16 32) (k0_hw28 : k0_chk28 v277), ∀ a x, ((![v277] : Fin 1 → IVec S16 32) a x).toNat < S16384.size a := fun v277 k0_hw28 => k0_hw28

def k0_chk29 (v280 : IVec S16 32) : Prop :=
  (∀ a x, ((![v280] : Fin 1 → IVec S16 32) a x).toNat < S16384.size a)
theorem k0_idx31_inb : ∀ (v280 : IVec S16 32) (k0_hw29 : k0_chk29 v280), ∀ a x, ((![v280] : Fin 1 → IVec S16 32) a x).toNat < S16384.size a := fun v280 k0_hw29 => k0_hw29

def k0_chk30 (v283 : IVec S16 32) : Prop :=
  (∀ a x, ((![v283] : Fin 1 → IVec S16 32) a x).toNat < S16384.size a)
theorem k0_idx32_inb : ∀ (v283 : IVec S16 32) (k0_hw30 : k0_chk30 v283), ∀ a x, ((![v283] : Fin 1 → IVec S16 32) a x).toNat < S16384.size a := fun v283 k0_hw30 => k0_hw30

def k0_chk31 (v286 : IVec S16 32) : Prop :=
  (∀ a x, ((![v286] : Fin 1 → IVec S16 32) a x).toNat < S16384.size a)
theorem k0_idx33_inb : ∀ (v286 : IVec S16 32) (k0_hw31 : k0_chk31 v286), ∀ a x, ((![v286] : Fin 1 → IVec S16 32) a x).toNat < S16384.size a := fun v286 k0_hw31 => k0_hw31

def k0_chk32 (v289 : IVec S16 32) : Prop :=
  (∀ a x, ((![v289] : Fin 1 → IVec S16 32) a x).toNat < S16384.size a)
theorem k0_idx34_inb : ∀ (v289 : IVec S16 32) (k0_hw32 : k0_chk32 v289), ∀ a x, ((![v289] : Fin 1 → IVec S16 32) a x).toNat < S16384.size a := fun v289 k0_hw32 => k0_hw32

def k0_chk33 (v292 : IVec S16 32) : Prop :=
  (∀ a x, ((![v292] : Fin 1 → IVec S16 32) a x).toNat < S16384.size a)
theorem k0_idx35_inb : ∀ (v292 : IVec S16 32) (k0_hw33 : k0_chk33 v292), ∀ a x, ((![v292] : Fin 1 → IVec S16 32) a x).toNat < S16384.size a := fun v292 k0_hw33 => k0_hw33

def k0_chk34 (v295 : IVec S16 32) : Prop :=
  (∀ a x, ((![v295] : Fin 1 → IVec S16 32) a x).toNat < S16384.size a)
theorem k0_idx36_inb : ∀ (v295 : IVec S16 32) (k0_hw34 : k0_chk34 v295), ∀ a x, ((![v295] : Fin 1 → IVec S16 32) a x).toNat < S16384.size a := fun v295 k0_hw34 => k0_hw34

def k0_chk35 (v298 : IVec S16 32) : Prop :=
  (∀ a x, ((![v298] : Fin 1 → IVec S16 32) a x).toNat < S16384.size a)
theorem k0_idx37_inb : ∀ (v298 : IVec S16 32) (k0_hw35 : k0_chk35 v298), ∀ a x, ((![v298] : Fin 1 → IVec S16 32) a x).toNat < S16384.size a := fun v298 k0_hw35 => k0_hw35

def k0_chk36 (v301 : IVec S16 32) : Prop :=
  (∀ a x, ((![v301] : Fin 1 → IVec S16 32) a x).toNat < S16384.size a)
theorem k0_idx38_inb : ∀ (v301 : IVec S16 32) (k0_hw36 : k0_chk36 v301), ∀ a x, ((![v301] : Fin 1 → IVec S16 32) a x).toNat < S16384.size a := fun v301 k0_hw36 => k0_hw36

def k0_chk37 (v304 : IVec S16 32) : Prop :=
  (∀ a x, ((![v304] : Fin 1 → IVec S16 32) a x).toNat < S16384.size a)
theorem k0_idx39_inb : ∀ (v304 : IVec S16 32) (k0_hw37 : k0_chk37 v304), ∀ a x, ((![v304] : Fin 1 → IVec S16 32) a x).toNat < S16384.size a := fun v304 k0_hw37 => k0_hw37

def k0_chk38 (v307 : IVec S16 32) : Prop :=
  (∀ a x, ((![v307] : Fin 1 → IVec S16 32) a x).toNat < S16384.size a)
theorem k0_idx40_inb : ∀ (v307 : IVec S16 32) (k0_hw38 : k0_chk38 v307), ∀ a x, ((![v307] : Fin 1 → IVec S16 32) a x).toNat < S16384.size a := fun v307 k0_hw38 => k0_hw38

def k0_chk39 (v310 : IVec S16 32) : Prop :=
  (∀ a x, ((![v310] : Fin 1 → IVec S16 32) a x).toNat < S16384.size a)
theorem k0_idx41_inb : ∀ (v310 : IVec S16 32) (k0_hw39 : k0_chk39 v310), ∀ a x, ((![v310] : Fin 1 → IVec S16 32) a x).toNat < S16384.size a := fun v310 k0_hw39 => k0_hw39

def k0_chk40 (v313 : IVec S16 32) : Prop :=
  (∀ a x, ((![v313] : Fin 1 → IVec S16 32) a x).toNat < S16384.size a)
theorem k0_idx42_inb : ∀ (v313 : IVec S16 32) (k0_hw40 : k0_chk40 v313), ∀ a x, ((![v313] : Fin 1 → IVec S16 32) a x).toNat < S16384.size a := fun v313 k0_hw40 => k0_hw40
def k0_off9 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32_136 : BitVec 32 := 512#32
  let v316 : BitVec 32 := Scalar.muli v1 c512_i32_136
  ![v316.toNat]
@[reducible] def k0_t3_loop : Scf.Loop 32 :=
  let c0_i32_143 : BitVec 32 := 0#32
  let c2_i32_144 : BitVec 32 := 2#32
  let v320 : BitVec 32 := Scalar.addi c0_i32_143 c2_i32_144
  let c1_i32_145 : BitVec 32 := 1#32
  ⟨c0_i32_143, v320, c1_i32_145⟩
def k0_off10 (k0_t3 : Fin k0_t3_loop.trips) : Fin 1 → Nat :=
  let c2_i32_164 : BitVec 32 := 2#32
  let c0_i32_143 : BitVec 32 := 0#32
  let c1_i32_145 : BitVec 32 := 1#32
  let arg23 : BitVec 32 := Scf.iv c0_i32_143 c1_i32_145 k0_t3
  let v327 : BitVec 32 := Scalar.muli c2_i32_164 arg23
  let c1_i32_165 : BitVec 32 := 1#32
  let v328 : BitVec 32 := Scalar.addi v327 c1_i32_165
  let c128_i32 : BitVec 32 := 128#32
  let v331 : BitVec 32 := Scalar.muli v328 c128_i32
  ![v331.toNat]
@[reducible] def k0_t4_loop : Scf.Loop 32 :=
  let c0_i32_174 : BitVec 32 := 0#32
  let c5_i32 : BitVec 32 := 5#32
  let v334 : BitVec 32 := Scalar.addi c0_i32_174 c5_i32
  let c1_i32_175 : BitVec 32 := 1#32
  ⟨c0_i32_174, v334, c1_i32_175⟩
def k0_cond3 (k0_t3 : Fin k0_t3_loop.trips) (k0_t4 : Fin k0_t4_loop.trips) : BitVec 1 :=
  let c0_i32_143 : BitVec 32 := 0#32
  let c1_i32_145 : BitVec 32 := 1#32
  let arg23 : BitVec 32 := Scf.iv c0_i32_143 c1_i32_145 k0_t3
  let c0_i32_189 : BitVec 32 := 0#32
  let v343 : BitVec 1 := Scalar.cmpi .eq arg23 c0_i32_189
  let c0_i32_174 : BitVec 32 := 0#32
  let c1_i32_175 : BitVec 32 := 1#32
  let arg25 : BitVec 32 := Scf.iv c0_i32_174 c1_i32_175 k0_t4
  let c0_i32_190 : BitVec 32 := 0#32
  let v344 : BitVec 1 := Scalar.cmpi .eq arg25 c0_i32_190
  let v345 : BitVec 1 := Scalar.andi v343 v344
  let true_192 : BitVec 1 := 1#1
  let v350 : BitVec 1 := Scalar.xori v345 true_192
  let v351 : BitVec 32 := Scalar.extui v350
  let c0_i32_193 : BitVec 32 := 0#32
  let v352 : BitVec 1 := Scalar.cmpi .ne v351 c0_i32_193
  v352

def k0_off11 (i : grid0.Coords) (k0_t3 : Fin k0_t3_loop.trips) (k0_t4 : Fin k0_t4_loop.trips) : Fin 4 → Nat :=
  let c2_i32_191 : BitVec 32 := 2#32
  let c0_i32_174 : BitVec 32 := 0#32
  let c1_i32_175 : BitVec 32 := 1#32
  let arg25 : BitVec 32 := Scf.iv c0_i32_174 c1_i32_175 k0_t4
  let v346 : BitVec 32 := Scalar.muli c2_i32_191 arg25
  let c20_i32 : BitVec 32 := 20#32
  let v347 : BitVec 32 := Scalar.muli v346 c20_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v348 : BitVec 32 := Scalar.muli v1 c4_i32
  let c2_i32_163 : BitVec 32 := 2#32
  let c0_i32_143 : BitVec 32 := 0#32
  let c1_i32_145 : BitVec 32 := 1#32
  let arg23 : BitVec 32 := Scf.iv c0_i32_143 c1_i32_145 k0_t3
  let v326 : BitVec 32 := Scalar.muli c2_i32_163 arg23
  let v349 : BitVec 32 := Scalar.addi v348 v326
  let c0_i32_219 : BitVec 32 := 0#32
  let c0_i32_220 : BitVec 32 := 0#32
  ![v347.toNat, v349.toNat, 0, 0]
@[reducible] def k0_t5_loop : Scf.Loop 32 :=
  let c0_i32_195 : BitVec 32 := 0#32
  let c20_i32_196 : BitVec 32 := 20#32
  let v353 : BitVec 32 := Scalar.addi c0_i32_195 c20_i32_196
  let c1_i32_197 : BitVec 32 := 1#32
  ⟨c0_i32_195, v353, c1_i32_197⟩

def k0_chk41 (v373 : IVec S16 32) (v375 : IVec S16 32) (v377 : IVec S16 32) : Prop :=
  (∀ a x, ((![v373, v375, v377] : Fin 3 → IVec S16 32) a x).toNat < S128x2x128.size a)
theorem k0_idx43_inb : ∀ (v373 : IVec S16 32) (v375 : IVec S16 32) (v377 : IVec S16 32) (k0_hw41 : k0_chk41 v373 v375 v377), ∀ a x, ((![v373, v375, v377] : Fin 3 → IVec S16 32) a x).toNat < S128x2x128.size a := fun v373 v375 v377 k0_hw41 => k0_hw41

def k0_chk42 (v380 : IVec S16 32) (v382 : IVec S16 32) (v384 : IVec S16 32) : Prop :=
  (∀ a x, ((![v380, v382, v384] : Fin 3 → IVec S16 32) a x).toNat < S128x2x128.size a)
theorem k0_idx44_inb : ∀ (v380 : IVec S16 32) (v382 : IVec S16 32) (v384 : IVec S16 32) (k0_hw42 : k0_chk42 v380 v382 v384), ∀ a x, ((![v380, v382, v384] : Fin 3 → IVec S16 32) a x).toNat < S128x2x128.size a := fun v380 v382 v384 k0_hw42 => k0_hw42

def k0_chk43 (v387 : IVec S16 32) (v389 : IVec S16 32) (v391 : IVec S16 32) : Prop :=
  (∀ a x, ((![v387, v389, v391] : Fin 3 → IVec S16 32) a x).toNat < S128x2x128.size a)
theorem k0_idx45_inb : ∀ (v387 : IVec S16 32) (v389 : IVec S16 32) (v391 : IVec S16 32) (k0_hw43 : k0_chk43 v387 v389 v391), ∀ a x, ((![v387, v389, v391] : Fin 3 → IVec S16 32) a x).toNat < S128x2x128.size a := fun v387 v389 v391 k0_hw43 => k0_hw43

def k0_chk44 (v394 : IVec S16 32) (v396 : IVec S16 32) (v398 : IVec S16 32) : Prop :=
  (∀ a x, ((![v394, v396, v398] : Fin 3 → IVec S16 32) a x).toNat < S128x2x128.size a)
theorem k0_idx46_inb : ∀ (v394 : IVec S16 32) (v396 : IVec S16 32) (v398 : IVec S16 32) (k0_hw44 : k0_chk44 v394 v396 v398), ∀ a x, ((![v394, v396, v398] : Fin 3 → IVec S16 32) a x).toNat < S128x2x128.size a := fun v394 v396 v398 k0_hw44 => k0_hw44

def k0_chk45 (v401 : IVec S16 32) (v403 : IVec S16 32) (v405 : IVec S16 32) : Prop :=
  (∀ a x, ((![v401, v403, v405] : Fin 3 → IVec S16 32) a x).toNat < S128x2x128.size a)
theorem k0_idx47_inb : ∀ (v401 : IVec S16 32) (v403 : IVec S16 32) (v405 : IVec S16 32) (k0_hw45 : k0_chk45 v401 v403 v405), ∀ a x, ((![v401, v403, v405] : Fin 3 → IVec S16 32) a x).toNat < S128x2x128.size a := fun v401 v403 v405 k0_hw45 => k0_hw45

def k0_chk46 (v408 : IVec S16 32) (v410 : IVec S16 32) (v412 : IVec S16 32) : Prop :=
  (∀ a x, ((![v408, v410, v412] : Fin 3 → IVec S16 32) a x).toNat < S128x2x128.size a)
theorem k0_idx48_inb : ∀ (v408 : IVec S16 32) (v410 : IVec S16 32) (v412 : IVec S16 32) (k0_hw46 : k0_chk46 v408 v410 v412), ∀ a x, ((![v408, v410, v412] : Fin 3 → IVec S16 32) a x).toNat < S128x2x128.size a := fun v408 v410 v412 k0_hw46 => k0_hw46

def k0_chk47 (v415 : IVec S16 32) (v417 : IVec S16 32) (v419 : IVec S16 32) : Prop :=
  (∀ a x, ((![v415, v417, v419] : Fin 3 → IVec S16 32) a x).toNat < S128x2x128.size a)
theorem k0_idx49_inb : ∀ (v415 : IVec S16 32) (v417 : IVec S16 32) (v419 : IVec S16 32) (k0_hw47 : k0_chk47 v415 v417 v419), ∀ a x, ((![v415, v417, v419] : Fin 3 → IVec S16 32) a x).toNat < S128x2x128.size a := fun v415 v417 v419 k0_hw47 => k0_hw47

def k0_chk48 (v422 : IVec S16 32) (v424 : IVec S16 32) (v426 : IVec S16 32) : Prop :=
  (∀ a x, ((![v422, v424, v426] : Fin 3 → IVec S16 32) a x).toNat < S128x2x128.size a)
theorem k0_idx50_inb : ∀ (v422 : IVec S16 32) (v424 : IVec S16 32) (v426 : IVec S16 32) (k0_hw48 : k0_chk48 v422 v424 v426), ∀ a x, ((![v422, v424, v426] : Fin 3 → IVec S16 32) a x).toNat < S128x2x128.size a := fun v422 v424 v426 k0_hw48 => k0_hw48

def k0_chk49 (v431 : IVec S16 32) : Prop :=
  (∀ a x, ((![v431] : Fin 1 → IVec S16 32) a x).toNat < S64.size a)
theorem k0_idx51_inb : ∀ (v431 : IVec S16 32) (k0_hw49 : k0_chk49 v431), ∀ a x, ((![v431] : Fin 1 → IVec S16 32) a x).toNat < S64.size a := fun v431 k0_hw49 => k0_hw49
def k0_off12 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v433 : Index := Scalar.indexCast arg27
  let c0_i32_237 : BitVec 32 := 0#32
  let v434 : Index := Scalar.indexCast c0_i32_237
  let c0_i32_238 : BitVec 32 := 0#32
  let v435 : Index := Scalar.indexCast c0_i32_238
  let c0_239 : Index := 0#32
  ![v433.toNat, 0, 0, 0]

def k0_chk50 (v440 : IVec S16 32) : Prop :=
  (∀ a x, ((![v440] : Fin 1 → IVec S16 32) a x).toNat < S64.size a)
theorem k0_idx52_inb : ∀ (v440 : IVec S16 32) (k0_hw50 : k0_chk50 v440), ∀ a x, ((![v440] : Fin 1 → IVec S16 32) a x).toNat < S64.size a := fun v440 k0_hw50 => k0_hw50
def k0_off13 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v442 : Index := Scalar.indexCast arg27
  let c0_i32_242 : BitVec 32 := 0#32
  let v443 : Index := Scalar.indexCast c0_i32_242
  let c1_i32_243 : BitVec 32 := 1#32
  let v444 : Index := Scalar.indexCast c1_i32_243
  let c0_244 : Index := 0#32
  ![v442.toNat, 0, 1, 0]

def k0_chk51 (v449 : IVec S16 32) : Prop :=
  (∀ a x, ((![v449] : Fin 1 → IVec S16 32) a x).toNat < S64.size a)
theorem k0_idx53_inb : ∀ (v449 : IVec S16 32) (k0_hw51 : k0_chk51 v449), ∀ a x, ((![v449] : Fin 1 → IVec S16 32) a x).toNat < S64.size a := fun v449 k0_hw51 => k0_hw51
def k0_off14 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v451 : Index := Scalar.indexCast arg27
  let c0_i32_247 : BitVec 32 := 0#32
  let v452 : Index := Scalar.indexCast c0_i32_247
  let c2_i32_248 : BitVec 32 := 2#32
  let v453 : Index := Scalar.indexCast c2_i32_248
  let c0_249 : Index := 0#32
  ![v451.toNat, 0, 2, 0]

def k0_chk52 (v458 : IVec S16 32) : Prop :=
  (∀ a x, ((![v458] : Fin 1 → IVec S16 32) a x).toNat < S64.size a)
theorem k0_idx54_inb : ∀ (v458 : IVec S16 32) (k0_hw52 : k0_chk52 v458), ∀ a x, ((![v458] : Fin 1 → IVec S16 32) a x).toNat < S64.size a := fun v458 k0_hw52 => k0_hw52
def k0_off15 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v460 : Index := Scalar.indexCast arg27
  let c0_i32_252 : BitVec 32 := 0#32
  let v461 : Index := Scalar.indexCast c0_i32_252
  let c3_i32_253 : BitVec 32 := 3#32
  let v462 : Index := Scalar.indexCast c3_i32_253
  let c0_254 : Index := 0#32
  ![v460.toNat, 0, 3, 0]

def k0_chk53 (v467 : IVec S16 32) : Prop :=
  (∀ a x, ((![v467] : Fin 1 → IVec S16 32) a x).toNat < S64.size a)
theorem k0_idx55_inb : ∀ (v467 : IVec S16 32) (k0_hw53 : k0_chk53 v467), ∀ a x, ((![v467] : Fin 1 → IVec S16 32) a x).toNat < S64.size a := fun v467 k0_hw53 => k0_hw53
def k0_off16 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v469 : Index := Scalar.indexCast arg27
  let c0_i32_257 : BitVec 32 := 0#32
  let v470 : Index := Scalar.indexCast c0_i32_257
  let c4_i32_258 : BitVec 32 := 4#32
  let v471 : Index := Scalar.indexCast c4_i32_258
  let c0_259 : Index := 0#32
  ![v469.toNat, 0, 4, 0]

def k0_chk54 (v476 : IVec S16 32) : Prop :=
  (∀ a x, ((![v476] : Fin 1 → IVec S16 32) a x).toNat < S64.size a)
theorem k0_idx56_inb : ∀ (v476 : IVec S16 32) (k0_hw54 : k0_chk54 v476), ∀ a x, ((![v476] : Fin 1 → IVec S16 32) a x).toNat < S64.size a := fun v476 k0_hw54 => k0_hw54
def k0_off17 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v478 : Index := Scalar.indexCast arg27
  let c0_i32_262 : BitVec 32 := 0#32
  let v479 : Index := Scalar.indexCast c0_i32_262
  let c5_i32_263 : BitVec 32 := 5#32
  let v480 : Index := Scalar.indexCast c5_i32_263
  let c0_264 : Index := 0#32
  ![v478.toNat, 0, 5, 0]

def k0_chk55 (v485 : IVec S16 32) : Prop :=
  (∀ a x, ((![v485] : Fin 1 → IVec S16 32) a x).toNat < S64.size a)
theorem k0_idx57_inb : ∀ (v485 : IVec S16 32) (k0_hw55 : k0_chk55 v485), ∀ a x, ((![v485] : Fin 1 → IVec S16 32) a x).toNat < S64.size a := fun v485 k0_hw55 => k0_hw55
def k0_off18 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v487 : Index := Scalar.indexCast arg27
  let c0_i32_266 : BitVec 32 := 0#32
  let v488 : Index := Scalar.indexCast c0_i32_266
  let c6_i32_267 : BitVec 32 := 6#32
  let v489 : Index := Scalar.indexCast c6_i32_267
  let c0_268 : Index := 0#32
  ![v487.toNat, 0, 6, 0]

def k0_chk56 (v494 : IVec S16 32) : Prop :=
  (∀ a x, ((![v494] : Fin 1 → IVec S16 32) a x).toNat < S64.size a)
theorem k0_idx58_inb : ∀ (v494 : IVec S16 32) (k0_hw56 : k0_chk56 v494), ∀ a x, ((![v494] : Fin 1 → IVec S16 32) a x).toNat < S64.size a := fun v494 k0_hw56 => k0_hw56
def k0_off19 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v496 : Index := Scalar.indexCast arg27
  let c0_i32_271 : BitVec 32 := 0#32
  let v497 : Index := Scalar.indexCast c0_i32_271
  let c7_i32_272 : BitVec 32 := 7#32
  let v498 : Index := Scalar.indexCast c7_i32_272
  let c0_273 : Index := 0#32
  ![v496.toNat, 0, 7, 0]

def k0_chk57 (v503 : IVec S16 32) : Prop :=
  (∀ a x, ((![v503] : Fin 1 → IVec S16 32) a x).toNat < S64.size a)
theorem k0_idx59_inb : ∀ (v503 : IVec S16 32) (k0_hw57 : k0_chk57 v503), ∀ a x, ((![v503] : Fin 1 → IVec S16 32) a x).toNat < S64.size a := fun v503 k0_hw57 => k0_hw57
def k0_off20 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v505 : Index := Scalar.indexCast arg27
  let c0_i32_276 : BitVec 32 := 0#32
  let v506 : Index := Scalar.indexCast c0_i32_276
  let c0_i32_277 : BitVec 32 := 0#32
  let v507 : Index := Scalar.indexCast c0_i32_277
  let c16_278 : Index := 16#32
  ![v505.toNat, 0, 0, 16]

def k0_chk58 (v512 : IVec S16 32) : Prop :=
  (∀ a x, ((![v512] : Fin 1 → IVec S16 32) a x).toNat < S64.size a)
theorem k0_idx60_inb : ∀ (v512 : IVec S16 32) (k0_hw58 : k0_chk58 v512), ∀ a x, ((![v512] : Fin 1 → IVec S16 32) a x).toNat < S64.size a := fun v512 k0_hw58 => k0_hw58
def k0_off21 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v514 : Index := Scalar.indexCast arg27
  let c0_i32_281 : BitVec 32 := 0#32
  let v515 : Index := Scalar.indexCast c0_i32_281
  let c1_i32_282 : BitVec 32 := 1#32
  let v516 : Index := Scalar.indexCast c1_i32_282
  let c16_283 : Index := 16#32
  ![v514.toNat, 0, 1, 16]

def k0_chk59 (v521 : IVec S16 32) : Prop :=
  (∀ a x, ((![v521] : Fin 1 → IVec S16 32) a x).toNat < S64.size a)
theorem k0_idx61_inb : ∀ (v521 : IVec S16 32) (k0_hw59 : k0_chk59 v521), ∀ a x, ((![v521] : Fin 1 → IVec S16 32) a x).toNat < S64.size a := fun v521 k0_hw59 => k0_hw59
def k0_off22 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v523 : Index := Scalar.indexCast arg27
  let c0_i32_286 : BitVec 32 := 0#32
  let v524 : Index := Scalar.indexCast c0_i32_286
  let c2_i32_287 : BitVec 32 := 2#32
  let v525 : Index := Scalar.indexCast c2_i32_287
  let c16_288 : Index := 16#32
  ![v523.toNat, 0, 2, 16]

def k0_chk60 (v530 : IVec S16 32) : Prop :=
  (∀ a x, ((![v530] : Fin 1 → IVec S16 32) a x).toNat < S64.size a)
theorem k0_idx62_inb : ∀ (v530 : IVec S16 32) (k0_hw60 : k0_chk60 v530), ∀ a x, ((![v530] : Fin 1 → IVec S16 32) a x).toNat < S64.size a := fun v530 k0_hw60 => k0_hw60
def k0_off23 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v532 : Index := Scalar.indexCast arg27
  let c0_i32_291 : BitVec 32 := 0#32
  let v533 : Index := Scalar.indexCast c0_i32_291
  let c3_i32_292 : BitVec 32 := 3#32
  let v534 : Index := Scalar.indexCast c3_i32_292
  let c16_293 : Index := 16#32
  ![v532.toNat, 0, 3, 16]

def k0_chk61 (v539 : IVec S16 32) : Prop :=
  (∀ a x, ((![v539] : Fin 1 → IVec S16 32) a x).toNat < S64.size a)
theorem k0_idx63_inb : ∀ (v539 : IVec S16 32) (k0_hw61 : k0_chk61 v539), ∀ a x, ((![v539] : Fin 1 → IVec S16 32) a x).toNat < S64.size a := fun v539 k0_hw61 => k0_hw61
def k0_off24 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v541 : Index := Scalar.indexCast arg27
  let c0_i32_296 : BitVec 32 := 0#32
  let v542 : Index := Scalar.indexCast c0_i32_296
  let c4_i32_297 : BitVec 32 := 4#32
  let v543 : Index := Scalar.indexCast c4_i32_297
  let c16_298 : Index := 16#32
  ![v541.toNat, 0, 4, 16]

def k0_chk62 (v548 : IVec S16 32) : Prop :=
  (∀ a x, ((![v548] : Fin 1 → IVec S16 32) a x).toNat < S64.size a)
theorem k0_idx64_inb : ∀ (v548 : IVec S16 32) (k0_hw62 : k0_chk62 v548), ∀ a x, ((![v548] : Fin 1 → IVec S16 32) a x).toNat < S64.size a := fun v548 k0_hw62 => k0_hw62
def k0_off25 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v550 : Index := Scalar.indexCast arg27
  let c0_i32_301 : BitVec 32 := 0#32
  let v551 : Index := Scalar.indexCast c0_i32_301
  let c5_i32_302 : BitVec 32 := 5#32
  let v552 : Index := Scalar.indexCast c5_i32_302
  let c16_303 : Index := 16#32
  ![v550.toNat, 0, 5, 16]

def k0_chk63 (v557 : IVec S16 32) : Prop :=
  (∀ a x, ((![v557] : Fin 1 → IVec S16 32) a x).toNat < S64.size a)
theorem k0_idx65_inb : ∀ (v557 : IVec S16 32) (k0_hw63 : k0_chk63 v557), ∀ a x, ((![v557] : Fin 1 → IVec S16 32) a x).toNat < S64.size a := fun v557 k0_hw63 => k0_hw63
def k0_off26 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v559 : Index := Scalar.indexCast arg27
  let c0_i32_306 : BitVec 32 := 0#32
  let v560 : Index := Scalar.indexCast c0_i32_306
  let c6_i32_307 : BitVec 32 := 6#32
  let v561 : Index := Scalar.indexCast c6_i32_307
  let c16_308 : Index := 16#32
  ![v559.toNat, 0, 6, 16]

def k0_chk64 (v566 : IVec S16 32) : Prop :=
  (∀ a x, ((![v566] : Fin 1 → IVec S16 32) a x).toNat < S64.size a)
theorem k0_idx66_inb : ∀ (v566 : IVec S16 32) (k0_hw64 : k0_chk64 v566), ∀ a x, ((![v566] : Fin 1 → IVec S16 32) a x).toNat < S64.size a := fun v566 k0_hw64 => k0_hw64
def k0_off27 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v568 : Index := Scalar.indexCast arg27
  let c0_i32_311 : BitVec 32 := 0#32
  let v569 : Index := Scalar.indexCast c0_i32_311
  let c7_i32_312 : BitVec 32 := 7#32
  let v570 : Index := Scalar.indexCast c7_i32_312
  let c16_313 : Index := 16#32
  ![v568.toNat, 0, 7, 16]

def k0_chk65 (v575 : IVec S16 32) : Prop :=
  (∀ a x, ((![v575] : Fin 1 → IVec S16 32) a x).toNat < S64.size a)
theorem k0_idx67_inb : ∀ (v575 : IVec S16 32) (k0_hw65 : k0_chk65 v575), ∀ a x, ((![v575] : Fin 1 → IVec S16 32) a x).toNat < S64.size a := fun v575 k0_hw65 => k0_hw65
def k0_off28 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v577 : Index := Scalar.indexCast arg27
  let c0_i32_316 : BitVec 32 := 0#32
  let v578 : Index := Scalar.indexCast c0_i32_316
  let c0_i32_317 : BitVec 32 := 0#32
  let v579 : Index := Scalar.indexCast c0_i32_317
  let c32_318 : Index := 32#32
  ![v577.toNat, 0, 0, 32]

def k0_chk66 (v584 : IVec S16 32) : Prop :=
  (∀ a x, ((![v584] : Fin 1 → IVec S16 32) a x).toNat < S64.size a)
theorem k0_idx68_inb : ∀ (v584 : IVec S16 32) (k0_hw66 : k0_chk66 v584), ∀ a x, ((![v584] : Fin 1 → IVec S16 32) a x).toNat < S64.size a := fun v584 k0_hw66 => k0_hw66
def k0_off29 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v586 : Index := Scalar.indexCast arg27
  let c0_i32_321 : BitVec 32 := 0#32
  let v587 : Index := Scalar.indexCast c0_i32_321
  let c1_i32_322 : BitVec 32 := 1#32
  let v588 : Index := Scalar.indexCast c1_i32_322
  let c32_323 : Index := 32#32
  ![v586.toNat, 0, 1, 32]

def k0_chk67 (v593 : IVec S16 32) : Prop :=
  (∀ a x, ((![v593] : Fin 1 → IVec S16 32) a x).toNat < S64.size a)
theorem k0_idx69_inb : ∀ (v593 : IVec S16 32) (k0_hw67 : k0_chk67 v593), ∀ a x, ((![v593] : Fin 1 → IVec S16 32) a x).toNat < S64.size a := fun v593 k0_hw67 => k0_hw67
def k0_off30 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v595 : Index := Scalar.indexCast arg27
  let c0_i32_326 : BitVec 32 := 0#32
  let v596 : Index := Scalar.indexCast c0_i32_326
  let c2_i32_327 : BitVec 32 := 2#32
  let v597 : Index := Scalar.indexCast c2_i32_327
  let c32_328 : Index := 32#32
  ![v595.toNat, 0, 2, 32]

def k0_chk68 (v602 : IVec S16 32) : Prop :=
  (∀ a x, ((![v602] : Fin 1 → IVec S16 32) a x).toNat < S64.size a)
theorem k0_idx70_inb : ∀ (v602 : IVec S16 32) (k0_hw68 : k0_chk68 v602), ∀ a x, ((![v602] : Fin 1 → IVec S16 32) a x).toNat < S64.size a := fun v602 k0_hw68 => k0_hw68
def k0_off31 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v604 : Index := Scalar.indexCast arg27
  let c0_i32_331 : BitVec 32 := 0#32
  let v605 : Index := Scalar.indexCast c0_i32_331
  let c3_i32_332 : BitVec 32 := 3#32
  let v606 : Index := Scalar.indexCast c3_i32_332
  let c32_333 : Index := 32#32
  ![v604.toNat, 0, 3, 32]

def k0_chk69 (v611 : IVec S16 32) : Prop :=
  (∀ a x, ((![v611] : Fin 1 → IVec S16 32) a x).toNat < S64.size a)
theorem k0_idx71_inb : ∀ (v611 : IVec S16 32) (k0_hw69 : k0_chk69 v611), ∀ a x, ((![v611] : Fin 1 → IVec S16 32) a x).toNat < S64.size a := fun v611 k0_hw69 => k0_hw69
def k0_off32 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v613 : Index := Scalar.indexCast arg27
  let c0_i32_336 : BitVec 32 := 0#32
  let v614 : Index := Scalar.indexCast c0_i32_336
  let c4_i32_337 : BitVec 32 := 4#32
  let v615 : Index := Scalar.indexCast c4_i32_337
  let c32_338 : Index := 32#32
  ![v613.toNat, 0, 4, 32]

def k0_chk70 (v620 : IVec S16 32) : Prop :=
  (∀ a x, ((![v620] : Fin 1 → IVec S16 32) a x).toNat < S64.size a)
theorem k0_idx72_inb : ∀ (v620 : IVec S16 32) (k0_hw70 : k0_chk70 v620), ∀ a x, ((![v620] : Fin 1 → IVec S16 32) a x).toNat < S64.size a := fun v620 k0_hw70 => k0_hw70
def k0_off33 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v622 : Index := Scalar.indexCast arg27
  let c0_i32_341 : BitVec 32 := 0#32
  let v623 : Index := Scalar.indexCast c0_i32_341
  let c5_i32_342 : BitVec 32 := 5#32
  let v624 : Index := Scalar.indexCast c5_i32_342
  let c32_343 : Index := 32#32
  ![v622.toNat, 0, 5, 32]

def k0_chk71 (v629 : IVec S16 32) : Prop :=
  (∀ a x, ((![v629] : Fin 1 → IVec S16 32) a x).toNat < S64.size a)
theorem k0_idx73_inb : ∀ (v629 : IVec S16 32) (k0_hw71 : k0_chk71 v629), ∀ a x, ((![v629] : Fin 1 → IVec S16 32) a x).toNat < S64.size a := fun v629 k0_hw71 => k0_hw71
def k0_off34 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v631 : Index := Scalar.indexCast arg27
  let c0_i32_346 : BitVec 32 := 0#32
  let v632 : Index := Scalar.indexCast c0_i32_346
  let c6_i32_347 : BitVec 32 := 6#32
  let v633 : Index := Scalar.indexCast c6_i32_347
  let c32_348 : Index := 32#32
  ![v631.toNat, 0, 6, 32]

def k0_chk72 (v638 : IVec S16 32) : Prop :=
  (∀ a x, ((![v638] : Fin 1 → IVec S16 32) a x).toNat < S64.size a)
theorem k0_idx74_inb : ∀ (v638 : IVec S16 32) (k0_hw72 : k0_chk72 v638), ∀ a x, ((![v638] : Fin 1 → IVec S16 32) a x).toNat < S64.size a := fun v638 k0_hw72 => k0_hw72
def k0_off35 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v640 : Index := Scalar.indexCast arg27
  let c0_i32_351 : BitVec 32 := 0#32
  let v641 : Index := Scalar.indexCast c0_i32_351
  let c7_i32_352 : BitVec 32 := 7#32
  let v642 : Index := Scalar.indexCast c7_i32_352
  let c32_353 : Index := 32#32
  ![v640.toNat, 0, 7, 32]

def k0_chk73 (v647 : IVec S16 32) : Prop :=
  (∀ a x, ((![v647] : Fin 1 → IVec S16 32) a x).toNat < S64.size a)
theorem k0_idx75_inb : ∀ (v647 : IVec S16 32) (k0_hw73 : k0_chk73 v647), ∀ a x, ((![v647] : Fin 1 → IVec S16 32) a x).toNat < S64.size a := fun v647 k0_hw73 => k0_hw73
def k0_off36 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v649 : Index := Scalar.indexCast arg27
  let c0_i32_356 : BitVec 32 := 0#32
  let v650 : Index := Scalar.indexCast c0_i32_356
  let c0_i32_357 : BitVec 32 := 0#32
  let v651 : Index := Scalar.indexCast c0_i32_357
  let c48_358 : Index := 48#32
  ![v649.toNat, 0, 0, 48]

def k0_chk74 (v656 : IVec S16 32) : Prop :=
  (∀ a x, ((![v656] : Fin 1 → IVec S16 32) a x).toNat < S64.size a)
theorem k0_idx76_inb : ∀ (v656 : IVec S16 32) (k0_hw74 : k0_chk74 v656), ∀ a x, ((![v656] : Fin 1 → IVec S16 32) a x).toNat < S64.size a := fun v656 k0_hw74 => k0_hw74
def k0_off37 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v658 : Index := Scalar.indexCast arg27
  let c0_i32_361 : BitVec 32 := 0#32
  let v659 : Index := Scalar.indexCast c0_i32_361
  let c1_i32_362 : BitVec 32 := 1#32
  let v660 : Index := Scalar.indexCast c1_i32_362
  let c48_363 : Index := 48#32
  ![v658.toNat, 0, 1, 48]

def k0_chk75 (v665 : IVec S16 32) : Prop :=
  (∀ a x, ((![v665] : Fin 1 → IVec S16 32) a x).toNat < S64.size a)
theorem k0_idx77_inb : ∀ (v665 : IVec S16 32) (k0_hw75 : k0_chk75 v665), ∀ a x, ((![v665] : Fin 1 → IVec S16 32) a x).toNat < S64.size a := fun v665 k0_hw75 => k0_hw75
def k0_off38 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v667 : Index := Scalar.indexCast arg27
  let c0_i32_366 : BitVec 32 := 0#32
  let v668 : Index := Scalar.indexCast c0_i32_366
  let c2_i32_367 : BitVec 32 := 2#32
  let v669 : Index := Scalar.indexCast c2_i32_367
  let c48_368 : Index := 48#32
  ![v667.toNat, 0, 2, 48]

def k0_chk76 (v674 : IVec S16 32) : Prop :=
  (∀ a x, ((![v674] : Fin 1 → IVec S16 32) a x).toNat < S64.size a)
theorem k0_idx78_inb : ∀ (v674 : IVec S16 32) (k0_hw76 : k0_chk76 v674), ∀ a x, ((![v674] : Fin 1 → IVec S16 32) a x).toNat < S64.size a := fun v674 k0_hw76 => k0_hw76
def k0_off39 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v676 : Index := Scalar.indexCast arg27
  let c0_i32_371 : BitVec 32 := 0#32
  let v677 : Index := Scalar.indexCast c0_i32_371
  let c3_i32_372 : BitVec 32 := 3#32
  let v678 : Index := Scalar.indexCast c3_i32_372
  let c48_373 : Index := 48#32
  ![v676.toNat, 0, 3, 48]

def k0_chk77 (v683 : IVec S16 32) : Prop :=
  (∀ a x, ((![v683] : Fin 1 → IVec S16 32) a x).toNat < S64.size a)
theorem k0_idx79_inb : ∀ (v683 : IVec S16 32) (k0_hw77 : k0_chk77 v683), ∀ a x, ((![v683] : Fin 1 → IVec S16 32) a x).toNat < S64.size a := fun v683 k0_hw77 => k0_hw77
def k0_off40 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v685 : Index := Scalar.indexCast arg27
  let c0_i32_376 : BitVec 32 := 0#32
  let v686 : Index := Scalar.indexCast c0_i32_376
  let c4_i32_377 : BitVec 32 := 4#32
  let v687 : Index := Scalar.indexCast c4_i32_377
  let c48_378 : Index := 48#32
  ![v685.toNat, 0, 4, 48]

def k0_chk78 (v692 : IVec S16 32) : Prop :=
  (∀ a x, ((![v692] : Fin 1 → IVec S16 32) a x).toNat < S64.size a)
theorem k0_idx80_inb : ∀ (v692 : IVec S16 32) (k0_hw78 : k0_chk78 v692), ∀ a x, ((![v692] : Fin 1 → IVec S16 32) a x).toNat < S64.size a := fun v692 k0_hw78 => k0_hw78
def k0_off41 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v694 : Index := Scalar.indexCast arg27
  let c0_i32_381 : BitVec 32 := 0#32
  let v695 : Index := Scalar.indexCast c0_i32_381
  let c5_i32_382 : BitVec 32 := 5#32
  let v696 : Index := Scalar.indexCast c5_i32_382
  let c48_383 : Index := 48#32
  ![v694.toNat, 0, 5, 48]

def k0_chk79 (v701 : IVec S16 32) : Prop :=
  (∀ a x, ((![v701] : Fin 1 → IVec S16 32) a x).toNat < S64.size a)
theorem k0_idx81_inb : ∀ (v701 : IVec S16 32) (k0_hw79 : k0_chk79 v701), ∀ a x, ((![v701] : Fin 1 → IVec S16 32) a x).toNat < S64.size a := fun v701 k0_hw79 => k0_hw79
def k0_off42 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v703 : Index := Scalar.indexCast arg27
  let c0_i32_386 : BitVec 32 := 0#32
  let v704 : Index := Scalar.indexCast c0_i32_386
  let c6_i32_387 : BitVec 32 := 6#32
  let v705 : Index := Scalar.indexCast c6_i32_387
  let c48_388 : Index := 48#32
  ![v703.toNat, 0, 6, 48]

def k0_chk80 (v710 : IVec S16 32) : Prop :=
  (∀ a x, ((![v710] : Fin 1 → IVec S16 32) a x).toNat < S64.size a)
theorem k0_idx82_inb : ∀ (v710 : IVec S16 32) (k0_hw80 : k0_chk80 v710), ∀ a x, ((![v710] : Fin 1 → IVec S16 32) a x).toNat < S64.size a := fun v710 k0_hw80 => k0_hw80
def k0_off43 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v712 : Index := Scalar.indexCast arg27
  let c0_i32_391 : BitVec 32 := 0#32
  let v713 : Index := Scalar.indexCast c0_i32_391
  let c7_i32_392 : BitVec 32 := 7#32
  let v714 : Index := Scalar.indexCast c7_i32_392
  let c48_393 : Index := 48#32
  ![v712.toNat, 0, 7, 48]

def k0_chk81 (v719 : IVec S16 32) : Prop :=
  (∀ a x, ((![v719] : Fin 1 → IVec S16 32) a x).toNat < S64.size a)
theorem k0_idx83_inb : ∀ (v719 : IVec S16 32) (k0_hw81 : k0_chk81 v719), ∀ a x, ((![v719] : Fin 1 → IVec S16 32) a x).toNat < S64.size a := fun v719 k0_hw81 => k0_hw81
def k0_off44 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v721 : Index := Scalar.indexCast arg27
  let c0_i32_396 : BitVec 32 := 0#32
  let v722 : Index := Scalar.indexCast c0_i32_396
  let c0_i32_397 : BitVec 32 := 0#32
  let v723 : Index := Scalar.indexCast c0_i32_397
  let c64_398 : Index := 64#32
  ![v721.toNat, 0, 0, 64]

def k0_chk82 (v728 : IVec S16 32) : Prop :=
  (∀ a x, ((![v728] : Fin 1 → IVec S16 32) a x).toNat < S64.size a)
theorem k0_idx84_inb : ∀ (v728 : IVec S16 32) (k0_hw82 : k0_chk82 v728), ∀ a x, ((![v728] : Fin 1 → IVec S16 32) a x).toNat < S64.size a := fun v728 k0_hw82 => k0_hw82
def k0_off45 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v730 : Index := Scalar.indexCast arg27
  let c0_i32_401 : BitVec 32 := 0#32
  let v731 : Index := Scalar.indexCast c0_i32_401
  let c1_i32_402 : BitVec 32 := 1#32
  let v732 : Index := Scalar.indexCast c1_i32_402
  let c64_403 : Index := 64#32
  ![v730.toNat, 0, 1, 64]

def k0_chk83 (v737 : IVec S16 32) : Prop :=
  (∀ a x, ((![v737] : Fin 1 → IVec S16 32) a x).toNat < S64.size a)
theorem k0_idx85_inb : ∀ (v737 : IVec S16 32) (k0_hw83 : k0_chk83 v737), ∀ a x, ((![v737] : Fin 1 → IVec S16 32) a x).toNat < S64.size a := fun v737 k0_hw83 => k0_hw83
def k0_off46 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v739 : Index := Scalar.indexCast arg27
  let c0_i32_406 : BitVec 32 := 0#32
  let v740 : Index := Scalar.indexCast c0_i32_406
  let c2_i32_407 : BitVec 32 := 2#32
  let v741 : Index := Scalar.indexCast c2_i32_407
  let c64_408 : Index := 64#32
  ![v739.toNat, 0, 2, 64]

def k0_chk84 (v746 : IVec S16 32) : Prop :=
  (∀ a x, ((![v746] : Fin 1 → IVec S16 32) a x).toNat < S64.size a)
theorem k0_idx86_inb : ∀ (v746 : IVec S16 32) (k0_hw84 : k0_chk84 v746), ∀ a x, ((![v746] : Fin 1 → IVec S16 32) a x).toNat < S64.size a := fun v746 k0_hw84 => k0_hw84
def k0_off47 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v748 : Index := Scalar.indexCast arg27
  let c0_i32_411 : BitVec 32 := 0#32
  let v749 : Index := Scalar.indexCast c0_i32_411
  let c3_i32_412 : BitVec 32 := 3#32
  let v750 : Index := Scalar.indexCast c3_i32_412
  let c64_413 : Index := 64#32
  ![v748.toNat, 0, 3, 64]

def k0_chk85 (v755 : IVec S16 32) : Prop :=
  (∀ a x, ((![v755] : Fin 1 → IVec S16 32) a x).toNat < S64.size a)
theorem k0_idx87_inb : ∀ (v755 : IVec S16 32) (k0_hw85 : k0_chk85 v755), ∀ a x, ((![v755] : Fin 1 → IVec S16 32) a x).toNat < S64.size a := fun v755 k0_hw85 => k0_hw85
def k0_off48 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v757 : Index := Scalar.indexCast arg27
  let c0_i32_416 : BitVec 32 := 0#32
  let v758 : Index := Scalar.indexCast c0_i32_416
  let c4_i32_417 : BitVec 32 := 4#32
  let v759 : Index := Scalar.indexCast c4_i32_417
  let c64_418 : Index := 64#32
  ![v757.toNat, 0, 4, 64]

def k0_chk86 (v764 : IVec S16 32) : Prop :=
  (∀ a x, ((![v764] : Fin 1 → IVec S16 32) a x).toNat < S64.size a)
theorem k0_idx88_inb : ∀ (v764 : IVec S16 32) (k0_hw86 : k0_chk86 v764), ∀ a x, ((![v764] : Fin 1 → IVec S16 32) a x).toNat < S64.size a := fun v764 k0_hw86 => k0_hw86
def k0_off49 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v766 : Index := Scalar.indexCast arg27
  let c0_i32_421 : BitVec 32 := 0#32
  let v767 : Index := Scalar.indexCast c0_i32_421
  let c5_i32_422 : BitVec 32 := 5#32
  let v768 : Index := Scalar.indexCast c5_i32_422
  let c64_423 : Index := 64#32
  ![v766.toNat, 0, 5, 64]

def k0_chk87 (v773 : IVec S16 32) : Prop :=
  (∀ a x, ((![v773] : Fin 1 → IVec S16 32) a x).toNat < S64.size a)
theorem k0_idx89_inb : ∀ (v773 : IVec S16 32) (k0_hw87 : k0_chk87 v773), ∀ a x, ((![v773] : Fin 1 → IVec S16 32) a x).toNat < S64.size a := fun v773 k0_hw87 => k0_hw87
def k0_off50 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v775 : Index := Scalar.indexCast arg27
  let c0_i32_426 : BitVec 32 := 0#32
  let v776 : Index := Scalar.indexCast c0_i32_426
  let c6_i32_427 : BitVec 32 := 6#32
  let v777 : Index := Scalar.indexCast c6_i32_427
  let c64_428 : Index := 64#32
  ![v775.toNat, 0, 6, 64]

def k0_chk88 (v782 : IVec S16 32) : Prop :=
  (∀ a x, ((![v782] : Fin 1 → IVec S16 32) a x).toNat < S64.size a)
theorem k0_idx90_inb : ∀ (v782 : IVec S16 32) (k0_hw88 : k0_chk88 v782), ∀ a x, ((![v782] : Fin 1 → IVec S16 32) a x).toNat < S64.size a := fun v782 k0_hw88 => k0_hw88
def k0_off51 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v784 : Index := Scalar.indexCast arg27
  let c0_i32_431 : BitVec 32 := 0#32
  let v785 : Index := Scalar.indexCast c0_i32_431
  let c7_i32_432 : BitVec 32 := 7#32
  let v786 : Index := Scalar.indexCast c7_i32_432
  let c64_433 : Index := 64#32
  ![v784.toNat, 0, 7, 64]

def k0_chk89 (v791 : IVec S16 32) : Prop :=
  (∀ a x, ((![v791] : Fin 1 → IVec S16 32) a x).toNat < S64.size a)
theorem k0_idx91_inb : ∀ (v791 : IVec S16 32) (k0_hw89 : k0_chk89 v791), ∀ a x, ((![v791] : Fin 1 → IVec S16 32) a x).toNat < S64.size a := fun v791 k0_hw89 => k0_hw89
def k0_off52 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v793 : Index := Scalar.indexCast arg27
  let c0_i32_436 : BitVec 32 := 0#32
  let v794 : Index := Scalar.indexCast c0_i32_436
  let c0_i32_437 : BitVec 32 := 0#32
  let v795 : Index := Scalar.indexCast c0_i32_437
  let c80_438 : Index := 80#32
  ![v793.toNat, 0, 0, 80]

def k0_chk90 (v800 : IVec S16 32) : Prop :=
  (∀ a x, ((![v800] : Fin 1 → IVec S16 32) a x).toNat < S64.size a)
theorem k0_idx92_inb : ∀ (v800 : IVec S16 32) (k0_hw90 : k0_chk90 v800), ∀ a x, ((![v800] : Fin 1 → IVec S16 32) a x).toNat < S64.size a := fun v800 k0_hw90 => k0_hw90
def k0_off53 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v802 : Index := Scalar.indexCast arg27
  let c0_i32_441 : BitVec 32 := 0#32
  let v803 : Index := Scalar.indexCast c0_i32_441
  let c1_i32_442 : BitVec 32 := 1#32
  let v804 : Index := Scalar.indexCast c1_i32_442
  let c80_443 : Index := 80#32
  ![v802.toNat, 0, 1, 80]

def k0_chk91 (v809 : IVec S16 32) : Prop :=
  (∀ a x, ((![v809] : Fin 1 → IVec S16 32) a x).toNat < S64.size a)
theorem k0_idx93_inb : ∀ (v809 : IVec S16 32) (k0_hw91 : k0_chk91 v809), ∀ a x, ((![v809] : Fin 1 → IVec S16 32) a x).toNat < S64.size a := fun v809 k0_hw91 => k0_hw91
def k0_off54 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v811 : Index := Scalar.indexCast arg27
  let c0_i32_446 : BitVec 32 := 0#32
  let v812 : Index := Scalar.indexCast c0_i32_446
  let c2_i32_447 : BitVec 32 := 2#32
  let v813 : Index := Scalar.indexCast c2_i32_447
  let c80_448 : Index := 80#32
  ![v811.toNat, 0, 2, 80]

def k0_chk92 (v818 : IVec S16 32) : Prop :=
  (∀ a x, ((![v818] : Fin 1 → IVec S16 32) a x).toNat < S64.size a)
theorem k0_idx94_inb : ∀ (v818 : IVec S16 32) (k0_hw92 : k0_chk92 v818), ∀ a x, ((![v818] : Fin 1 → IVec S16 32) a x).toNat < S64.size a := fun v818 k0_hw92 => k0_hw92
def k0_off55 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v820 : Index := Scalar.indexCast arg27
  let c0_i32_451 : BitVec 32 := 0#32
  let v821 : Index := Scalar.indexCast c0_i32_451
  let c3_i32_452 : BitVec 32 := 3#32
  let v822 : Index := Scalar.indexCast c3_i32_452
  let c80_453 : Index := 80#32
  ![v820.toNat, 0, 3, 80]

def k0_chk93 (v827 : IVec S16 32) : Prop :=
  (∀ a x, ((![v827] : Fin 1 → IVec S16 32) a x).toNat < S64.size a)
theorem k0_idx95_inb : ∀ (v827 : IVec S16 32) (k0_hw93 : k0_chk93 v827), ∀ a x, ((![v827] : Fin 1 → IVec S16 32) a x).toNat < S64.size a := fun v827 k0_hw93 => k0_hw93
def k0_off56 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v829 : Index := Scalar.indexCast arg27
  let c0_i32_456 : BitVec 32 := 0#32
  let v830 : Index := Scalar.indexCast c0_i32_456
  let c4_i32_457 : BitVec 32 := 4#32
  let v831 : Index := Scalar.indexCast c4_i32_457
  let c80_458 : Index := 80#32
  ![v829.toNat, 0, 4, 80]

def k0_chk94 (v836 : IVec S16 32) : Prop :=
  (∀ a x, ((![v836] : Fin 1 → IVec S16 32) a x).toNat < S64.size a)
theorem k0_idx96_inb : ∀ (v836 : IVec S16 32) (k0_hw94 : k0_chk94 v836), ∀ a x, ((![v836] : Fin 1 → IVec S16 32) a x).toNat < S64.size a := fun v836 k0_hw94 => k0_hw94
def k0_off57 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v838 : Index := Scalar.indexCast arg27
  let c0_i32_461 : BitVec 32 := 0#32
  let v839 : Index := Scalar.indexCast c0_i32_461
  let c5_i32_462 : BitVec 32 := 5#32
  let v840 : Index := Scalar.indexCast c5_i32_462
  let c80_463 : Index := 80#32
  ![v838.toNat, 0, 5, 80]

def k0_chk95 (v845 : IVec S16 32) : Prop :=
  (∀ a x, ((![v845] : Fin 1 → IVec S16 32) a x).toNat < S64.size a)
theorem k0_idx97_inb : ∀ (v845 : IVec S16 32) (k0_hw95 : k0_chk95 v845), ∀ a x, ((![v845] : Fin 1 → IVec S16 32) a x).toNat < S64.size a := fun v845 k0_hw95 => k0_hw95
def k0_off58 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v847 : Index := Scalar.indexCast arg27
  let c0_i32_466 : BitVec 32 := 0#32
  let v848 : Index := Scalar.indexCast c0_i32_466
  let c6_i32_467 : BitVec 32 := 6#32
  let v849 : Index := Scalar.indexCast c6_i32_467
  let c80_468 : Index := 80#32
  ![v847.toNat, 0, 6, 80]

def k0_chk96 (v854 : IVec S16 32) : Prop :=
  (∀ a x, ((![v854] : Fin 1 → IVec S16 32) a x).toNat < S64.size a)
theorem k0_idx98_inb : ∀ (v854 : IVec S16 32) (k0_hw96 : k0_chk96 v854), ∀ a x, ((![v854] : Fin 1 → IVec S16 32) a x).toNat < S64.size a := fun v854 k0_hw96 => k0_hw96
def k0_off59 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v856 : Index := Scalar.indexCast arg27
  let c0_i32_471 : BitVec 32 := 0#32
  let v857 : Index := Scalar.indexCast c0_i32_471
  let c7_i32_472 : BitVec 32 := 7#32
  let v858 : Index := Scalar.indexCast c7_i32_472
  let c80_473 : Index := 80#32
  ![v856.toNat, 0, 7, 80]

def k0_chk97 (v863 : IVec S16 32) : Prop :=
  (∀ a x, ((![v863] : Fin 1 → IVec S16 32) a x).toNat < S64.size a)
theorem k0_idx99_inb : ∀ (v863 : IVec S16 32) (k0_hw97 : k0_chk97 v863), ∀ a x, ((![v863] : Fin 1 → IVec S16 32) a x).toNat < S64.size a := fun v863 k0_hw97 => k0_hw97
def k0_off60 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v865 : Index := Scalar.indexCast arg27
  let c0_i32_476 : BitVec 32 := 0#32
  let v866 : Index := Scalar.indexCast c0_i32_476
  let c0_i32_477 : BitVec 32 := 0#32
  let v867 : Index := Scalar.indexCast c0_i32_477
  let c96_478 : Index := 96#32
  ![v865.toNat, 0, 0, 96]

def k0_chk98 (v872 : IVec S16 32) : Prop :=
  (∀ a x, ((![v872] : Fin 1 → IVec S16 32) a x).toNat < S64.size a)
theorem k0_idx100_inb : ∀ (v872 : IVec S16 32) (k0_hw98 : k0_chk98 v872), ∀ a x, ((![v872] : Fin 1 → IVec S16 32) a x).toNat < S64.size a := fun v872 k0_hw98 => k0_hw98
def k0_off61 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v874 : Index := Scalar.indexCast arg27
  let c0_i32_481 : BitVec 32 := 0#32
  let v875 : Index := Scalar.indexCast c0_i32_481
  let c1_i32_482 : BitVec 32 := 1#32
  let v876 : Index := Scalar.indexCast c1_i32_482
  let c96_483 : Index := 96#32
  ![v874.toNat, 0, 1, 96]

def k0_chk99 (v881 : IVec S16 32) : Prop :=
  (∀ a x, ((![v881] : Fin 1 → IVec S16 32) a x).toNat < S64.size a)
theorem k0_idx101_inb : ∀ (v881 : IVec S16 32) (k0_hw99 : k0_chk99 v881), ∀ a x, ((![v881] : Fin 1 → IVec S16 32) a x).toNat < S64.size a := fun v881 k0_hw99 => k0_hw99
def k0_off62 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v883 : Index := Scalar.indexCast arg27
  let c0_i32_486 : BitVec 32 := 0#32
  let v884 : Index := Scalar.indexCast c0_i32_486
  let c2_i32_487 : BitVec 32 := 2#32
  let v885 : Index := Scalar.indexCast c2_i32_487
  let c96_488 : Index := 96#32
  ![v883.toNat, 0, 2, 96]

def k0_chk100 (v890 : IVec S16 32) : Prop :=
  (∀ a x, ((![v890] : Fin 1 → IVec S16 32) a x).toNat < S64.size a)
theorem k0_idx102_inb : ∀ (v890 : IVec S16 32) (k0_hw100 : k0_chk100 v890), ∀ a x, ((![v890] : Fin 1 → IVec S16 32) a x).toNat < S64.size a := fun v890 k0_hw100 => k0_hw100
def k0_off63 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v892 : Index := Scalar.indexCast arg27
  let c0_i32_491 : BitVec 32 := 0#32
  let v893 : Index := Scalar.indexCast c0_i32_491
  let c3_i32_492 : BitVec 32 := 3#32
  let v894 : Index := Scalar.indexCast c3_i32_492
  let c96_493 : Index := 96#32
  ![v892.toNat, 0, 3, 96]

def k0_chk101 (v899 : IVec S16 32) : Prop :=
  (∀ a x, ((![v899] : Fin 1 → IVec S16 32) a x).toNat < S64.size a)
theorem k0_idx103_inb : ∀ (v899 : IVec S16 32) (k0_hw101 : k0_chk101 v899), ∀ a x, ((![v899] : Fin 1 → IVec S16 32) a x).toNat < S64.size a := fun v899 k0_hw101 => k0_hw101
def k0_off64 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v901 : Index := Scalar.indexCast arg27
  let c0_i32_496 : BitVec 32 := 0#32
  let v902 : Index := Scalar.indexCast c0_i32_496
  let c4_i32_497 : BitVec 32 := 4#32
  let v903 : Index := Scalar.indexCast c4_i32_497
  let c96_498 : Index := 96#32
  ![v901.toNat, 0, 4, 96]

def k0_chk102 (v908 : IVec S16 32) : Prop :=
  (∀ a x, ((![v908] : Fin 1 → IVec S16 32) a x).toNat < S64.size a)
theorem k0_idx104_inb : ∀ (v908 : IVec S16 32) (k0_hw102 : k0_chk102 v908), ∀ a x, ((![v908] : Fin 1 → IVec S16 32) a x).toNat < S64.size a := fun v908 k0_hw102 => k0_hw102
def k0_off65 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v910 : Index := Scalar.indexCast arg27
  let c0_i32_501 : BitVec 32 := 0#32
  let v911 : Index := Scalar.indexCast c0_i32_501
  let c5_i32_502 : BitVec 32 := 5#32
  let v912 : Index := Scalar.indexCast c5_i32_502
  let c96_503 : Index := 96#32
  ![v910.toNat, 0, 5, 96]

def k0_chk103 (v917 : IVec S16 32) : Prop :=
  (∀ a x, ((![v917] : Fin 1 → IVec S16 32) a x).toNat < S64.size a)
theorem k0_idx105_inb : ∀ (v917 : IVec S16 32) (k0_hw103 : k0_chk103 v917), ∀ a x, ((![v917] : Fin 1 → IVec S16 32) a x).toNat < S64.size a := fun v917 k0_hw103 => k0_hw103
def k0_off66 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v919 : Index := Scalar.indexCast arg27
  let c0_i32_506 : BitVec 32 := 0#32
  let v920 : Index := Scalar.indexCast c0_i32_506
  let c6_i32_507 : BitVec 32 := 6#32
  let v921 : Index := Scalar.indexCast c6_i32_507
  let c96_508 : Index := 96#32
  ![v919.toNat, 0, 6, 96]

def k0_chk104 (v926 : IVec S16 32) : Prop :=
  (∀ a x, ((![v926] : Fin 1 → IVec S16 32) a x).toNat < S64.size a)
theorem k0_idx106_inb : ∀ (v926 : IVec S16 32) (k0_hw104 : k0_chk104 v926), ∀ a x, ((![v926] : Fin 1 → IVec S16 32) a x).toNat < S64.size a := fun v926 k0_hw104 => k0_hw104
def k0_off67 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v928 : Index := Scalar.indexCast arg27
  let c0_i32_511 : BitVec 32 := 0#32
  let v929 : Index := Scalar.indexCast c0_i32_511
  let c7_i32_512 : BitVec 32 := 7#32
  let v930 : Index := Scalar.indexCast c7_i32_512
  let c96_513 : Index := 96#32
  ![v928.toNat, 0, 7, 96]

def k0_chk105 (v935 : IVec S16 32) : Prop :=
  (∀ a x, ((![v935] : Fin 1 → IVec S16 32) a x).toNat < S64.size a)
theorem k0_idx107_inb : ∀ (v935 : IVec S16 32) (k0_hw105 : k0_chk105 v935), ∀ a x, ((![v935] : Fin 1 → IVec S16 32) a x).toNat < S64.size a := fun v935 k0_hw105 => k0_hw105
def k0_off68 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v937 : Index := Scalar.indexCast arg27
  let c0_i32_516 : BitVec 32 := 0#32
  let v938 : Index := Scalar.indexCast c0_i32_516
  let c0_i32_517 : BitVec 32 := 0#32
  let v939 : Index := Scalar.indexCast c0_i32_517
  let c112_518 : Index := 112#32
  ![v937.toNat, 0, 0, 112]

def k0_chk106 (v944 : IVec S16 32) : Prop :=
  (∀ a x, ((![v944] : Fin 1 → IVec S16 32) a x).toNat < S64.size a)
theorem k0_idx108_inb : ∀ (v944 : IVec S16 32) (k0_hw106 : k0_chk106 v944), ∀ a x, ((![v944] : Fin 1 → IVec S16 32) a x).toNat < S64.size a := fun v944 k0_hw106 => k0_hw106
def k0_off69 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v946 : Index := Scalar.indexCast arg27
  let c0_i32_521 : BitVec 32 := 0#32
  let v947 : Index := Scalar.indexCast c0_i32_521
  let c1_i32_522 : BitVec 32 := 1#32
  let v948 : Index := Scalar.indexCast c1_i32_522
  let c112_523 : Index := 112#32
  ![v946.toNat, 0, 1, 112]

def k0_chk107 (v953 : IVec S16 32) : Prop :=
  (∀ a x, ((![v953] : Fin 1 → IVec S16 32) a x).toNat < S64.size a)
theorem k0_idx109_inb : ∀ (v953 : IVec S16 32) (k0_hw107 : k0_chk107 v953), ∀ a x, ((![v953] : Fin 1 → IVec S16 32) a x).toNat < S64.size a := fun v953 k0_hw107 => k0_hw107
def k0_off70 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v955 : Index := Scalar.indexCast arg27
  let c0_i32_526 : BitVec 32 := 0#32
  let v956 : Index := Scalar.indexCast c0_i32_526
  let c2_i32_527 : BitVec 32 := 2#32
  let v957 : Index := Scalar.indexCast c2_i32_527
  let c112_528 : Index := 112#32
  ![v955.toNat, 0, 2, 112]

def k0_chk108 (v962 : IVec S16 32) : Prop :=
  (∀ a x, ((![v962] : Fin 1 → IVec S16 32) a x).toNat < S64.size a)
theorem k0_idx110_inb : ∀ (v962 : IVec S16 32) (k0_hw108 : k0_chk108 v962), ∀ a x, ((![v962] : Fin 1 → IVec S16 32) a x).toNat < S64.size a := fun v962 k0_hw108 => k0_hw108
def k0_off71 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v964 : Index := Scalar.indexCast arg27
  let c0_i32_531 : BitVec 32 := 0#32
  let v965 : Index := Scalar.indexCast c0_i32_531
  let c3_i32_532 : BitVec 32 := 3#32
  let v966 : Index := Scalar.indexCast c3_i32_532
  let c112_533 : Index := 112#32
  ![v964.toNat, 0, 3, 112]

def k0_chk109 (v971 : IVec S16 32) : Prop :=
  (∀ a x, ((![v971] : Fin 1 → IVec S16 32) a x).toNat < S64.size a)
theorem k0_idx111_inb : ∀ (v971 : IVec S16 32) (k0_hw109 : k0_chk109 v971), ∀ a x, ((![v971] : Fin 1 → IVec S16 32) a x).toNat < S64.size a := fun v971 k0_hw109 => k0_hw109
def k0_off72 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v973 : Index := Scalar.indexCast arg27
  let c0_i32_536 : BitVec 32 := 0#32
  let v974 : Index := Scalar.indexCast c0_i32_536
  let c4_i32_537 : BitVec 32 := 4#32
  let v975 : Index := Scalar.indexCast c4_i32_537
  let c112_538 : Index := 112#32
  ![v973.toNat, 0, 4, 112]

def k0_chk110 (v980 : IVec S16 32) : Prop :=
  (∀ a x, ((![v980] : Fin 1 → IVec S16 32) a x).toNat < S64.size a)
theorem k0_idx112_inb : ∀ (v980 : IVec S16 32) (k0_hw110 : k0_chk110 v980), ∀ a x, ((![v980] : Fin 1 → IVec S16 32) a x).toNat < S64.size a := fun v980 k0_hw110 => k0_hw110
def k0_off73 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v982 : Index := Scalar.indexCast arg27
  let c0_i32_541 : BitVec 32 := 0#32
  let v983 : Index := Scalar.indexCast c0_i32_541
  let c5_i32_542 : BitVec 32 := 5#32
  let v984 : Index := Scalar.indexCast c5_i32_542
  let c112_543 : Index := 112#32
  ![v982.toNat, 0, 5, 112]

def k0_chk111 (v989 : IVec S16 32) : Prop :=
  (∀ a x, ((![v989] : Fin 1 → IVec S16 32) a x).toNat < S64.size a)
theorem k0_idx113_inb : ∀ (v989 : IVec S16 32) (k0_hw111 : k0_chk111 v989), ∀ a x, ((![v989] : Fin 1 → IVec S16 32) a x).toNat < S64.size a := fun v989 k0_hw111 => k0_hw111
def k0_off74 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v991 : Index := Scalar.indexCast arg27
  let c0_i32_546 : BitVec 32 := 0#32
  let v992 : Index := Scalar.indexCast c0_i32_546
  let c6_i32_547 : BitVec 32 := 6#32
  let v993 : Index := Scalar.indexCast c6_i32_547
  let c112_548 : Index := 112#32
  ![v991.toNat, 0, 6, 112]

def k0_chk112 (v998 : IVec S16 32) : Prop :=
  (∀ a x, ((![v998] : Fin 1 → IVec S16 32) a x).toNat < S64.size a)
theorem k0_idx114_inb : ∀ (v998 : IVec S16 32) (k0_hw112 : k0_chk112 v998), ∀ a x, ((![v998] : Fin 1 → IVec S16 32) a x).toNat < S64.size a := fun v998 k0_hw112 => k0_hw112
def k0_off75 (k0_t5 : Fin k0_t5_loop.trips) : Fin 4 → Nat :=
  let c0_i32_195 : BitVec 32 := 0#32
  let c1_i32_197 : BitVec 32 := 1#32
  let arg27 : BitVec 32 := Scf.iv c0_i32_195 c1_i32_197 k0_t5
  let v1000 : Index := Scalar.indexCast arg27
  let c0_i32_551 : BitVec 32 := 0#32
  let v1001 : Index := Scalar.indexCast c0_i32_551
  let c7_i32_552 : BitVec 32 := 7#32
  let v1002 : Index := Scalar.indexCast c7_i32_552
  let c112_553 : Index := 112#32
  ![v1000.toNat, 0, 7, 112]
def k0_off76 (i : grid0.Coords) (k0_t3 : Fin k0_t3_loop.trips) (k0_t4 : Fin k0_t4_loop.trips) : Fin 4 → Nat :=
  let c2_i32_191 : BitVec 32 := 2#32
  let c0_i32_174 : BitVec 32 := 0#32
  let c1_i32_175 : BitVec 32 := 1#32
  let arg25 : BitVec 32 := Scf.iv c0_i32_174 c1_i32_175 k0_t4
  let v346 : BitVec 32 := Scalar.muli c2_i32_191 arg25
  let c20_i32 : BitVec 32 := 20#32
  let v347 : BitVec 32 := Scalar.muli v346 c20_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v348 : BitVec 32 := Scalar.muli v1 c4_i32
  let c2_i32_163 : BitVec 32 := 2#32
  let c0_i32_143 : BitVec 32 := 0#32
  let c1_i32_145 : BitVec 32 := 1#32
  let arg23 : BitVec 32 := Scf.iv c0_i32_143 c1_i32_145 k0_t3
  let v326 : BitVec 32 := Scalar.muli c2_i32_163 arg23
  let v349 : BitVec 32 := Scalar.addi v348 v326
  let c0_i32_199 : BitVec 32 := 0#32
  let c0_i32_200 : BitVec 32 := 0#32
  ![v347.toNat, v349.toNat, 0, 0]
def k0_cond4 (k0_t3 : Fin k0_t3_loop.trips) (k0_t4 : Fin k0_t4_loop.trips) : BitVec 1 :=
  let c0_i32_143 : BitVec 32 := 0#32
  let c1_i32_145 : BitVec 32 := 1#32
  let arg23 : BitVec 32 := Scf.iv c0_i32_143 c1_i32_145 k0_t3
  let c0_i32_189 : BitVec 32 := 0#32
  let v343 : BitVec 1 := Scalar.cmpi .eq arg23 c0_i32_189
  let c0_i32_174 : BitVec 32 := 0#32
  let c1_i32_175 : BitVec 32 := 1#32
  let arg25 : BitVec 32 := Scf.iv c0_i32_174 c1_i32_175 k0_t4
  let c0_i32_190 : BitVec 32 := 0#32
  let v344 : BitVec 1 := Scalar.cmpi .eq arg25 c0_i32_190
  let v345 : BitVec 1 := Scalar.andi v343 v344
  let true_207 : BitVec 1 := 1#1
  let v362 : BitVec 1 := Scalar.xori v345 true_207
  let v363 : BitVec 32 := Scalar.extui v362
  let c0_i32_208 : BitVec 32 := 0#32
  let v364 : BitVec 1 := Scalar.cmpi .ne v363 c0_i32_208
  v364

def k0_off77 (i : grid0.Coords) (k0_t3 : Fin k0_t3_loop.trips) (k0_t4 : Fin k0_t4_loop.trips) : Fin 4 → Nat :=
  let c2_i32_203 : BitVec 32 := 2#32
  let c0_i32_174 : BitVec 32 := 0#32
  let c1_i32_175 : BitVec 32 := 1#32
  let arg25 : BitVec 32 := Scf.iv c0_i32_174 c1_i32_175 k0_t4
  let v357 : BitVec 32 := Scalar.muli c2_i32_203 arg25
  let c1_i32_204 : BitVec 32 := 1#32
  let v358 : BitVec 32 := Scalar.addi v357 c1_i32_204
  let c20_i32_205 : BitVec 32 := 20#32
  let v359 : BitVec 32 := Scalar.muli v358 c20_i32_205
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_206 : BitVec 32 := 4#32
  let v360 : BitVec 32 := Scalar.muli v1 c4_i32_206
  let c2_i32_163 : BitVec 32 := 2#32
  let c0_i32_143 : BitVec 32 := 0#32
  let c1_i32_145 : BitVec 32 := 1#32
  let arg23 : BitVec 32 := Scf.iv c0_i32_143 c1_i32_145 k0_t3
  let v326 : BitVec 32 := Scalar.muli c2_i32_163 arg23
  let v361 : BitVec 32 := Scalar.addi v360 v326
  let c0_i32_219 : BitVec 32 := 0#32
  let c0_i32_220 : BitVec 32 := 0#32
  ![v359.toNat, v361.toNat, 0, 0]
@[reducible] def k0_t6_loop : Scf.Loop 32 :=
  let c0_i32_210 : BitVec 32 := 0#32
  let c20_i32_211 : BitVec 32 := 20#32
  let v365 : BitVec 32 := Scalar.addi c0_i32_210 c20_i32_211
  let c1_i32_212 : BitVec 32 := 1#32
  ⟨c0_i32_210, v365, c1_i32_212⟩

def k0_chk113 (v373 : IVec S16 32) (v375 : IVec S16 32) (v377 : IVec S16 32) : Prop :=
  (∀ a x, ((![v373, v375, v377] : Fin 3 → IVec S16 32) a x).toNat < S128x2x128.size a)
theorem k0_idx115_inb : ∀ (v373 : IVec S16 32) (v375 : IVec S16 32) (v377 : IVec S16 32) (k0_hw113 : k0_chk113 v373 v375 v377), ∀ a x, ((![v373, v375, v377] : Fin 3 → IVec S16 32) a x).toNat < S128x2x128.size a := fun v373 v375 v377 k0_hw113 => k0_hw113

def k0_chk114 (v380 : IVec S16 32) (v382 : IVec S16 32) (v384 : IVec S16 32) : Prop :=
  (∀ a x, ((![v380, v382, v384] : Fin 3 → IVec S16 32) a x).toNat < S128x2x128.size a)
theorem k0_idx116_inb : ∀ (v380 : IVec S16 32) (v382 : IVec S16 32) (v384 : IVec S16 32) (k0_hw114 : k0_chk114 v380 v382 v384), ∀ a x, ((![v380, v382, v384] : Fin 3 → IVec S16 32) a x).toNat < S128x2x128.size a := fun v380 v382 v384 k0_hw114 => k0_hw114

def k0_chk115 (v387 : IVec S16 32) (v389 : IVec S16 32) (v391 : IVec S16 32) : Prop :=
  (∀ a x, ((![v387, v389, v391] : Fin 3 → IVec S16 32) a x).toNat < S128x2x128.size a)
theorem k0_idx117_inb : ∀ (v387 : IVec S16 32) (v389 : IVec S16 32) (v391 : IVec S16 32) (k0_hw115 : k0_chk115 v387 v389 v391), ∀ a x, ((![v387, v389, v391] : Fin 3 → IVec S16 32) a x).toNat < S128x2x128.size a := fun v387 v389 v391 k0_hw115 => k0_hw115

def k0_chk116 (v394 : IVec S16 32) (v396 : IVec S16 32) (v398 : IVec S16 32) : Prop :=
  (∀ a x, ((![v394, v396, v398] : Fin 3 → IVec S16 32) a x).toNat < S128x2x128.size a)
theorem k0_idx118_inb : ∀ (v394 : IVec S16 32) (v396 : IVec S16 32) (v398 : IVec S16 32) (k0_hw116 : k0_chk116 v394 v396 v398), ∀ a x, ((![v394, v396, v398] : Fin 3 → IVec S16 32) a x).toNat < S128x2x128.size a := fun v394 v396 v398 k0_hw116 => k0_hw116

def k0_chk117 (v401 : IVec S16 32) (v403 : IVec S16 32) (v405 : IVec S16 32) : Prop :=
  (∀ a x, ((![v401, v403, v405] : Fin 3 → IVec S16 32) a x).toNat < S128x2x128.size a)
theorem k0_idx119_inb : ∀ (v401 : IVec S16 32) (v403 : IVec S16 32) (v405 : IVec S16 32) (k0_hw117 : k0_chk117 v401 v403 v405), ∀ a x, ((![v401, v403, v405] : Fin 3 → IVec S16 32) a x).toNat < S128x2x128.size a := fun v401 v403 v405 k0_hw117 => k0_hw117

def k0_chk118 (v408 : IVec S16 32) (v410 : IVec S16 32) (v412 : IVec S16 32) : Prop :=
  (∀ a x, ((![v408, v410, v412] : Fin 3 → IVec S16 32) a x).toNat < S128x2x128.size a)
theorem k0_idx120_inb : ∀ (v408 : IVec S16 32) (v410 : IVec S16 32) (v412 : IVec S16 32) (k0_hw118 : k0_chk118 v408 v410 v412), ∀ a x, ((![v408, v410, v412] : Fin 3 → IVec S16 32) a x).toNat < S128x2x128.size a := fun v408 v410 v412 k0_hw118 => k0_hw118

def k0_chk119 (v415 : IVec S16 32) (v417 : IVec S16 32) (v419 : IVec S16 32) : Prop :=
  (∀ a x, ((![v415, v417, v419] : Fin 3 → IVec S16 32) a x).toNat < S128x2x128.size a)
theorem k0_idx121_inb : ∀ (v415 : IVec S16 32) (v417 : IVec S16 32) (v419 : IVec S16 32) (k0_hw119 : k0_chk119 v415 v417 v419), ∀ a x, ((![v415, v417, v419] : Fin 3 → IVec S16 32) a x).toNat < S128x2x128.size a := fun v415 v417 v419 k0_hw119 => k0_hw119

def k0_chk120 (v422 : IVec S16 32) (v424 : IVec S16 32) (v426 : IVec S16 32) : Prop :=
  (∀ a x, ((![v422, v424, v426] : Fin 3 → IVec S16 32) a x).toNat < S128x2x128.size a)
theorem k0_idx122_inb : ∀ (v422 : IVec S16 32) (v424 : IVec S16 32) (v426 : IVec S16 32) (k0_hw120 : k0_chk120 v422 v424 v426), ∀ a x, ((![v422, v424, v426] : Fin 3 → IVec S16 32) a x).toNat < S128x2x128.size a := fun v422 v424 v426 k0_hw120 => k0_hw120

def k0_chk121 (v431 : IVec S16 32) : Prop :=
  (∀ a x, ((![v431] : Fin 1 → IVec S16 32) a x).toNat < S64.size a)
theorem k0_idx123_inb : ∀ (v431 : IVec S16 32) (k0_hw121 : k0_chk121 v431), ∀ a x, ((![v431] : Fin 1 → IVec S16 32) a x).toNat < S64.size a := fun v431 k0_hw121 => k0_hw121
def k0_off78 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v433 : Index := Scalar.indexCast arg27
  let c0_i32_237 : BitVec 32 := 0#32
  let v434 : Index := Scalar.indexCast c0_i32_237
  let c0_i32_238 : BitVec 32 := 0#32
  let v435 : Index := Scalar.indexCast c0_i32_238
  let c0_239 : Index := 0#32
  ![v433.toNat, 0, 0, 0]

def k0_chk122 (v440 : IVec S16 32) : Prop :=
  (∀ a x, ((![v440] : Fin 1 → IVec S16 32) a x).toNat < S64.size a)
theorem k0_idx124_inb : ∀ (v440 : IVec S16 32) (k0_hw122 : k0_chk122 v440), ∀ a x, ((![v440] : Fin 1 → IVec S16 32) a x).toNat < S64.size a := fun v440 k0_hw122 => k0_hw122
def k0_off79 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v442 : Index := Scalar.indexCast arg27
  let c0_i32_242 : BitVec 32 := 0#32
  let v443 : Index := Scalar.indexCast c0_i32_242
  let c1_i32_243 : BitVec 32 := 1#32
  let v444 : Index := Scalar.indexCast c1_i32_243
  let c0_244 : Index := 0#32
  ![v442.toNat, 0, 1, 0]

def k0_chk123 (v449 : IVec S16 32) : Prop :=
  (∀ a x, ((![v449] : Fin 1 → IVec S16 32) a x).toNat < S64.size a)
theorem k0_idx125_inb : ∀ (v449 : IVec S16 32) (k0_hw123 : k0_chk123 v449), ∀ a x, ((![v449] : Fin 1 → IVec S16 32) a x).toNat < S64.size a := fun v449 k0_hw123 => k0_hw123
def k0_off80 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v451 : Index := Scalar.indexCast arg27
  let c0_i32_247 : BitVec 32 := 0#32
  let v452 : Index := Scalar.indexCast c0_i32_247
  let c2_i32_248 : BitVec 32 := 2#32
  let v453 : Index := Scalar.indexCast c2_i32_248
  let c0_249 : Index := 0#32
  ![v451.toNat, 0, 2, 0]

def k0_chk124 (v458 : IVec S16 32) : Prop :=
  (∀ a x, ((![v458] : Fin 1 → IVec S16 32) a x).toNat < S64.size a)
theorem k0_idx126_inb : ∀ (v458 : IVec S16 32) (k0_hw124 : k0_chk124 v458), ∀ a x, ((![v458] : Fin 1 → IVec S16 32) a x).toNat < S64.size a := fun v458 k0_hw124 => k0_hw124
def k0_off81 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v460 : Index := Scalar.indexCast arg27
  let c0_i32_252 : BitVec 32 := 0#32
  let v461 : Index := Scalar.indexCast c0_i32_252
  let c3_i32_253 : BitVec 32 := 3#32
  let v462 : Index := Scalar.indexCast c3_i32_253
  let c0_254 : Index := 0#32
  ![v460.toNat, 0, 3, 0]

def k0_chk125 (v467 : IVec S16 32) : Prop :=
  (∀ a x, ((![v467] : Fin 1 → IVec S16 32) a x).toNat < S64.size a)
theorem k0_idx127_inb : ∀ (v467 : IVec S16 32) (k0_hw125 : k0_chk125 v467), ∀ a x, ((![v467] : Fin 1 → IVec S16 32) a x).toNat < S64.size a := fun v467 k0_hw125 => k0_hw125
def k0_off82 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v469 : Index := Scalar.indexCast arg27
  let c0_i32_257 : BitVec 32 := 0#32
  let v470 : Index := Scalar.indexCast c0_i32_257
  let c4_i32_258 : BitVec 32 := 4#32
  let v471 : Index := Scalar.indexCast c4_i32_258
  let c0_259 : Index := 0#32
  ![v469.toNat, 0, 4, 0]

def k0_chk126 (v476 : IVec S16 32) : Prop :=
  (∀ a x, ((![v476] : Fin 1 → IVec S16 32) a x).toNat < S64.size a)
theorem k0_idx128_inb : ∀ (v476 : IVec S16 32) (k0_hw126 : k0_chk126 v476), ∀ a x, ((![v476] : Fin 1 → IVec S16 32) a x).toNat < S64.size a := fun v476 k0_hw126 => k0_hw126
def k0_off83 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v478 : Index := Scalar.indexCast arg27
  let c0_i32_262 : BitVec 32 := 0#32
  let v479 : Index := Scalar.indexCast c0_i32_262
  let c5_i32_263 : BitVec 32 := 5#32
  let v480 : Index := Scalar.indexCast c5_i32_263
  let c0_264 : Index := 0#32
  ![v478.toNat, 0, 5, 0]

def k0_chk127 (v485 : IVec S16 32) : Prop :=
  (∀ a x, ((![v485] : Fin 1 → IVec S16 32) a x).toNat < S64.size a)
theorem k0_idx129_inb : ∀ (v485 : IVec S16 32) (k0_hw127 : k0_chk127 v485), ∀ a x, ((![v485] : Fin 1 → IVec S16 32) a x).toNat < S64.size a := fun v485 k0_hw127 => k0_hw127
def k0_off84 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v487 : Index := Scalar.indexCast arg27
  let c0_i32_266 : BitVec 32 := 0#32
  let v488 : Index := Scalar.indexCast c0_i32_266
  let c6_i32_267 : BitVec 32 := 6#32
  let v489 : Index := Scalar.indexCast c6_i32_267
  let c0_268 : Index := 0#32
  ![v487.toNat, 0, 6, 0]

def k0_chk128 (v494 : IVec S16 32) : Prop :=
  (∀ a x, ((![v494] : Fin 1 → IVec S16 32) a x).toNat < S64.size a)
theorem k0_idx130_inb : ∀ (v494 : IVec S16 32) (k0_hw128 : k0_chk128 v494), ∀ a x, ((![v494] : Fin 1 → IVec S16 32) a x).toNat < S64.size a := fun v494 k0_hw128 => k0_hw128
def k0_off85 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v496 : Index := Scalar.indexCast arg27
  let c0_i32_271 : BitVec 32 := 0#32
  let v497 : Index := Scalar.indexCast c0_i32_271
  let c7_i32_272 : BitVec 32 := 7#32
  let v498 : Index := Scalar.indexCast c7_i32_272
  let c0_273 : Index := 0#32
  ![v496.toNat, 0, 7, 0]

def k0_chk129 (v503 : IVec S16 32) : Prop :=
  (∀ a x, ((![v503] : Fin 1 → IVec S16 32) a x).toNat < S64.size a)
theorem k0_idx131_inb : ∀ (v503 : IVec S16 32) (k0_hw129 : k0_chk129 v503), ∀ a x, ((![v503] : Fin 1 → IVec S16 32) a x).toNat < S64.size a := fun v503 k0_hw129 => k0_hw129
def k0_off86 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v505 : Index := Scalar.indexCast arg27
  let c0_i32_276 : BitVec 32 := 0#32
  let v506 : Index := Scalar.indexCast c0_i32_276
  let c0_i32_277 : BitVec 32 := 0#32
  let v507 : Index := Scalar.indexCast c0_i32_277
  let c16_278 : Index := 16#32
  ![v505.toNat, 0, 0, 16]

def k0_chk130 (v512 : IVec S16 32) : Prop :=
  (∀ a x, ((![v512] : Fin 1 → IVec S16 32) a x).toNat < S64.size a)
theorem k0_idx132_inb : ∀ (v512 : IVec S16 32) (k0_hw130 : k0_chk130 v512), ∀ a x, ((![v512] : Fin 1 → IVec S16 32) a x).toNat < S64.size a := fun v512 k0_hw130 => k0_hw130
def k0_off87 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v514 : Index := Scalar.indexCast arg27
  let c0_i32_281 : BitVec 32 := 0#32
  let v515 : Index := Scalar.indexCast c0_i32_281
  let c1_i32_282 : BitVec 32 := 1#32
  let v516 : Index := Scalar.indexCast c1_i32_282
  let c16_283 : Index := 16#32
  ![v514.toNat, 0, 1, 16]

def k0_chk131 (v521 : IVec S16 32) : Prop :=
  (∀ a x, ((![v521] : Fin 1 → IVec S16 32) a x).toNat < S64.size a)
theorem k0_idx133_inb : ∀ (v521 : IVec S16 32) (k0_hw131 : k0_chk131 v521), ∀ a x, ((![v521] : Fin 1 → IVec S16 32) a x).toNat < S64.size a := fun v521 k0_hw131 => k0_hw131
def k0_off88 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v523 : Index := Scalar.indexCast arg27
  let c0_i32_286 : BitVec 32 := 0#32
  let v524 : Index := Scalar.indexCast c0_i32_286
  let c2_i32_287 : BitVec 32 := 2#32
  let v525 : Index := Scalar.indexCast c2_i32_287
  let c16_288 : Index := 16#32
  ![v523.toNat, 0, 2, 16]

def k0_chk132 (v530 : IVec S16 32) : Prop :=
  (∀ a x, ((![v530] : Fin 1 → IVec S16 32) a x).toNat < S64.size a)
theorem k0_idx134_inb : ∀ (v530 : IVec S16 32) (k0_hw132 : k0_chk132 v530), ∀ a x, ((![v530] : Fin 1 → IVec S16 32) a x).toNat < S64.size a := fun v530 k0_hw132 => k0_hw132
def k0_off89 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v532 : Index := Scalar.indexCast arg27
  let c0_i32_291 : BitVec 32 := 0#32
  let v533 : Index := Scalar.indexCast c0_i32_291
  let c3_i32_292 : BitVec 32 := 3#32
  let v534 : Index := Scalar.indexCast c3_i32_292
  let c16_293 : Index := 16#32
  ![v532.toNat, 0, 3, 16]

def k0_chk133 (v539 : IVec S16 32) : Prop :=
  (∀ a x, ((![v539] : Fin 1 → IVec S16 32) a x).toNat < S64.size a)
theorem k0_idx135_inb : ∀ (v539 : IVec S16 32) (k0_hw133 : k0_chk133 v539), ∀ a x, ((![v539] : Fin 1 → IVec S16 32) a x).toNat < S64.size a := fun v539 k0_hw133 => k0_hw133
def k0_off90 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v541 : Index := Scalar.indexCast arg27
  let c0_i32_296 : BitVec 32 := 0#32
  let v542 : Index := Scalar.indexCast c0_i32_296
  let c4_i32_297 : BitVec 32 := 4#32
  let v543 : Index := Scalar.indexCast c4_i32_297
  let c16_298 : Index := 16#32
  ![v541.toNat, 0, 4, 16]

def k0_chk134 (v548 : IVec S16 32) : Prop :=
  (∀ a x, ((![v548] : Fin 1 → IVec S16 32) a x).toNat < S64.size a)
theorem k0_idx136_inb : ∀ (v548 : IVec S16 32) (k0_hw134 : k0_chk134 v548), ∀ a x, ((![v548] : Fin 1 → IVec S16 32) a x).toNat < S64.size a := fun v548 k0_hw134 => k0_hw134
def k0_off91 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v550 : Index := Scalar.indexCast arg27
  let c0_i32_301 : BitVec 32 := 0#32
  let v551 : Index := Scalar.indexCast c0_i32_301
  let c5_i32_302 : BitVec 32 := 5#32
  let v552 : Index := Scalar.indexCast c5_i32_302
  let c16_303 : Index := 16#32
  ![v550.toNat, 0, 5, 16]

def k0_chk135 (v557 : IVec S16 32) : Prop :=
  (∀ a x, ((![v557] : Fin 1 → IVec S16 32) a x).toNat < S64.size a)
theorem k0_idx137_inb : ∀ (v557 : IVec S16 32) (k0_hw135 : k0_chk135 v557), ∀ a x, ((![v557] : Fin 1 → IVec S16 32) a x).toNat < S64.size a := fun v557 k0_hw135 => k0_hw135
def k0_off92 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v559 : Index := Scalar.indexCast arg27
  let c0_i32_306 : BitVec 32 := 0#32
  let v560 : Index := Scalar.indexCast c0_i32_306
  let c6_i32_307 : BitVec 32 := 6#32
  let v561 : Index := Scalar.indexCast c6_i32_307
  let c16_308 : Index := 16#32
  ![v559.toNat, 0, 6, 16]

def k0_chk136 (v566 : IVec S16 32) : Prop :=
  (∀ a x, ((![v566] : Fin 1 → IVec S16 32) a x).toNat < S64.size a)
theorem k0_idx138_inb : ∀ (v566 : IVec S16 32) (k0_hw136 : k0_chk136 v566), ∀ a x, ((![v566] : Fin 1 → IVec S16 32) a x).toNat < S64.size a := fun v566 k0_hw136 => k0_hw136
def k0_off93 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v568 : Index := Scalar.indexCast arg27
  let c0_i32_311 : BitVec 32 := 0#32
  let v569 : Index := Scalar.indexCast c0_i32_311
  let c7_i32_312 : BitVec 32 := 7#32
  let v570 : Index := Scalar.indexCast c7_i32_312
  let c16_313 : Index := 16#32
  ![v568.toNat, 0, 7, 16]

def k0_chk137 (v575 : IVec S16 32) : Prop :=
  (∀ a x, ((![v575] : Fin 1 → IVec S16 32) a x).toNat < S64.size a)
theorem k0_idx139_inb : ∀ (v575 : IVec S16 32) (k0_hw137 : k0_chk137 v575), ∀ a x, ((![v575] : Fin 1 → IVec S16 32) a x).toNat < S64.size a := fun v575 k0_hw137 => k0_hw137
def k0_off94 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v577 : Index := Scalar.indexCast arg27
  let c0_i32_316 : BitVec 32 := 0#32
  let v578 : Index := Scalar.indexCast c0_i32_316
  let c0_i32_317 : BitVec 32 := 0#32
  let v579 : Index := Scalar.indexCast c0_i32_317
  let c32_318 : Index := 32#32
  ![v577.toNat, 0, 0, 32]

def k0_chk138 (v584 : IVec S16 32) : Prop :=
  (∀ a x, ((![v584] : Fin 1 → IVec S16 32) a x).toNat < S64.size a)
theorem k0_idx140_inb : ∀ (v584 : IVec S16 32) (k0_hw138 : k0_chk138 v584), ∀ a x, ((![v584] : Fin 1 → IVec S16 32) a x).toNat < S64.size a := fun v584 k0_hw138 => k0_hw138
def k0_off95 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v586 : Index := Scalar.indexCast arg27
  let c0_i32_321 : BitVec 32 := 0#32
  let v587 : Index := Scalar.indexCast c0_i32_321
  let c1_i32_322 : BitVec 32 := 1#32
  let v588 : Index := Scalar.indexCast c1_i32_322
  let c32_323 : Index := 32#32
  ![v586.toNat, 0, 1, 32]

def k0_chk139 (v593 : IVec S16 32) : Prop :=
  (∀ a x, ((![v593] : Fin 1 → IVec S16 32) a x).toNat < S64.size a)
theorem k0_idx141_inb : ∀ (v593 : IVec S16 32) (k0_hw139 : k0_chk139 v593), ∀ a x, ((![v593] : Fin 1 → IVec S16 32) a x).toNat < S64.size a := fun v593 k0_hw139 => k0_hw139
def k0_off96 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v595 : Index := Scalar.indexCast arg27
  let c0_i32_326 : BitVec 32 := 0#32
  let v596 : Index := Scalar.indexCast c0_i32_326
  let c2_i32_327 : BitVec 32 := 2#32
  let v597 : Index := Scalar.indexCast c2_i32_327
  let c32_328 : Index := 32#32
  ![v595.toNat, 0, 2, 32]

def k0_chk140 (v602 : IVec S16 32) : Prop :=
  (∀ a x, ((![v602] : Fin 1 → IVec S16 32) a x).toNat < S64.size a)
theorem k0_idx142_inb : ∀ (v602 : IVec S16 32) (k0_hw140 : k0_chk140 v602), ∀ a x, ((![v602] : Fin 1 → IVec S16 32) a x).toNat < S64.size a := fun v602 k0_hw140 => k0_hw140
def k0_off97 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v604 : Index := Scalar.indexCast arg27
  let c0_i32_331 : BitVec 32 := 0#32
  let v605 : Index := Scalar.indexCast c0_i32_331
  let c3_i32_332 : BitVec 32 := 3#32
  let v606 : Index := Scalar.indexCast c3_i32_332
  let c32_333 : Index := 32#32
  ![v604.toNat, 0, 3, 32]

def k0_chk141 (v611 : IVec S16 32) : Prop :=
  (∀ a x, ((![v611] : Fin 1 → IVec S16 32) a x).toNat < S64.size a)
theorem k0_idx143_inb : ∀ (v611 : IVec S16 32) (k0_hw141 : k0_chk141 v611), ∀ a x, ((![v611] : Fin 1 → IVec S16 32) a x).toNat < S64.size a := fun v611 k0_hw141 => k0_hw141
def k0_off98 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v613 : Index := Scalar.indexCast arg27
  let c0_i32_336 : BitVec 32 := 0#32
  let v614 : Index := Scalar.indexCast c0_i32_336
  let c4_i32_337 : BitVec 32 := 4#32
  let v615 : Index := Scalar.indexCast c4_i32_337
  let c32_338 : Index := 32#32
  ![v613.toNat, 0, 4, 32]

def k0_chk142 (v620 : IVec S16 32) : Prop :=
  (∀ a x, ((![v620] : Fin 1 → IVec S16 32) a x).toNat < S64.size a)
theorem k0_idx144_inb : ∀ (v620 : IVec S16 32) (k0_hw142 : k0_chk142 v620), ∀ a x, ((![v620] : Fin 1 → IVec S16 32) a x).toNat < S64.size a := fun v620 k0_hw142 => k0_hw142
def k0_off99 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v622 : Index := Scalar.indexCast arg27
  let c0_i32_341 : BitVec 32 := 0#32
  let v623 : Index := Scalar.indexCast c0_i32_341
  let c5_i32_342 : BitVec 32 := 5#32
  let v624 : Index := Scalar.indexCast c5_i32_342
  let c32_343 : Index := 32#32
  ![v622.toNat, 0, 5, 32]

def k0_chk143 (v629 : IVec S16 32) : Prop :=
  (∀ a x, ((![v629] : Fin 1 → IVec S16 32) a x).toNat < S64.size a)
theorem k0_idx145_inb : ∀ (v629 : IVec S16 32) (k0_hw143 : k0_chk143 v629), ∀ a x, ((![v629] : Fin 1 → IVec S16 32) a x).toNat < S64.size a := fun v629 k0_hw143 => k0_hw143
def k0_off100 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v631 : Index := Scalar.indexCast arg27
  let c0_i32_346 : BitVec 32 := 0#32
  let v632 : Index := Scalar.indexCast c0_i32_346
  let c6_i32_347 : BitVec 32 := 6#32
  let v633 : Index := Scalar.indexCast c6_i32_347
  let c32_348 : Index := 32#32
  ![v631.toNat, 0, 6, 32]

def k0_chk144 (v638 : IVec S16 32) : Prop :=
  (∀ a x, ((![v638] : Fin 1 → IVec S16 32) a x).toNat < S64.size a)
theorem k0_idx146_inb : ∀ (v638 : IVec S16 32) (k0_hw144 : k0_chk144 v638), ∀ a x, ((![v638] : Fin 1 → IVec S16 32) a x).toNat < S64.size a := fun v638 k0_hw144 => k0_hw144
def k0_off101 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v640 : Index := Scalar.indexCast arg27
  let c0_i32_351 : BitVec 32 := 0#32
  let v641 : Index := Scalar.indexCast c0_i32_351
  let c7_i32_352 : BitVec 32 := 7#32
  let v642 : Index := Scalar.indexCast c7_i32_352
  let c32_353 : Index := 32#32
  ![v640.toNat, 0, 7, 32]

def k0_chk145 (v647 : IVec S16 32) : Prop :=
  (∀ a x, ((![v647] : Fin 1 → IVec S16 32) a x).toNat < S64.size a)
theorem k0_idx147_inb : ∀ (v647 : IVec S16 32) (k0_hw145 : k0_chk145 v647), ∀ a x, ((![v647] : Fin 1 → IVec S16 32) a x).toNat < S64.size a := fun v647 k0_hw145 => k0_hw145
def k0_off102 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v649 : Index := Scalar.indexCast arg27
  let c0_i32_356 : BitVec 32 := 0#32
  let v650 : Index := Scalar.indexCast c0_i32_356
  let c0_i32_357 : BitVec 32 := 0#32
  let v651 : Index := Scalar.indexCast c0_i32_357
  let c48_358 : Index := 48#32
  ![v649.toNat, 0, 0, 48]

def k0_chk146 (v656 : IVec S16 32) : Prop :=
  (∀ a x, ((![v656] : Fin 1 → IVec S16 32) a x).toNat < S64.size a)
theorem k0_idx148_inb : ∀ (v656 : IVec S16 32) (k0_hw146 : k0_chk146 v656), ∀ a x, ((![v656] : Fin 1 → IVec S16 32) a x).toNat < S64.size a := fun v656 k0_hw146 => k0_hw146
def k0_off103 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v658 : Index := Scalar.indexCast arg27
  let c0_i32_361 : BitVec 32 := 0#32
  let v659 : Index := Scalar.indexCast c0_i32_361
  let c1_i32_362 : BitVec 32 := 1#32
  let v660 : Index := Scalar.indexCast c1_i32_362
  let c48_363 : Index := 48#32
  ![v658.toNat, 0, 1, 48]

def k0_chk147 (v665 : IVec S16 32) : Prop :=
  (∀ a x, ((![v665] : Fin 1 → IVec S16 32) a x).toNat < S64.size a)
theorem k0_idx149_inb : ∀ (v665 : IVec S16 32) (k0_hw147 : k0_chk147 v665), ∀ a x, ((![v665] : Fin 1 → IVec S16 32) a x).toNat < S64.size a := fun v665 k0_hw147 => k0_hw147
def k0_off104 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v667 : Index := Scalar.indexCast arg27
  let c0_i32_366 : BitVec 32 := 0#32
  let v668 : Index := Scalar.indexCast c0_i32_366
  let c2_i32_367 : BitVec 32 := 2#32
  let v669 : Index := Scalar.indexCast c2_i32_367
  let c48_368 : Index := 48#32
  ![v667.toNat, 0, 2, 48]

def k0_chk148 (v674 : IVec S16 32) : Prop :=
  (∀ a x, ((![v674] : Fin 1 → IVec S16 32) a x).toNat < S64.size a)
theorem k0_idx150_inb : ∀ (v674 : IVec S16 32) (k0_hw148 : k0_chk148 v674), ∀ a x, ((![v674] : Fin 1 → IVec S16 32) a x).toNat < S64.size a := fun v674 k0_hw148 => k0_hw148
def k0_off105 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v676 : Index := Scalar.indexCast arg27
  let c0_i32_371 : BitVec 32 := 0#32
  let v677 : Index := Scalar.indexCast c0_i32_371
  let c3_i32_372 : BitVec 32 := 3#32
  let v678 : Index := Scalar.indexCast c3_i32_372
  let c48_373 : Index := 48#32
  ![v676.toNat, 0, 3, 48]

def k0_chk149 (v683 : IVec S16 32) : Prop :=
  (∀ a x, ((![v683] : Fin 1 → IVec S16 32) a x).toNat < S64.size a)
theorem k0_idx151_inb : ∀ (v683 : IVec S16 32) (k0_hw149 : k0_chk149 v683), ∀ a x, ((![v683] : Fin 1 → IVec S16 32) a x).toNat < S64.size a := fun v683 k0_hw149 => k0_hw149
def k0_off106 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v685 : Index := Scalar.indexCast arg27
  let c0_i32_376 : BitVec 32 := 0#32
  let v686 : Index := Scalar.indexCast c0_i32_376
  let c4_i32_377 : BitVec 32 := 4#32
  let v687 : Index := Scalar.indexCast c4_i32_377
  let c48_378 : Index := 48#32
  ![v685.toNat, 0, 4, 48]

def k0_chk150 (v692 : IVec S16 32) : Prop :=
  (∀ a x, ((![v692] : Fin 1 → IVec S16 32) a x).toNat < S64.size a)
theorem k0_idx152_inb : ∀ (v692 : IVec S16 32) (k0_hw150 : k0_chk150 v692), ∀ a x, ((![v692] : Fin 1 → IVec S16 32) a x).toNat < S64.size a := fun v692 k0_hw150 => k0_hw150
def k0_off107 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v694 : Index := Scalar.indexCast arg27
  let c0_i32_381 : BitVec 32 := 0#32
  let v695 : Index := Scalar.indexCast c0_i32_381
  let c5_i32_382 : BitVec 32 := 5#32
  let v696 : Index := Scalar.indexCast c5_i32_382
  let c48_383 : Index := 48#32
  ![v694.toNat, 0, 5, 48]

def k0_chk151 (v701 : IVec S16 32) : Prop :=
  (∀ a x, ((![v701] : Fin 1 → IVec S16 32) a x).toNat < S64.size a)
theorem k0_idx153_inb : ∀ (v701 : IVec S16 32) (k0_hw151 : k0_chk151 v701), ∀ a x, ((![v701] : Fin 1 → IVec S16 32) a x).toNat < S64.size a := fun v701 k0_hw151 => k0_hw151
def k0_off108 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v703 : Index := Scalar.indexCast arg27
  let c0_i32_386 : BitVec 32 := 0#32
  let v704 : Index := Scalar.indexCast c0_i32_386
  let c6_i32_387 : BitVec 32 := 6#32
  let v705 : Index := Scalar.indexCast c6_i32_387
  let c48_388 : Index := 48#32
  ![v703.toNat, 0, 6, 48]

def k0_chk152 (v710 : IVec S16 32) : Prop :=
  (∀ a x, ((![v710] : Fin 1 → IVec S16 32) a x).toNat < S64.size a)
theorem k0_idx154_inb : ∀ (v710 : IVec S16 32) (k0_hw152 : k0_chk152 v710), ∀ a x, ((![v710] : Fin 1 → IVec S16 32) a x).toNat < S64.size a := fun v710 k0_hw152 => k0_hw152
def k0_off109 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v712 : Index := Scalar.indexCast arg27
  let c0_i32_391 : BitVec 32 := 0#32
  let v713 : Index := Scalar.indexCast c0_i32_391
  let c7_i32_392 : BitVec 32 := 7#32
  let v714 : Index := Scalar.indexCast c7_i32_392
  let c48_393 : Index := 48#32
  ![v712.toNat, 0, 7, 48]

def k0_chk153 (v719 : IVec S16 32) : Prop :=
  (∀ a x, ((![v719] : Fin 1 → IVec S16 32) a x).toNat < S64.size a)
theorem k0_idx155_inb : ∀ (v719 : IVec S16 32) (k0_hw153 : k0_chk153 v719), ∀ a x, ((![v719] : Fin 1 → IVec S16 32) a x).toNat < S64.size a := fun v719 k0_hw153 => k0_hw153
def k0_off110 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v721 : Index := Scalar.indexCast arg27
  let c0_i32_396 : BitVec 32 := 0#32
  let v722 : Index := Scalar.indexCast c0_i32_396
  let c0_i32_397 : BitVec 32 := 0#32
  let v723 : Index := Scalar.indexCast c0_i32_397
  let c64_398 : Index := 64#32
  ![v721.toNat, 0, 0, 64]

def k0_chk154 (v728 : IVec S16 32) : Prop :=
  (∀ a x, ((![v728] : Fin 1 → IVec S16 32) a x).toNat < S64.size a)
theorem k0_idx156_inb : ∀ (v728 : IVec S16 32) (k0_hw154 : k0_chk154 v728), ∀ a x, ((![v728] : Fin 1 → IVec S16 32) a x).toNat < S64.size a := fun v728 k0_hw154 => k0_hw154
def k0_off111 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v730 : Index := Scalar.indexCast arg27
  let c0_i32_401 : BitVec 32 := 0#32
  let v731 : Index := Scalar.indexCast c0_i32_401
  let c1_i32_402 : BitVec 32 := 1#32
  let v732 : Index := Scalar.indexCast c1_i32_402
  let c64_403 : Index := 64#32
  ![v730.toNat, 0, 1, 64]

def k0_chk155 (v737 : IVec S16 32) : Prop :=
  (∀ a x, ((![v737] : Fin 1 → IVec S16 32) a x).toNat < S64.size a)
theorem k0_idx157_inb : ∀ (v737 : IVec S16 32) (k0_hw155 : k0_chk155 v737), ∀ a x, ((![v737] : Fin 1 → IVec S16 32) a x).toNat < S64.size a := fun v737 k0_hw155 => k0_hw155
def k0_off112 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v739 : Index := Scalar.indexCast arg27
  let c0_i32_406 : BitVec 32 := 0#32
  let v740 : Index := Scalar.indexCast c0_i32_406
  let c2_i32_407 : BitVec 32 := 2#32
  let v741 : Index := Scalar.indexCast c2_i32_407
  let c64_408 : Index := 64#32
  ![v739.toNat, 0, 2, 64]

def k0_chk156 (v746 : IVec S16 32) : Prop :=
  (∀ a x, ((![v746] : Fin 1 → IVec S16 32) a x).toNat < S64.size a)
theorem k0_idx158_inb : ∀ (v746 : IVec S16 32) (k0_hw156 : k0_chk156 v746), ∀ a x, ((![v746] : Fin 1 → IVec S16 32) a x).toNat < S64.size a := fun v746 k0_hw156 => k0_hw156
def k0_off113 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v748 : Index := Scalar.indexCast arg27
  let c0_i32_411 : BitVec 32 := 0#32
  let v749 : Index := Scalar.indexCast c0_i32_411
  let c3_i32_412 : BitVec 32 := 3#32
  let v750 : Index := Scalar.indexCast c3_i32_412
  let c64_413 : Index := 64#32
  ![v748.toNat, 0, 3, 64]

def k0_chk157 (v755 : IVec S16 32) : Prop :=
  (∀ a x, ((![v755] : Fin 1 → IVec S16 32) a x).toNat < S64.size a)
theorem k0_idx159_inb : ∀ (v755 : IVec S16 32) (k0_hw157 : k0_chk157 v755), ∀ a x, ((![v755] : Fin 1 → IVec S16 32) a x).toNat < S64.size a := fun v755 k0_hw157 => k0_hw157
def k0_off114 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v757 : Index := Scalar.indexCast arg27
  let c0_i32_416 : BitVec 32 := 0#32
  let v758 : Index := Scalar.indexCast c0_i32_416
  let c4_i32_417 : BitVec 32 := 4#32
  let v759 : Index := Scalar.indexCast c4_i32_417
  let c64_418 : Index := 64#32
  ![v757.toNat, 0, 4, 64]

def k0_chk158 (v764 : IVec S16 32) : Prop :=
  (∀ a x, ((![v764] : Fin 1 → IVec S16 32) a x).toNat < S64.size a)
theorem k0_idx160_inb : ∀ (v764 : IVec S16 32) (k0_hw158 : k0_chk158 v764), ∀ a x, ((![v764] : Fin 1 → IVec S16 32) a x).toNat < S64.size a := fun v764 k0_hw158 => k0_hw158
def k0_off115 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v766 : Index := Scalar.indexCast arg27
  let c0_i32_421 : BitVec 32 := 0#32
  let v767 : Index := Scalar.indexCast c0_i32_421
  let c5_i32_422 : BitVec 32 := 5#32
  let v768 : Index := Scalar.indexCast c5_i32_422
  let c64_423 : Index := 64#32
  ![v766.toNat, 0, 5, 64]

def k0_chk159 (v773 : IVec S16 32) : Prop :=
  (∀ a x, ((![v773] : Fin 1 → IVec S16 32) a x).toNat < S64.size a)
theorem k0_idx161_inb : ∀ (v773 : IVec S16 32) (k0_hw159 : k0_chk159 v773), ∀ a x, ((![v773] : Fin 1 → IVec S16 32) a x).toNat < S64.size a := fun v773 k0_hw159 => k0_hw159
def k0_off116 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v775 : Index := Scalar.indexCast arg27
  let c0_i32_426 : BitVec 32 := 0#32
  let v776 : Index := Scalar.indexCast c0_i32_426
  let c6_i32_427 : BitVec 32 := 6#32
  let v777 : Index := Scalar.indexCast c6_i32_427
  let c64_428 : Index := 64#32
  ![v775.toNat, 0, 6, 64]

def k0_chk160 (v782 : IVec S16 32) : Prop :=
  (∀ a x, ((![v782] : Fin 1 → IVec S16 32) a x).toNat < S64.size a)
theorem k0_idx162_inb : ∀ (v782 : IVec S16 32) (k0_hw160 : k0_chk160 v782), ∀ a x, ((![v782] : Fin 1 → IVec S16 32) a x).toNat < S64.size a := fun v782 k0_hw160 => k0_hw160
def k0_off117 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v784 : Index := Scalar.indexCast arg27
  let c0_i32_431 : BitVec 32 := 0#32
  let v785 : Index := Scalar.indexCast c0_i32_431
  let c7_i32_432 : BitVec 32 := 7#32
  let v786 : Index := Scalar.indexCast c7_i32_432
  let c64_433 : Index := 64#32
  ![v784.toNat, 0, 7, 64]

def k0_chk161 (v791 : IVec S16 32) : Prop :=
  (∀ a x, ((![v791] : Fin 1 → IVec S16 32) a x).toNat < S64.size a)
theorem k0_idx163_inb : ∀ (v791 : IVec S16 32) (k0_hw161 : k0_chk161 v791), ∀ a x, ((![v791] : Fin 1 → IVec S16 32) a x).toNat < S64.size a := fun v791 k0_hw161 => k0_hw161
def k0_off118 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v793 : Index := Scalar.indexCast arg27
  let c0_i32_436 : BitVec 32 := 0#32
  let v794 : Index := Scalar.indexCast c0_i32_436
  let c0_i32_437 : BitVec 32 := 0#32
  let v795 : Index := Scalar.indexCast c0_i32_437
  let c80_438 : Index := 80#32
  ![v793.toNat, 0, 0, 80]

def k0_chk162 (v800 : IVec S16 32) : Prop :=
  (∀ a x, ((![v800] : Fin 1 → IVec S16 32) a x).toNat < S64.size a)
theorem k0_idx164_inb : ∀ (v800 : IVec S16 32) (k0_hw162 : k0_chk162 v800), ∀ a x, ((![v800] : Fin 1 → IVec S16 32) a x).toNat < S64.size a := fun v800 k0_hw162 => k0_hw162
def k0_off119 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v802 : Index := Scalar.indexCast arg27
  let c0_i32_441 : BitVec 32 := 0#32
  let v803 : Index := Scalar.indexCast c0_i32_441
  let c1_i32_442 : BitVec 32 := 1#32
  let v804 : Index := Scalar.indexCast c1_i32_442
  let c80_443 : Index := 80#32
  ![v802.toNat, 0, 1, 80]

def k0_chk163 (v809 : IVec S16 32) : Prop :=
  (∀ a x, ((![v809] : Fin 1 → IVec S16 32) a x).toNat < S64.size a)
theorem k0_idx165_inb : ∀ (v809 : IVec S16 32) (k0_hw163 : k0_chk163 v809), ∀ a x, ((![v809] : Fin 1 → IVec S16 32) a x).toNat < S64.size a := fun v809 k0_hw163 => k0_hw163
def k0_off120 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v811 : Index := Scalar.indexCast arg27
  let c0_i32_446 : BitVec 32 := 0#32
  let v812 : Index := Scalar.indexCast c0_i32_446
  let c2_i32_447 : BitVec 32 := 2#32
  let v813 : Index := Scalar.indexCast c2_i32_447
  let c80_448 : Index := 80#32
  ![v811.toNat, 0, 2, 80]

def k0_chk164 (v818 : IVec S16 32) : Prop :=
  (∀ a x, ((![v818] : Fin 1 → IVec S16 32) a x).toNat < S64.size a)
theorem k0_idx166_inb : ∀ (v818 : IVec S16 32) (k0_hw164 : k0_chk164 v818), ∀ a x, ((![v818] : Fin 1 → IVec S16 32) a x).toNat < S64.size a := fun v818 k0_hw164 => k0_hw164
def k0_off121 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v820 : Index := Scalar.indexCast arg27
  let c0_i32_451 : BitVec 32 := 0#32
  let v821 : Index := Scalar.indexCast c0_i32_451
  let c3_i32_452 : BitVec 32 := 3#32
  let v822 : Index := Scalar.indexCast c3_i32_452
  let c80_453 : Index := 80#32
  ![v820.toNat, 0, 3, 80]

def k0_chk165 (v827 : IVec S16 32) : Prop :=
  (∀ a x, ((![v827] : Fin 1 → IVec S16 32) a x).toNat < S64.size a)
theorem k0_idx167_inb : ∀ (v827 : IVec S16 32) (k0_hw165 : k0_chk165 v827), ∀ a x, ((![v827] : Fin 1 → IVec S16 32) a x).toNat < S64.size a := fun v827 k0_hw165 => k0_hw165
def k0_off122 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v829 : Index := Scalar.indexCast arg27
  let c0_i32_456 : BitVec 32 := 0#32
  let v830 : Index := Scalar.indexCast c0_i32_456
  let c4_i32_457 : BitVec 32 := 4#32
  let v831 : Index := Scalar.indexCast c4_i32_457
  let c80_458 : Index := 80#32
  ![v829.toNat, 0, 4, 80]

def k0_chk166 (v836 : IVec S16 32) : Prop :=
  (∀ a x, ((![v836] : Fin 1 → IVec S16 32) a x).toNat < S64.size a)
theorem k0_idx168_inb : ∀ (v836 : IVec S16 32) (k0_hw166 : k0_chk166 v836), ∀ a x, ((![v836] : Fin 1 → IVec S16 32) a x).toNat < S64.size a := fun v836 k0_hw166 => k0_hw166
def k0_off123 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v838 : Index := Scalar.indexCast arg27
  let c0_i32_461 : BitVec 32 := 0#32
  let v839 : Index := Scalar.indexCast c0_i32_461
  let c5_i32_462 : BitVec 32 := 5#32
  let v840 : Index := Scalar.indexCast c5_i32_462
  let c80_463 : Index := 80#32
  ![v838.toNat, 0, 5, 80]

def k0_chk167 (v845 : IVec S16 32) : Prop :=
  (∀ a x, ((![v845] : Fin 1 → IVec S16 32) a x).toNat < S64.size a)
theorem k0_idx169_inb : ∀ (v845 : IVec S16 32) (k0_hw167 : k0_chk167 v845), ∀ a x, ((![v845] : Fin 1 → IVec S16 32) a x).toNat < S64.size a := fun v845 k0_hw167 => k0_hw167
def k0_off124 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v847 : Index := Scalar.indexCast arg27
  let c0_i32_466 : BitVec 32 := 0#32
  let v848 : Index := Scalar.indexCast c0_i32_466
  let c6_i32_467 : BitVec 32 := 6#32
  let v849 : Index := Scalar.indexCast c6_i32_467
  let c80_468 : Index := 80#32
  ![v847.toNat, 0, 6, 80]

def k0_chk168 (v854 : IVec S16 32) : Prop :=
  (∀ a x, ((![v854] : Fin 1 → IVec S16 32) a x).toNat < S64.size a)
theorem k0_idx170_inb : ∀ (v854 : IVec S16 32) (k0_hw168 : k0_chk168 v854), ∀ a x, ((![v854] : Fin 1 → IVec S16 32) a x).toNat < S64.size a := fun v854 k0_hw168 => k0_hw168
def k0_off125 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v856 : Index := Scalar.indexCast arg27
  let c0_i32_471 : BitVec 32 := 0#32
  let v857 : Index := Scalar.indexCast c0_i32_471
  let c7_i32_472 : BitVec 32 := 7#32
  let v858 : Index := Scalar.indexCast c7_i32_472
  let c80_473 : Index := 80#32
  ![v856.toNat, 0, 7, 80]

def k0_chk169 (v863 : IVec S16 32) : Prop :=
  (∀ a x, ((![v863] : Fin 1 → IVec S16 32) a x).toNat < S64.size a)
theorem k0_idx171_inb : ∀ (v863 : IVec S16 32) (k0_hw169 : k0_chk169 v863), ∀ a x, ((![v863] : Fin 1 → IVec S16 32) a x).toNat < S64.size a := fun v863 k0_hw169 => k0_hw169
def k0_off126 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v865 : Index := Scalar.indexCast arg27
  let c0_i32_476 : BitVec 32 := 0#32
  let v866 : Index := Scalar.indexCast c0_i32_476
  let c0_i32_477 : BitVec 32 := 0#32
  let v867 : Index := Scalar.indexCast c0_i32_477
  let c96_478 : Index := 96#32
  ![v865.toNat, 0, 0, 96]

def k0_chk170 (v872 : IVec S16 32) : Prop :=
  (∀ a x, ((![v872] : Fin 1 → IVec S16 32) a x).toNat < S64.size a)
theorem k0_idx172_inb : ∀ (v872 : IVec S16 32) (k0_hw170 : k0_chk170 v872), ∀ a x, ((![v872] : Fin 1 → IVec S16 32) a x).toNat < S64.size a := fun v872 k0_hw170 => k0_hw170
def k0_off127 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v874 : Index := Scalar.indexCast arg27
  let c0_i32_481 : BitVec 32 := 0#32
  let v875 : Index := Scalar.indexCast c0_i32_481
  let c1_i32_482 : BitVec 32 := 1#32
  let v876 : Index := Scalar.indexCast c1_i32_482
  let c96_483 : Index := 96#32
  ![v874.toNat, 0, 1, 96]

def k0_chk171 (v881 : IVec S16 32) : Prop :=
  (∀ a x, ((![v881] : Fin 1 → IVec S16 32) a x).toNat < S64.size a)
theorem k0_idx173_inb : ∀ (v881 : IVec S16 32) (k0_hw171 : k0_chk171 v881), ∀ a x, ((![v881] : Fin 1 → IVec S16 32) a x).toNat < S64.size a := fun v881 k0_hw171 => k0_hw171
def k0_off128 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v883 : Index := Scalar.indexCast arg27
  let c0_i32_486 : BitVec 32 := 0#32
  let v884 : Index := Scalar.indexCast c0_i32_486
  let c2_i32_487 : BitVec 32 := 2#32
  let v885 : Index := Scalar.indexCast c2_i32_487
  let c96_488 : Index := 96#32
  ![v883.toNat, 0, 2, 96]

def k0_chk172 (v890 : IVec S16 32) : Prop :=
  (∀ a x, ((![v890] : Fin 1 → IVec S16 32) a x).toNat < S64.size a)
theorem k0_idx174_inb : ∀ (v890 : IVec S16 32) (k0_hw172 : k0_chk172 v890), ∀ a x, ((![v890] : Fin 1 → IVec S16 32) a x).toNat < S64.size a := fun v890 k0_hw172 => k0_hw172
def k0_off129 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v892 : Index := Scalar.indexCast arg27
  let c0_i32_491 : BitVec 32 := 0#32
  let v893 : Index := Scalar.indexCast c0_i32_491
  let c3_i32_492 : BitVec 32 := 3#32
  let v894 : Index := Scalar.indexCast c3_i32_492
  let c96_493 : Index := 96#32
  ![v892.toNat, 0, 3, 96]

def k0_chk173 (v899 : IVec S16 32) : Prop :=
  (∀ a x, ((![v899] : Fin 1 → IVec S16 32) a x).toNat < S64.size a)
theorem k0_idx175_inb : ∀ (v899 : IVec S16 32) (k0_hw173 : k0_chk173 v899), ∀ a x, ((![v899] : Fin 1 → IVec S16 32) a x).toNat < S64.size a := fun v899 k0_hw173 => k0_hw173
def k0_off130 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v901 : Index := Scalar.indexCast arg27
  let c0_i32_496 : BitVec 32 := 0#32
  let v902 : Index := Scalar.indexCast c0_i32_496
  let c4_i32_497 : BitVec 32 := 4#32
  let v903 : Index := Scalar.indexCast c4_i32_497
  let c96_498 : Index := 96#32
  ![v901.toNat, 0, 4, 96]

def k0_chk174 (v908 : IVec S16 32) : Prop :=
  (∀ a x, ((![v908] : Fin 1 → IVec S16 32) a x).toNat < S64.size a)
theorem k0_idx176_inb : ∀ (v908 : IVec S16 32) (k0_hw174 : k0_chk174 v908), ∀ a x, ((![v908] : Fin 1 → IVec S16 32) a x).toNat < S64.size a := fun v908 k0_hw174 => k0_hw174
def k0_off131 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v910 : Index := Scalar.indexCast arg27
  let c0_i32_501 : BitVec 32 := 0#32
  let v911 : Index := Scalar.indexCast c0_i32_501
  let c5_i32_502 : BitVec 32 := 5#32
  let v912 : Index := Scalar.indexCast c5_i32_502
  let c96_503 : Index := 96#32
  ![v910.toNat, 0, 5, 96]

def k0_chk175 (v917 : IVec S16 32) : Prop :=
  (∀ a x, ((![v917] : Fin 1 → IVec S16 32) a x).toNat < S64.size a)
theorem k0_idx177_inb : ∀ (v917 : IVec S16 32) (k0_hw175 : k0_chk175 v917), ∀ a x, ((![v917] : Fin 1 → IVec S16 32) a x).toNat < S64.size a := fun v917 k0_hw175 => k0_hw175
def k0_off132 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v919 : Index := Scalar.indexCast arg27
  let c0_i32_506 : BitVec 32 := 0#32
  let v920 : Index := Scalar.indexCast c0_i32_506
  let c6_i32_507 : BitVec 32 := 6#32
  let v921 : Index := Scalar.indexCast c6_i32_507
  let c96_508 : Index := 96#32
  ![v919.toNat, 0, 6, 96]

def k0_chk176 (v926 : IVec S16 32) : Prop :=
  (∀ a x, ((![v926] : Fin 1 → IVec S16 32) a x).toNat < S64.size a)
theorem k0_idx178_inb : ∀ (v926 : IVec S16 32) (k0_hw176 : k0_chk176 v926), ∀ a x, ((![v926] : Fin 1 → IVec S16 32) a x).toNat < S64.size a := fun v926 k0_hw176 => k0_hw176
def k0_off133 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v928 : Index := Scalar.indexCast arg27
  let c0_i32_511 : BitVec 32 := 0#32
  let v929 : Index := Scalar.indexCast c0_i32_511
  let c7_i32_512 : BitVec 32 := 7#32
  let v930 : Index := Scalar.indexCast c7_i32_512
  let c96_513 : Index := 96#32
  ![v928.toNat, 0, 7, 96]

def k0_chk177 (v935 : IVec S16 32) : Prop :=
  (∀ a x, ((![v935] : Fin 1 → IVec S16 32) a x).toNat < S64.size a)
theorem k0_idx179_inb : ∀ (v935 : IVec S16 32) (k0_hw177 : k0_chk177 v935), ∀ a x, ((![v935] : Fin 1 → IVec S16 32) a x).toNat < S64.size a := fun v935 k0_hw177 => k0_hw177
def k0_off134 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v937 : Index := Scalar.indexCast arg27
  let c0_i32_516 : BitVec 32 := 0#32
  let v938 : Index := Scalar.indexCast c0_i32_516
  let c0_i32_517 : BitVec 32 := 0#32
  let v939 : Index := Scalar.indexCast c0_i32_517
  let c112_518 : Index := 112#32
  ![v937.toNat, 0, 0, 112]

def k0_chk178 (v944 : IVec S16 32) : Prop :=
  (∀ a x, ((![v944] : Fin 1 → IVec S16 32) a x).toNat < S64.size a)
theorem k0_idx180_inb : ∀ (v944 : IVec S16 32) (k0_hw178 : k0_chk178 v944), ∀ a x, ((![v944] : Fin 1 → IVec S16 32) a x).toNat < S64.size a := fun v944 k0_hw178 => k0_hw178
def k0_off135 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v946 : Index := Scalar.indexCast arg27
  let c0_i32_521 : BitVec 32 := 0#32
  let v947 : Index := Scalar.indexCast c0_i32_521
  let c1_i32_522 : BitVec 32 := 1#32
  let v948 : Index := Scalar.indexCast c1_i32_522
  let c112_523 : Index := 112#32
  ![v946.toNat, 0, 1, 112]

def k0_chk179 (v953 : IVec S16 32) : Prop :=
  (∀ a x, ((![v953] : Fin 1 → IVec S16 32) a x).toNat < S64.size a)
theorem k0_idx181_inb : ∀ (v953 : IVec S16 32) (k0_hw179 : k0_chk179 v953), ∀ a x, ((![v953] : Fin 1 → IVec S16 32) a x).toNat < S64.size a := fun v953 k0_hw179 => k0_hw179
def k0_off136 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v955 : Index := Scalar.indexCast arg27
  let c0_i32_526 : BitVec 32 := 0#32
  let v956 : Index := Scalar.indexCast c0_i32_526
  let c2_i32_527 : BitVec 32 := 2#32
  let v957 : Index := Scalar.indexCast c2_i32_527
  let c112_528 : Index := 112#32
  ![v955.toNat, 0, 2, 112]

def k0_chk180 (v962 : IVec S16 32) : Prop :=
  (∀ a x, ((![v962] : Fin 1 → IVec S16 32) a x).toNat < S64.size a)
theorem k0_idx182_inb : ∀ (v962 : IVec S16 32) (k0_hw180 : k0_chk180 v962), ∀ a x, ((![v962] : Fin 1 → IVec S16 32) a x).toNat < S64.size a := fun v962 k0_hw180 => k0_hw180
def k0_off137 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v964 : Index := Scalar.indexCast arg27
  let c0_i32_531 : BitVec 32 := 0#32
  let v965 : Index := Scalar.indexCast c0_i32_531
  let c3_i32_532 : BitVec 32 := 3#32
  let v966 : Index := Scalar.indexCast c3_i32_532
  let c112_533 : Index := 112#32
  ![v964.toNat, 0, 3, 112]

def k0_chk181 (v971 : IVec S16 32) : Prop :=
  (∀ a x, ((![v971] : Fin 1 → IVec S16 32) a x).toNat < S64.size a)
theorem k0_idx183_inb : ∀ (v971 : IVec S16 32) (k0_hw181 : k0_chk181 v971), ∀ a x, ((![v971] : Fin 1 → IVec S16 32) a x).toNat < S64.size a := fun v971 k0_hw181 => k0_hw181
def k0_off138 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v973 : Index := Scalar.indexCast arg27
  let c0_i32_536 : BitVec 32 := 0#32
  let v974 : Index := Scalar.indexCast c0_i32_536
  let c4_i32_537 : BitVec 32 := 4#32
  let v975 : Index := Scalar.indexCast c4_i32_537
  let c112_538 : Index := 112#32
  ![v973.toNat, 0, 4, 112]

def k0_chk182 (v980 : IVec S16 32) : Prop :=
  (∀ a x, ((![v980] : Fin 1 → IVec S16 32) a x).toNat < S64.size a)
theorem k0_idx184_inb : ∀ (v980 : IVec S16 32) (k0_hw182 : k0_chk182 v980), ∀ a x, ((![v980] : Fin 1 → IVec S16 32) a x).toNat < S64.size a := fun v980 k0_hw182 => k0_hw182
def k0_off139 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v982 : Index := Scalar.indexCast arg27
  let c0_i32_541 : BitVec 32 := 0#32
  let v983 : Index := Scalar.indexCast c0_i32_541
  let c5_i32_542 : BitVec 32 := 5#32
  let v984 : Index := Scalar.indexCast c5_i32_542
  let c112_543 : Index := 112#32
  ![v982.toNat, 0, 5, 112]

def k0_chk183 (v989 : IVec S16 32) : Prop :=
  (∀ a x, ((![v989] : Fin 1 → IVec S16 32) a x).toNat < S64.size a)
theorem k0_idx185_inb : ∀ (v989 : IVec S16 32) (k0_hw183 : k0_chk183 v989), ∀ a x, ((![v989] : Fin 1 → IVec S16 32) a x).toNat < S64.size a := fun v989 k0_hw183 => k0_hw183
def k0_off140 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v991 : Index := Scalar.indexCast arg27
  let c0_i32_546 : BitVec 32 := 0#32
  let v992 : Index := Scalar.indexCast c0_i32_546
  let c6_i32_547 : BitVec 32 := 6#32
  let v993 : Index := Scalar.indexCast c6_i32_547
  let c112_548 : Index := 112#32
  ![v991.toNat, 0, 6, 112]

def k0_chk184 (v998 : IVec S16 32) : Prop :=
  (∀ a x, ((![v998] : Fin 1 → IVec S16 32) a x).toNat < S64.size a)
theorem k0_idx186_inb : ∀ (v998 : IVec S16 32) (k0_hw184 : k0_chk184 v998), ∀ a x, ((![v998] : Fin 1 → IVec S16 32) a x).toNat < S64.size a := fun v998 k0_hw184 => k0_hw184
def k0_off141 (k0_t6 : Fin k0_t6_loop.trips) : Fin 4 → Nat :=
  let c0_i32_210 : BitVec 32 := 0#32
  let c1_i32_212 : BitVec 32 := 1#32
  let arg27 : BitVec 32 := Scf.iv c0_i32_210 c1_i32_212 k0_t6
  let v1000 : Index := Scalar.indexCast arg27
  let c0_i32_551 : BitVec 32 := 0#32
  let v1001 : Index := Scalar.indexCast c0_i32_551
  let c7_i32_552 : BitVec 32 := 7#32
  let v1002 : Index := Scalar.indexCast c7_i32_552
  let c112_553 : Index := 112#32
  ![v1000.toNat, 0, 7, 112]
def k0_off142 (i : grid0.Coords) (k0_t3 : Fin k0_t3_loop.trips) (k0_t4 : Fin k0_t4_loop.trips) : Fin 4 → Nat :=
  let c2_i32_203 : BitVec 32 := 2#32
  let c0_i32_174 : BitVec 32 := 0#32
  let c1_i32_175 : BitVec 32 := 1#32
  let arg25 : BitVec 32 := Scf.iv c0_i32_174 c1_i32_175 k0_t4
  let v357 : BitVec 32 := Scalar.muli c2_i32_203 arg25
  let c1_i32_204 : BitVec 32 := 1#32
  let v358 : BitVec 32 := Scalar.addi v357 c1_i32_204
  let c20_i32_205 : BitVec 32 := 20#32
  let v359 : BitVec 32 := Scalar.muli v358 c20_i32_205
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_206 : BitVec 32 := 4#32
  let v360 : BitVec 32 := Scalar.muli v1 c4_i32_206
  let c2_i32_163 : BitVec 32 := 2#32
  let c0_i32_143 : BitVec 32 := 0#32
  let c1_i32_145 : BitVec 32 := 1#32
  let arg23 : BitVec 32 := Scf.iv c0_i32_143 c1_i32_145 k0_t3
  let v326 : BitVec 32 := Scalar.muli c2_i32_163 arg23
  let v361 : BitVec 32 := Scalar.addi v360 v326
  let c0_i32_214 : BitVec 32 := 0#32
  let c0_i32_215 : BitVec 32 := 0#32
  ![v359.toNat, v361.toNat, 0, 0]
@[reducible] def k0_t7_loop : Scf.Loop 32 :=
  let c0_i32_184 : BitVec 32 := 0#32
  let c5_i32_185 : BitVec 32 := 5#32
  let v341 : BitVec 32 := Scalar.addi c0_i32_184 c5_i32_185
  let c1_i32_186 : BitVec 32 := 1#32
  ⟨c0_i32_184, v341, c1_i32_186⟩
def k0_cond6 : BitVec 1 :=
  let v_false : BitVec 1 := 0#1
  let true_190 : BitVec 1 := 1#1
  let v347 : BitVec 1 := Scalar.xori v_false true_190
  let v348 : BitVec 32 := Scalar.extui v347
  let c0_i32_191 : BitVec 32 := 0#32
  let v349 : BitVec 1 := Scalar.cmpi .ne v348 c0_i32_191
  v349

def k0_off143 (i : grid0.Coords) (k0_t3 : Fin k0_t3_loop.trips) (k0_t7 : Fin k0_t7_loop.trips) : Fin 4 → Nat :=
  let c2_i32_189 : BitVec 32 := 2#32
  let c0_i32_184 : BitVec 32 := 0#32
  let c1_i32_186 : BitVec 32 := 1#32
  let arg25 : BitVec 32 := Scf.iv c0_i32_184 c1_i32_186 k0_t7
  let v343 : BitVec 32 := Scalar.muli c2_i32_189 arg25
  let c20_i32 : BitVec 32 := 20#32
  let v344 : BitVec 32 := Scalar.muli v343 c20_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v345 : BitVec 32 := Scalar.muli v1 c4_i32
  let c2_i32_164 : BitVec 32 := 2#32
  let c0_i32_143 : BitVec 32 := 0#32
  let c1_i32_145 : BitVec 32 := 1#32
  let arg23 : BitVec 32 := Scf.iv c0_i32_143 c1_i32_145 k0_t3
  let v327 : BitVec 32 := Scalar.muli c2_i32_164 arg23
  let c1_i32_165 : BitVec 32 := 1#32
  let v328 : BitVec 32 := Scalar.addi v327 c1_i32_165
  let v346 : BitVec 32 := Scalar.addi v345 v328
  let c0_i32_218 : BitVec 32 := 0#32
  let c0_i32_219 : BitVec 32 := 0#32
  ![v344.toNat, v346.toNat, 0, 0]
@[reducible] def k0_t8_loop : Scf.Loop 32 :=
  let c0_i32_193 : BitVec 32 := 0#32
  let c20_i32_194 : BitVec 32 := 20#32
  let v350 : BitVec 32 := Scalar.addi c0_i32_193 c20_i32_194
  let c1_i32_195 : BitVec 32 := 1#32
  ⟨c0_i32_193, v350, c1_i32_195⟩

def k0_chk185 (v370 : IVec S16 32) (v372 : IVec S16 32) (v374 : IVec S16 32) : Prop :=
  (∀ a x, ((![v370, v372, v374] : Fin 3 → IVec S16 32) a x).toNat < S128x2x128.size a)
theorem k0_idx187_inb : ∀ (v370 : IVec S16 32) (v372 : IVec S16 32) (v374 : IVec S16 32) (k0_hw185 : k0_chk185 v370 v372 v374), ∀ a x, ((![v370, v372, v374] : Fin 3 → IVec S16 32) a x).toNat < S128x2x128.size a := fun v370 v372 v374 k0_hw185 => k0_hw185

def k0_chk186 (v377 : IVec S16 32) (v379 : IVec S16 32) (v381 : IVec S16 32) : Prop :=
  (∀ a x, ((![v377, v379, v381] : Fin 3 → IVec S16 32) a x).toNat < S128x2x128.size a)
theorem k0_idx188_inb : ∀ (v377 : IVec S16 32) (v379 : IVec S16 32) (v381 : IVec S16 32) (k0_hw186 : k0_chk186 v377 v379 v381), ∀ a x, ((![v377, v379, v381] : Fin 3 → IVec S16 32) a x).toNat < S128x2x128.size a := fun v377 v379 v381 k0_hw186 => k0_hw186

def k0_chk187 (v384 : IVec S16 32) (v386 : IVec S16 32) (v388 : IVec S16 32) : Prop :=
  (∀ a x, ((![v384, v386, v388] : Fin 3 → IVec S16 32) a x).toNat < S128x2x128.size a)
theorem k0_idx189_inb : ∀ (v384 : IVec S16 32) (v386 : IVec S16 32) (v388 : IVec S16 32) (k0_hw187 : k0_chk187 v384 v386 v388), ∀ a x, ((![v384, v386, v388] : Fin 3 → IVec S16 32) a x).toNat < S128x2x128.size a := fun v384 v386 v388 k0_hw187 => k0_hw187

def k0_chk188 (v391 : IVec S16 32) (v393 : IVec S16 32) (v395 : IVec S16 32) : Prop :=
  (∀ a x, ((![v391, v393, v395] : Fin 3 → IVec S16 32) a x).toNat < S128x2x128.size a)
theorem k0_idx190_inb : ∀ (v391 : IVec S16 32) (v393 : IVec S16 32) (v395 : IVec S16 32) (k0_hw188 : k0_chk188 v391 v393 v395), ∀ a x, ((![v391, v393, v395] : Fin 3 → IVec S16 32) a x).toNat < S128x2x128.size a := fun v391 v393 v395 k0_hw188 => k0_hw188

def k0_chk189 (v398 : IVec S16 32) (v400 : IVec S16 32) (v402 : IVec S16 32) : Prop :=
  (∀ a x, ((![v398, v400, v402] : Fin 3 → IVec S16 32) a x).toNat < S128x2x128.size a)
theorem k0_idx191_inb : ∀ (v398 : IVec S16 32) (v400 : IVec S16 32) (v402 : IVec S16 32) (k0_hw189 : k0_chk189 v398 v400 v402), ∀ a x, ((![v398, v400, v402] : Fin 3 → IVec S16 32) a x).toNat < S128x2x128.size a := fun v398 v400 v402 k0_hw189 => k0_hw189

def k0_chk190 (v405 : IVec S16 32) (v407 : IVec S16 32) (v409 : IVec S16 32) : Prop :=
  (∀ a x, ((![v405, v407, v409] : Fin 3 → IVec S16 32) a x).toNat < S128x2x128.size a)
theorem k0_idx192_inb : ∀ (v405 : IVec S16 32) (v407 : IVec S16 32) (v409 : IVec S16 32) (k0_hw190 : k0_chk190 v405 v407 v409), ∀ a x, ((![v405, v407, v409] : Fin 3 → IVec S16 32) a x).toNat < S128x2x128.size a := fun v405 v407 v409 k0_hw190 => k0_hw190

def k0_chk191 (v412 : IVec S16 32) (v414 : IVec S16 32) (v416 : IVec S16 32) : Prop :=
  (∀ a x, ((![v412, v414, v416] : Fin 3 → IVec S16 32) a x).toNat < S128x2x128.size a)
theorem k0_idx193_inb : ∀ (v412 : IVec S16 32) (v414 : IVec S16 32) (v416 : IVec S16 32) (k0_hw191 : k0_chk191 v412 v414 v416), ∀ a x, ((![v412, v414, v416] : Fin 3 → IVec S16 32) a x).toNat < S128x2x128.size a := fun v412 v414 v416 k0_hw191 => k0_hw191

def k0_chk192 (v419 : IVec S16 32) (v421 : IVec S16 32) (v423 : IVec S16 32) : Prop :=
  (∀ a x, ((![v419, v421, v423] : Fin 3 → IVec S16 32) a x).toNat < S128x2x128.size a)
theorem k0_idx194_inb : ∀ (v419 : IVec S16 32) (v421 : IVec S16 32) (v423 : IVec S16 32) (k0_hw192 : k0_chk192 v419 v421 v423), ∀ a x, ((![v419, v421, v423] : Fin 3 → IVec S16 32) a x).toNat < S128x2x128.size a := fun v419 v421 v423 k0_hw192 => k0_hw192

def k0_chk193 (v428 : IVec S16 32) : Prop :=
  (∀ a x, ((![v428] : Fin 1 → IVec S16 32) a x).toNat < S64.size a)
theorem k0_idx195_inb : ∀ (v428 : IVec S16 32) (k0_hw193 : k0_chk193 v428), ∀ a x, ((![v428] : Fin 1 → IVec S16 32) a x).toNat < S64.size a := fun v428 k0_hw193 => k0_hw193
def k0_off144 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v430 : Index := Scalar.indexCast arg27
  let c0_i32_236 : BitVec 32 := 0#32
  let v431 : Index := Scalar.indexCast c0_i32_236
  let c0_i32_237 : BitVec 32 := 0#32
  let v432 : Index := Scalar.indexCast c0_i32_237
  let c0_238 : Index := 0#32
  ![v430.toNat, 0, 0, 0]

def k0_chk194 (v437 : IVec S16 32) : Prop :=
  (∀ a x, ((![v437] : Fin 1 → IVec S16 32) a x).toNat < S64.size a)
theorem k0_idx196_inb : ∀ (v437 : IVec S16 32) (k0_hw194 : k0_chk194 v437), ∀ a x, ((![v437] : Fin 1 → IVec S16 32) a x).toNat < S64.size a := fun v437 k0_hw194 => k0_hw194
def k0_off145 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v439 : Index := Scalar.indexCast arg27
  let c0_i32_241 : BitVec 32 := 0#32
  let v440 : Index := Scalar.indexCast c0_i32_241
  let c1_i32_242 : BitVec 32 := 1#32
  let v441 : Index := Scalar.indexCast c1_i32_242
  let c0_243 : Index := 0#32
  ![v439.toNat, 0, 1, 0]

def k0_chk195 (v446 : IVec S16 32) : Prop :=
  (∀ a x, ((![v446] : Fin 1 → IVec S16 32) a x).toNat < S64.size a)
theorem k0_idx197_inb : ∀ (v446 : IVec S16 32) (k0_hw195 : k0_chk195 v446), ∀ a x, ((![v446] : Fin 1 → IVec S16 32) a x).toNat < S64.size a := fun v446 k0_hw195 => k0_hw195
def k0_off146 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v448 : Index := Scalar.indexCast arg27
  let c0_i32_246 : BitVec 32 := 0#32
  let v449 : Index := Scalar.indexCast c0_i32_246
  let c2_i32_247 : BitVec 32 := 2#32
  let v450 : Index := Scalar.indexCast c2_i32_247
  let c0_248 : Index := 0#32
  ![v448.toNat, 0, 2, 0]

def k0_chk196 (v455 : IVec S16 32) : Prop :=
  (∀ a x, ((![v455] : Fin 1 → IVec S16 32) a x).toNat < S64.size a)
theorem k0_idx198_inb : ∀ (v455 : IVec S16 32) (k0_hw196 : k0_chk196 v455), ∀ a x, ((![v455] : Fin 1 → IVec S16 32) a x).toNat < S64.size a := fun v455 k0_hw196 => k0_hw196
def k0_off147 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v457 : Index := Scalar.indexCast arg27
  let c0_i32_251 : BitVec 32 := 0#32
  let v458 : Index := Scalar.indexCast c0_i32_251
  let c3_i32_252 : BitVec 32 := 3#32
  let v459 : Index := Scalar.indexCast c3_i32_252
  let c0_253 : Index := 0#32
  ![v457.toNat, 0, 3, 0]

def k0_chk197 (v464 : IVec S16 32) : Prop :=
  (∀ a x, ((![v464] : Fin 1 → IVec S16 32) a x).toNat < S64.size a)
theorem k0_idx199_inb : ∀ (v464 : IVec S16 32) (k0_hw197 : k0_chk197 v464), ∀ a x, ((![v464] : Fin 1 → IVec S16 32) a x).toNat < S64.size a := fun v464 k0_hw197 => k0_hw197
def k0_off148 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v466 : Index := Scalar.indexCast arg27
  let c0_i32_256 : BitVec 32 := 0#32
  let v467 : Index := Scalar.indexCast c0_i32_256
  let c4_i32_257 : BitVec 32 := 4#32
  let v468 : Index := Scalar.indexCast c4_i32_257
  let c0_258 : Index := 0#32
  ![v466.toNat, 0, 4, 0]

def k0_chk198 (v473 : IVec S16 32) : Prop :=
  (∀ a x, ((![v473] : Fin 1 → IVec S16 32) a x).toNat < S64.size a)
theorem k0_idx200_inb : ∀ (v473 : IVec S16 32) (k0_hw198 : k0_chk198 v473), ∀ a x, ((![v473] : Fin 1 → IVec S16 32) a x).toNat < S64.size a := fun v473 k0_hw198 => k0_hw198
def k0_off149 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v475 : Index := Scalar.indexCast arg27
  let c0_i32_261 : BitVec 32 := 0#32
  let v476 : Index := Scalar.indexCast c0_i32_261
  let c5_i32_262 : BitVec 32 := 5#32
  let v477 : Index := Scalar.indexCast c5_i32_262
  let c0_263 : Index := 0#32
  ![v475.toNat, 0, 5, 0]

def k0_chk199 (v482 : IVec S16 32) : Prop :=
  (∀ a x, ((![v482] : Fin 1 → IVec S16 32) a x).toNat < S64.size a)
theorem k0_idx201_inb : ∀ (v482 : IVec S16 32) (k0_hw199 : k0_chk199 v482), ∀ a x, ((![v482] : Fin 1 → IVec S16 32) a x).toNat < S64.size a := fun v482 k0_hw199 => k0_hw199
def k0_off150 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v484 : Index := Scalar.indexCast arg27
  let c0_i32_265 : BitVec 32 := 0#32
  let v485 : Index := Scalar.indexCast c0_i32_265
  let c6_i32_266 : BitVec 32 := 6#32
  let v486 : Index := Scalar.indexCast c6_i32_266
  let c0_267 : Index := 0#32
  ![v484.toNat, 0, 6, 0]

def k0_chk200 (v491 : IVec S16 32) : Prop :=
  (∀ a x, ((![v491] : Fin 1 → IVec S16 32) a x).toNat < S64.size a)
theorem k0_idx202_inb : ∀ (v491 : IVec S16 32) (k0_hw200 : k0_chk200 v491), ∀ a x, ((![v491] : Fin 1 → IVec S16 32) a x).toNat < S64.size a := fun v491 k0_hw200 => k0_hw200
def k0_off151 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v493 : Index := Scalar.indexCast arg27
  let c0_i32_270 : BitVec 32 := 0#32
  let v494 : Index := Scalar.indexCast c0_i32_270
  let c7_i32_271 : BitVec 32 := 7#32
  let v495 : Index := Scalar.indexCast c7_i32_271
  let c0_272 : Index := 0#32
  ![v493.toNat, 0, 7, 0]

def k0_chk201 (v500 : IVec S16 32) : Prop :=
  (∀ a x, ((![v500] : Fin 1 → IVec S16 32) a x).toNat < S64.size a)
theorem k0_idx203_inb : ∀ (v500 : IVec S16 32) (k0_hw201 : k0_chk201 v500), ∀ a x, ((![v500] : Fin 1 → IVec S16 32) a x).toNat < S64.size a := fun v500 k0_hw201 => k0_hw201
def k0_off152 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v502 : Index := Scalar.indexCast arg27
  let c0_i32_275 : BitVec 32 := 0#32
  let v503 : Index := Scalar.indexCast c0_i32_275
  let c0_i32_276 : BitVec 32 := 0#32
  let v504 : Index := Scalar.indexCast c0_i32_276
  let c16_277 : Index := 16#32
  ![v502.toNat, 0, 0, 16]

def k0_chk202 (v509 : IVec S16 32) : Prop :=
  (∀ a x, ((![v509] : Fin 1 → IVec S16 32) a x).toNat < S64.size a)
theorem k0_idx204_inb : ∀ (v509 : IVec S16 32) (k0_hw202 : k0_chk202 v509), ∀ a x, ((![v509] : Fin 1 → IVec S16 32) a x).toNat < S64.size a := fun v509 k0_hw202 => k0_hw202
def k0_off153 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v511 : Index := Scalar.indexCast arg27
  let c0_i32_280 : BitVec 32 := 0#32
  let v512 : Index := Scalar.indexCast c0_i32_280
  let c1_i32_281 : BitVec 32 := 1#32
  let v513 : Index := Scalar.indexCast c1_i32_281
  let c16_282 : Index := 16#32
  ![v511.toNat, 0, 1, 16]

def k0_chk203 (v518 : IVec S16 32) : Prop :=
  (∀ a x, ((![v518] : Fin 1 → IVec S16 32) a x).toNat < S64.size a)
theorem k0_idx205_inb : ∀ (v518 : IVec S16 32) (k0_hw203 : k0_chk203 v518), ∀ a x, ((![v518] : Fin 1 → IVec S16 32) a x).toNat < S64.size a := fun v518 k0_hw203 => k0_hw203
def k0_off154 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v520 : Index := Scalar.indexCast arg27
  let c0_i32_285 : BitVec 32 := 0#32
  let v521 : Index := Scalar.indexCast c0_i32_285
  let c2_i32_286 : BitVec 32 := 2#32
  let v522 : Index := Scalar.indexCast c2_i32_286
  let c16_287 : Index := 16#32
  ![v520.toNat, 0, 2, 16]

def k0_chk204 (v527 : IVec S16 32) : Prop :=
  (∀ a x, ((![v527] : Fin 1 → IVec S16 32) a x).toNat < S64.size a)
theorem k0_idx206_inb : ∀ (v527 : IVec S16 32) (k0_hw204 : k0_chk204 v527), ∀ a x, ((![v527] : Fin 1 → IVec S16 32) a x).toNat < S64.size a := fun v527 k0_hw204 => k0_hw204
def k0_off155 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v529 : Index := Scalar.indexCast arg27
  let c0_i32_290 : BitVec 32 := 0#32
  let v530 : Index := Scalar.indexCast c0_i32_290
  let c3_i32_291 : BitVec 32 := 3#32
  let v531 : Index := Scalar.indexCast c3_i32_291
  let c16_292 : Index := 16#32
  ![v529.toNat, 0, 3, 16]

def k0_chk205 (v536 : IVec S16 32) : Prop :=
  (∀ a x, ((![v536] : Fin 1 → IVec S16 32) a x).toNat < S64.size a)
theorem k0_idx207_inb : ∀ (v536 : IVec S16 32) (k0_hw205 : k0_chk205 v536), ∀ a x, ((![v536] : Fin 1 → IVec S16 32) a x).toNat < S64.size a := fun v536 k0_hw205 => k0_hw205
def k0_off156 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v538 : Index := Scalar.indexCast arg27
  let c0_i32_295 : BitVec 32 := 0#32
  let v539 : Index := Scalar.indexCast c0_i32_295
  let c4_i32_296 : BitVec 32 := 4#32
  let v540 : Index := Scalar.indexCast c4_i32_296
  let c16_297 : Index := 16#32
  ![v538.toNat, 0, 4, 16]

def k0_chk206 (v545 : IVec S16 32) : Prop :=
  (∀ a x, ((![v545] : Fin 1 → IVec S16 32) a x).toNat < S64.size a)
theorem k0_idx208_inb : ∀ (v545 : IVec S16 32) (k0_hw206 : k0_chk206 v545), ∀ a x, ((![v545] : Fin 1 → IVec S16 32) a x).toNat < S64.size a := fun v545 k0_hw206 => k0_hw206
def k0_off157 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v547 : Index := Scalar.indexCast arg27
  let c0_i32_300 : BitVec 32 := 0#32
  let v548 : Index := Scalar.indexCast c0_i32_300
  let c5_i32_301 : BitVec 32 := 5#32
  let v549 : Index := Scalar.indexCast c5_i32_301
  let c16_302 : Index := 16#32
  ![v547.toNat, 0, 5, 16]

def k0_chk207 (v554 : IVec S16 32) : Prop :=
  (∀ a x, ((![v554] : Fin 1 → IVec S16 32) a x).toNat < S64.size a)
theorem k0_idx209_inb : ∀ (v554 : IVec S16 32) (k0_hw207 : k0_chk207 v554), ∀ a x, ((![v554] : Fin 1 → IVec S16 32) a x).toNat < S64.size a := fun v554 k0_hw207 => k0_hw207
def k0_off158 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v556 : Index := Scalar.indexCast arg27
  let c0_i32_305 : BitVec 32 := 0#32
  let v557 : Index := Scalar.indexCast c0_i32_305
  let c6_i32_306 : BitVec 32 := 6#32
  let v558 : Index := Scalar.indexCast c6_i32_306
  let c16_307 : Index := 16#32
  ![v556.toNat, 0, 6, 16]

def k0_chk208 (v563 : IVec S16 32) : Prop :=
  (∀ a x, ((![v563] : Fin 1 → IVec S16 32) a x).toNat < S64.size a)
theorem k0_idx210_inb : ∀ (v563 : IVec S16 32) (k0_hw208 : k0_chk208 v563), ∀ a x, ((![v563] : Fin 1 → IVec S16 32) a x).toNat < S64.size a := fun v563 k0_hw208 => k0_hw208
def k0_off159 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v565 : Index := Scalar.indexCast arg27
  let c0_i32_310 : BitVec 32 := 0#32
  let v566 : Index := Scalar.indexCast c0_i32_310
  let c7_i32_311 : BitVec 32 := 7#32
  let v567 : Index := Scalar.indexCast c7_i32_311
  let c16_312 : Index := 16#32
  ![v565.toNat, 0, 7, 16]

def k0_chk209 (v572 : IVec S16 32) : Prop :=
  (∀ a x, ((![v572] : Fin 1 → IVec S16 32) a x).toNat < S64.size a)
theorem k0_idx211_inb : ∀ (v572 : IVec S16 32) (k0_hw209 : k0_chk209 v572), ∀ a x, ((![v572] : Fin 1 → IVec S16 32) a x).toNat < S64.size a := fun v572 k0_hw209 => k0_hw209
def k0_off160 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v574 : Index := Scalar.indexCast arg27
  let c0_i32_315 : BitVec 32 := 0#32
  let v575 : Index := Scalar.indexCast c0_i32_315
  let c0_i32_316 : BitVec 32 := 0#32
  let v576 : Index := Scalar.indexCast c0_i32_316
  let c32_317 : Index := 32#32
  ![v574.toNat, 0, 0, 32]

def k0_chk210 (v581 : IVec S16 32) : Prop :=
  (∀ a x, ((![v581] : Fin 1 → IVec S16 32) a x).toNat < S64.size a)
theorem k0_idx212_inb : ∀ (v581 : IVec S16 32) (k0_hw210 : k0_chk210 v581), ∀ a x, ((![v581] : Fin 1 → IVec S16 32) a x).toNat < S64.size a := fun v581 k0_hw210 => k0_hw210
def k0_off161 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v583 : Index := Scalar.indexCast arg27
  let c0_i32_320 : BitVec 32 := 0#32
  let v584 : Index := Scalar.indexCast c0_i32_320
  let c1_i32_321 : BitVec 32 := 1#32
  let v585 : Index := Scalar.indexCast c1_i32_321
  let c32_322 : Index := 32#32
  ![v583.toNat, 0, 1, 32]

def k0_chk211 (v590 : IVec S16 32) : Prop :=
  (∀ a x, ((![v590] : Fin 1 → IVec S16 32) a x).toNat < S64.size a)
theorem k0_idx213_inb : ∀ (v590 : IVec S16 32) (k0_hw211 : k0_chk211 v590), ∀ a x, ((![v590] : Fin 1 → IVec S16 32) a x).toNat < S64.size a := fun v590 k0_hw211 => k0_hw211
def k0_off162 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v592 : Index := Scalar.indexCast arg27
  let c0_i32_325 : BitVec 32 := 0#32
  let v593 : Index := Scalar.indexCast c0_i32_325
  let c2_i32_326 : BitVec 32 := 2#32
  let v594 : Index := Scalar.indexCast c2_i32_326
  let c32_327 : Index := 32#32
  ![v592.toNat, 0, 2, 32]

def k0_chk212 (v599 : IVec S16 32) : Prop :=
  (∀ a x, ((![v599] : Fin 1 → IVec S16 32) a x).toNat < S64.size a)
theorem k0_idx214_inb : ∀ (v599 : IVec S16 32) (k0_hw212 : k0_chk212 v599), ∀ a x, ((![v599] : Fin 1 → IVec S16 32) a x).toNat < S64.size a := fun v599 k0_hw212 => k0_hw212
def k0_off163 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v601 : Index := Scalar.indexCast arg27
  let c0_i32_330 : BitVec 32 := 0#32
  let v602 : Index := Scalar.indexCast c0_i32_330
  let c3_i32_331 : BitVec 32 := 3#32
  let v603 : Index := Scalar.indexCast c3_i32_331
  let c32_332 : Index := 32#32
  ![v601.toNat, 0, 3, 32]

def k0_chk213 (v608 : IVec S16 32) : Prop :=
  (∀ a x, ((![v608] : Fin 1 → IVec S16 32) a x).toNat < S64.size a)
theorem k0_idx215_inb : ∀ (v608 : IVec S16 32) (k0_hw213 : k0_chk213 v608), ∀ a x, ((![v608] : Fin 1 → IVec S16 32) a x).toNat < S64.size a := fun v608 k0_hw213 => k0_hw213
def k0_off164 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v610 : Index := Scalar.indexCast arg27
  let c0_i32_335 : BitVec 32 := 0#32
  let v611 : Index := Scalar.indexCast c0_i32_335
  let c4_i32_336 : BitVec 32 := 4#32
  let v612 : Index := Scalar.indexCast c4_i32_336
  let c32_337 : Index := 32#32
  ![v610.toNat, 0, 4, 32]

def k0_chk214 (v617 : IVec S16 32) : Prop :=
  (∀ a x, ((![v617] : Fin 1 → IVec S16 32) a x).toNat < S64.size a)
theorem k0_idx216_inb : ∀ (v617 : IVec S16 32) (k0_hw214 : k0_chk214 v617), ∀ a x, ((![v617] : Fin 1 → IVec S16 32) a x).toNat < S64.size a := fun v617 k0_hw214 => k0_hw214
def k0_off165 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v619 : Index := Scalar.indexCast arg27
  let c0_i32_340 : BitVec 32 := 0#32
  let v620 : Index := Scalar.indexCast c0_i32_340
  let c5_i32_341 : BitVec 32 := 5#32
  let v621 : Index := Scalar.indexCast c5_i32_341
  let c32_342 : Index := 32#32
  ![v619.toNat, 0, 5, 32]

def k0_chk215 (v626 : IVec S16 32) : Prop :=
  (∀ a x, ((![v626] : Fin 1 → IVec S16 32) a x).toNat < S64.size a)
theorem k0_idx217_inb : ∀ (v626 : IVec S16 32) (k0_hw215 : k0_chk215 v626), ∀ a x, ((![v626] : Fin 1 → IVec S16 32) a x).toNat < S64.size a := fun v626 k0_hw215 => k0_hw215
def k0_off166 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v628 : Index := Scalar.indexCast arg27
  let c0_i32_345 : BitVec 32 := 0#32
  let v629 : Index := Scalar.indexCast c0_i32_345
  let c6_i32_346 : BitVec 32 := 6#32
  let v630 : Index := Scalar.indexCast c6_i32_346
  let c32_347 : Index := 32#32
  ![v628.toNat, 0, 6, 32]

def k0_chk216 (v635 : IVec S16 32) : Prop :=
  (∀ a x, ((![v635] : Fin 1 → IVec S16 32) a x).toNat < S64.size a)
theorem k0_idx218_inb : ∀ (v635 : IVec S16 32) (k0_hw216 : k0_chk216 v635), ∀ a x, ((![v635] : Fin 1 → IVec S16 32) a x).toNat < S64.size a := fun v635 k0_hw216 => k0_hw216
def k0_off167 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v637 : Index := Scalar.indexCast arg27
  let c0_i32_350 : BitVec 32 := 0#32
  let v638 : Index := Scalar.indexCast c0_i32_350
  let c7_i32_351 : BitVec 32 := 7#32
  let v639 : Index := Scalar.indexCast c7_i32_351
  let c32_352 : Index := 32#32
  ![v637.toNat, 0, 7, 32]

def k0_chk217 (v644 : IVec S16 32) : Prop :=
  (∀ a x, ((![v644] : Fin 1 → IVec S16 32) a x).toNat < S64.size a)
theorem k0_idx219_inb : ∀ (v644 : IVec S16 32) (k0_hw217 : k0_chk217 v644), ∀ a x, ((![v644] : Fin 1 → IVec S16 32) a x).toNat < S64.size a := fun v644 k0_hw217 => k0_hw217
def k0_off168 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v646 : Index := Scalar.indexCast arg27
  let c0_i32_355 : BitVec 32 := 0#32
  let v647 : Index := Scalar.indexCast c0_i32_355
  let c0_i32_356 : BitVec 32 := 0#32
  let v648 : Index := Scalar.indexCast c0_i32_356
  let c48_357 : Index := 48#32
  ![v646.toNat, 0, 0, 48]

def k0_chk218 (v653 : IVec S16 32) : Prop :=
  (∀ a x, ((![v653] : Fin 1 → IVec S16 32) a x).toNat < S64.size a)
theorem k0_idx220_inb : ∀ (v653 : IVec S16 32) (k0_hw218 : k0_chk218 v653), ∀ a x, ((![v653] : Fin 1 → IVec S16 32) a x).toNat < S64.size a := fun v653 k0_hw218 => k0_hw218
def k0_off169 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v655 : Index := Scalar.indexCast arg27
  let c0_i32_360 : BitVec 32 := 0#32
  let v656 : Index := Scalar.indexCast c0_i32_360
  let c1_i32_361 : BitVec 32 := 1#32
  let v657 : Index := Scalar.indexCast c1_i32_361
  let c48_362 : Index := 48#32
  ![v655.toNat, 0, 1, 48]

def k0_chk219 (v662 : IVec S16 32) : Prop :=
  (∀ a x, ((![v662] : Fin 1 → IVec S16 32) a x).toNat < S64.size a)
theorem k0_idx221_inb : ∀ (v662 : IVec S16 32) (k0_hw219 : k0_chk219 v662), ∀ a x, ((![v662] : Fin 1 → IVec S16 32) a x).toNat < S64.size a := fun v662 k0_hw219 => k0_hw219
def k0_off170 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v664 : Index := Scalar.indexCast arg27
  let c0_i32_365 : BitVec 32 := 0#32
  let v665 : Index := Scalar.indexCast c0_i32_365
  let c2_i32_366 : BitVec 32 := 2#32
  let v666 : Index := Scalar.indexCast c2_i32_366
  let c48_367 : Index := 48#32
  ![v664.toNat, 0, 2, 48]

def k0_chk220 (v671 : IVec S16 32) : Prop :=
  (∀ a x, ((![v671] : Fin 1 → IVec S16 32) a x).toNat < S64.size a)
theorem k0_idx222_inb : ∀ (v671 : IVec S16 32) (k0_hw220 : k0_chk220 v671), ∀ a x, ((![v671] : Fin 1 → IVec S16 32) a x).toNat < S64.size a := fun v671 k0_hw220 => k0_hw220
def k0_off171 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v673 : Index := Scalar.indexCast arg27
  let c0_i32_370 : BitVec 32 := 0#32
  let v674 : Index := Scalar.indexCast c0_i32_370
  let c3_i32_371 : BitVec 32 := 3#32
  let v675 : Index := Scalar.indexCast c3_i32_371
  let c48_372 : Index := 48#32
  ![v673.toNat, 0, 3, 48]

def k0_chk221 (v680 : IVec S16 32) : Prop :=
  (∀ a x, ((![v680] : Fin 1 → IVec S16 32) a x).toNat < S64.size a)
theorem k0_idx223_inb : ∀ (v680 : IVec S16 32) (k0_hw221 : k0_chk221 v680), ∀ a x, ((![v680] : Fin 1 → IVec S16 32) a x).toNat < S64.size a := fun v680 k0_hw221 => k0_hw221
def k0_off172 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v682 : Index := Scalar.indexCast arg27
  let c0_i32_375 : BitVec 32 := 0#32
  let v683 : Index := Scalar.indexCast c0_i32_375
  let c4_i32_376 : BitVec 32 := 4#32
  let v684 : Index := Scalar.indexCast c4_i32_376
  let c48_377 : Index := 48#32
  ![v682.toNat, 0, 4, 48]

def k0_chk222 (v689 : IVec S16 32) : Prop :=
  (∀ a x, ((![v689] : Fin 1 → IVec S16 32) a x).toNat < S64.size a)
theorem k0_idx224_inb : ∀ (v689 : IVec S16 32) (k0_hw222 : k0_chk222 v689), ∀ a x, ((![v689] : Fin 1 → IVec S16 32) a x).toNat < S64.size a := fun v689 k0_hw222 => k0_hw222
def k0_off173 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v691 : Index := Scalar.indexCast arg27
  let c0_i32_380 : BitVec 32 := 0#32
  let v692 : Index := Scalar.indexCast c0_i32_380
  let c5_i32_381 : BitVec 32 := 5#32
  let v693 : Index := Scalar.indexCast c5_i32_381
  let c48_382 : Index := 48#32
  ![v691.toNat, 0, 5, 48]

def k0_chk223 (v698 : IVec S16 32) : Prop :=
  (∀ a x, ((![v698] : Fin 1 → IVec S16 32) a x).toNat < S64.size a)
theorem k0_idx225_inb : ∀ (v698 : IVec S16 32) (k0_hw223 : k0_chk223 v698), ∀ a x, ((![v698] : Fin 1 → IVec S16 32) a x).toNat < S64.size a := fun v698 k0_hw223 => k0_hw223
def k0_off174 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v700 : Index := Scalar.indexCast arg27
  let c0_i32_385 : BitVec 32 := 0#32
  let v701 : Index := Scalar.indexCast c0_i32_385
  let c6_i32_386 : BitVec 32 := 6#32
  let v702 : Index := Scalar.indexCast c6_i32_386
  let c48_387 : Index := 48#32
  ![v700.toNat, 0, 6, 48]

def k0_chk224 (v707 : IVec S16 32) : Prop :=
  (∀ a x, ((![v707] : Fin 1 → IVec S16 32) a x).toNat < S64.size a)
theorem k0_idx226_inb : ∀ (v707 : IVec S16 32) (k0_hw224 : k0_chk224 v707), ∀ a x, ((![v707] : Fin 1 → IVec S16 32) a x).toNat < S64.size a := fun v707 k0_hw224 => k0_hw224
def k0_off175 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v709 : Index := Scalar.indexCast arg27
  let c0_i32_390 : BitVec 32 := 0#32
  let v710 : Index := Scalar.indexCast c0_i32_390
  let c7_i32_391 : BitVec 32 := 7#32
  let v711 : Index := Scalar.indexCast c7_i32_391
  let c48_392 : Index := 48#32
  ![v709.toNat, 0, 7, 48]

def k0_chk225 (v716 : IVec S16 32) : Prop :=
  (∀ a x, ((![v716] : Fin 1 → IVec S16 32) a x).toNat < S64.size a)
theorem k0_idx227_inb : ∀ (v716 : IVec S16 32) (k0_hw225 : k0_chk225 v716), ∀ a x, ((![v716] : Fin 1 → IVec S16 32) a x).toNat < S64.size a := fun v716 k0_hw225 => k0_hw225
def k0_off176 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v718 : Index := Scalar.indexCast arg27
  let c0_i32_395 : BitVec 32 := 0#32
  let v719 : Index := Scalar.indexCast c0_i32_395
  let c0_i32_396 : BitVec 32 := 0#32
  let v720 : Index := Scalar.indexCast c0_i32_396
  let c64_397 : Index := 64#32
  ![v718.toNat, 0, 0, 64]

def k0_chk226 (v725 : IVec S16 32) : Prop :=
  (∀ a x, ((![v725] : Fin 1 → IVec S16 32) a x).toNat < S64.size a)
theorem k0_idx228_inb : ∀ (v725 : IVec S16 32) (k0_hw226 : k0_chk226 v725), ∀ a x, ((![v725] : Fin 1 → IVec S16 32) a x).toNat < S64.size a := fun v725 k0_hw226 => k0_hw226
def k0_off177 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v727 : Index := Scalar.indexCast arg27
  let c0_i32_400 : BitVec 32 := 0#32
  let v728 : Index := Scalar.indexCast c0_i32_400
  let c1_i32_401 : BitVec 32 := 1#32
  let v729 : Index := Scalar.indexCast c1_i32_401
  let c64_402 : Index := 64#32
  ![v727.toNat, 0, 1, 64]

def k0_chk227 (v734 : IVec S16 32) : Prop :=
  (∀ a x, ((![v734] : Fin 1 → IVec S16 32) a x).toNat < S64.size a)
theorem k0_idx229_inb : ∀ (v734 : IVec S16 32) (k0_hw227 : k0_chk227 v734), ∀ a x, ((![v734] : Fin 1 → IVec S16 32) a x).toNat < S64.size a := fun v734 k0_hw227 => k0_hw227
def k0_off178 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v736 : Index := Scalar.indexCast arg27
  let c0_i32_405 : BitVec 32 := 0#32
  let v737 : Index := Scalar.indexCast c0_i32_405
  let c2_i32_406 : BitVec 32 := 2#32
  let v738 : Index := Scalar.indexCast c2_i32_406
  let c64_407 : Index := 64#32
  ![v736.toNat, 0, 2, 64]

def k0_chk228 (v743 : IVec S16 32) : Prop :=
  (∀ a x, ((![v743] : Fin 1 → IVec S16 32) a x).toNat < S64.size a)
theorem k0_idx230_inb : ∀ (v743 : IVec S16 32) (k0_hw228 : k0_chk228 v743), ∀ a x, ((![v743] : Fin 1 → IVec S16 32) a x).toNat < S64.size a := fun v743 k0_hw228 => k0_hw228
def k0_off179 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v745 : Index := Scalar.indexCast arg27
  let c0_i32_410 : BitVec 32 := 0#32
  let v746 : Index := Scalar.indexCast c0_i32_410
  let c3_i32_411 : BitVec 32 := 3#32
  let v747 : Index := Scalar.indexCast c3_i32_411
  let c64_412 : Index := 64#32
  ![v745.toNat, 0, 3, 64]

def k0_chk229 (v752 : IVec S16 32) : Prop :=
  (∀ a x, ((![v752] : Fin 1 → IVec S16 32) a x).toNat < S64.size a)
theorem k0_idx231_inb : ∀ (v752 : IVec S16 32) (k0_hw229 : k0_chk229 v752), ∀ a x, ((![v752] : Fin 1 → IVec S16 32) a x).toNat < S64.size a := fun v752 k0_hw229 => k0_hw229
def k0_off180 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v754 : Index := Scalar.indexCast arg27
  let c0_i32_415 : BitVec 32 := 0#32
  let v755 : Index := Scalar.indexCast c0_i32_415
  let c4_i32_416 : BitVec 32 := 4#32
  let v756 : Index := Scalar.indexCast c4_i32_416
  let c64_417 : Index := 64#32
  ![v754.toNat, 0, 4, 64]

def k0_chk230 (v761 : IVec S16 32) : Prop :=
  (∀ a x, ((![v761] : Fin 1 → IVec S16 32) a x).toNat < S64.size a)
theorem k0_idx232_inb : ∀ (v761 : IVec S16 32) (k0_hw230 : k0_chk230 v761), ∀ a x, ((![v761] : Fin 1 → IVec S16 32) a x).toNat < S64.size a := fun v761 k0_hw230 => k0_hw230
def k0_off181 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v763 : Index := Scalar.indexCast arg27
  let c0_i32_420 : BitVec 32 := 0#32
  let v764 : Index := Scalar.indexCast c0_i32_420
  let c5_i32_421 : BitVec 32 := 5#32
  let v765 : Index := Scalar.indexCast c5_i32_421
  let c64_422 : Index := 64#32
  ![v763.toNat, 0, 5, 64]

def k0_chk231 (v770 : IVec S16 32) : Prop :=
  (∀ a x, ((![v770] : Fin 1 → IVec S16 32) a x).toNat < S64.size a)
theorem k0_idx233_inb : ∀ (v770 : IVec S16 32) (k0_hw231 : k0_chk231 v770), ∀ a x, ((![v770] : Fin 1 → IVec S16 32) a x).toNat < S64.size a := fun v770 k0_hw231 => k0_hw231
def k0_off182 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v772 : Index := Scalar.indexCast arg27
  let c0_i32_425 : BitVec 32 := 0#32
  let v773 : Index := Scalar.indexCast c0_i32_425
  let c6_i32_426 : BitVec 32 := 6#32
  let v774 : Index := Scalar.indexCast c6_i32_426
  let c64_427 : Index := 64#32
  ![v772.toNat, 0, 6, 64]

def k0_chk232 (v779 : IVec S16 32) : Prop :=
  (∀ a x, ((![v779] : Fin 1 → IVec S16 32) a x).toNat < S64.size a)
theorem k0_idx234_inb : ∀ (v779 : IVec S16 32) (k0_hw232 : k0_chk232 v779), ∀ a x, ((![v779] : Fin 1 → IVec S16 32) a x).toNat < S64.size a := fun v779 k0_hw232 => k0_hw232
def k0_off183 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v781 : Index := Scalar.indexCast arg27
  let c0_i32_430 : BitVec 32 := 0#32
  let v782 : Index := Scalar.indexCast c0_i32_430
  let c7_i32_431 : BitVec 32 := 7#32
  let v783 : Index := Scalar.indexCast c7_i32_431
  let c64_432 : Index := 64#32
  ![v781.toNat, 0, 7, 64]

def k0_chk233 (v788 : IVec S16 32) : Prop :=
  (∀ a x, ((![v788] : Fin 1 → IVec S16 32) a x).toNat < S64.size a)
theorem k0_idx235_inb : ∀ (v788 : IVec S16 32) (k0_hw233 : k0_chk233 v788), ∀ a x, ((![v788] : Fin 1 → IVec S16 32) a x).toNat < S64.size a := fun v788 k0_hw233 => k0_hw233
def k0_off184 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v790 : Index := Scalar.indexCast arg27
  let c0_i32_435 : BitVec 32 := 0#32
  let v791 : Index := Scalar.indexCast c0_i32_435
  let c0_i32_436 : BitVec 32 := 0#32
  let v792 : Index := Scalar.indexCast c0_i32_436
  let c80_437 : Index := 80#32
  ![v790.toNat, 0, 0, 80]

def k0_chk234 (v797 : IVec S16 32) : Prop :=
  (∀ a x, ((![v797] : Fin 1 → IVec S16 32) a x).toNat < S64.size a)
theorem k0_idx236_inb : ∀ (v797 : IVec S16 32) (k0_hw234 : k0_chk234 v797), ∀ a x, ((![v797] : Fin 1 → IVec S16 32) a x).toNat < S64.size a := fun v797 k0_hw234 => k0_hw234
def k0_off185 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v799 : Index := Scalar.indexCast arg27
  let c0_i32_440 : BitVec 32 := 0#32
  let v800 : Index := Scalar.indexCast c0_i32_440
  let c1_i32_441 : BitVec 32 := 1#32
  let v801 : Index := Scalar.indexCast c1_i32_441
  let c80_442 : Index := 80#32
  ![v799.toNat, 0, 1, 80]

def k0_chk235 (v806 : IVec S16 32) : Prop :=
  (∀ a x, ((![v806] : Fin 1 → IVec S16 32) a x).toNat < S64.size a)
theorem k0_idx237_inb : ∀ (v806 : IVec S16 32) (k0_hw235 : k0_chk235 v806), ∀ a x, ((![v806] : Fin 1 → IVec S16 32) a x).toNat < S64.size a := fun v806 k0_hw235 => k0_hw235
def k0_off186 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v808 : Index := Scalar.indexCast arg27
  let c0_i32_445 : BitVec 32 := 0#32
  let v809 : Index := Scalar.indexCast c0_i32_445
  let c2_i32_446 : BitVec 32 := 2#32
  let v810 : Index := Scalar.indexCast c2_i32_446
  let c80_447 : Index := 80#32
  ![v808.toNat, 0, 2, 80]

def k0_chk236 (v815 : IVec S16 32) : Prop :=
  (∀ a x, ((![v815] : Fin 1 → IVec S16 32) a x).toNat < S64.size a)
theorem k0_idx238_inb : ∀ (v815 : IVec S16 32) (k0_hw236 : k0_chk236 v815), ∀ a x, ((![v815] : Fin 1 → IVec S16 32) a x).toNat < S64.size a := fun v815 k0_hw236 => k0_hw236
def k0_off187 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v817 : Index := Scalar.indexCast arg27
  let c0_i32_450 : BitVec 32 := 0#32
  let v818 : Index := Scalar.indexCast c0_i32_450
  let c3_i32_451 : BitVec 32 := 3#32
  let v819 : Index := Scalar.indexCast c3_i32_451
  let c80_452 : Index := 80#32
  ![v817.toNat, 0, 3, 80]

def k0_chk237 (v824 : IVec S16 32) : Prop :=
  (∀ a x, ((![v824] : Fin 1 → IVec S16 32) a x).toNat < S64.size a)
theorem k0_idx239_inb : ∀ (v824 : IVec S16 32) (k0_hw237 : k0_chk237 v824), ∀ a x, ((![v824] : Fin 1 → IVec S16 32) a x).toNat < S64.size a := fun v824 k0_hw237 => k0_hw237
def k0_off188 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v826 : Index := Scalar.indexCast arg27
  let c0_i32_455 : BitVec 32 := 0#32
  let v827 : Index := Scalar.indexCast c0_i32_455
  let c4_i32_456 : BitVec 32 := 4#32
  let v828 : Index := Scalar.indexCast c4_i32_456
  let c80_457 : Index := 80#32
  ![v826.toNat, 0, 4, 80]

def k0_chk238 (v833 : IVec S16 32) : Prop :=
  (∀ a x, ((![v833] : Fin 1 → IVec S16 32) a x).toNat < S64.size a)
theorem k0_idx240_inb : ∀ (v833 : IVec S16 32) (k0_hw238 : k0_chk238 v833), ∀ a x, ((![v833] : Fin 1 → IVec S16 32) a x).toNat < S64.size a := fun v833 k0_hw238 => k0_hw238
def k0_off189 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v835 : Index := Scalar.indexCast arg27
  let c0_i32_460 : BitVec 32 := 0#32
  let v836 : Index := Scalar.indexCast c0_i32_460
  let c5_i32_461 : BitVec 32 := 5#32
  let v837 : Index := Scalar.indexCast c5_i32_461
  let c80_462 : Index := 80#32
  ![v835.toNat, 0, 5, 80]

def k0_chk239 (v842 : IVec S16 32) : Prop :=
  (∀ a x, ((![v842] : Fin 1 → IVec S16 32) a x).toNat < S64.size a)
theorem k0_idx241_inb : ∀ (v842 : IVec S16 32) (k0_hw239 : k0_chk239 v842), ∀ a x, ((![v842] : Fin 1 → IVec S16 32) a x).toNat < S64.size a := fun v842 k0_hw239 => k0_hw239
def k0_off190 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v844 : Index := Scalar.indexCast arg27
  let c0_i32_465 : BitVec 32 := 0#32
  let v845 : Index := Scalar.indexCast c0_i32_465
  let c6_i32_466 : BitVec 32 := 6#32
  let v846 : Index := Scalar.indexCast c6_i32_466
  let c80_467 : Index := 80#32
  ![v844.toNat, 0, 6, 80]

def k0_chk240 (v851 : IVec S16 32) : Prop :=
  (∀ a x, ((![v851] : Fin 1 → IVec S16 32) a x).toNat < S64.size a)
theorem k0_idx242_inb : ∀ (v851 : IVec S16 32) (k0_hw240 : k0_chk240 v851), ∀ a x, ((![v851] : Fin 1 → IVec S16 32) a x).toNat < S64.size a := fun v851 k0_hw240 => k0_hw240
def k0_off191 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v853 : Index := Scalar.indexCast arg27
  let c0_i32_470 : BitVec 32 := 0#32
  let v854 : Index := Scalar.indexCast c0_i32_470
  let c7_i32_471 : BitVec 32 := 7#32
  let v855 : Index := Scalar.indexCast c7_i32_471
  let c80_472 : Index := 80#32
  ![v853.toNat, 0, 7, 80]

def k0_chk241 (v860 : IVec S16 32) : Prop :=
  (∀ a x, ((![v860] : Fin 1 → IVec S16 32) a x).toNat < S64.size a)
theorem k0_idx243_inb : ∀ (v860 : IVec S16 32) (k0_hw241 : k0_chk241 v860), ∀ a x, ((![v860] : Fin 1 → IVec S16 32) a x).toNat < S64.size a := fun v860 k0_hw241 => k0_hw241
def k0_off192 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v862 : Index := Scalar.indexCast arg27
  let c0_i32_475 : BitVec 32 := 0#32
  let v863 : Index := Scalar.indexCast c0_i32_475
  let c0_i32_476 : BitVec 32 := 0#32
  let v864 : Index := Scalar.indexCast c0_i32_476
  let c96_477 : Index := 96#32
  ![v862.toNat, 0, 0, 96]

def k0_chk242 (v869 : IVec S16 32) : Prop :=
  (∀ a x, ((![v869] : Fin 1 → IVec S16 32) a x).toNat < S64.size a)
theorem k0_idx244_inb : ∀ (v869 : IVec S16 32) (k0_hw242 : k0_chk242 v869), ∀ a x, ((![v869] : Fin 1 → IVec S16 32) a x).toNat < S64.size a := fun v869 k0_hw242 => k0_hw242
def k0_off193 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v871 : Index := Scalar.indexCast arg27
  let c0_i32_480 : BitVec 32 := 0#32
  let v872 : Index := Scalar.indexCast c0_i32_480
  let c1_i32_481 : BitVec 32 := 1#32
  let v873 : Index := Scalar.indexCast c1_i32_481
  let c96_482 : Index := 96#32
  ![v871.toNat, 0, 1, 96]

def k0_chk243 (v878 : IVec S16 32) : Prop :=
  (∀ a x, ((![v878] : Fin 1 → IVec S16 32) a x).toNat < S64.size a)
theorem k0_idx245_inb : ∀ (v878 : IVec S16 32) (k0_hw243 : k0_chk243 v878), ∀ a x, ((![v878] : Fin 1 → IVec S16 32) a x).toNat < S64.size a := fun v878 k0_hw243 => k0_hw243
def k0_off194 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v880 : Index := Scalar.indexCast arg27
  let c0_i32_485 : BitVec 32 := 0#32
  let v881 : Index := Scalar.indexCast c0_i32_485
  let c2_i32_486 : BitVec 32 := 2#32
  let v882 : Index := Scalar.indexCast c2_i32_486
  let c96_487 : Index := 96#32
  ![v880.toNat, 0, 2, 96]

def k0_chk244 (v887 : IVec S16 32) : Prop :=
  (∀ a x, ((![v887] : Fin 1 → IVec S16 32) a x).toNat < S64.size a)
theorem k0_idx246_inb : ∀ (v887 : IVec S16 32) (k0_hw244 : k0_chk244 v887), ∀ a x, ((![v887] : Fin 1 → IVec S16 32) a x).toNat < S64.size a := fun v887 k0_hw244 => k0_hw244
def k0_off195 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v889 : Index := Scalar.indexCast arg27
  let c0_i32_490 : BitVec 32 := 0#32
  let v890 : Index := Scalar.indexCast c0_i32_490
  let c3_i32_491 : BitVec 32 := 3#32
  let v891 : Index := Scalar.indexCast c3_i32_491
  let c96_492 : Index := 96#32
  ![v889.toNat, 0, 3, 96]

def k0_chk245 (v896 : IVec S16 32) : Prop :=
  (∀ a x, ((![v896] : Fin 1 → IVec S16 32) a x).toNat < S64.size a)
theorem k0_idx247_inb : ∀ (v896 : IVec S16 32) (k0_hw245 : k0_chk245 v896), ∀ a x, ((![v896] : Fin 1 → IVec S16 32) a x).toNat < S64.size a := fun v896 k0_hw245 => k0_hw245
def k0_off196 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v898 : Index := Scalar.indexCast arg27
  let c0_i32_495 : BitVec 32 := 0#32
  let v899 : Index := Scalar.indexCast c0_i32_495
  let c4_i32_496 : BitVec 32 := 4#32
  let v900 : Index := Scalar.indexCast c4_i32_496
  let c96_497 : Index := 96#32
  ![v898.toNat, 0, 4, 96]

def k0_chk246 (v905 : IVec S16 32) : Prop :=
  (∀ a x, ((![v905] : Fin 1 → IVec S16 32) a x).toNat < S64.size a)
theorem k0_idx248_inb : ∀ (v905 : IVec S16 32) (k0_hw246 : k0_chk246 v905), ∀ a x, ((![v905] : Fin 1 → IVec S16 32) a x).toNat < S64.size a := fun v905 k0_hw246 => k0_hw246
def k0_off197 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v907 : Index := Scalar.indexCast arg27
  let c0_i32_500 : BitVec 32 := 0#32
  let v908 : Index := Scalar.indexCast c0_i32_500
  let c5_i32_501 : BitVec 32 := 5#32
  let v909 : Index := Scalar.indexCast c5_i32_501
  let c96_502 : Index := 96#32
  ![v907.toNat, 0, 5, 96]

def k0_chk247 (v914 : IVec S16 32) : Prop :=
  (∀ a x, ((![v914] : Fin 1 → IVec S16 32) a x).toNat < S64.size a)
theorem k0_idx249_inb : ∀ (v914 : IVec S16 32) (k0_hw247 : k0_chk247 v914), ∀ a x, ((![v914] : Fin 1 → IVec S16 32) a x).toNat < S64.size a := fun v914 k0_hw247 => k0_hw247
def k0_off198 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v916 : Index := Scalar.indexCast arg27
  let c0_i32_505 : BitVec 32 := 0#32
  let v917 : Index := Scalar.indexCast c0_i32_505
  let c6_i32_506 : BitVec 32 := 6#32
  let v918 : Index := Scalar.indexCast c6_i32_506
  let c96_507 : Index := 96#32
  ![v916.toNat, 0, 6, 96]

def k0_chk248 (v923 : IVec S16 32) : Prop :=
  (∀ a x, ((![v923] : Fin 1 → IVec S16 32) a x).toNat < S64.size a)
theorem k0_idx250_inb : ∀ (v923 : IVec S16 32) (k0_hw248 : k0_chk248 v923), ∀ a x, ((![v923] : Fin 1 → IVec S16 32) a x).toNat < S64.size a := fun v923 k0_hw248 => k0_hw248
def k0_off199 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v925 : Index := Scalar.indexCast arg27
  let c0_i32_510 : BitVec 32 := 0#32
  let v926 : Index := Scalar.indexCast c0_i32_510
  let c7_i32_511 : BitVec 32 := 7#32
  let v927 : Index := Scalar.indexCast c7_i32_511
  let c96_512 : Index := 96#32
  ![v925.toNat, 0, 7, 96]

def k0_chk249 (v932 : IVec S16 32) : Prop :=
  (∀ a x, ((![v932] : Fin 1 → IVec S16 32) a x).toNat < S64.size a)
theorem k0_idx251_inb : ∀ (v932 : IVec S16 32) (k0_hw249 : k0_chk249 v932), ∀ a x, ((![v932] : Fin 1 → IVec S16 32) a x).toNat < S64.size a := fun v932 k0_hw249 => k0_hw249
def k0_off200 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v934 : Index := Scalar.indexCast arg27
  let c0_i32_515 : BitVec 32 := 0#32
  let v935 : Index := Scalar.indexCast c0_i32_515
  let c0_i32_516 : BitVec 32 := 0#32
  let v936 : Index := Scalar.indexCast c0_i32_516
  let c112_517 : Index := 112#32
  ![v934.toNat, 0, 0, 112]

def k0_chk250 (v941 : IVec S16 32) : Prop :=
  (∀ a x, ((![v941] : Fin 1 → IVec S16 32) a x).toNat < S64.size a)
theorem k0_idx252_inb : ∀ (v941 : IVec S16 32) (k0_hw250 : k0_chk250 v941), ∀ a x, ((![v941] : Fin 1 → IVec S16 32) a x).toNat < S64.size a := fun v941 k0_hw250 => k0_hw250
def k0_off201 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v943 : Index := Scalar.indexCast arg27
  let c0_i32_520 : BitVec 32 := 0#32
  let v944 : Index := Scalar.indexCast c0_i32_520
  let c1_i32_521 : BitVec 32 := 1#32
  let v945 : Index := Scalar.indexCast c1_i32_521
  let c112_522 : Index := 112#32
  ![v943.toNat, 0, 1, 112]

def k0_chk251 (v950 : IVec S16 32) : Prop :=
  (∀ a x, ((![v950] : Fin 1 → IVec S16 32) a x).toNat < S64.size a)
theorem k0_idx253_inb : ∀ (v950 : IVec S16 32) (k0_hw251 : k0_chk251 v950), ∀ a x, ((![v950] : Fin 1 → IVec S16 32) a x).toNat < S64.size a := fun v950 k0_hw251 => k0_hw251
def k0_off202 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v952 : Index := Scalar.indexCast arg27
  let c0_i32_525 : BitVec 32 := 0#32
  let v953 : Index := Scalar.indexCast c0_i32_525
  let c2_i32_526 : BitVec 32 := 2#32
  let v954 : Index := Scalar.indexCast c2_i32_526
  let c112_527 : Index := 112#32
  ![v952.toNat, 0, 2, 112]

def k0_chk252 (v959 : IVec S16 32) : Prop :=
  (∀ a x, ((![v959] : Fin 1 → IVec S16 32) a x).toNat < S64.size a)
theorem k0_idx254_inb : ∀ (v959 : IVec S16 32) (k0_hw252 : k0_chk252 v959), ∀ a x, ((![v959] : Fin 1 → IVec S16 32) a x).toNat < S64.size a := fun v959 k0_hw252 => k0_hw252
def k0_off203 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v961 : Index := Scalar.indexCast arg27
  let c0_i32_530 : BitVec 32 := 0#32
  let v962 : Index := Scalar.indexCast c0_i32_530
  let c3_i32_531 : BitVec 32 := 3#32
  let v963 : Index := Scalar.indexCast c3_i32_531
  let c112_532 : Index := 112#32
  ![v961.toNat, 0, 3, 112]

def k0_chk253 (v968 : IVec S16 32) : Prop :=
  (∀ a x, ((![v968] : Fin 1 → IVec S16 32) a x).toNat < S64.size a)
theorem k0_idx255_inb : ∀ (v968 : IVec S16 32) (k0_hw253 : k0_chk253 v968), ∀ a x, ((![v968] : Fin 1 → IVec S16 32) a x).toNat < S64.size a := fun v968 k0_hw253 => k0_hw253
def k0_off204 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v970 : Index := Scalar.indexCast arg27
  let c0_i32_535 : BitVec 32 := 0#32
  let v971 : Index := Scalar.indexCast c0_i32_535
  let c4_i32_536 : BitVec 32 := 4#32
  let v972 : Index := Scalar.indexCast c4_i32_536
  let c112_537 : Index := 112#32
  ![v970.toNat, 0, 4, 112]

def k0_chk254 (v977 : IVec S16 32) : Prop :=
  (∀ a x, ((![v977] : Fin 1 → IVec S16 32) a x).toNat < S64.size a)
theorem k0_idx256_inb : ∀ (v977 : IVec S16 32) (k0_hw254 : k0_chk254 v977), ∀ a x, ((![v977] : Fin 1 → IVec S16 32) a x).toNat < S64.size a := fun v977 k0_hw254 => k0_hw254
def k0_off205 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v979 : Index := Scalar.indexCast arg27
  let c0_i32_540 : BitVec 32 := 0#32
  let v980 : Index := Scalar.indexCast c0_i32_540
  let c5_i32_541 : BitVec 32 := 5#32
  let v981 : Index := Scalar.indexCast c5_i32_541
  let c112_542 : Index := 112#32
  ![v979.toNat, 0, 5, 112]

def k0_chk255 (v986 : IVec S16 32) : Prop :=
  (∀ a x, ((![v986] : Fin 1 → IVec S16 32) a x).toNat < S64.size a)
theorem k0_idx257_inb : ∀ (v986 : IVec S16 32) (k0_hw255 : k0_chk255 v986), ∀ a x, ((![v986] : Fin 1 → IVec S16 32) a x).toNat < S64.size a := fun v986 k0_hw255 => k0_hw255
def k0_off206 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v988 : Index := Scalar.indexCast arg27
  let c0_i32_545 : BitVec 32 := 0#32
  let v989 : Index := Scalar.indexCast c0_i32_545
  let c6_i32_546 : BitVec 32 := 6#32
  let v990 : Index := Scalar.indexCast c6_i32_546
  let c112_547 : Index := 112#32
  ![v988.toNat, 0, 6, 112]

def k0_chk256 (v995 : IVec S16 32) : Prop :=
  (∀ a x, ((![v995] : Fin 1 → IVec S16 32) a x).toNat < S64.size a)
theorem k0_idx258_inb : ∀ (v995 : IVec S16 32) (k0_hw256 : k0_chk256 v995), ∀ a x, ((![v995] : Fin 1 → IVec S16 32) a x).toNat < S64.size a := fun v995 k0_hw256 => k0_hw256
def k0_off207 (k0_t8 : Fin k0_t8_loop.trips) : Fin 4 → Nat :=
  let c0_i32_193 : BitVec 32 := 0#32
  let c1_i32_195 : BitVec 32 := 1#32
  let arg27 : BitVec 32 := Scf.iv c0_i32_193 c1_i32_195 k0_t8
  let v997 : Index := Scalar.indexCast arg27
  let c0_i32_550 : BitVec 32 := 0#32
  let v998 : Index := Scalar.indexCast c0_i32_550
  let c7_i32_551 : BitVec 32 := 7#32
  let v999 : Index := Scalar.indexCast c7_i32_551
  let c112_552 : Index := 112#32
  ![v997.toNat, 0, 7, 112]
def k0_off208 (i : grid0.Coords) (k0_t3 : Fin k0_t3_loop.trips) (k0_t7 : Fin k0_t7_loop.trips) : Fin 4 → Nat :=
  let c2_i32_189 : BitVec 32 := 2#32
  let c0_i32_184 : BitVec 32 := 0#32
  let c1_i32_186 : BitVec 32 := 1#32
  let arg25 : BitVec 32 := Scf.iv c0_i32_184 c1_i32_186 k0_t7
  let v343 : BitVec 32 := Scalar.muli c2_i32_189 arg25
  let c20_i32 : BitVec 32 := 20#32
  let v344 : BitVec 32 := Scalar.muli v343 c20_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v345 : BitVec 32 := Scalar.muli v1 c4_i32
  let c2_i32_164 : BitVec 32 := 2#32
  let c0_i32_143 : BitVec 32 := 0#32
  let c1_i32_145 : BitVec 32 := 1#32
  let arg23 : BitVec 32 := Scf.iv c0_i32_143 c1_i32_145 k0_t3
  let v327 : BitVec 32 := Scalar.muli c2_i32_164 arg23
  let c1_i32_165 : BitVec 32 := 1#32
  let v328 : BitVec 32 := Scalar.addi v327 c1_i32_165
  let v346 : BitVec 32 := Scalar.addi v345 v328
  let c0_i32_197 : BitVec 32 := 0#32
  let c0_i32_198 : BitVec 32 := 0#32
  ![v344.toNat, v346.toNat, 0, 0]
def k0_cond7 : BitVec 1 :=
  let false_205 : BitVec 1 := 0#1
  let true_206 : BitVec 1 := 1#1
  let v359 : BitVec 1 := Scalar.xori false_205 true_206
  let v360 : BitVec 32 := Scalar.extui v359
  let c0_i32_207 : BitVec 32 := 0#32
  let v361 : BitVec 1 := Scalar.cmpi .ne v360 c0_i32_207
  v361

def k0_off209 (i : grid0.Coords) (k0_t3 : Fin k0_t3_loop.trips) (k0_t7 : Fin k0_t7_loop.trips) : Fin 4 → Nat :=
  let c2_i32_201 : BitVec 32 := 2#32
  let c0_i32_184 : BitVec 32 := 0#32
  let c1_i32_186 : BitVec 32 := 1#32
  let arg25 : BitVec 32 := Scf.iv c0_i32_184 c1_i32_186 k0_t7
  let v354 : BitVec 32 := Scalar.muli c2_i32_201 arg25
  let c1_i32_202 : BitVec 32 := 1#32
  let v355 : BitVec 32 := Scalar.addi v354 c1_i32_202
  let c20_i32_203 : BitVec 32 := 20#32
  let v356 : BitVec 32 := Scalar.muli v355 c20_i32_203
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_204 : BitVec 32 := 4#32
  let v357 : BitVec 32 := Scalar.muli v1 c4_i32_204
  let c2_i32_164 : BitVec 32 := 2#32
  let c0_i32_143 : BitVec 32 := 0#32
  let c1_i32_145 : BitVec 32 := 1#32
  let arg23 : BitVec 32 := Scf.iv c0_i32_143 c1_i32_145 k0_t3
  let v327 : BitVec 32 := Scalar.muli c2_i32_164 arg23
  let c1_i32_165 : BitVec 32 := 1#32
  let v328 : BitVec 32 := Scalar.addi v327 c1_i32_165
  let v358 : BitVec 32 := Scalar.addi v357 v328
  let c0_i32_218 : BitVec 32 := 0#32
  let c0_i32_219 : BitVec 32 := 0#32
  ![v356.toNat, v358.toNat, 0, 0]
@[reducible] def k0_t9_loop : Scf.Loop 32 :=
  let c0_i32_209 : BitVec 32 := 0#32
  let c20_i32_210 : BitVec 32 := 20#32
  let v362 : BitVec 32 := Scalar.addi c0_i32_209 c20_i32_210
  let c1_i32_211 : BitVec 32 := 1#32
  ⟨c0_i32_209, v362, c1_i32_211⟩

def k0_chk257 (v370 : IVec S16 32) (v372 : IVec S16 32) (v374 : IVec S16 32) : Prop :=
  (∀ a x, ((![v370, v372, v374] : Fin 3 → IVec S16 32) a x).toNat < S128x2x128.size a)
theorem k0_idx259_inb : ∀ (v370 : IVec S16 32) (v372 : IVec S16 32) (v374 : IVec S16 32) (k0_hw257 : k0_chk257 v370 v372 v374), ∀ a x, ((![v370, v372, v374] : Fin 3 → IVec S16 32) a x).toNat < S128x2x128.size a := fun v370 v372 v374 k0_hw257 => k0_hw257

def k0_chk258 (v377 : IVec S16 32) (v379 : IVec S16 32) (v381 : IVec S16 32) : Prop :=
  (∀ a x, ((![v377, v379, v381] : Fin 3 → IVec S16 32) a x).toNat < S128x2x128.size a)
theorem k0_idx260_inb : ∀ (v377 : IVec S16 32) (v379 : IVec S16 32) (v381 : IVec S16 32) (k0_hw258 : k0_chk258 v377 v379 v381), ∀ a x, ((![v377, v379, v381] : Fin 3 → IVec S16 32) a x).toNat < S128x2x128.size a := fun v377 v379 v381 k0_hw258 => k0_hw258

def k0_chk259 (v384 : IVec S16 32) (v386 : IVec S16 32) (v388 : IVec S16 32) : Prop :=
  (∀ a x, ((![v384, v386, v388] : Fin 3 → IVec S16 32) a x).toNat < S128x2x128.size a)
theorem k0_idx261_inb : ∀ (v384 : IVec S16 32) (v386 : IVec S16 32) (v388 : IVec S16 32) (k0_hw259 : k0_chk259 v384 v386 v388), ∀ a x, ((![v384, v386, v388] : Fin 3 → IVec S16 32) a x).toNat < S128x2x128.size a := fun v384 v386 v388 k0_hw259 => k0_hw259

def k0_chk260 (v391 : IVec S16 32) (v393 : IVec S16 32) (v395 : IVec S16 32) : Prop :=
  (∀ a x, ((![v391, v393, v395] : Fin 3 → IVec S16 32) a x).toNat < S128x2x128.size a)
theorem k0_idx262_inb : ∀ (v391 : IVec S16 32) (v393 : IVec S16 32) (v395 : IVec S16 32) (k0_hw260 : k0_chk260 v391 v393 v395), ∀ a x, ((![v391, v393, v395] : Fin 3 → IVec S16 32) a x).toNat < S128x2x128.size a := fun v391 v393 v395 k0_hw260 => k0_hw260

def k0_chk261 (v398 : IVec S16 32) (v400 : IVec S16 32) (v402 : IVec S16 32) : Prop :=
  (∀ a x, ((![v398, v400, v402] : Fin 3 → IVec S16 32) a x).toNat < S128x2x128.size a)
theorem k0_idx263_inb : ∀ (v398 : IVec S16 32) (v400 : IVec S16 32) (v402 : IVec S16 32) (k0_hw261 : k0_chk261 v398 v400 v402), ∀ a x, ((![v398, v400, v402] : Fin 3 → IVec S16 32) a x).toNat < S128x2x128.size a := fun v398 v400 v402 k0_hw261 => k0_hw261

def k0_chk262 (v405 : IVec S16 32) (v407 : IVec S16 32) (v409 : IVec S16 32) : Prop :=
  (∀ a x, ((![v405, v407, v409] : Fin 3 → IVec S16 32) a x).toNat < S128x2x128.size a)
theorem k0_idx264_inb : ∀ (v405 : IVec S16 32) (v407 : IVec S16 32) (v409 : IVec S16 32) (k0_hw262 : k0_chk262 v405 v407 v409), ∀ a x, ((![v405, v407, v409] : Fin 3 → IVec S16 32) a x).toNat < S128x2x128.size a := fun v405 v407 v409 k0_hw262 => k0_hw262

def k0_chk263 (v412 : IVec S16 32) (v414 : IVec S16 32) (v416 : IVec S16 32) : Prop :=
  (∀ a x, ((![v412, v414, v416] : Fin 3 → IVec S16 32) a x).toNat < S128x2x128.size a)
theorem k0_idx265_inb : ∀ (v412 : IVec S16 32) (v414 : IVec S16 32) (v416 : IVec S16 32) (k0_hw263 : k0_chk263 v412 v414 v416), ∀ a x, ((![v412, v414, v416] : Fin 3 → IVec S16 32) a x).toNat < S128x2x128.size a := fun v412 v414 v416 k0_hw263 => k0_hw263

def k0_chk264 (v419 : IVec S16 32) (v421 : IVec S16 32) (v423 : IVec S16 32) : Prop :=
  (∀ a x, ((![v419, v421, v423] : Fin 3 → IVec S16 32) a x).toNat < S128x2x128.size a)
theorem k0_idx266_inb : ∀ (v419 : IVec S16 32) (v421 : IVec S16 32) (v423 : IVec S16 32) (k0_hw264 : k0_chk264 v419 v421 v423), ∀ a x, ((![v419, v421, v423] : Fin 3 → IVec S16 32) a x).toNat < S128x2x128.size a := fun v419 v421 v423 k0_hw264 => k0_hw264

def k0_chk265 (v428 : IVec S16 32) : Prop :=
  (∀ a x, ((![v428] : Fin 1 → IVec S16 32) a x).toNat < S64.size a)
theorem k0_idx267_inb : ∀ (v428 : IVec S16 32) (k0_hw265 : k0_chk265 v428), ∀ a x, ((![v428] : Fin 1 → IVec S16 32) a x).toNat < S64.size a := fun v428 k0_hw265 => k0_hw265
def k0_off210 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v430 : Index := Scalar.indexCast arg27
  let c0_i32_236 : BitVec 32 := 0#32
  let v431 : Index := Scalar.indexCast c0_i32_236
  let c0_i32_237 : BitVec 32 := 0#32
  let v432 : Index := Scalar.indexCast c0_i32_237
  let c0_238 : Index := 0#32
  ![v430.toNat, 0, 0, 0]

def k0_chk266 (v437 : IVec S16 32) : Prop :=
  (∀ a x, ((![v437] : Fin 1 → IVec S16 32) a x).toNat < S64.size a)
theorem k0_idx268_inb : ∀ (v437 : IVec S16 32) (k0_hw266 : k0_chk266 v437), ∀ a x, ((![v437] : Fin 1 → IVec S16 32) a x).toNat < S64.size a := fun v437 k0_hw266 => k0_hw266
def k0_off211 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v439 : Index := Scalar.indexCast arg27
  let c0_i32_241 : BitVec 32 := 0#32
  let v440 : Index := Scalar.indexCast c0_i32_241
  let c1_i32_242 : BitVec 32 := 1#32
  let v441 : Index := Scalar.indexCast c1_i32_242
  let c0_243 : Index := 0#32
  ![v439.toNat, 0, 1, 0]

def k0_chk267 (v446 : IVec S16 32) : Prop :=
  (∀ a x, ((![v446] : Fin 1 → IVec S16 32) a x).toNat < S64.size a)
theorem k0_idx269_inb : ∀ (v446 : IVec S16 32) (k0_hw267 : k0_chk267 v446), ∀ a x, ((![v446] : Fin 1 → IVec S16 32) a x).toNat < S64.size a := fun v446 k0_hw267 => k0_hw267
def k0_off212 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v448 : Index := Scalar.indexCast arg27
  let c0_i32_246 : BitVec 32 := 0#32
  let v449 : Index := Scalar.indexCast c0_i32_246
  let c2_i32_247 : BitVec 32 := 2#32
  let v450 : Index := Scalar.indexCast c2_i32_247
  let c0_248 : Index := 0#32
  ![v448.toNat, 0, 2, 0]

def k0_chk268 (v455 : IVec S16 32) : Prop :=
  (∀ a x, ((![v455] : Fin 1 → IVec S16 32) a x).toNat < S64.size a)
theorem k0_idx270_inb : ∀ (v455 : IVec S16 32) (k0_hw268 : k0_chk268 v455), ∀ a x, ((![v455] : Fin 1 → IVec S16 32) a x).toNat < S64.size a := fun v455 k0_hw268 => k0_hw268
def k0_off213 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v457 : Index := Scalar.indexCast arg27
  let c0_i32_251 : BitVec 32 := 0#32
  let v458 : Index := Scalar.indexCast c0_i32_251
  let c3_i32_252 : BitVec 32 := 3#32
  let v459 : Index := Scalar.indexCast c3_i32_252
  let c0_253 : Index := 0#32
  ![v457.toNat, 0, 3, 0]

def k0_chk269 (v464 : IVec S16 32) : Prop :=
  (∀ a x, ((![v464] : Fin 1 → IVec S16 32) a x).toNat < S64.size a)
theorem k0_idx271_inb : ∀ (v464 : IVec S16 32) (k0_hw269 : k0_chk269 v464), ∀ a x, ((![v464] : Fin 1 → IVec S16 32) a x).toNat < S64.size a := fun v464 k0_hw269 => k0_hw269
def k0_off214 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v466 : Index := Scalar.indexCast arg27
  let c0_i32_256 : BitVec 32 := 0#32
  let v467 : Index := Scalar.indexCast c0_i32_256
  let c4_i32_257 : BitVec 32 := 4#32
  let v468 : Index := Scalar.indexCast c4_i32_257
  let c0_258 : Index := 0#32
  ![v466.toNat, 0, 4, 0]

def k0_chk270 (v473 : IVec S16 32) : Prop :=
  (∀ a x, ((![v473] : Fin 1 → IVec S16 32) a x).toNat < S64.size a)
theorem k0_idx272_inb : ∀ (v473 : IVec S16 32) (k0_hw270 : k0_chk270 v473), ∀ a x, ((![v473] : Fin 1 → IVec S16 32) a x).toNat < S64.size a := fun v473 k0_hw270 => k0_hw270
def k0_off215 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v475 : Index := Scalar.indexCast arg27
  let c0_i32_261 : BitVec 32 := 0#32
  let v476 : Index := Scalar.indexCast c0_i32_261
  let c5_i32_262 : BitVec 32 := 5#32
  let v477 : Index := Scalar.indexCast c5_i32_262
  let c0_263 : Index := 0#32
  ![v475.toNat, 0, 5, 0]

def k0_chk271 (v482 : IVec S16 32) : Prop :=
  (∀ a x, ((![v482] : Fin 1 → IVec S16 32) a x).toNat < S64.size a)
theorem k0_idx273_inb : ∀ (v482 : IVec S16 32) (k0_hw271 : k0_chk271 v482), ∀ a x, ((![v482] : Fin 1 → IVec S16 32) a x).toNat < S64.size a := fun v482 k0_hw271 => k0_hw271
def k0_off216 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v484 : Index := Scalar.indexCast arg27
  let c0_i32_265 : BitVec 32 := 0#32
  let v485 : Index := Scalar.indexCast c0_i32_265
  let c6_i32_266 : BitVec 32 := 6#32
  let v486 : Index := Scalar.indexCast c6_i32_266
  let c0_267 : Index := 0#32
  ![v484.toNat, 0, 6, 0]

def k0_chk272 (v491 : IVec S16 32) : Prop :=
  (∀ a x, ((![v491] : Fin 1 → IVec S16 32) a x).toNat < S64.size a)
theorem k0_idx274_inb : ∀ (v491 : IVec S16 32) (k0_hw272 : k0_chk272 v491), ∀ a x, ((![v491] : Fin 1 → IVec S16 32) a x).toNat < S64.size a := fun v491 k0_hw272 => k0_hw272
def k0_off217 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v493 : Index := Scalar.indexCast arg27
  let c0_i32_270 : BitVec 32 := 0#32
  let v494 : Index := Scalar.indexCast c0_i32_270
  let c7_i32_271 : BitVec 32 := 7#32
  let v495 : Index := Scalar.indexCast c7_i32_271
  let c0_272 : Index := 0#32
  ![v493.toNat, 0, 7, 0]

def k0_chk273 (v500 : IVec S16 32) : Prop :=
  (∀ a x, ((![v500] : Fin 1 → IVec S16 32) a x).toNat < S64.size a)
theorem k0_idx275_inb : ∀ (v500 : IVec S16 32) (k0_hw273 : k0_chk273 v500), ∀ a x, ((![v500] : Fin 1 → IVec S16 32) a x).toNat < S64.size a := fun v500 k0_hw273 => k0_hw273
def k0_off218 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v502 : Index := Scalar.indexCast arg27
  let c0_i32_275 : BitVec 32 := 0#32
  let v503 : Index := Scalar.indexCast c0_i32_275
  let c0_i32_276 : BitVec 32 := 0#32
  let v504 : Index := Scalar.indexCast c0_i32_276
  let c16_277 : Index := 16#32
  ![v502.toNat, 0, 0, 16]

def k0_chk274 (v509 : IVec S16 32) : Prop :=
  (∀ a x, ((![v509] : Fin 1 → IVec S16 32) a x).toNat < S64.size a)
theorem k0_idx276_inb : ∀ (v509 : IVec S16 32) (k0_hw274 : k0_chk274 v509), ∀ a x, ((![v509] : Fin 1 → IVec S16 32) a x).toNat < S64.size a := fun v509 k0_hw274 => k0_hw274
def k0_off219 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v511 : Index := Scalar.indexCast arg27
  let c0_i32_280 : BitVec 32 := 0#32
  let v512 : Index := Scalar.indexCast c0_i32_280
  let c1_i32_281 : BitVec 32 := 1#32
  let v513 : Index := Scalar.indexCast c1_i32_281
  let c16_282 : Index := 16#32
  ![v511.toNat, 0, 1, 16]

def k0_chk275 (v518 : IVec S16 32) : Prop :=
  (∀ a x, ((![v518] : Fin 1 → IVec S16 32) a x).toNat < S64.size a)
theorem k0_idx277_inb : ∀ (v518 : IVec S16 32) (k0_hw275 : k0_chk275 v518), ∀ a x, ((![v518] : Fin 1 → IVec S16 32) a x).toNat < S64.size a := fun v518 k0_hw275 => k0_hw275
def k0_off220 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v520 : Index := Scalar.indexCast arg27
  let c0_i32_285 : BitVec 32 := 0#32
  let v521 : Index := Scalar.indexCast c0_i32_285
  let c2_i32_286 : BitVec 32 := 2#32
  let v522 : Index := Scalar.indexCast c2_i32_286
  let c16_287 : Index := 16#32
  ![v520.toNat, 0, 2, 16]

def k0_chk276 (v527 : IVec S16 32) : Prop :=
  (∀ a x, ((![v527] : Fin 1 → IVec S16 32) a x).toNat < S64.size a)
theorem k0_idx278_inb : ∀ (v527 : IVec S16 32) (k0_hw276 : k0_chk276 v527), ∀ a x, ((![v527] : Fin 1 → IVec S16 32) a x).toNat < S64.size a := fun v527 k0_hw276 => k0_hw276
def k0_off221 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v529 : Index := Scalar.indexCast arg27
  let c0_i32_290 : BitVec 32 := 0#32
  let v530 : Index := Scalar.indexCast c0_i32_290
  let c3_i32_291 : BitVec 32 := 3#32
  let v531 : Index := Scalar.indexCast c3_i32_291
  let c16_292 : Index := 16#32
  ![v529.toNat, 0, 3, 16]

def k0_chk277 (v536 : IVec S16 32) : Prop :=
  (∀ a x, ((![v536] : Fin 1 → IVec S16 32) a x).toNat < S64.size a)
theorem k0_idx279_inb : ∀ (v536 : IVec S16 32) (k0_hw277 : k0_chk277 v536), ∀ a x, ((![v536] : Fin 1 → IVec S16 32) a x).toNat < S64.size a := fun v536 k0_hw277 => k0_hw277
def k0_off222 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v538 : Index := Scalar.indexCast arg27
  let c0_i32_295 : BitVec 32 := 0#32
  let v539 : Index := Scalar.indexCast c0_i32_295
  let c4_i32_296 : BitVec 32 := 4#32
  let v540 : Index := Scalar.indexCast c4_i32_296
  let c16_297 : Index := 16#32
  ![v538.toNat, 0, 4, 16]

def k0_chk278 (v545 : IVec S16 32) : Prop :=
  (∀ a x, ((![v545] : Fin 1 → IVec S16 32) a x).toNat < S64.size a)
theorem k0_idx280_inb : ∀ (v545 : IVec S16 32) (k0_hw278 : k0_chk278 v545), ∀ a x, ((![v545] : Fin 1 → IVec S16 32) a x).toNat < S64.size a := fun v545 k0_hw278 => k0_hw278
def k0_off223 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v547 : Index := Scalar.indexCast arg27
  let c0_i32_300 : BitVec 32 := 0#32
  let v548 : Index := Scalar.indexCast c0_i32_300
  let c5_i32_301 : BitVec 32 := 5#32
  let v549 : Index := Scalar.indexCast c5_i32_301
  let c16_302 : Index := 16#32
  ![v547.toNat, 0, 5, 16]

def k0_chk279 (v554 : IVec S16 32) : Prop :=
  (∀ a x, ((![v554] : Fin 1 → IVec S16 32) a x).toNat < S64.size a)
theorem k0_idx281_inb : ∀ (v554 : IVec S16 32) (k0_hw279 : k0_chk279 v554), ∀ a x, ((![v554] : Fin 1 → IVec S16 32) a x).toNat < S64.size a := fun v554 k0_hw279 => k0_hw279
def k0_off224 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v556 : Index := Scalar.indexCast arg27
  let c0_i32_305 : BitVec 32 := 0#32
  let v557 : Index := Scalar.indexCast c0_i32_305
  let c6_i32_306 : BitVec 32 := 6#32
  let v558 : Index := Scalar.indexCast c6_i32_306
  let c16_307 : Index := 16#32
  ![v556.toNat, 0, 6, 16]

def k0_chk280 (v563 : IVec S16 32) : Prop :=
  (∀ a x, ((![v563] : Fin 1 → IVec S16 32) a x).toNat < S64.size a)
theorem k0_idx282_inb : ∀ (v563 : IVec S16 32) (k0_hw280 : k0_chk280 v563), ∀ a x, ((![v563] : Fin 1 → IVec S16 32) a x).toNat < S64.size a := fun v563 k0_hw280 => k0_hw280
def k0_off225 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v565 : Index := Scalar.indexCast arg27
  let c0_i32_310 : BitVec 32 := 0#32
  let v566 : Index := Scalar.indexCast c0_i32_310
  let c7_i32_311 : BitVec 32 := 7#32
  let v567 : Index := Scalar.indexCast c7_i32_311
  let c16_312 : Index := 16#32
  ![v565.toNat, 0, 7, 16]

def k0_chk281 (v572 : IVec S16 32) : Prop :=
  (∀ a x, ((![v572] : Fin 1 → IVec S16 32) a x).toNat < S64.size a)
theorem k0_idx283_inb : ∀ (v572 : IVec S16 32) (k0_hw281 : k0_chk281 v572), ∀ a x, ((![v572] : Fin 1 → IVec S16 32) a x).toNat < S64.size a := fun v572 k0_hw281 => k0_hw281
def k0_off226 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v574 : Index := Scalar.indexCast arg27
  let c0_i32_315 : BitVec 32 := 0#32
  let v575 : Index := Scalar.indexCast c0_i32_315
  let c0_i32_316 : BitVec 32 := 0#32
  let v576 : Index := Scalar.indexCast c0_i32_316
  let c32_317 : Index := 32#32
  ![v574.toNat, 0, 0, 32]

def k0_chk282 (v581 : IVec S16 32) : Prop :=
  (∀ a x, ((![v581] : Fin 1 → IVec S16 32) a x).toNat < S64.size a)
theorem k0_idx284_inb : ∀ (v581 : IVec S16 32) (k0_hw282 : k0_chk282 v581), ∀ a x, ((![v581] : Fin 1 → IVec S16 32) a x).toNat < S64.size a := fun v581 k0_hw282 => k0_hw282
def k0_off227 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v583 : Index := Scalar.indexCast arg27
  let c0_i32_320 : BitVec 32 := 0#32
  let v584 : Index := Scalar.indexCast c0_i32_320
  let c1_i32_321 : BitVec 32 := 1#32
  let v585 : Index := Scalar.indexCast c1_i32_321
  let c32_322 : Index := 32#32
  ![v583.toNat, 0, 1, 32]

def k0_chk283 (v590 : IVec S16 32) : Prop :=
  (∀ a x, ((![v590] : Fin 1 → IVec S16 32) a x).toNat < S64.size a)
theorem k0_idx285_inb : ∀ (v590 : IVec S16 32) (k0_hw283 : k0_chk283 v590), ∀ a x, ((![v590] : Fin 1 → IVec S16 32) a x).toNat < S64.size a := fun v590 k0_hw283 => k0_hw283
def k0_off228 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v592 : Index := Scalar.indexCast arg27
  let c0_i32_325 : BitVec 32 := 0#32
  let v593 : Index := Scalar.indexCast c0_i32_325
  let c2_i32_326 : BitVec 32 := 2#32
  let v594 : Index := Scalar.indexCast c2_i32_326
  let c32_327 : Index := 32#32
  ![v592.toNat, 0, 2, 32]

def k0_chk284 (v599 : IVec S16 32) : Prop :=
  (∀ a x, ((![v599] : Fin 1 → IVec S16 32) a x).toNat < S64.size a)
theorem k0_idx286_inb : ∀ (v599 : IVec S16 32) (k0_hw284 : k0_chk284 v599), ∀ a x, ((![v599] : Fin 1 → IVec S16 32) a x).toNat < S64.size a := fun v599 k0_hw284 => k0_hw284
def k0_off229 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v601 : Index := Scalar.indexCast arg27
  let c0_i32_330 : BitVec 32 := 0#32
  let v602 : Index := Scalar.indexCast c0_i32_330
  let c3_i32_331 : BitVec 32 := 3#32
  let v603 : Index := Scalar.indexCast c3_i32_331
  let c32_332 : Index := 32#32
  ![v601.toNat, 0, 3, 32]

def k0_chk285 (v608 : IVec S16 32) : Prop :=
  (∀ a x, ((![v608] : Fin 1 → IVec S16 32) a x).toNat < S64.size a)
theorem k0_idx287_inb : ∀ (v608 : IVec S16 32) (k0_hw285 : k0_chk285 v608), ∀ a x, ((![v608] : Fin 1 → IVec S16 32) a x).toNat < S64.size a := fun v608 k0_hw285 => k0_hw285
def k0_off230 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v610 : Index := Scalar.indexCast arg27
  let c0_i32_335 : BitVec 32 := 0#32
  let v611 : Index := Scalar.indexCast c0_i32_335
  let c4_i32_336 : BitVec 32 := 4#32
  let v612 : Index := Scalar.indexCast c4_i32_336
  let c32_337 : Index := 32#32
  ![v610.toNat, 0, 4, 32]

def k0_chk286 (v617 : IVec S16 32) : Prop :=
  (∀ a x, ((![v617] : Fin 1 → IVec S16 32) a x).toNat < S64.size a)
theorem k0_idx288_inb : ∀ (v617 : IVec S16 32) (k0_hw286 : k0_chk286 v617), ∀ a x, ((![v617] : Fin 1 → IVec S16 32) a x).toNat < S64.size a := fun v617 k0_hw286 => k0_hw286
def k0_off231 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v619 : Index := Scalar.indexCast arg27
  let c0_i32_340 : BitVec 32 := 0#32
  let v620 : Index := Scalar.indexCast c0_i32_340
  let c5_i32_341 : BitVec 32 := 5#32
  let v621 : Index := Scalar.indexCast c5_i32_341
  let c32_342 : Index := 32#32
  ![v619.toNat, 0, 5, 32]

def k0_chk287 (v626 : IVec S16 32) : Prop :=
  (∀ a x, ((![v626] : Fin 1 → IVec S16 32) a x).toNat < S64.size a)
theorem k0_idx289_inb : ∀ (v626 : IVec S16 32) (k0_hw287 : k0_chk287 v626), ∀ a x, ((![v626] : Fin 1 → IVec S16 32) a x).toNat < S64.size a := fun v626 k0_hw287 => k0_hw287
def k0_off232 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v628 : Index := Scalar.indexCast arg27
  let c0_i32_345 : BitVec 32 := 0#32
  let v629 : Index := Scalar.indexCast c0_i32_345
  let c6_i32_346 : BitVec 32 := 6#32
  let v630 : Index := Scalar.indexCast c6_i32_346
  let c32_347 : Index := 32#32
  ![v628.toNat, 0, 6, 32]

def k0_chk288 (v635 : IVec S16 32) : Prop :=
  (∀ a x, ((![v635] : Fin 1 → IVec S16 32) a x).toNat < S64.size a)
theorem k0_idx290_inb : ∀ (v635 : IVec S16 32) (k0_hw288 : k0_chk288 v635), ∀ a x, ((![v635] : Fin 1 → IVec S16 32) a x).toNat < S64.size a := fun v635 k0_hw288 => k0_hw288
def k0_off233 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v637 : Index := Scalar.indexCast arg27
  let c0_i32_350 : BitVec 32 := 0#32
  let v638 : Index := Scalar.indexCast c0_i32_350
  let c7_i32_351 : BitVec 32 := 7#32
  let v639 : Index := Scalar.indexCast c7_i32_351
  let c32_352 : Index := 32#32
  ![v637.toNat, 0, 7, 32]

def k0_chk289 (v644 : IVec S16 32) : Prop :=
  (∀ a x, ((![v644] : Fin 1 → IVec S16 32) a x).toNat < S64.size a)
theorem k0_idx291_inb : ∀ (v644 : IVec S16 32) (k0_hw289 : k0_chk289 v644), ∀ a x, ((![v644] : Fin 1 → IVec S16 32) a x).toNat < S64.size a := fun v644 k0_hw289 => k0_hw289
def k0_off234 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v646 : Index := Scalar.indexCast arg27
  let c0_i32_355 : BitVec 32 := 0#32
  let v647 : Index := Scalar.indexCast c0_i32_355
  let c0_i32_356 : BitVec 32 := 0#32
  let v648 : Index := Scalar.indexCast c0_i32_356
  let c48_357 : Index := 48#32
  ![v646.toNat, 0, 0, 48]

def k0_chk290 (v653 : IVec S16 32) : Prop :=
  (∀ a x, ((![v653] : Fin 1 → IVec S16 32) a x).toNat < S64.size a)
theorem k0_idx292_inb : ∀ (v653 : IVec S16 32) (k0_hw290 : k0_chk290 v653), ∀ a x, ((![v653] : Fin 1 → IVec S16 32) a x).toNat < S64.size a := fun v653 k0_hw290 => k0_hw290
def k0_off235 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v655 : Index := Scalar.indexCast arg27
  let c0_i32_360 : BitVec 32 := 0#32
  let v656 : Index := Scalar.indexCast c0_i32_360
  let c1_i32_361 : BitVec 32 := 1#32
  let v657 : Index := Scalar.indexCast c1_i32_361
  let c48_362 : Index := 48#32
  ![v655.toNat, 0, 1, 48]

def k0_chk291 (v662 : IVec S16 32) : Prop :=
  (∀ a x, ((![v662] : Fin 1 → IVec S16 32) a x).toNat < S64.size a)
theorem k0_idx293_inb : ∀ (v662 : IVec S16 32) (k0_hw291 : k0_chk291 v662), ∀ a x, ((![v662] : Fin 1 → IVec S16 32) a x).toNat < S64.size a := fun v662 k0_hw291 => k0_hw291
def k0_off236 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v664 : Index := Scalar.indexCast arg27
  let c0_i32_365 : BitVec 32 := 0#32
  let v665 : Index := Scalar.indexCast c0_i32_365
  let c2_i32_366 : BitVec 32 := 2#32
  let v666 : Index := Scalar.indexCast c2_i32_366
  let c48_367 : Index := 48#32
  ![v664.toNat, 0, 2, 48]

def k0_chk292 (v671 : IVec S16 32) : Prop :=
  (∀ a x, ((![v671] : Fin 1 → IVec S16 32) a x).toNat < S64.size a)
theorem k0_idx294_inb : ∀ (v671 : IVec S16 32) (k0_hw292 : k0_chk292 v671), ∀ a x, ((![v671] : Fin 1 → IVec S16 32) a x).toNat < S64.size a := fun v671 k0_hw292 => k0_hw292
def k0_off237 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v673 : Index := Scalar.indexCast arg27
  let c0_i32_370 : BitVec 32 := 0#32
  let v674 : Index := Scalar.indexCast c0_i32_370
  let c3_i32_371 : BitVec 32 := 3#32
  let v675 : Index := Scalar.indexCast c3_i32_371
  let c48_372 : Index := 48#32
  ![v673.toNat, 0, 3, 48]

def k0_chk293 (v680 : IVec S16 32) : Prop :=
  (∀ a x, ((![v680] : Fin 1 → IVec S16 32) a x).toNat < S64.size a)
theorem k0_idx295_inb : ∀ (v680 : IVec S16 32) (k0_hw293 : k0_chk293 v680), ∀ a x, ((![v680] : Fin 1 → IVec S16 32) a x).toNat < S64.size a := fun v680 k0_hw293 => k0_hw293
def k0_off238 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v682 : Index := Scalar.indexCast arg27
  let c0_i32_375 : BitVec 32 := 0#32
  let v683 : Index := Scalar.indexCast c0_i32_375
  let c4_i32_376 : BitVec 32 := 4#32
  let v684 : Index := Scalar.indexCast c4_i32_376
  let c48_377 : Index := 48#32
  ![v682.toNat, 0, 4, 48]

def k0_chk294 (v689 : IVec S16 32) : Prop :=
  (∀ a x, ((![v689] : Fin 1 → IVec S16 32) a x).toNat < S64.size a)
theorem k0_idx296_inb : ∀ (v689 : IVec S16 32) (k0_hw294 : k0_chk294 v689), ∀ a x, ((![v689] : Fin 1 → IVec S16 32) a x).toNat < S64.size a := fun v689 k0_hw294 => k0_hw294
def k0_off239 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v691 : Index := Scalar.indexCast arg27
  let c0_i32_380 : BitVec 32 := 0#32
  let v692 : Index := Scalar.indexCast c0_i32_380
  let c5_i32_381 : BitVec 32 := 5#32
  let v693 : Index := Scalar.indexCast c5_i32_381
  let c48_382 : Index := 48#32
  ![v691.toNat, 0, 5, 48]

def k0_chk295 (v698 : IVec S16 32) : Prop :=
  (∀ a x, ((![v698] : Fin 1 → IVec S16 32) a x).toNat < S64.size a)
theorem k0_idx297_inb : ∀ (v698 : IVec S16 32) (k0_hw295 : k0_chk295 v698), ∀ a x, ((![v698] : Fin 1 → IVec S16 32) a x).toNat < S64.size a := fun v698 k0_hw295 => k0_hw295
def k0_off240 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v700 : Index := Scalar.indexCast arg27
  let c0_i32_385 : BitVec 32 := 0#32
  let v701 : Index := Scalar.indexCast c0_i32_385
  let c6_i32_386 : BitVec 32 := 6#32
  let v702 : Index := Scalar.indexCast c6_i32_386
  let c48_387 : Index := 48#32
  ![v700.toNat, 0, 6, 48]

def k0_chk296 (v707 : IVec S16 32) : Prop :=
  (∀ a x, ((![v707] : Fin 1 → IVec S16 32) a x).toNat < S64.size a)
theorem k0_idx298_inb : ∀ (v707 : IVec S16 32) (k0_hw296 : k0_chk296 v707), ∀ a x, ((![v707] : Fin 1 → IVec S16 32) a x).toNat < S64.size a := fun v707 k0_hw296 => k0_hw296
def k0_off241 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v709 : Index := Scalar.indexCast arg27
  let c0_i32_390 : BitVec 32 := 0#32
  let v710 : Index := Scalar.indexCast c0_i32_390
  let c7_i32_391 : BitVec 32 := 7#32
  let v711 : Index := Scalar.indexCast c7_i32_391
  let c48_392 : Index := 48#32
  ![v709.toNat, 0, 7, 48]

def k0_chk297 (v716 : IVec S16 32) : Prop :=
  (∀ a x, ((![v716] : Fin 1 → IVec S16 32) a x).toNat < S64.size a)
theorem k0_idx299_inb : ∀ (v716 : IVec S16 32) (k0_hw297 : k0_chk297 v716), ∀ a x, ((![v716] : Fin 1 → IVec S16 32) a x).toNat < S64.size a := fun v716 k0_hw297 => k0_hw297
def k0_off242 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v718 : Index := Scalar.indexCast arg27
  let c0_i32_395 : BitVec 32 := 0#32
  let v719 : Index := Scalar.indexCast c0_i32_395
  let c0_i32_396 : BitVec 32 := 0#32
  let v720 : Index := Scalar.indexCast c0_i32_396
  let c64_397 : Index := 64#32
  ![v718.toNat, 0, 0, 64]

def k0_chk298 (v725 : IVec S16 32) : Prop :=
  (∀ a x, ((![v725] : Fin 1 → IVec S16 32) a x).toNat < S64.size a)
theorem k0_idx300_inb : ∀ (v725 : IVec S16 32) (k0_hw298 : k0_chk298 v725), ∀ a x, ((![v725] : Fin 1 → IVec S16 32) a x).toNat < S64.size a := fun v725 k0_hw298 => k0_hw298
def k0_off243 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v727 : Index := Scalar.indexCast arg27
  let c0_i32_400 : BitVec 32 := 0#32
  let v728 : Index := Scalar.indexCast c0_i32_400
  let c1_i32_401 : BitVec 32 := 1#32
  let v729 : Index := Scalar.indexCast c1_i32_401
  let c64_402 : Index := 64#32
  ![v727.toNat, 0, 1, 64]

def k0_chk299 (v734 : IVec S16 32) : Prop :=
  (∀ a x, ((![v734] : Fin 1 → IVec S16 32) a x).toNat < S64.size a)
theorem k0_idx301_inb : ∀ (v734 : IVec S16 32) (k0_hw299 : k0_chk299 v734), ∀ a x, ((![v734] : Fin 1 → IVec S16 32) a x).toNat < S64.size a := fun v734 k0_hw299 => k0_hw299
def k0_off244 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v736 : Index := Scalar.indexCast arg27
  let c0_i32_405 : BitVec 32 := 0#32
  let v737 : Index := Scalar.indexCast c0_i32_405
  let c2_i32_406 : BitVec 32 := 2#32
  let v738 : Index := Scalar.indexCast c2_i32_406
  let c64_407 : Index := 64#32
  ![v736.toNat, 0, 2, 64]

def k0_chk300 (v743 : IVec S16 32) : Prop :=
  (∀ a x, ((![v743] : Fin 1 → IVec S16 32) a x).toNat < S64.size a)
theorem k0_idx302_inb : ∀ (v743 : IVec S16 32) (k0_hw300 : k0_chk300 v743), ∀ a x, ((![v743] : Fin 1 → IVec S16 32) a x).toNat < S64.size a := fun v743 k0_hw300 => k0_hw300
def k0_off245 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v745 : Index := Scalar.indexCast arg27
  let c0_i32_410 : BitVec 32 := 0#32
  let v746 : Index := Scalar.indexCast c0_i32_410
  let c3_i32_411 : BitVec 32 := 3#32
  let v747 : Index := Scalar.indexCast c3_i32_411
  let c64_412 : Index := 64#32
  ![v745.toNat, 0, 3, 64]

def k0_chk301 (v752 : IVec S16 32) : Prop :=
  (∀ a x, ((![v752] : Fin 1 → IVec S16 32) a x).toNat < S64.size a)
theorem k0_idx303_inb : ∀ (v752 : IVec S16 32) (k0_hw301 : k0_chk301 v752), ∀ a x, ((![v752] : Fin 1 → IVec S16 32) a x).toNat < S64.size a := fun v752 k0_hw301 => k0_hw301
def k0_off246 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v754 : Index := Scalar.indexCast arg27
  let c0_i32_415 : BitVec 32 := 0#32
  let v755 : Index := Scalar.indexCast c0_i32_415
  let c4_i32_416 : BitVec 32 := 4#32
  let v756 : Index := Scalar.indexCast c4_i32_416
  let c64_417 : Index := 64#32
  ![v754.toNat, 0, 4, 64]

def k0_chk302 (v761 : IVec S16 32) : Prop :=
  (∀ a x, ((![v761] : Fin 1 → IVec S16 32) a x).toNat < S64.size a)
theorem k0_idx304_inb : ∀ (v761 : IVec S16 32) (k0_hw302 : k0_chk302 v761), ∀ a x, ((![v761] : Fin 1 → IVec S16 32) a x).toNat < S64.size a := fun v761 k0_hw302 => k0_hw302
def k0_off247 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v763 : Index := Scalar.indexCast arg27
  let c0_i32_420 : BitVec 32 := 0#32
  let v764 : Index := Scalar.indexCast c0_i32_420
  let c5_i32_421 : BitVec 32 := 5#32
  let v765 : Index := Scalar.indexCast c5_i32_421
  let c64_422 : Index := 64#32
  ![v763.toNat, 0, 5, 64]

def k0_chk303 (v770 : IVec S16 32) : Prop :=
  (∀ a x, ((![v770] : Fin 1 → IVec S16 32) a x).toNat < S64.size a)
theorem k0_idx305_inb : ∀ (v770 : IVec S16 32) (k0_hw303 : k0_chk303 v770), ∀ a x, ((![v770] : Fin 1 → IVec S16 32) a x).toNat < S64.size a := fun v770 k0_hw303 => k0_hw303
def k0_off248 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v772 : Index := Scalar.indexCast arg27
  let c0_i32_425 : BitVec 32 := 0#32
  let v773 : Index := Scalar.indexCast c0_i32_425
  let c6_i32_426 : BitVec 32 := 6#32
  let v774 : Index := Scalar.indexCast c6_i32_426
  let c64_427 : Index := 64#32
  ![v772.toNat, 0, 6, 64]

def k0_chk304 (v779 : IVec S16 32) : Prop :=
  (∀ a x, ((![v779] : Fin 1 → IVec S16 32) a x).toNat < S64.size a)
theorem k0_idx306_inb : ∀ (v779 : IVec S16 32) (k0_hw304 : k0_chk304 v779), ∀ a x, ((![v779] : Fin 1 → IVec S16 32) a x).toNat < S64.size a := fun v779 k0_hw304 => k0_hw304
def k0_off249 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v781 : Index := Scalar.indexCast arg27
  let c0_i32_430 : BitVec 32 := 0#32
  let v782 : Index := Scalar.indexCast c0_i32_430
  let c7_i32_431 : BitVec 32 := 7#32
  let v783 : Index := Scalar.indexCast c7_i32_431
  let c64_432 : Index := 64#32
  ![v781.toNat, 0, 7, 64]

def k0_chk305 (v788 : IVec S16 32) : Prop :=
  (∀ a x, ((![v788] : Fin 1 → IVec S16 32) a x).toNat < S64.size a)
theorem k0_idx307_inb : ∀ (v788 : IVec S16 32) (k0_hw305 : k0_chk305 v788), ∀ a x, ((![v788] : Fin 1 → IVec S16 32) a x).toNat < S64.size a := fun v788 k0_hw305 => k0_hw305
def k0_off250 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v790 : Index := Scalar.indexCast arg27
  let c0_i32_435 : BitVec 32 := 0#32
  let v791 : Index := Scalar.indexCast c0_i32_435
  let c0_i32_436 : BitVec 32 := 0#32
  let v792 : Index := Scalar.indexCast c0_i32_436
  let c80_437 : Index := 80#32
  ![v790.toNat, 0, 0, 80]

def k0_chk306 (v797 : IVec S16 32) : Prop :=
  (∀ a x, ((![v797] : Fin 1 → IVec S16 32) a x).toNat < S64.size a)
theorem k0_idx308_inb : ∀ (v797 : IVec S16 32) (k0_hw306 : k0_chk306 v797), ∀ a x, ((![v797] : Fin 1 → IVec S16 32) a x).toNat < S64.size a := fun v797 k0_hw306 => k0_hw306
def k0_off251 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v799 : Index := Scalar.indexCast arg27
  let c0_i32_440 : BitVec 32 := 0#32
  let v800 : Index := Scalar.indexCast c0_i32_440
  let c1_i32_441 : BitVec 32 := 1#32
  let v801 : Index := Scalar.indexCast c1_i32_441
  let c80_442 : Index := 80#32
  ![v799.toNat, 0, 1, 80]

def k0_chk307 (v806 : IVec S16 32) : Prop :=
  (∀ a x, ((![v806] : Fin 1 → IVec S16 32) a x).toNat < S64.size a)
theorem k0_idx309_inb : ∀ (v806 : IVec S16 32) (k0_hw307 : k0_chk307 v806), ∀ a x, ((![v806] : Fin 1 → IVec S16 32) a x).toNat < S64.size a := fun v806 k0_hw307 => k0_hw307
def k0_off252 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v808 : Index := Scalar.indexCast arg27
  let c0_i32_445 : BitVec 32 := 0#32
  let v809 : Index := Scalar.indexCast c0_i32_445
  let c2_i32_446 : BitVec 32 := 2#32
  let v810 : Index := Scalar.indexCast c2_i32_446
  let c80_447 : Index := 80#32
  ![v808.toNat, 0, 2, 80]

def k0_chk308 (v815 : IVec S16 32) : Prop :=
  (∀ a x, ((![v815] : Fin 1 → IVec S16 32) a x).toNat < S64.size a)
theorem k0_idx310_inb : ∀ (v815 : IVec S16 32) (k0_hw308 : k0_chk308 v815), ∀ a x, ((![v815] : Fin 1 → IVec S16 32) a x).toNat < S64.size a := fun v815 k0_hw308 => k0_hw308
def k0_off253 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v817 : Index := Scalar.indexCast arg27
  let c0_i32_450 : BitVec 32 := 0#32
  let v818 : Index := Scalar.indexCast c0_i32_450
  let c3_i32_451 : BitVec 32 := 3#32
  let v819 : Index := Scalar.indexCast c3_i32_451
  let c80_452 : Index := 80#32
  ![v817.toNat, 0, 3, 80]

def k0_chk309 (v824 : IVec S16 32) : Prop :=
  (∀ a x, ((![v824] : Fin 1 → IVec S16 32) a x).toNat < S64.size a)
theorem k0_idx311_inb : ∀ (v824 : IVec S16 32) (k0_hw309 : k0_chk309 v824), ∀ a x, ((![v824] : Fin 1 → IVec S16 32) a x).toNat < S64.size a := fun v824 k0_hw309 => k0_hw309
def k0_off254 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v826 : Index := Scalar.indexCast arg27
  let c0_i32_455 : BitVec 32 := 0#32
  let v827 : Index := Scalar.indexCast c0_i32_455
  let c4_i32_456 : BitVec 32 := 4#32
  let v828 : Index := Scalar.indexCast c4_i32_456
  let c80_457 : Index := 80#32
  ![v826.toNat, 0, 4, 80]

def k0_chk310 (v833 : IVec S16 32) : Prop :=
  (∀ a x, ((![v833] : Fin 1 → IVec S16 32) a x).toNat < S64.size a)
theorem k0_idx312_inb : ∀ (v833 : IVec S16 32) (k0_hw310 : k0_chk310 v833), ∀ a x, ((![v833] : Fin 1 → IVec S16 32) a x).toNat < S64.size a := fun v833 k0_hw310 => k0_hw310
def k0_off255 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v835 : Index := Scalar.indexCast arg27
  let c0_i32_460 : BitVec 32 := 0#32
  let v836 : Index := Scalar.indexCast c0_i32_460
  let c5_i32_461 : BitVec 32 := 5#32
  let v837 : Index := Scalar.indexCast c5_i32_461
  let c80_462 : Index := 80#32
  ![v835.toNat, 0, 5, 80]

def k0_chk311 (v842 : IVec S16 32) : Prop :=
  (∀ a x, ((![v842] : Fin 1 → IVec S16 32) a x).toNat < S64.size a)
theorem k0_idx313_inb : ∀ (v842 : IVec S16 32) (k0_hw311 : k0_chk311 v842), ∀ a x, ((![v842] : Fin 1 → IVec S16 32) a x).toNat < S64.size a := fun v842 k0_hw311 => k0_hw311
def k0_off256 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v844 : Index := Scalar.indexCast arg27
  let c0_i32_465 : BitVec 32 := 0#32
  let v845 : Index := Scalar.indexCast c0_i32_465
  let c6_i32_466 : BitVec 32 := 6#32
  let v846 : Index := Scalar.indexCast c6_i32_466
  let c80_467 : Index := 80#32
  ![v844.toNat, 0, 6, 80]

def k0_chk312 (v851 : IVec S16 32) : Prop :=
  (∀ a x, ((![v851] : Fin 1 → IVec S16 32) a x).toNat < S64.size a)
theorem k0_idx314_inb : ∀ (v851 : IVec S16 32) (k0_hw312 : k0_chk312 v851), ∀ a x, ((![v851] : Fin 1 → IVec S16 32) a x).toNat < S64.size a := fun v851 k0_hw312 => k0_hw312
def k0_off257 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v853 : Index := Scalar.indexCast arg27
  let c0_i32_470 : BitVec 32 := 0#32
  let v854 : Index := Scalar.indexCast c0_i32_470
  let c7_i32_471 : BitVec 32 := 7#32
  let v855 : Index := Scalar.indexCast c7_i32_471
  let c80_472 : Index := 80#32
  ![v853.toNat, 0, 7, 80]

def k0_chk313 (v860 : IVec S16 32) : Prop :=
  (∀ a x, ((![v860] : Fin 1 → IVec S16 32) a x).toNat < S64.size a)
theorem k0_idx315_inb : ∀ (v860 : IVec S16 32) (k0_hw313 : k0_chk313 v860), ∀ a x, ((![v860] : Fin 1 → IVec S16 32) a x).toNat < S64.size a := fun v860 k0_hw313 => k0_hw313
def k0_off258 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v862 : Index := Scalar.indexCast arg27
  let c0_i32_475 : BitVec 32 := 0#32
  let v863 : Index := Scalar.indexCast c0_i32_475
  let c0_i32_476 : BitVec 32 := 0#32
  let v864 : Index := Scalar.indexCast c0_i32_476
  let c96_477 : Index := 96#32
  ![v862.toNat, 0, 0, 96]

def k0_chk314 (v869 : IVec S16 32) : Prop :=
  (∀ a x, ((![v869] : Fin 1 → IVec S16 32) a x).toNat < S64.size a)
theorem k0_idx316_inb : ∀ (v869 : IVec S16 32) (k0_hw314 : k0_chk314 v869), ∀ a x, ((![v869] : Fin 1 → IVec S16 32) a x).toNat < S64.size a := fun v869 k0_hw314 => k0_hw314
def k0_off259 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v871 : Index := Scalar.indexCast arg27
  let c0_i32_480 : BitVec 32 := 0#32
  let v872 : Index := Scalar.indexCast c0_i32_480
  let c1_i32_481 : BitVec 32 := 1#32
  let v873 : Index := Scalar.indexCast c1_i32_481
  let c96_482 : Index := 96#32
  ![v871.toNat, 0, 1, 96]

def k0_chk315 (v878 : IVec S16 32) : Prop :=
  (∀ a x, ((![v878] : Fin 1 → IVec S16 32) a x).toNat < S64.size a)
theorem k0_idx317_inb : ∀ (v878 : IVec S16 32) (k0_hw315 : k0_chk315 v878), ∀ a x, ((![v878] : Fin 1 → IVec S16 32) a x).toNat < S64.size a := fun v878 k0_hw315 => k0_hw315
def k0_off260 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v880 : Index := Scalar.indexCast arg27
  let c0_i32_485 : BitVec 32 := 0#32
  let v881 : Index := Scalar.indexCast c0_i32_485
  let c2_i32_486 : BitVec 32 := 2#32
  let v882 : Index := Scalar.indexCast c2_i32_486
  let c96_487 : Index := 96#32
  ![v880.toNat, 0, 2, 96]

def k0_chk316 (v887 : IVec S16 32) : Prop :=
  (∀ a x, ((![v887] : Fin 1 → IVec S16 32) a x).toNat < S64.size a)
theorem k0_idx318_inb : ∀ (v887 : IVec S16 32) (k0_hw316 : k0_chk316 v887), ∀ a x, ((![v887] : Fin 1 → IVec S16 32) a x).toNat < S64.size a := fun v887 k0_hw316 => k0_hw316
def k0_off261 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v889 : Index := Scalar.indexCast arg27
  let c0_i32_490 : BitVec 32 := 0#32
  let v890 : Index := Scalar.indexCast c0_i32_490
  let c3_i32_491 : BitVec 32 := 3#32
  let v891 : Index := Scalar.indexCast c3_i32_491
  let c96_492 : Index := 96#32
  ![v889.toNat, 0, 3, 96]

def k0_chk317 (v896 : IVec S16 32) : Prop :=
  (∀ a x, ((![v896] : Fin 1 → IVec S16 32) a x).toNat < S64.size a)
theorem k0_idx319_inb : ∀ (v896 : IVec S16 32) (k0_hw317 : k0_chk317 v896), ∀ a x, ((![v896] : Fin 1 → IVec S16 32) a x).toNat < S64.size a := fun v896 k0_hw317 => k0_hw317
def k0_off262 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v898 : Index := Scalar.indexCast arg27
  let c0_i32_495 : BitVec 32 := 0#32
  let v899 : Index := Scalar.indexCast c0_i32_495
  let c4_i32_496 : BitVec 32 := 4#32
  let v900 : Index := Scalar.indexCast c4_i32_496
  let c96_497 : Index := 96#32
  ![v898.toNat, 0, 4, 96]

def k0_chk318 (v905 : IVec S16 32) : Prop :=
  (∀ a x, ((![v905] : Fin 1 → IVec S16 32) a x).toNat < S64.size a)
theorem k0_idx320_inb : ∀ (v905 : IVec S16 32) (k0_hw318 : k0_chk318 v905), ∀ a x, ((![v905] : Fin 1 → IVec S16 32) a x).toNat < S64.size a := fun v905 k0_hw318 => k0_hw318
def k0_off263 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v907 : Index := Scalar.indexCast arg27
  let c0_i32_500 : BitVec 32 := 0#32
  let v908 : Index := Scalar.indexCast c0_i32_500
  let c5_i32_501 : BitVec 32 := 5#32
  let v909 : Index := Scalar.indexCast c5_i32_501
  let c96_502 : Index := 96#32
  ![v907.toNat, 0, 5, 96]

def k0_chk319 (v914 : IVec S16 32) : Prop :=
  (∀ a x, ((![v914] : Fin 1 → IVec S16 32) a x).toNat < S64.size a)
theorem k0_idx321_inb : ∀ (v914 : IVec S16 32) (k0_hw319 : k0_chk319 v914), ∀ a x, ((![v914] : Fin 1 → IVec S16 32) a x).toNat < S64.size a := fun v914 k0_hw319 => k0_hw319
def k0_off264 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v916 : Index := Scalar.indexCast arg27
  let c0_i32_505 : BitVec 32 := 0#32
  let v917 : Index := Scalar.indexCast c0_i32_505
  let c6_i32_506 : BitVec 32 := 6#32
  let v918 : Index := Scalar.indexCast c6_i32_506
  let c96_507 : Index := 96#32
  ![v916.toNat, 0, 6, 96]

def k0_chk320 (v923 : IVec S16 32) : Prop :=
  (∀ a x, ((![v923] : Fin 1 → IVec S16 32) a x).toNat < S64.size a)
theorem k0_idx322_inb : ∀ (v923 : IVec S16 32) (k0_hw320 : k0_chk320 v923), ∀ a x, ((![v923] : Fin 1 → IVec S16 32) a x).toNat < S64.size a := fun v923 k0_hw320 => k0_hw320
def k0_off265 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v925 : Index := Scalar.indexCast arg27
  let c0_i32_510 : BitVec 32 := 0#32
  let v926 : Index := Scalar.indexCast c0_i32_510
  let c7_i32_511 : BitVec 32 := 7#32
  let v927 : Index := Scalar.indexCast c7_i32_511
  let c96_512 : Index := 96#32
  ![v925.toNat, 0, 7, 96]

def k0_chk321 (v932 : IVec S16 32) : Prop :=
  (∀ a x, ((![v932] : Fin 1 → IVec S16 32) a x).toNat < S64.size a)
theorem k0_idx323_inb : ∀ (v932 : IVec S16 32) (k0_hw321 : k0_chk321 v932), ∀ a x, ((![v932] : Fin 1 → IVec S16 32) a x).toNat < S64.size a := fun v932 k0_hw321 => k0_hw321
def k0_off266 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v934 : Index := Scalar.indexCast arg27
  let c0_i32_515 : BitVec 32 := 0#32
  let v935 : Index := Scalar.indexCast c0_i32_515
  let c0_i32_516 : BitVec 32 := 0#32
  let v936 : Index := Scalar.indexCast c0_i32_516
  let c112_517 : Index := 112#32
  ![v934.toNat, 0, 0, 112]

def k0_chk322 (v941 : IVec S16 32) : Prop :=
  (∀ a x, ((![v941] : Fin 1 → IVec S16 32) a x).toNat < S64.size a)
theorem k0_idx324_inb : ∀ (v941 : IVec S16 32) (k0_hw322 : k0_chk322 v941), ∀ a x, ((![v941] : Fin 1 → IVec S16 32) a x).toNat < S64.size a := fun v941 k0_hw322 => k0_hw322
def k0_off267 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v943 : Index := Scalar.indexCast arg27
  let c0_i32_520 : BitVec 32 := 0#32
  let v944 : Index := Scalar.indexCast c0_i32_520
  let c1_i32_521 : BitVec 32 := 1#32
  let v945 : Index := Scalar.indexCast c1_i32_521
  let c112_522 : Index := 112#32
  ![v943.toNat, 0, 1, 112]

def k0_chk323 (v950 : IVec S16 32) : Prop :=
  (∀ a x, ((![v950] : Fin 1 → IVec S16 32) a x).toNat < S64.size a)
theorem k0_idx325_inb : ∀ (v950 : IVec S16 32) (k0_hw323 : k0_chk323 v950), ∀ a x, ((![v950] : Fin 1 → IVec S16 32) a x).toNat < S64.size a := fun v950 k0_hw323 => k0_hw323
def k0_off268 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v952 : Index := Scalar.indexCast arg27
  let c0_i32_525 : BitVec 32 := 0#32
  let v953 : Index := Scalar.indexCast c0_i32_525
  let c2_i32_526 : BitVec 32 := 2#32
  let v954 : Index := Scalar.indexCast c2_i32_526
  let c112_527 : Index := 112#32
  ![v952.toNat, 0, 2, 112]

def k0_chk324 (v959 : IVec S16 32) : Prop :=
  (∀ a x, ((![v959] : Fin 1 → IVec S16 32) a x).toNat < S64.size a)
theorem k0_idx326_inb : ∀ (v959 : IVec S16 32) (k0_hw324 : k0_chk324 v959), ∀ a x, ((![v959] : Fin 1 → IVec S16 32) a x).toNat < S64.size a := fun v959 k0_hw324 => k0_hw324
def k0_off269 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v961 : Index := Scalar.indexCast arg27
  let c0_i32_530 : BitVec 32 := 0#32
  let v962 : Index := Scalar.indexCast c0_i32_530
  let c3_i32_531 : BitVec 32 := 3#32
  let v963 : Index := Scalar.indexCast c3_i32_531
  let c112_532 : Index := 112#32
  ![v961.toNat, 0, 3, 112]

def k0_chk325 (v968 : IVec S16 32) : Prop :=
  (∀ a x, ((![v968] : Fin 1 → IVec S16 32) a x).toNat < S64.size a)
theorem k0_idx327_inb : ∀ (v968 : IVec S16 32) (k0_hw325 : k0_chk325 v968), ∀ a x, ((![v968] : Fin 1 → IVec S16 32) a x).toNat < S64.size a := fun v968 k0_hw325 => k0_hw325
def k0_off270 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v970 : Index := Scalar.indexCast arg27
  let c0_i32_535 : BitVec 32 := 0#32
  let v971 : Index := Scalar.indexCast c0_i32_535
  let c4_i32_536 : BitVec 32 := 4#32
  let v972 : Index := Scalar.indexCast c4_i32_536
  let c112_537 : Index := 112#32
  ![v970.toNat, 0, 4, 112]

def k0_chk326 (v977 : IVec S16 32) : Prop :=
  (∀ a x, ((![v977] : Fin 1 → IVec S16 32) a x).toNat < S64.size a)
theorem k0_idx328_inb : ∀ (v977 : IVec S16 32) (k0_hw326 : k0_chk326 v977), ∀ a x, ((![v977] : Fin 1 → IVec S16 32) a x).toNat < S64.size a := fun v977 k0_hw326 => k0_hw326
def k0_off271 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v979 : Index := Scalar.indexCast arg27
  let c0_i32_540 : BitVec 32 := 0#32
  let v980 : Index := Scalar.indexCast c0_i32_540
  let c5_i32_541 : BitVec 32 := 5#32
  let v981 : Index := Scalar.indexCast c5_i32_541
  let c112_542 : Index := 112#32
  ![v979.toNat, 0, 5, 112]

def k0_chk327 (v986 : IVec S16 32) : Prop :=
  (∀ a x, ((![v986] : Fin 1 → IVec S16 32) a x).toNat < S64.size a)
theorem k0_idx329_inb : ∀ (v986 : IVec S16 32) (k0_hw327 : k0_chk327 v986), ∀ a x, ((![v986] : Fin 1 → IVec S16 32) a x).toNat < S64.size a := fun v986 k0_hw327 => k0_hw327
def k0_off272 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v988 : Index := Scalar.indexCast arg27
  let c0_i32_545 : BitVec 32 := 0#32
  let v989 : Index := Scalar.indexCast c0_i32_545
  let c6_i32_546 : BitVec 32 := 6#32
  let v990 : Index := Scalar.indexCast c6_i32_546
  let c112_547 : Index := 112#32
  ![v988.toNat, 0, 6, 112]

def k0_chk328 (v995 : IVec S16 32) : Prop :=
  (∀ a x, ((![v995] : Fin 1 → IVec S16 32) a x).toNat < S64.size a)
theorem k0_idx330_inb : ∀ (v995 : IVec S16 32) (k0_hw328 : k0_chk328 v995), ∀ a x, ((![v995] : Fin 1 → IVec S16 32) a x).toNat < S64.size a := fun v995 k0_hw328 => k0_hw328
def k0_off273 (k0_t9 : Fin k0_t9_loop.trips) : Fin 4 → Nat :=
  let c0_i32_209 : BitVec 32 := 0#32
  let c1_i32_211 : BitVec 32 := 1#32
  let arg27 : BitVec 32 := Scf.iv c0_i32_209 c1_i32_211 k0_t9
  let v997 : Index := Scalar.indexCast arg27
  let c0_i32_550 : BitVec 32 := 0#32
  let v998 : Index := Scalar.indexCast c0_i32_550
  let c7_i32_551 : BitVec 32 := 7#32
  let v999 : Index := Scalar.indexCast c7_i32_551
  let c112_552 : Index := 112#32
  ![v997.toNat, 0, 7, 112]
def k0_off274 (i : grid0.Coords) (k0_t3 : Fin k0_t3_loop.trips) (k0_t7 : Fin k0_t7_loop.trips) : Fin 4 → Nat :=
  let c2_i32_201 : BitVec 32 := 2#32
  let c0_i32_184 : BitVec 32 := 0#32
  let c1_i32_186 : BitVec 32 := 1#32
  let arg25 : BitVec 32 := Scf.iv c0_i32_184 c1_i32_186 k0_t7
  let v354 : BitVec 32 := Scalar.muli c2_i32_201 arg25
  let c1_i32_202 : BitVec 32 := 1#32
  let v355 : BitVec 32 := Scalar.addi v354 c1_i32_202
  let c20_i32_203 : BitVec 32 := 20#32
  let v356 : BitVec 32 := Scalar.muli v355 c20_i32_203
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32_204 : BitVec 32 := 4#32
  let v357 : BitVec 32 := Scalar.muli v1 c4_i32_204
  let c2_i32_164 : BitVec 32 := 2#32
  let c0_i32_143 : BitVec 32 := 0#32
  let c1_i32_145 : BitVec 32 := 1#32
  let arg23 : BitVec 32 := Scf.iv c0_i32_143 c1_i32_145 k0_t3
  let v327 : BitVec 32 := Scalar.muli c2_i32_164 arg23
  let c1_i32_165 : BitVec 32 := 1#32
  let v328 : BitVec 32 := Scalar.addi v327 c1_i32_165
  let v358 : BitVec 32 := Scalar.addi v357 v328
  let c0_i32_213 : BitVec 32 := 0#32
  let c0_i32_214 : BitVec 32 := 0#32
  ![v356.toNat, v358.toNat, 0, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384x200 : Shape := ⟨2, ![16384, 200]⟩
abbrev S16384 : Shape := ⟨1, ![16384]⟩
abbrev S8x8 : Shape := ⟨2, ![8, 8]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x200x1 : Shape := ⟨3, ![16384, 200, 1]⟩
abbrev S1x1x1 : Shape := ⟨3, ![1, 1, 1]⟩
abbrev S16384x200x8 : Shape := ⟨3, ![16384, 200, 8]⟩

abbrev nBuf : Space → Nat
  | .hbm => 78
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384, .i32⟩
  | .hbm, ⟨2, _⟩ => ⟨S8x8, .f32⟩
  | .hbm, ⟨3, _⟩ => ⟨S16384, .i32⟩
  | .hbm, ⟨4, _⟩ => ⟨S16384, .i32⟩
  | .hbm, ⟨5, _⟩ => ⟨S16384, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i32⟩
  | .hbm, ⟨16, _⟩ => ⟨S16384, .i32⟩
  | .hbm, ⟨17, _⟩ => ⟨S16384x1, .i32⟩
  | .hbm, ⟨18, _⟩ => ⟨S1, .i32⟩
  | .hbm, ⟨19, _⟩ => ⟨S_, .i32⟩
  | .hbm, ⟨20, _⟩ => ⟨S16384x1, .i32⟩
  | .hbm, ⟨21, _⟩ => ⟨S16384x1, .i1⟩
  | .hbm, ⟨22, _⟩ => ⟨S1x1, .i32⟩
  | .hbm, ⟨23, _⟩ => ⟨S16384x1, .i32⟩
  | .hbm, ⟨24, _⟩ => ⟨S16384x1, .i1⟩
  | .hbm, ⟨25, _⟩ => ⟨S16384x1, .i1⟩
  | .hbm, ⟨26, _⟩ => ⟨S_, .i1⟩
  | .hbm, ⟨27, _⟩ => ⟨S16384, .i1⟩
  | .hbm, ⟨28, _⟩ => ⟨S16384x200, .i32⟩
  | .hbm, ⟨29, _⟩ => ⟨S16384x200, .i1⟩
  | .hbm, ⟨30, _⟩ => ⟨S_, .i32⟩
  | .hbm, ⟨31, _⟩ => ⟨S16384x200, .i32⟩
  | .hbm, ⟨32, _⟩ => ⟨S16384x200, .i32⟩
  | .hbm, ⟨33, _⟩ => ⟨S_, .i32⟩
  | .hbm, ⟨34, _⟩ => ⟨S16384, .i32⟩
  | .hbm, ⟨35, _⟩ => ⟨S16384, .i1⟩
  | .hbm, ⟨36, _⟩ => ⟨S_, .i32⟩
  | .hbm, ⟨37, _⟩ => ⟨S16384, .i32⟩
  | .hbm, ⟨38, _⟩ => ⟨S16384, .i32⟩
  | .hbm, ⟨39, _⟩ => ⟨S16384, .i32⟩
  | .hbm, ⟨40, _⟩ => ⟨S16384x1, .i32⟩
  | .hbm, ⟨41, _⟩ => ⟨S1, .i32⟩
  | .hbm, ⟨42, _⟩ => ⟨S_, .i32⟩
  | .hbm, ⟨43, _⟩ => ⟨S16384x1, .i32⟩
  | .hbm, ⟨44, _⟩ => ⟨S16384x1, .i1⟩
  | .hbm, ⟨45, _⟩ => ⟨S1x1, .i32⟩
  | .hbm, ⟨46, _⟩ => ⟨S16384x1, .i32⟩
  | .hbm, ⟨47, _⟩ => ⟨S16384x1, .i1⟩
  | .hbm, ⟨48, _⟩ => ⟨S16384x1, .i1⟩
  | .hbm, ⟨49, _⟩ => ⟨S_, .i1⟩
  | .hbm, ⟨50, _⟩ => ⟨S16384, .i1⟩
  | .hbm, ⟨51, _⟩ => ⟨S16384, .i32⟩
  | .hbm, ⟨52, _⟩ => ⟨S_, .i32⟩
  | .hbm, ⟨53, _⟩ => ⟨S16384, .i32⟩
  | .hbm, ⟨54, _⟩ => ⟨S16384, .i32⟩
  | .hbm, ⟨55, _⟩ => ⟨S_, .i32⟩
  | .hbm, ⟨56, _⟩ => ⟨S16384x200, .i32⟩
  | .hbm, ⟨57, _⟩ => ⟨S16384x200, .i1⟩
  | .hbm, ⟨58, _⟩ => ⟨S_, .i32⟩
  | .hbm, ⟨59, _⟩ => ⟨S16384x200, .i32⟩
  | .hbm, ⟨60, _⟩ => ⟨S16384x200, .i32⟩
  | .hbm, ⟨61, _⟩ => ⟨S16384x200, .i32⟩
  | .hbm, ⟨62, _⟩ => ⟨S16384x200x1, .i32⟩
  | .hbm, ⟨63, _⟩ => ⟨S1, .i32⟩
  | .hbm, ⟨64, _⟩ => ⟨S_, .i32⟩
  | .hbm, ⟨65, _⟩ => ⟨S16384x200x1, .i32⟩
  | .hbm, ⟨66, _⟩ => ⟨S16384x200x1, .i1⟩
  | .hbm, ⟨67, _⟩ => ⟨S1x1x1, .i32⟩
  | .hbm, ⟨68, _⟩ => ⟨S16384x200x1, .i32⟩
  | .hbm, ⟨69, _⟩ => ⟨S16384x200x1, .i1⟩
  | .hbm, ⟨70, _⟩ => ⟨S16384x200x1, .i1⟩
  | .hbm, ⟨71, _⟩ => ⟨S_, .i1⟩
  | .hbm, ⟨72, _⟩ => ⟨S16384x200, .i1⟩
  | .hbm, ⟨73, _⟩ => ⟨S16384x200x8, .f32⟩
  | .hbm, ⟨74, _⟩ => ⟨S16384x200x8, .i1⟩
  | .hbm, ⟨75, _⟩ => ⟨S_, .f32⟩
  | .hbm, ⟨76, _⟩ => ⟨S16384x200x8, .f32⟩
  | .hbm, ⟨77, _⟩ => ⟨S16384x200x8, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1_0 : Ref sig .tc := ⟨.hbm, 5, rfl⟩
abbrev main_v1 : Ref sig .tc := ⟨.hbm, 6, rfl⟩
abbrev main_call1_v0 : Ref sig .tc := ⟨.hbm, 7, rfl⟩
abbrev main_call1_v1_0 : Ref sig .tc := ⟨.hbm, 8, rfl⟩
abbrev main_v2 : Ref sig .tc := ⟨.hbm, 9, rfl⟩
abbrev main_call2_c : Ref sig .tc := ⟨.hbm, 10, rfl⟩
abbrev main_call2_v0 : Ref sig .tc := ⟨.hbm, 11, rfl⟩
abbrev main_call2_v1 : Ref sig .tc := ⟨.hbm, 12, rfl⟩
abbrev main_call2_c_0 : Ref sig .tc := ⟨.hbm, 13, rfl⟩
abbrev main_call2_v2 : Ref sig .tc := ⟨.hbm, 14, rfl⟩
abbrev main_call2_v3 : Ref sig .tc := ⟨.hbm, 15, rfl⟩
abbrev main_call2_v4 : Ref sig .tc := ⟨.hbm, 16, rfl⟩
abbrev main_call2_v5 : Ref sig .tc := ⟨.hbm, 17, rfl⟩
abbrev main_call2_c_1 : Ref sig .tc := ⟨.hbm, 18, rfl⟩
abbrev main_call2_c_2 : Ref sig .tc := ⟨.hbm, 19, rfl⟩
abbrev main_call2_v6 : Ref sig .tc := ⟨.hbm, 20, rfl⟩
abbrev main_call2_v7 : Ref sig .tc := ⟨.hbm, 21, rfl⟩
abbrev main_call2_v8 : Ref sig .tc := ⟨.hbm, 22, rfl⟩
abbrev main_call2_v9 : Ref sig .tc := ⟨.hbm, 23, rfl⟩
abbrev main_call2_v10 : Ref sig .tc := ⟨.hbm, 24, rfl⟩
abbrev main_call2_v11 : Ref sig .tc := ⟨.hbm, 25, rfl⟩
abbrev main_call2_c_3 : Ref sig .tc := ⟨.hbm, 26, rfl⟩
abbrev main_call2_v12 : Ref sig .tc := ⟨.hbm, 27, rfl⟩
abbrev main_call2_v13 : Ref sig .tc := ⟨.hbm, 28, rfl⟩
abbrev main_call2_v14 : Ref sig .tc := ⟨.hbm, 29, rfl⟩
abbrev main_call2_c_4 : Ref sig .tc := ⟨.hbm, 30, rfl⟩
abbrev main_call2_v15 : Ref sig .tc := ⟨.hbm, 31, rfl⟩
abbrev main_v3 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_c_4 : Ref sig .tc := ⟨.hbm, 52, rfl⟩
abbrev main_call3_v14 : Ref sig .tc := ⟨.hbm, 53, rfl⟩
abbrev main_v4 : Ref sig .tc := ⟨.hbm, 54, rfl⟩
abbrev main_call4_c : Ref sig .tc := ⟨.hbm, 55, rfl⟩
abbrev main_call4_v0 : Ref sig .tc := ⟨.hbm, 56, rfl⟩
abbrev main_call4_v1 : Ref sig .tc := ⟨.hbm, 57, rfl⟩
abbrev main_call4_c_0 : Ref sig .tc := ⟨.hbm, 58, rfl⟩
abbrev main_call4_v2 : Ref sig .tc := ⟨.hbm, 59, rfl⟩
abbrev main_call4_v3 : Ref sig .tc := ⟨.hbm, 60, rfl⟩
abbrev main_call4_v4 : Ref sig .tc := ⟨.hbm, 61, rfl⟩
abbrev main_call4_v5 : Ref sig .tc := ⟨.hbm, 62, rfl⟩
abbrev main_call4_c_1 : Ref sig .tc := ⟨.hbm, 63, rfl⟩
abbrev main_call4_c_2 : Ref sig .tc := ⟨.hbm, 64, rfl⟩
abbrev main_call4_v6 : Ref sig .tc := ⟨.hbm, 65, rfl⟩
abbrev main_call4_v7 : Ref sig .tc := ⟨.hbm, 66, rfl⟩
abbrev main_call4_v8 : Ref sig .tc := ⟨.hbm, 67, rfl⟩
abbrev main_call4_v9 : Ref sig .tc := ⟨.hbm, 68, rfl⟩
abbrev main_call4_v10 : Ref sig .tc := ⟨.hbm, 69, rfl⟩
abbrev main_call4_v11 : Ref sig .tc := ⟨.hbm, 70, rfl⟩
abbrev main_call4_c_3 : Ref sig .tc := ⟨.hbm, 71, rfl⟩
abbrev main_call4_v12 : Ref sig .tc := ⟨.hbm, 72, rfl⟩
abbrev main_call4_v13 : Ref sig .tc := ⟨.hbm, 73, rfl⟩
abbrev main_call4_v14 : Ref sig .tc := ⟨.hbm, 74, rfl⟩
abbrev main_call4_cst : Ref sig .tc := ⟨.hbm, 75, rfl⟩
abbrev main_call4_v15 : Ref sig .tc := ⟨.hbm, 76, rfl⟩
abbrev main_v5 : Ref sig .tc := ⟨.hbm, 77, rfl⟩

abbrev nD : Nat := 1
abbrev τ : Topo := Topo.v7x

variable {F : FTy → Type} [FloatOps F]
-- ==== Proof.Trip.lean ====
/- One expand trip, restated: the eight row gathers and the sixty-four table cells. -/
module

public import proofs.«01_k».proof.Proof.Gen.KernelIdeal

@[expose] public section

noncomputable section

namespace Cert.KernelIdeal.Own

open Idealize.ShloMosaic Idealize.SL.Sem
open Cert.KernelIdeal Cert.KernelIdeal.Gen

variable {F : FTy → Type} [FloatOps F]

/-- The effects of a vector subcore's program. -/
abbrev Eff (F : FTy → Type) (i : grid0.Coords) : Type → Type :=
  TpuEff nD τ sig (Elt F) Λ₀ (.scVector ((i 0).castLE hcore0) ((i 1).castLE hsub0))

/-- Sixteen words of column `tv` of the staged rows, those of rows `16 g …`. -/
def gatherWords (i : grid0.Coords) (xb : Memref sig .scVector .vmem S128x2x128 .i32) (v2 : IVec S16 32) (tv : IVec S16 32)
    (r : BitVec 32) : Prog (Eff F i) (Vec F S16 .i32) := do
  have h := (← Prog.lift (TpuEff.assume (k0_chk41 (addi (broadcast S16 r) v2) (shrsi tv (broadcast S16 7#32)) (andi tv (broadcast S16 127#32)))
    (k0_chk41.dec _ _ _))).down
  SparseCore.vectorLoadIdx xb ![addi (broadcast S16 r) v2, shrsi tv (broadcast S16 7#32), andi tv (broadcast S16 127#32)]
    (k0_idx43_inb _ _ _ h) (View.loads_vmem h_S128x2x128)

/-- Sixteen table entries of component `d` stored at one offset of the out block. -/
def putCell (i : grid0.Coords) (tb : Memref sig .scVector .vmem S64 .f32) (ob : Memref sig .scVector .vmem S20x1x8x128 .f32)
    (w : IVec S16 32) (d : BitVec 32) (off : Fin 4 → Nat) (inb : ∀ a, off a + S1x1x1x16.size a ≤ S20x1x8x128.size a) :
    Prog (Eff F i) PUnit := do
  have h := (← Prog.lift (TpuEff.assume (k0_chk49 (addi (muli w (broadcast S16 8#32)) (broadcast S16 d))) (k0_chk49.dec _))).down
  let v : Vec F S16 .f32 ← SparseCore.vectorLoadIdx tb ![addi (muli w (broadcast S16 8#32)) (broadcast S16 d)] (k0_idx51_inb _ h) (View.loads_vmem h_S64)
  let _u : Vec F S1x1x1x16 .f32 ← Prog.lift (.load ob (Rect.unit (s := S20x1x8x128) off S1x1x1x16.size inb).toLoadRect (View.loadsAt_vmem h_S1x1x1x16))
  Prog.lift (.store ob (Rect.unit (s := S20x1x8x128) off S1x1x1x16.size inb) (shapeCast S1x1x1x16 v shapeCasts_S16_S1x1x1x16) Finset.univ (View.stores_vmem_bits_univ h_S1x1x1x16 rfl) (.inl rfl))

/-- Where trip `r` keeps component `d` of lanes `c …` in the out block. -/
def cellOff (r : BitVec 32) (d c : Nat) : Fin 4 → Nat := ![(Scalar.indexCast r).toNat, 0, d, c]

theorem cellOff_inb (r : BitVec 32) (hr : (Scalar.indexCast r).toNat < 20) (d : Fin 8) (g : Fin 8) :
    ∀ a, cellOff r d.val (16 * g.val) a + S1x1x1x16.size a ≤ S20x1x8x128.size a := by
  have hd := d.isLt
  have hg := g.isLt
  intro a
  fin_cases a <;> simp [cellOff, S1x1x1x16, S20x1x8x128] <;> omega

/-- The eight components of sixteen words. -/
def putRow (i : grid0.Coords) (tb : Memref sig .scVector .vmem S64 .f32) (ob : Memref sig .scVector .vmem S20x1x8x128 .f32)
    (r : BitVec 32) (hr : (Scalar.indexCast r).toNat < 20) (w : IVec S16 32) (g : Fin 8) : Prog (Eff F i) PUnit := do
  putCell i tb ob w 0#32 (cellOff r 0 (16 * g.val)) (cellOff_inb r hr 0 g)
  putCell i tb ob w 1#32 (cellOff r 1 (16 * g.val)) (cellOff_inb r hr 1 g)
  putCell i tb ob w 2#32 (cellOff r 2 (16 * g.val)) (cellOff_inb r hr 2 g)
  putCell i tb ob w 3#32 (cellOff r 3 (16 * g.val)) (cellOff_inb r hr 3 g)
  putCell i tb ob w 4#32 (cellOff r 4 (16 * g.val)) (cellOff_inb r hr 4 g)
  putCell i tb ob w 5#32 (cellOff r 5 (16 * g.val)) (cellOff_inb r hr 5 g)
  putCell i tb ob w 6#32 (cellOff r 6 (16 * g.val)) (cellOff_inb r hr 6 g)
  putCell i tb ob w 7#32 (cellOff r 7 (16 * g.val)) (cellOff_inb r hr 7 g)

/-- One trip of an expand loop: column `tv` of the 128 staged rows, looked up in the table. -/
def trip (i : grid0.Coords) (xb : Memref sig .scVector .vmem S128x2x128 .i32) (tb : Memref sig .scVector .vmem S64 .f32)
    (ob : Memref sig .scVector .vmem S20x1x8x128 .f32) (v2 : IVec S16 32) (r : BitVec 32) (hr : (Scalar.indexCast r).toNat < 20) (t : BitVec 32) : Prog (Eff F i) PUnit := do
  let w0 ← gatherWords i xb v2 (broadcast S16 t) 0#32
  let w1 ← gatherWords i xb v2 (broadcast S16 t) 16#32
  let w2 ← gatherWords i xb v2 (broadcast S16 t) 32#32
  let w3 ← gatherWords i xb v2 (broadcast S16 t) 48#32
  let w4 ← gatherWords i xb v2 (broadcast S16 t) 64#32
  let w5 ← gatherWords i xb v2 (broadcast S16 t) 80#32
  let w6 ← gatherWords i xb v2 (broadcast S16 t) 96#32
  let w7 ← gatherWords i xb v2 (broadcast S16 t) 112#32
  putRow i tb ob r hr w0 0
  putRow i tb ob r hr w1 1
  putRow i tb ob r hr w2 2
  putRow i tb ob r hr w3 3
  putRow i tb ob r hr w4 4
  putRow i tb ob r hr w5 5
  putRow i tb ob r hr w6 6
  putRow i tb ob r hr w7 7

end Cert.KernelIdeal.Own
-- ==== Proof.Body.lean ====
/- The tile's program restated: each phase as a loop over its blocks, and the printed body equal to it. -/
module

public import proofs.«01_k».proof.Proof.Trip

@[expose] public section

noncomputable section

namespace Cert.KernelIdeal.Own

open Idealize.ShloMosaic Idealize.SL.Sem
open Cert.KernelIdeal Cert.KernelIdeal.Gen

variable {F : FTy → Type} [FloatOps F]

/-! ## The operands -/

abbrev mX : Memref sig .scVector .hbm S16384x2x128 .i32 := Memref.whole main_v1_scv
abbrev mLen : Memref sig .scVector .hbm S16384 .i32 := Memref.whole main_arg1_scv
abbrev mTab : Memref sig .scVector .hbm S64 .f32 := Memref.whole main_v2_scv
abbrev mOut : Memref sig .scVector .hbm S200x128x8x128 .f32 := Memref.whole main_v3_0_scv
abbrev mSl : Memref sig .scVector .hbm S16384 .i32 := Memref.whole main_v3_1_scv
abbrev mRk : Memref sig .scVector .hbm S16384 .i32 := Memref.whole main_v3_2_scv
abbrev vLen : Memref sig .scVector .vmem S16384 .i32 := Memref.whole cc0_scratch0
abbrev vPos : Memref sig .scVector .vmem S256 .i32 := Memref.whole cc0_scratch1
abbrev vIdx : Memref sig .scVector .vmem S512 .i32 := Memref.whole cc0_scratch2
abbrev vRk : Memref sig .scVector .vmem S512 .i32 := Memref.whole cc0_scratch3
abbrev vSl : Memref sig .scVector .vmem S512 .i32 := Memref.whole cc0_scratch4
abbrev vTab : Memref sig .scVector .vmem S64 .f32 := Memref.whole cc0_scratch5
abbrev vX0 : Memref sig .scVector .vmem S128x2x128 .i32 := Memref.whole cc0_scratch6
abbrev vX1 : Memref sig .scVector .vmem S128x2x128 .i32 := Memref.whole cc0_scratch7
abbrev vO0 : Memref sig .scVector .vmem S20x1x8x128 .f32 := Memref.whole cc0_scratch8
abbrev vO1 : Memref sig .scVector .vmem S20x1x8x128 .f32 := Memref.whole cc0_scratch9

/-- The lanes' numbers. -/
abbrev lanes : IVec S16 32 := iota .scVector S16 32 [0] iota_S16_d0_w32_scVector
/-- The worker's number, `2 * subcore + core`. -/
abbrev wid (i : grid0.Coords) : BitVec 32 := Scalar.addi (Scalar.muli (BitVec.ofNat 32 (i 1).val) 2#32) (BitVec.ofNat 32 (i 0).val)
theorem blk_inb (b : Fin 16) : ∀ a, (![16 * b.val] : Fin 1 → Nat) a + S16.size a ≤ S256.size a := by
  have hb := b.isLt
  intro a
  fin_cases a
  simp [S16, S256]
  omega

theorem sblk_inb (b : Fin 32) : ∀ a, (![16 * b.val] : Fin 1 → Nat) a + S16.size a ≤ S512.size a := by
  have hb := b.isLt
  intro a
  fin_cases a
  simp [S16, S512]
  omega

/-! ## Phase A: the histogram -/

/-- Block `b` of the histogram zeroed. -/
def zeroBlk (i : grid0.Coords) (b : Fin 16) : Prog (Eff F i) PUnit := do
  let _u : Vec F S16 .i32 ← Prog.lift (.load vPos (Rect.unit (s := S256) ![16 * b.val] S16.size (blk_inb b)).toLoadRect (View.loadsAt_vmem h_S16))
  Prog.lift (.store vPos (Rect.unit (s := S256) ![16 * b.val] S16.size (blk_inb b)) (broadcast S16 0#32) Finset.univ (View.stores_vmem_bits_univ h_S16 rfl) (.inl rfl))

/-- Sixteen lengths counted into the histogram. -/
def histUnit (i : grid0.Coords) (off : Fin 1 → Nat) (inb : ∀ a, off a + S16.size a ≤ S16384.size a) : Prog (Eff F i) PUnit := do
  let v : Vec F S16 .i32 ← Prog.lift (.load vLen (Rect.unit (s := S16384) off S16.size inb).toLoadRect (View.loadsAt_vmem h_S16))
  have h : k0_chk1 v := (← Prog.lift (TpuEff.assume (k0_chk1 v) (k0_chk1.dec v))).down
  SparseCore.vectorStoreIdx vPos ![v] (scanCount (broadcast S16 1#1) v).2 (scanCount (broadcast S16 1#1) v).1 true (k0_idx1_inb v h) (View.stores_vmem_bits_univ h_S256 rfl)

/-- Sixty-four lengths counted. -/
def histTrip (i : grid0.Coords) (k : Fin k0_t1_loop.trips) : Prog (Eff F i) PUnit := do
  histUnit i (k0_off1 k) (k0_off1_inb k)
  histUnit i (k0_off2 k) (k0_off2_inb k)
  histUnit i (k0_off3 k) (k0_off3_inb k)
  histUnit i (k0_off4 k) (k0_off4_inb k)

/-- The lengths and the table copied in. -/
def phaseA0 (i : grid0.Coords) : Prog (Eff F i) PUnit := do
  Prog.lift (.enqueueDma mLen (.here vLen) (.dma cc0_scoped0.sem) (Memref.isWhole_whole _).wordExact (Memref.isWhole_whole _).wordExact ⟨Or.inl rfl, trivial⟩)
  Prog.lift (.waitDma2 cc0_scoped0.sem mLen vLen (Memref.isWhole_whole _).wordExact (Memref.isWhole_whole _).wordExact)
  Prog.lift (.enqueueDma mTab (.here vTab) (.dma cc0_scoped1.sem) (Memref.isWhole_whole _).wordExact (Memref.isWhole_whole _).wordExact ⟨Or.inl rfl, trivial⟩)
  Prog.lift (.waitDma2 cc0_scoped1.sem mTab vTab (Memref.isWhole_whole _).wordExact (Memref.isWhole_whole _).wordExact)

/-- And the histogram zeroed. -/
def phaseA (i : grid0.Coords) : Prog (Eff F i) PUnit := phaseA0 i >>= fun _ => Scf.forFrom (fun b (_ : PUnit) => zeroBlk i b) (List.finRange 16) ⟨⟩

/-- All the lengths counted. -/
def histLoop (i : grid0.Coords) : Prog (Eff F i) (BitVec 32) :=
  Scf.Loop.for k0_t1_loop k0_t1_ok 0#32 fun k _ => do
    histTrip i k
    pure 0#32

/-! ## Phase B: where each value's run begins -/

/-- Block `15 - k`: its total, and what replaces its counts. -/
def sufHead (i : grid0.Coords) (k : Fin 16) (carry : BitVec 32) : Prog (Eff F i) (Σ' (_ : BitVec 32), IVec S16 32) := do
  let v : Vec F S16 .i32 ← Prog.lift (.load vPos (Rect.unit (s := S256) ![16 * k.rev.val] S16.size (blk_inb k.rev)).toLoadRect (View.loadsAt_vmem h_S16))
  let _u : Vec F S16 .i32 ← Prog.lift (.load vPos (Rect.unit (s := S256) ![16 * k.rev.val] S16.size (blk_inb k.rev)).toLoadRect (View.loadsAt_vmem h_S16))
  pure ⟨extractAt ![15] (scan .sum v) inpos_S16_p15, subi (broadcast S16 (Scalar.addi carry (extractAt ![15] (scan .sum v) inpos_S16_p15))) (scan .sum v)⟩

/-- Block `15 - k`: each count replaced by the run's beginning, from the carry of the blocks above. -/
def sufBlk (i : grid0.Coords) (k : Fin 16) (carry : BitVec 32) : Prog (Eff F i) (BitVec 32) := do
  let x ← sufHead i k carry
  Prog.lift (.store vPos (Rect.unit (s := S256) ![16 * k.rev.val] S16.size (blk_inb k.rev)) x.2 Finset.univ (View.stores_vmem_bits_univ h_S16 rfl) (.inl rfl))
  pure (Scalar.addi carry x.1)

/-- The beginnings of the runs. -/
def phaseB (i : grid0.Coords) : Prog (Eff F i) PUnit := do
  let _c ← Scf.forFrom (sufBlk (F := F) i) (List.finRange 16) 0#32
  pure ⟨⟩

/-! ## Phase C: the ranks, and the worker's part of the order scattered from them -/

/-- Which of sixteen ranks are the worker's, and where in its part of the order. -/
abbrev mineOf (i : grid0.Coords) (r : IVec S16 32) : IVec S16 1 :=
  andi (cmpi .sge (subi r (broadcast S16 (Scalar.muli (wid i) 512#32))) (broadcast S16 0#32)) (cmpi .slt (subi r (broadcast S16 (Scalar.muli (wid i) 512#32))) (broadcast S16 512#32))
abbrev slotOf (i : grid0.Coords) (r : IVec S16 32) : IVec S16 32 :=
  select (mineOf i r) (subi r (broadcast S16 (Scalar.muli (wid i) 512#32))) (broadcast S16 0#32)

/-- What is done with sixteen lengths `v`, the entries from `16 e` on: their ranks taken from the table and the table
    moved on; the ranks kept if the entries are the worker's; the entries whose ranks are the worker's put in order. Then `κ`. -/
def rankOfK {α : Type} (i : grid0.Coords) (e : BitVec 32) (c : BitVec 1) (o : Fin 1 → Nat) (oinb : c = 1#1 → ∀ a, o a + S16.size a ≤ S512.size a)
    (v : IVec S16 32) (κ : Prog (Eff F i) α) : Prog (Eff F i) α := do
  have h : k0_chk5 v := (← Prog.lift (TpuEff.assume (k0_chk5 v) (k0_chk5.dec v))).down
  let p : Vec F S16 .i32 ← SparseCore.vectorLoadIdx vPos ![v] (k0_idx5_inb v h) (View.loads_vmem h_S256)
  SparseCore.vectorStoreIdx vPos ![v] (addi p (scanCount (broadcast S16 1#1) v).2) (scanCount (broadcast S16 1#1) v).1 false (k0_idx6_inb v h) (View.stores_vmem_bits_univ h_S256 rfl)
  if hc : c = 1#1 then do
    let _u : Vec F S16 .i32 ← Prog.lift (.load vRk (Rect.unit (s := S512) o S16.size (oinb hc)).toLoadRect (View.loadsAt_vmem h_S16))
    Prog.lift (.store vRk (Rect.unit (s := S512) o S16.size (oinb hc)) (subi (addi p (scanCount (broadcast S16 1#1) v).2) (broadcast S16 1#32)) Finset.univ (View.stores_vmem_bits_univ h_S16 rfl) (.inl rfl))
    pure ⟨⟩
  else do
    pure ⟨⟩
  have h2 : k0_chk6 (slotOf i (subi (addi p (scanCount (broadcast S16 1#1) v).2) (broadcast S16 1#32))) :=
    (← Prog.lift (TpuEff.assume (k0_chk6 (slotOf i (subi (addi p (scanCount (broadcast S16 1#1) v).2) (broadcast S16 1#32)))) (k0_chk6.dec _))).down
  SparseCore.vectorStoreIdx vIdx ![slotOf i (subi (addi p (scanCount (broadcast S16 1#1) v).2) (broadcast S16 1#32))]
    (addi (broadcast S16 (Scalar.muli e 16#32)) lanes) (mineOf i (subi (addi p (scanCount (broadcast S16 1#1) v).2) (broadcast S16 1#32))) false
    (k0_idx7_inb _ h2) (View.stores_vmem_bits_univ h_S512 rfl)
  κ

def rankOf (i : grid0.Coords) (e : BitVec 32) (c : BitVec 1) (o : Fin 1 → Nat) (oinb : c = 1#1 → ∀ a, o a + S16.size a ≤ S512.size a)
    (v : IVec S16 32) : Prog (Eff F i) PUnit := rankOfK i e c o oinb v (pure ⟨⟩)

theorem rankOfK_eq {α : Type} (i : grid0.Coords) (e : BitVec 32) (c : BitVec 1) (o : Fin 1 → Nat) (oinb : c = 1#1 → ∀ a, o a + S16.size a ≤ S512.size a)
    (v : IVec S16 32) (κ : Prog (Eff F i) α) : rankOfK i e c o oinb v κ = (rankOf i e c o oinb v >>= fun _ => κ) := by
  by_cases hc : c = 1#1
  · simp only [rankOf, rankOfK, bind_assoc, pure_bind, dif_pos hc]
  · simp only [rankOf, rankOfK, bind_assoc, pure_bind, dif_neg hc]

/-- Sixteen lengths loaded. -/
abbrev lenLd (i : grid0.Coords) (off : Fin 1 → Nat) (inb : ∀ a, off a + S16.size a ≤ S16384.size a) : Prog (Eff F i) (Vec F S16 .i32) :=
  Prog.lift (.load vLen (Rect.unit (s := S16384) off S16.size inb).toLoadRect (View.loadsAt_vmem h_S16))

/-- Thirty-two ranks. -/
def rankTrip (i : grid0.Coords) (k : Fin k0_t2_loop.trips) : Prog (Eff F i) PUnit := do
  let v ← lenLd i (k0_off5 k) (k0_off5_inb k)
  rankOf i (Scalar.addi (Scalar.muli (Scf.iv 0#32 1#32 k.val) 2#32) 0#32) (k0_cond1 i k) (k0_off6 i k) (k0_off6_inb i k) v
  let w ← lenLd i (k0_off7 k) (k0_off7_inb k)
  rankOf i (Scalar.addi (Scalar.muli (Scf.iv 0#32 1#32 k.val) 2#32) 1#32) (k0_cond2 i k) (k0_off8 i k) (k0_off8_inb i k) w

/-- All the ranks. -/
def rankLoop (i : grid0.Coords) : Prog (Eff F i) (BitVec 32) :=
  Scf.Loop.for k0_t2_loop k0_t2_ok 0#32 fun k _ => do
    rankTrip i k
    pure 0#32

/-- The same, as printed. -/
def rankLoopK (i : grid0.Coords) : Prog (Eff F i) (BitVec 32) :=
  Scf.Loop.for k0_t2_loop k0_t2_ok 0#32 fun k _ => do
    let x ← (lenLd i (k0_off5 k) (k0_off5_inb k) >>= fun v =>
      rankOfK i (Scalar.addi (Scalar.muli (Scf.iv 0#32 1#32 k.val) 2#32) 0#32) (k0_cond1 i k) (k0_off6 i k) (k0_off6_inb i k) v
        (lenLd i (k0_off7 k) (k0_off7_inb k) >>= fun w =>
          (pure ⟨Scalar.addi (Scalar.muli (Scf.iv 0#32 1#32 k.val) 2#32) 1#32, w⟩ : Prog (Eff F i) (Σ' (_ : BitVec 32), Vec F S16 .i32))))
    rankOfK i x.1 (k0_cond2 i k) (k0_off8 i k) (k0_off8_inb i k) x.2 (pure 0#32)

theorem rankLoopK_eq (i : grid0.Coords) : rankLoopK (F := F) i = rankLoop i := by
  simp only [rankLoopK, rankLoop, rankTrip, rankOfK_eq, bind_assoc, pure_bind]

/-! ## Phase D: the sorted lengths -/

/-- Sixteen sorted lengths. -/
def slUnit (i : grid0.Coords) (b : Fin 32) : Prog (Eff F i) PUnit := do
  let v : Vec F S16 .i32 ← Prog.lift (.load vIdx (Rect.unit (s := S512) ![16 * b.val] S16.size (sblk_inb b)).toLoadRect (View.loadsAt_vmem h_S16))
  have h : k0_chk9 v := (← Prog.lift (TpuEff.assume (k0_chk9 v) (k0_chk9.dec v))).down
  let l : Vec F S16 .i32 ← SparseCore.vectorLoadIdx vLen ![v] (k0_idx11_inb v h) (View.loads_vmem h_S16384)
  let _u : Vec F S16 .i32 ← Prog.lift (.load vSl (Rect.unit (s := S512) ![16 * b.val] S16.size (sblk_inb b)).toLoadRect (View.loadsAt_vmem h_S16))
  Prog.lift (.store vSl (Rect.unit (s := S512) ![16 * b.val] S16.size (sblk_inb b)) l Finset.univ (View.stores_vmem_bits_univ h_S16 rfl) (.inl rfl))

abbrev rkDst (i : grid0.Coords) : Memref sig .scVector .hbm S512 .i32 := mRk.slice (Rect.unit (s := S16384) (k0_off9 i) S512.size (k0_off9_inb i)) (fun _ => rfl)
abbrev slDst (i : grid0.Coords) : Memref sig .scVector .hbm S512 .i32 := mSl.slice (Rect.unit (s := S16384) (k0_off9 i) S512.size (k0_off9_inb i)) (fun _ => rfl)

/-- The ranks and the sorted lengths written out. -/
def phaseD2 (i : grid0.Coords) : Prog (Eff F i) PUnit := do
  Prog.lift (.enqueueDma vRk (.here (rkDst i)) (.dma cc0_scoped2.sem) (Memref.isWhole_whole _).wordExact (View.wordExact_bits rfl) ⟨Or.inl rfl, trivial⟩)
  Prog.lift (.waitDma2 cc0_scoped2.sem vRk (rkDst i) (Memref.isWhole_whole _).wordExact (View.wordExact_bits rfl))
  Prog.lift (.enqueueDma vSl (.here (slDst i)) (.dma cc0_scoped3.sem) (Memref.isWhole_whole _).wordExact (View.wordExact_bits rfl) ⟨Or.inl rfl, trivial⟩)
  Prog.lift (.waitDma2 cc0_scoped3.sem vSl (slDst i) (Memref.isWhole_whole _).wordExact (View.wordExact_bits rfl))

/-! ## Phase E: the rows gathered in that order and looked up in the table -/

theorem row_lt (k : Nat) (hk : k < 20) : (Scalar.indexCast (Scf.iv 0#32 1#32 k)).toNat < 20 := by
  have e : (Scalar.indexCast (Scf.iv 0#32 1#32 k)).toNat = k := by
    simp only [Scf.iv, Scalar.indexCast]
    simp
    omega
  omega

/-- The rows of `x` as the gathers name them. -/
abbrev xAll : Memref sig .scVector .hbm S16384x2x128 .i32 := mX.slice (Rect.unit (s := S16384x2x128) ![0, 0, 0] S16384x2x128.size inb_S16384x2x128_S16384x2x128_0_0_0) (fun _ => rfl)

/-- A block of the result. -/
abbrev oDst (off : Fin 4 → Nat) (inb : ∀ a, off a + S20x1x8x128.size a ≤ S200x128x8x128.size a) : Memref sig .scVector .hbm S20x1x8x128 .f32 :=
  mOut.slice (Rect.unit (s := S200x128x8x128) off S20x1x8x128.size inb) (fun _ => rfl)

/-- The rows of the worker's block at `off` of its order gathered. -/
def getRows (i : grid0.Coords) (xb : Memref sig .scVector .vmem S128x2x128 .i32) (off : Fin 1 → Nat) (inb : ∀ a, off a + S128.size a ≤ S512.size a)
    (sm : DmaSems sig S_) : Prog (Eff F i) PUnit :=
  SparseCore.enqueueIndirectGather rfl xAll xb gathers_S16384x2x128_S128x2x128 (vIdx.slice (Rect.unit (s := S512) off S128.size inb) (fun _ => rfl)) rfl sm.sem (View.wordExact_bits rfl) rfl (Or.inl rfl)

def waitRows (i : grid0.Coords) (xb : Memref sig .scVector .vmem S128x2x128 .i32) (hxb : xb.IsWhole) (sm : DmaSems sig S_) : Prog (Eff F i) PUnit :=
  SparseCore.waitIndirectGather sm.sem xAll xb (View.wordExact_bits rfl) hxb.wordExact

def putOut (i : grid0.Coords) (ob : Memref sig .scVector .vmem S20x1x8x128 .f32) (hob : ob.IsWhole) (sm : DmaSems sig S_)
    (off : Fin 4 → Nat) (inb : ∀ a, off a + S20x1x8x128.size a ≤ S200x128x8x128.size a) : Prog (Eff F i) PUnit :=
  Prog.lift (.enqueueDma ob (.here (oDst off inb)) (.dma sm.sem) hob.wordExact (View.wordExact_bits rfl) ⟨Or.inl rfl, trivial⟩)

def waitOut (i : grid0.Coords) (ob : Memref sig .scVector .vmem S20x1x8x128 .f32) (hob : ob.IsWhole) (sm : DmaSems sig S_)
    (off : Fin 4 → Nat) (inb : ∀ a, off a + S20x1x8x128.size a ≤ S200x128x8x128.size a) : Prog (Eff F i) PUnit :=
  Prog.lift (.waitDma2 sm.sem ob (oDst off inb) hob.wordExact (View.wordExact_bits rfl))

theorem t5_lt (k : Fin k0_t5_loop.trips) : k.val < 20 := k.isLt.trans_eq (by decide)
theorem t6_lt (k : Fin k0_t6_loop.trips) : k.val < 20 := k.isLt.trans_eq (by decide)
theorem t8_lt (k : Fin k0_t8_loop.trips) : k.val < 20 := k.isLt.trans_eq (by decide)
theorem t9_lt (k : Fin k0_t9_loop.trips) : k.val < 20 := k.isLt.trans_eq (by decide)

/-- Two blocks of twenty columns of the even batch block, up to the second's copy out: a buffer is waited for unless nothing was sent from it yet. -/
def pairA (i : grid0.Coords) (k3 : Fin k0_t3_loop.trips) (t4 : Fin k0_t4_loop.trips) : Prog (Eff F i) PUnit := do
  if h1 : k0_cond3 k3 t4 = 1#1 then do
    waitOut i vO0 (Memref.isWhole_whole _) cc0_scratch12 (k0_off11 i k3 t4) (k0_off11_inb i k3 t4 h1)
    pure ⟨⟩
  else do
    pure ⟨⟩
  let _x : BitVec 32 ← Scf.Loop.for k0_t5_loop k0_t5_ok 0#32 fun k _ => do
    trip i vX0 vTab vO0 lanes (Scf.iv 0#32 1#32 k.val) (row_lt k.val (t5_lt k)) (Scalar.addi (Scalar.muli (Scalar.muli 2#32 (Scf.iv 0#32 1#32 t4.val)) 20#32) (Scf.iv 0#32 1#32 k.val))
    pure 0#32
  putOut i vO0 (Memref.isWhole_whole _) cc0_scratch12 (k0_off76 i k3 t4) (k0_off76_inb i k3 t4)
  if h2 : k0_cond4 k3 t4 = 1#1 then do
    waitOut i vO1 (Memref.isWhole_whole _) cc0_scratch13 (k0_off77 i k3 t4) (k0_off77_inb i k3 t4 h2)
    pure ⟨⟩
  else do
    pure ⟨⟩
  let _x : BitVec 32 ← Scf.Loop.for k0_t6_loop k0_t6_ok 0#32 fun k _ => do
    trip i vX0 vTab vO1 lanes (Scf.iv 0#32 1#32 k.val) (row_lt k.val (t6_lt k)) (Scalar.addi (Scalar.muli (Scalar.addi (Scalar.muli 2#32 (Scf.iv 0#32 1#32 t4.val)) 1#32) 20#32) (Scf.iv 0#32 1#32 k.val))
    pure 0#32
  pure ⟨⟩

/-- Two blocks of twenty columns of the odd batch block. -/
def pairB (i : grid0.Coords) (k3 : Fin k0_t3_loop.trips) (t7 : Fin k0_t7_loop.trips) : Prog (Eff F i) (BitVec 32) := do
  if h4 : k0_cond6 = 1#1 then do
    waitOut i vO0 (Memref.isWhole_whole _) cc0_scratch12 (k0_off143 i k3 t7) (k0_off143_inb i k3 t7 h4)
    pure ⟨⟩
  else do
    pure ⟨⟩
  let _x : BitVec 32 ← Scf.Loop.for k0_t8_loop k0_t8_ok 0#32 fun k _ => do
    trip i vX1 vTab vO0 lanes (Scf.iv 0#32 1#32 k.val) (row_lt k.val (t8_lt k)) (Scalar.addi (Scalar.muli (Scalar.muli 2#32 (Scf.iv 0#32 1#32 t7.val)) 20#32) (Scf.iv 0#32 1#32 k.val))
    pure 0#32
  putOut i vO0 (Memref.isWhole_whole _) cc0_scratch12 (k0_off208 i k3 t7) (k0_off208_inb i k3 t7)
  if h5 : k0_cond7 = 1#1 then do
    waitOut i vO1 (Memref.isWhole_whole _) cc0_scratch13 (k0_off209 i k3 t7) (k0_off209_inb i k3 t7 h5)
    pure ⟨⟩
  else do
    pure ⟨⟩
  let _x : BitVec 32 ← Scf.Loop.for k0_t9_loop k0_t9_ok 0#32 fun k _ => do
    trip i vX1 vTab vO1 lanes (Scf.iv 0#32 1#32 k.val) (row_lt k.val (t9_lt k)) (Scalar.addi (Scalar.muli (Scalar.addi (Scalar.muli 2#32 (Scf.iv 0#32 1#32 t7.val)) 1#32) 20#32) (Scf.iv 0#32 1#32 k.val))
    pure 0#32
  putOut i vO1 (Memref.isWhole_whole _) cc0_scratch13 (k0_off274 i k3 t7) (k0_off274_inb i k3 t7)
  pure 0#32

/-- Two batch blocks: the even one from the first buffer while the odd one's rows arrive in the second. -/
def outer (i : grid0.Coords) (k3 : Fin k0_t3_loop.trips) : Prog (Eff F i) (BitVec 32) := do
  waitRows i vX0 (Memref.isWhole_whole _) cc0_scratch10
  getRows i vX1 (k0_off10 k3) (k0_off10_inb k3) cc0_scratch11
  let _x : BitVec 32 ← Scf.Loop.for k0_t4_loop k0_t4_ok 0#32 fun t4 _ => do
    pairA i k3 t4
    putOut i vO1 (Memref.isWhole_whole _) cc0_scratch13 (k0_off142 i k3 t4) (k0_off142_inb i k3 t4)
    pure 0#32
  waitRows i vX1 (Memref.isWhole_whole _) cc0_scratch11
  if h : Scalar.cmpi .ne (Scalar.extui (Scalar.cmpi .eq (Scf.iv 0#32 1#32 k3.val) 0#32) : BitVec 32) 0#32 = 1#1 then do
    getRows i vX0 ![256] inb_S512_S128_256 cc0_scratch10
    pure ⟨⟩
  else do
    pure ⟨⟩
  let _y : BitVec 32 ← Scf.Loop.for k0_t7_loop k0_t7_ok 0#32 fun t7 _ => do
    let c ← pairB i k3 t7
    pure c
  pure 0#32

/-- All the worker's batch blocks. -/
def outerLoop (i : grid0.Coords) : Prog (Eff F i) (BitVec 32) :=
  Scf.Loop.for k0_t3_loop k0_t3_ok 0#32 fun k3 _ => outer i k3

/-- The first buffer's last copy waited for. -/
def endA (i : grid0.Coords) : Prog (Eff F i) PUnit :=
  waitOut i vO0 (Memref.isWhole_whole _) cc0_scratch12 ![0, 0, 0, 0] inb_S200x128x8x128_S20x1x8x128_0_0_0_0
/-- The second buffer's. -/
def endB (i : grid0.Coords) : Prog (Eff F i) PUnit :=
  waitOut i vO1 (Memref.isWhole_whole _) cc0_scratch13 ![0, 0, 0, 0] inb_S200x128x8x128_S20x1x8x128_0_0_0_0

/-- The tile's program. -/
def body (i : grid0.Coords) : Prog (Eff F i) PUnit :=
  phaseA i >>= fun _ =>
  histLoop i >>= fun _ => phaseB i >>= fun _ => rankLoop i >>= fun _ =>
  Scf.forFrom (fun b (_ : PUnit) => slUnit i b) (List.finRange 32) ⟨⟩ >>= fun _ =>
  phaseD2 i >>= fun _ => getRows i vX0 ![0] inb_S512_S128_0 cc0_scratch10 >>= fun _ =>
  outerLoop i >>= fun _ => endA i >>= fun _ => endB i

end Cert.KernelIdeal.Own
-- ==== Proof.Count.lean ====
/- Counting: the rank of a number among numbers sorted from the largest down, equal ones in their own order. -/
module

public import Idealize.ShloMosaic.Lib.Tactic

@[expose] public section

namespace Cert.KernelIdeal.Own

/-- How many `n` of `[a, b)` have `l n = c`. -/
def cnt (l : ℕ → ℕ) (a b c : ℕ) : ℕ := ((Finset.Ico a b).filter fun n => l n = c).card

/-- How many of the first `N` numbers are above `c`. -/
def above (N : ℕ) (l : ℕ → ℕ) (c : ℕ) : ℕ := ((Finset.range N).filter fun n => c < l n).card

/-- The rank of entry `n`: the larger ones and the equal ones before it. -/
def rank (N : ℕ) (l : ℕ → ℕ) (n : ℕ) : ℕ := above N l (l n) + cnt l 0 n (l n)

theorem cnt_split (l : ℕ → ℕ) {a b c : ℕ} (v : ℕ) (h : a ≤ b) (h' : b ≤ c) : cnt l a c v = cnt l a b v + cnt l b c v := by
  unfold cnt
  rw [← Finset.card_union_of_disjoint, ← Finset.filter_union, Finset.Ico_union_Ico_eq_Ico h h']
  exact Finset.disjoint_filter_filter (Finset.Ico_disjoint_Ico_consecutive a b c)

theorem cnt_self (l : ℕ → ℕ) (a v : ℕ) : cnt l a a v = 0 := by simp [cnt]

theorem cnt_succ (l : ℕ → ℕ) {a n : ℕ} (v : ℕ) (h : a ≤ n) : cnt l a (n + 1) v = cnt l a n v + if l n = v then 1 else 0 := by
  rw [cnt_split l v h (Nat.le_succ n)]
  congr 1
  unfold cnt
  rw [Nat.Ico_succ_singleton, Finset.filter_singleton]
  split <;> simp

/-- Sixteen consecutive ones, counted by lane. -/
theorem cnt_lanes (l : ℕ → ℕ) (n k v : ℕ) : cnt l n (n + k) v = ((Finset.range k).filter fun x => l (n + x) = v).card := by
  induction k with
  | zero => simp [cnt]
  | succ k ih =>
    rw [← Nat.add_assoc, cnt_succ l v (Nat.le_add_right n k), ih, Finset.range_add_one, Finset.filter_insert]
    split
    · rw [Finset.card_insert_of_notMem (by simp)]
    · simp

/-- What is above `c` is what is at `c + 1` and what is above that. -/
theorem above_succ (N : ℕ) (l : ℕ → ℕ) (c : ℕ) : above N l c = cnt l 0 N (c + 1) + above N l (c + 1) := by
  unfold above cnt
  rw [← Finset.range_eq_Ico, ← Finset.card_union_of_disjoint]
  · congr 1; ext n; simp only [Finset.mem_filter, Finset.mem_union, Finset.mem_range]; omega
  · rw [Finset.disjoint_filter]; intro n _; omega

theorem above_add (N : ℕ) (l : ℕ → ℕ) (c k : ℕ) : above N l c = (∑ x ∈ Finset.range k, cnt l 0 N (c + 1 + x)) + above N l (c + k) := by
  induction k with
  | zero => simp
  | succ k ih =>
    rw [ih, Finset.sum_range_succ, above_succ N l (c + k)]
    have : c + k + 1 = c + 1 + k := by omega
    rw [this]; have h2 : c + (k + 1) = c + 1 + k := by omega
    rw [h2]; omega

theorem above_top (N : ℕ) (l : ℕ → ℕ) (h : ∀ n, l n < 256) : above N l 255 = 0 := by
  unfold above
  rw [Finset.card_eq_zero, Finset.filter_eq_empty_iff]
  intro n _; have := h n; omega

/-! ## The rank is a permutation -/

/-- `n` comes before `m`. -/
def Before (l : ℕ → ℕ) (n m : ℕ) : Prop := l m < l n ∨ (l n = l m ∧ n < m)

instance (l : ℕ → ℕ) (n m : ℕ) : Decidable (Before l n m) := by unfold Before; infer_instance

theorem rank_eq (N : ℕ) (l : ℕ → ℕ) {n : ℕ} (h : n < N) : rank N l n = ((Finset.range N).filter fun m => Before l m n).card := by
  unfold rank above cnt
  rw [← Finset.card_union_of_disjoint]
  · congr 1; ext m
    simp only [Finset.mem_filter, Finset.mem_union, Finset.mem_range, Finset.mem_Ico]; unfold Before
    constructor
    · rintro (⟨h1, h2⟩ | ⟨⟨_, h1⟩, h2⟩)
      · exact ⟨h1, .inl h2⟩
      · exact ⟨lt_trans h1 h, .inr ⟨h2, h1⟩⟩
    · rintro ⟨h1, h2 | ⟨h2, h3⟩⟩
      · exact .inl ⟨h1, h2⟩
      · exact .inr ⟨⟨Nat.zero_le _, h3⟩, h2⟩
  · rw [Finset.disjoint_left]; intro m
    simp only [Finset.mem_filter, Finset.mem_range, Finset.mem_Ico]; rintro ⟨_, h1⟩ ⟨_, h2⟩; omega

theorem rank_lt_of_before (N : ℕ) (l : ℕ → ℕ) {n m : ℕ} (hn : n < N) (hm : m < N) (h : Before l n m) : rank N l n < rank N l m := by
  rw [rank_eq N l hn, rank_eq N l hm]
  refine Finset.card_lt_card (Finset.ssubset_iff_of_subset ?_ |>.mpr ⟨n, ?_, ?_⟩)
  · intro k hk
    have hk' := Finset.mem_filter.mp hk
    refine Finset.mem_filter.mpr ⟨hk'.1, ?_⟩
    have h1 := hk'.2
    simp only [Before] at h h1 ⊢; omega
  · simp only [Finset.mem_filter, Finset.mem_range]; exact ⟨hn, h⟩
  · intro h'; rcases (Finset.mem_filter.mp h').2 with h | ⟨_, h⟩ <;> exact absurd h (lt_irrefl _)

theorem before_total (l : ℕ → ℕ) {n m : ℕ} (h : n ≠ m) : Before l n m ∨ Before l m n := by unfold Before; omega

theorem rank_lt (N : ℕ) (l : ℕ → ℕ) {n : ℕ} (h : n < N) : rank N l n < N := by
  rw [rank_eq N l h]
  refine lt_of_lt_of_eq (Finset.card_lt_card (Finset.ssubset_iff_of_subset (Finset.filter_subset _ _) |>.mpr ⟨n, ?_, ?_⟩)) (Finset.card_range N)
  · simpa using h
  · intro h'; rcases (Finset.mem_filter.mp h').2 with h | ⟨_, h⟩ <;> exact absurd h (lt_irrefl _)

theorem rank_inj (N : ℕ) (l : ℕ → ℕ) {n m : ℕ} (hn : n < N) (hm : m < N) (h : rank N l n = rank N l m) : n = m := by
  by_contra hne
  rcases before_total l hne with hb | hb
  · exact absurd h (Nat.ne_of_lt (rank_lt_of_before N l hn hm hb))
  · exact absurd h.symm (Nat.ne_of_lt (rank_lt_of_before N l hm hn hb))

/-- The rank as a map of the entries' numbers. -/
def rankFin (N : ℕ) (l : ℕ → ℕ) (n : Fin N) : Fin N := ⟨rank N l n.val, rank_lt N l n.isLt⟩

theorem rankFin_bij (N : ℕ) (l : ℕ → ℕ) : Function.Bijective (rankFin N l) := by
  have hi : Function.Injective (rankFin N l) := fun n m h => Fin.ext (rank_inj N l n.isLt m.isLt (Fin.ext_iff.mp h))
  exact ⟨hi, Finite.injective_iff_surjective.mp hi⟩

/-- The rank, a permutation. -/
noncomputable def rankE (N : ℕ) (l : ℕ → ℕ) : Fin N ≃ Fin N := Equiv.ofBijective _ (rankFin_bij N l)

/-- The order: which entry is at a place. -/
noncomputable def ord (N : ℕ) (l : ℕ → ℕ) (p : Fin N) : Fin N := (rankE N l).symm p

theorem rank_ord (N : ℕ) (l : ℕ → ℕ) (p : Fin N) : rank N l (ord N l p).val = p.val :=
  congrArg Fin.val ((rankE N l).apply_symm_apply p)

theorem ord_eq (N : ℕ) (l : ℕ → ℕ) {p n : Fin N} (h : rank N l n.val = p.val) : ord N l p = n :=
  Fin.ext (rank_inj N l (ord N l p).isLt n.isLt ((rank_ord N l p).trans h.symm))

end Cert.KernelIdeal.Own
-- ==== Proof.Lanes.lean ====
/- The vector operations of the counting and ranking loops, by lane. -/
module

public import proofs.«01_k».proof.Proof.Count

@[expose] public section

namespace Cert.KernelIdeal.Own

open Idealize.ShloMosaic

variable {F : FTy → Type} [FloatOps F]

/-- A folded update in which one entry of the list acts. -/
theorem foldl_one {α κ : Type} (hit : κ → Prop) [DecidablePred hit] (upd : κ → α → α) (l : List κ) (hl : l.Nodup) (a : α) (k₀ : κ)
    (hk : k₀ ∈ l) (h₀ : hit k₀) (hu : ∀ k, hit k → k = k₀) : l.foldl (fun a k => if hit k then upd k a else a) a = upd k₀ a := by
  induction l generalizing a with
  | nil => exact absurd hk (by simp)
  | cons k l ih =>
    rw [List.foldl_cons]
    have hnd := List.nodup_cons.mp hl
    by_cases hkk : hit k
    · rw [if_pos hkk]
      have := hu k hkk; subst this
      have : ∀ (l : List κ) (b : α), k ∉ l → l.foldl (fun a k => if hit k then upd k a else a) b = b := by
        intro l
        induction l with
        | nil => intro b _; rfl
        | cons j l ih2 =>
          intro b hb
          rw [List.foldl_cons, if_neg (fun hj => hb (by rw [hu j hj]; exact List.mem_cons_self))]
          exact ih2 b (fun hm => hb (List.mem_cons_of_mem _ hm))
      exact this l _ hnd.1
    · rw [if_neg hkk]
      exact ih hnd.2 a ((List.mem_cons.mp hk).resolve_left (fun e => hkk (e ▸ h₀)))

theorem foldl_none {α κ : Type} (hit : κ → Prop) [DecidablePred hit] (upd : κ → α → α) (l : List κ) (a : α) (hu : ∀ k, ¬hit k) :
    l.foldl (fun a k => if hit k then upd k a else a) a = a := by
  induction l generalizing a with
  | nil => rfl
  | cons k l ih => rw [List.foldl_cons, if_neg (hu k)]; exact ih a

section Store
variable {n w : ℕ}

/-- The one axis of a rank-one shape. -/
abbrev at1 {n : ℕ} (k : ℕ) (h : k < n) : (⟨1, ![n]⟩ : Shape).Idx := fun a => ⟨k, by rw [Fin.eq_zero a]; exact h⟩

theorem at1_eta {n : ℕ} (x : (⟨1, ![n]⟩ : Shape).Idx) : at1 (x 0).val (x 0).isLt = x := by
  funext a; rw [Fin.eq_zero a]; rfl

theorem at1_ex {n : ℕ} (x : (⟨1, ![n]⟩ : Shape).Idx) : ∃ (k : ℕ) (h : k < n), x = at1 k h := ⟨(x 0).val, (x 0).isLt, (at1_eta x).symm⟩

theorem ofLane_eq {n : ℕ} (k : Fin n) : (Shape.ofLane (d := ![n]) k) = at1 k.val k.isLt := rfl

/-- The scatter, at one element: the fold of the lanes that name it. -/
theorem storeIdx_apply (f : Vec F ⟨1, ![w]⟩ .i32) (v : IVec ⟨1, ![n]⟩ 32) (u : Vec F ⟨1, ![n]⟩ .i32) (m : IVec ⟨1, ![n]⟩ 1) (add : Bool)
    (h : ∀ a x, ((![v] : Fin 1 → IVec ⟨1, ![n]⟩ 32) a x).toNat < (⟨1, ![w]⟩ : Shape).size a) (j : (⟨1, ![w]⟩ : Shape).Idx) :
    storeIdx (F := F) (s := ⟨1, ![w]⟩) (e := .i32) (d := ![n]) f ![v] u m add h j
      = (List.finRange n).foldl (fun (a : BitVec 32) (k : Fin n) =>
          if m (at1 k.val k.isLt) = 1 ∧ (j 0).val = (v (at1 k.val k.isLt)).toNat then
            (if add then a + u (at1 k.val k.isLt) else u (at1 k.val k.isLt)) else a) (f j) := by
  unfold storeIdx
  refine (List.foldl_hom (fun g : Vec F ⟨1, ![w]⟩ .i32 => (g j : BitVec 32)) ?_).symm
  intro g k
  dsimp only
  have hl : (Shape.ofLane (d := ![n]) k) = at1 k.val k.isLt := rfl
  rw [hl]
  have step : ∀ (P : Prop) [Decidable P] (A B : Vec F ⟨1, ![w]⟩ .i32), (if P then A else B) j = if P then A j else B j := by
    intro P _ A B; split <;> rfl
  refine Eq.trans ?_ (step _ _ _).symm
  by_cases hh : m (at1 k.val k.isLt) = 1 ∧ (j 0).val = (v (at1 k.val k.isLt)).toNat
  · have he : idxAt (s := ⟨1, ![w]⟩) ![v] h (at1 k.val k.isLt) = j := by
      funext a; rw [Fin.eq_zero a]; exact Fin.ext hh.2.symm
    refine (if_pos hh).trans (Eq.symm ((if_pos hh.1).trans ?_))
    refine (if_pos (fun a => congrArg Fin.val (congrFun he a).symm)).trans ?_
    exact congrArg (fun z : (⟨1, ![w]⟩ : Shape).Idx => if add = true then (g z : BitVec 32) + (u (at1 k.val k.isLt) : BitVec 32) else u (at1 k.val k.isLt)) he
  · refine (if_neg hh).trans (Eq.symm ?_)
    by_cases hm : m (at1 k.val k.isLt) = 1
    · exact (if_pos hm).trans (if_neg (fun hn => hh ⟨hm, hn 0⟩))
    · exact if_neg hm

end Store

/-- The lanes up to lane `k` that hold lane `k`'s value. -/
theorem scanCount_count {n : ℕ} (v : IVec ⟨1, ![n]⟩ 32) (g : ℕ → ℕ) (hg : ∀ k (hk : k < n), (v (at1 k hk)).toNat = g k) (k : ℕ) (hk : k < n) :
    (scanCount (broadcast (⟨1, ![n]⟩ : Shape) 1#1) v).2 (at1 k hk)
      = BitVec.ofNat 32 ((Finset.range (k + 1)).filter fun x => g x = g k).card := by
  have hr : ∀ x : (⟨1, ![n]⟩ : Shape).Idx, ((⟨1, ![n]⟩ : Shape).rowMajor x).val = (x 0).val := fun x => by simp [Shape.rowMajor_val_one]
  unfold scanCount
  dsimp only
  simp only [hr]
  rw [if_pos (show broadcast (⟨1, ![n]⟩ : Shape) 1#1 (at1 k hk) = 1 from rfl)]
  congr 1
  refine Finset.card_bij' (fun j _ => (j 0).val) (fun x hx => at1 x (lt_of_lt_of_le (Finset.mem_range.mp (Finset.mem_filter.mp hx).1) hk)) ?_ ?_ ?_ ?_
  · intro j hj
    have h := (Finset.mem_filter.mp hj).2
    refine Finset.mem_filter.mpr ⟨Finset.mem_range.mpr (Nat.lt_succ_of_le h.1), ?_⟩
    obtain ⟨x, hx, rfl⟩ := at1_ex j
    rw [← hg k hk, ← h.2.2, hg x hx]
  · intro x hx
    have h := Finset.mem_filter.mp hx
    refine Finset.mem_filter.mpr ⟨Finset.mem_univ _, ?_, rfl, ?_⟩
    · exact Nat.le_of_lt_succ (Finset.mem_range.mp h.1)
    · apply BitVec.eq_of_toNat_eq; rw [hg, hg]; exact h.2
  · intro j _; exact at1_eta j
  · intro x _; rfl

/-- A lane is kept when no later lane holds its value. -/
theorem scanCount_last {n : ℕ} (v : IVec ⟨1, ![n]⟩ 32) (g : ℕ → ℕ) (hg : ∀ k (hk : k < n), (v (at1 k hk)).toNat = g k) (k : ℕ) (hk : k < n) :
    (scanCount (broadcast (⟨1, ![n]⟩ : Shape) 1#1) v).1 (at1 k hk) = 1 ↔ ∀ x, k < x → x < n → g x ≠ g k := by
  have hr : ∀ x : (⟨1, ![n]⟩ : Shape).Idx, ((⟨1, ![n]⟩ : Shape).rowMajor x).val = (x 0).val := fun x => by simp [Shape.rowMajor_val_one]
  unfold scanCount
  dsimp only
  simp only [hr]
  constructor
  · intro h
    split at h
    · next h2 =>
      intro x hkx hx he
      refine h2.2 (at1 x hx) hkx ⟨rfl, ?_⟩
      apply BitVec.eq_of_toNat_eq; rw [hg, hg]; exact he
    · exact absurd h (show ¬((0 : BitVec 1) = 1) by decide)
  · intro h
    rw [if_pos]
    refine ⟨rfl, fun j hj hh => ?_⟩
    refine h (j 0).val hj (j 0).isLt ?_
    obtain ⟨x, hx, rfl⟩ := at1_ex j
    rw [← hg k hk, ← hh.2, hg x hx]

/-- What both loops do to their table: each value's entry is raised by the number of lanes that hold it. -/
theorem raise_fold {n : ℕ} (v : IVec ⟨1, ![n]⟩ 32) (g : ℕ → ℕ) (hg : ∀ k (hk : k < n), (v (at1 k hk)).toNat = g k) (c : ℕ) (a : BitVec 32)
    (upd : Fin n → BitVec 32 → BitVec 32)
    (hu : ∀ (k : ℕ) (hk : k < n), g k = c → upd ⟨k, hk⟩ a = a + BitVec.ofNat 32 ((Finset.range (k + 1)).filter fun x => g x = c).card) :
    (List.finRange n).foldl (fun (a : BitVec 32) (k : Fin n) =>
          if (scanCount (broadcast (⟨1, ![n]⟩ : Shape) 1#1) v).1 (at1 k.val k.isLt) = 1 ∧ c = (v (at1 k.val k.isLt)).toNat then upd k a else a) a
      = a + BitVec.ofNat 32 ((Finset.range n).filter fun x => g x = c).card := by
  classical
  by_cases hex : ∃ k, k < n ∧ g k = c
  · -- the last lane that holds it
    let S := (Finset.range n).filter fun x => g x = c
    have hS : S.Nonempty := by obtain ⟨k, h1, h2⟩ := hex; exact ⟨k, Finset.mem_filter.mpr ⟨Finset.mem_range.mpr h1, h2⟩⟩
    have hm := Finset.max'_mem S hS
    obtain ⟨hk1, hk2⟩ := Finset.mem_filter.mp hm
    have hk1 := Finset.mem_range.mp hk1
    have hmax : ∀ x, S.max' hS < x → x < n → g x ≠ g (S.max' hS) := by
      intro x hx hxn he
      exact absurd (Finset.le_max' S x (Finset.mem_filter.mpr ⟨Finset.mem_range.mpr hxn, he.trans hk2⟩)) (not_le.mpr hx)
    rw [foldl_one (fun k : Fin n => (scanCount (broadcast (⟨1, ![n]⟩ : Shape) 1#1) v).1 (at1 k.val k.isLt) = 1 ∧ c = (v (at1 k.val k.isLt)).toNat) upd
      (List.finRange n) (List.nodup_finRange n) a ⟨S.max' hS, hk1⟩ (List.mem_finRange _)
      ⟨(scanCount_last v g hg _ hk1).mpr hmax, by rw [hg]; exact hk2.symm⟩ ?_, hu _ hk1 hk2]
    · congr 2
      congr 1
      ext x
      simp only [Finset.mem_filter, Finset.mem_range]
      constructor
      · rintro ⟨h1, h2⟩; exact ⟨by omega, h2⟩
      · rintro ⟨h1, h2⟩; exact ⟨Nat.lt_succ_of_le (Finset.le_max' S x (Finset.mem_filter.mpr ⟨Finset.mem_range.mpr h1, h2⟩)), h2⟩
    · rintro ⟨k, hk⟩ ⟨h1, h2⟩
      rw [hg] at h2
      have hl := (scanCount_last v g hg k hk).mp h1
      apply Fin.ext
      show k = S.max' hS
      have hle := Finset.le_max' S k (Finset.mem_filter.mpr ⟨Finset.mem_range.mpr hk, h2.symm⟩)
      rcases Nat.lt_or_eq_of_le hle with hlt | heq
      · exact absurd (hk2.trans h2) (hl _ hlt hk1)
      · exact heq
  · rw [foldl_none]
    · rw [Finset.filter_false_of_mem]
      · simp
      · intro x hx he; exact hex ⟨x, Finset.mem_range.mp hx, he⟩
    · rintro ⟨k, hk⟩ ⟨_, h2⟩
      rw [hg] at h2; exact hex ⟨k, hk, h2.symm⟩

/-- The counting step. -/
theorem count_step {n w : ℕ} (f : Vec F ⟨1, ![w]⟩ .i32) (v : IVec ⟨1, ![n]⟩ 32) (g : ℕ → ℕ) (hg : ∀ k (hk : k < n), (v (at1 k hk)).toNat = g k)
    (h : ∀ a x, ((![v] : Fin 1 → IVec ⟨1, ![n]⟩ 32) a x).toNat < (⟨1, ![w]⟩ : Shape).size a) (c : ℕ) (hc : c < w) :
    storeIdx (F := F) (s := ⟨1, ![w]⟩) (e := .i32) (d := ![n]) f ![v] (scanCount (broadcast (⟨1, ![n]⟩ : Shape) 1#1) v).2
        (scanCount (broadcast (⟨1, ![n]⟩ : Shape) 1#1) v).1 true h (at1 c hc)
      = f (at1 c hc) + BitVec.ofNat 32 ((Finset.range n).filter fun x => g x = c).card := by
  rw [storeIdx_apply]
  exact raise_fold v g hg c (f (at1 c hc)) (fun k a => a + (scanCount (broadcast (⟨1, ![n]⟩ : Shape) 1#1) v).2 (at1 k.val k.isLt))
    (fun k hk hkc => by
      show _ + _ = _
      rw [scanCount_count v g hg k hk, hkc])

/-- The ranking step. -/
theorem rank_step {n w : ℕ} (f : Vec F ⟨1, ![w]⟩ .i32) (v : IVec ⟨1, ![n]⟩ 32) (g : ℕ → ℕ) (hg : ∀ k (hk : k < n), (v (at1 k hk)).toNat = g k)
    (h : ∀ a x, ((![v] : Fin 1 → IVec ⟨1, ![n]⟩ 32) a x).toNat < (⟨1, ![w]⟩ : Shape).size a) (c : ℕ) (hc : c < w) :
    storeIdx (F := F) (s := ⟨1, ![w]⟩) (e := .i32) (d := ![n]) f ![v]
        (addi (loadIdx (F := F) (s := ⟨1, ![w]⟩) (t := ⟨1, ![n]⟩) (e := .i32) f ![v] h) (scanCount (broadcast (⟨1, ![n]⟩ : Shape) 1#1) v).2)
        (scanCount (broadcast (⟨1, ![n]⟩ : Shape) 1#1) v).1 false h (at1 c hc)
      = f (at1 c hc) + BitVec.ofNat 32 ((Finset.range n).filter fun x => g x = c).card := by
  rw [storeIdx_apply]
  refine raise_fold v g hg c (f (at1 c hc)) (fun k _ => (addi (loadIdx (F := F) (s := ⟨1, ![w]⟩) (t := ⟨1, ![n]⟩) (e := .i32) f ![v] h)
      (scanCount (broadcast (⟨1, ![n]⟩ : Shape) 1#1) v).2) (at1 k.val k.isLt)) (fun k hk hkc => ?_)
  show f (idxAt (s := ⟨1, ![w]⟩) ![v] h (at1 k hk)) + (scanCount (broadcast (⟨1, ![n]⟩ : Shape) 1#1) v).2 (at1 k hk) = _
  rw [scanCount_count v g hg k hk, hkc]
  congr 2
  funext a; rw [Fin.eq_zero a]; exact Fin.ext ((hg k hk).trans hkc)

/-- A gathered lane. -/
theorem loadIdx_lane {n w : ℕ} (f : Vec F ⟨1, ![w]⟩ .i32) (v : IVec ⟨1, ![n]⟩ 32)
    (h : ∀ a x, ((![v] : Fin 1 → IVec ⟨1, ![n]⟩ 32) a x).toNat < (⟨1, ![w]⟩ : Shape).size a) (k : ℕ) (hk : k < n) :
    loadIdx (F := F) (s := ⟨1, ![w]⟩) (t := ⟨1, ![n]⟩) (e := .i32) f ![v] h (at1 k hk) = f (at1 (v (at1 k hk)).toNat (h 0 (at1 k hk))) := by
  unfold loadIdx; congr 1; funext a; rw [Fin.eq_zero a]; rfl

/-- The running sum of a vector of counts. -/
theorem scan_sum {n : ℕ} (v : IVec ⟨1, ![n]⟩ 32) (g : ℕ → ℕ) (hg : ∀ k (hk : k < n), v (at1 k hk) = BitVec.ofNat 32 (g k)) (k : ℕ) (hk : k < n) :
    scan .sum (d := ![n]) v (at1 k hk) = BitVec.ofNat 32 (∑ x ∈ Finset.range (k + 1), g x) := by
  show ((List.finRange n).filter fun j => decide (0 < j.val ∧ j.val ≤ k)).foldl
      (fun r j => ScanKind.sum.step r (v (at1 j.val j.isLt))) (v (at1 0 (Nat.zero_lt_of_lt hk))) = _
  have key : ∀ (l : List (Fin n)) (a : BitVec 32), l.foldl (fun r j => ScanKind.sum.step r (v (at1 j.val j.isLt))) a
      = a + BitVec.ofNat 32 (l.map fun j => g j.val).sum := by
    intro l
    induction l with
    | nil => intro a; simp
    | cons j l ih =>
      intro a
      rw [List.foldl_cons, ih, List.map_cons, List.sum_cons]
      show (a + v (at1 j.val j.isLt)) + _ = _
      rw [hg, BitVec.ofNat_add, BitVec.add_assoc]
  rw [key, hg, ← BitVec.ofNat_add]
  congr 1
  have hnd : ((List.finRange n).filter fun j => decide (0 < j.val ∧ j.val ≤ k)).Nodup := (List.nodup_finRange n).filter _
  have hs : (((List.finRange n).filter fun j => decide (0 < j.val ∧ j.val ≤ k)).map fun j => g j.val).sum
      = ∑ j ∈ (Finset.univ : Finset (Fin n)).filter (fun j => 0 < j.val ∧ j.val ≤ k), g j.val := by
    rw [← List.sum_toFinset _ hnd]
    refine Finset.sum_congr ?_ (fun _ _ => rfl)
    ext j; simp
  rw [hs, Finset.sum_range_succ', Nat.add_comm]
  congr 1
  refine Finset.sum_bij' (fun j _ => j.val - 1) (fun x hx => ⟨x + 1, by have := Finset.mem_range.mp hx; omega⟩) ?_ ?_ ?_ ?_ ?_
  · intro j hj; have := (Finset.mem_filter.mp hj).2; exact Finset.mem_range.mpr (by omega)
  · intro x hx; have := Finset.mem_range.mp hx; exact Finset.mem_filter.mpr ⟨Finset.mem_univ _, by show 0 < x + 1 ∧ x + 1 ≤ k; omega⟩
  · intro j hj; have := (Finset.mem_filter.mp hj).2; apply Fin.ext; show j.val - 1 + 1 = j.val; omega
  · intro x _; rfl
  · intro j hj; have := (Finset.mem_filter.mp hj).2; show g j.val = g (j.val - 1 + 1); congr 1; omega

end Cert.KernelIdeal.Own
-- ==== Proof.Setup.lean ====
/- The setting of the tile's proof: the ghost state, the thread, and the steps of a body over whole buffers. -/
module

public import proofs.«01_k».proof.Proof.Body
public import proofs.«01_k».proof.Proof.Lanes
public import proofs.«01_k».proof.Proof.Count
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The ghost state -/

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

/-- The tile's thread. -/
abbrev cV (i : grid0.Coords) : Fin τ.nSC := (i 0).castLE hcore0
abbrev jV (i : grid0.Coords) : Fin τ.nSub := (i 1).castLE hsub0
abbrev thr (d : Dev nD) (i : grid0.Coords) : Thread nD τ := V d (cV i) (jV i)

/-- The tile's program from what it holds. -/
abbrev W {α : Type} (d : Dev nD) (i : grid0.Coords) (p : Prog (Eff F i) α) (Q : α → sProp 𝕄) : sProp 𝕄 :=
  wp frame (wpE (defs₀ (F := F)) 𝒱₀ (thr d i) none) Set.univ p Q

/-- A whole buffer of the tile. -/
abbrev pt (d : Dev nD) (i : grid0.Coords) {s : Shape} {e : EltTy} (M : Memref sig .scVector .vmem s e) (f : Buf (Elt F) (M.view.loc (thr d i))) : sProp 𝕄 :=
  M.view.loc (thr d i) ↦{fullShare} f

/-! ## One step over a whole buffer -/

section Steps
variable (d : Dev nD) (i : grid0.Coords) {α : Type} {s : Shape} {e : EltTy} (Q : α → sProp (MT nD τ sig (HIx 1) (Elt F) ℕ UU ℕ))

theorem w_ld {M : Memref sig .scVector .vmem s e} {r : Rect s} {hl : M.view.LoadsAt r.toLoadRect} {k : (r.shape.Idx → Elt F e) → Prog (Eff F i) α}
    {f : Buf (Elt F) (M.view.loc (thr d i))} :
    pt d i M f ⊢ iprop((pt d i M f -∗ W d i (k ((M.access r).read (Elt F) f)) Q) -∗ W d i (Prog.lift (TpuEff.load M r.toLoadRect hl) >>= k) Q) :=
  wp_load_rect (defs := defs₀ (F := F)) (Q := Q) (k := k) (m := M) (f := f) (q := fullShare) (S := Finset.univ) (c := thr d i) (hl := hl) (r := r) 𝒱₀ none Set.univ (Finset.subset_univ _)

theorem w_st {M : Memref sig .scVector .vmem s e} {r : Rect s} {w : r.shape.Idx → Elt F e} {hx : (M.access r).Stores Finset.univ}
    {hm : (Finset.univ : Finset r.shape.Idx) = Finset.univ ∨ ∀ a, r.stride a = 1} {k : PUnit → Prog (Eff F i) α}
    {f : Buf (Elt F) (M.view.loc (thr d i))} :
    pt d i M f ⊢ iprop((pt d i M ((M.access r).write (Elt F) f w Finset.univ) -∗ W d i (k ⟨⟩) Q)
      -∗ W d i (Prog.lift (TpuEff.store M r w Finset.univ hx hm) >>= k) Q) :=
  wp_store (defs := defs₀ (F := F)) (Q := Q) (k := k) (f := f) (S := Finset.univ) (w := w) (hx := hx) (hm := hm) (c := thr d i) (m := M) (r := r) 𝒱₀ none Set.univ (Finset.subset_univ _)

theorem w_as {P : Prop} {dc : Decidable P} {k : PLift P → Prog (Eff F i) α} (h : P) :
    W d i (k ⟨h⟩) Q ⊢ W d i (Prog.lift (TpuEff.assume P dc) >>= k) Q :=
  wp_assume (defs := defs₀ (F := F)) (Q := Q) (k := k) (d := dc) (c := thr d i) 𝒱₀ none Set.univ h

theorem w_ldx {M : Memref sig .scVector .vmem s e} {t : Shape} {idxs : Fin s.rank → IVec t 32}
    {h : ∀ a x, (idxs a x).toNat < s.size a} {hl : M.view.Loads} {k : Vec F t e → Prog (Eff F i) α} {f : Buf (Elt F) (M.view.loc (thr d i))} :
    pt d i M f ⊢ iprop((pt d i M f -∗ W d i (k (loadIdx ((M.access (.whole s)).read (Elt F) f) idxs h)) Q)
      -∗ W d i (SparseCore.vectorLoadIdx M idxs h hl >>= k) Q) :=
  SparseCore.wp_vectorLoadIdx (defs := defs₀ (F := F)) (Q := Q) (k := k) (f := f) (S := Finset.univ) (q := fullShare) (base := M) (idxs := idxs) (h := h) (hl := hl) (c := thr d i) 𝒱₀ none Set.univ (Finset.subset_univ _)

theorem w_stx {M : Memref sig .scVector .vmem s e} (hM : (M.access (.whole s)).set = Finset.univ) {n : Fin 1 → Nat} {idxs : Fin s.rank → IVec ⟨1, n⟩ 32}
    {v : Vec F ⟨1, n⟩ e} {mask : IVec ⟨1, n⟩ 1} {add : Bool}
    {h : ∀ a x, (idxs a x).toNat < s.size a} {hs : (M.access (.whole s)).Stores Finset.univ} {k : PUnit → Prog (Eff F i) α} {f : Buf (Elt F) (M.view.loc (thr d i))} :
    pt d i M f ⊢ iprop((pt d i M ((M.access (.whole s)).write (Elt F) f (storeIdx ((M.access (.whole s)).read (Elt F) f) idxs v mask add h) Finset.univ)
        -∗ W d i (k ⟨⟩) Q)
      -∗ W d i (SparseCore.vectorStoreIdx M idxs v mask add h hs >>= k) Q) := by
  have := SparseCore.wp_vectorStoreIdx (defs := defs₀ (F := F)) (Q := Q) (Ix := HIx 1) (Name := ℕ) (U := UU) (Lvl := ℕ) (c := thr d i) 𝒱₀ none Set.univ (base := M) (idxs := idxs) (v := v) (mask := mask) (add := add) (h := h) (hs := hs) (k := k) (f := f)
  rw [hM] at this
  exact this

theorem w_ret {a : α} : Q a ⊢ W d i (pure a) Q :=
  le_wp_ret frame (wpE (defs₀ (F := F)) 𝒱₀ (thr d i) none) Set.univ a Q

theorem w_seq {β : Type} (p : Prog (Eff F i) β) (k : β → Prog (Eff F i) α) : W d i p (fun a => W d i (k a) Q) ⊢ W d i (p >>= k) Q :=
  Entails.of_eq (wp_bind frame (wpE (defs₀ (F := F)) 𝒱₀ (thr d i) none) Set.univ p k Q).symm

/-- A part of the program by what it was proved to leave, then the rest. -/
theorem w_then {β : Type} {P : sProp (MT nD τ sig (HIx 1) (Elt F) ℕ UU ℕ)} {p : Prog (Eff F i) β} {R : β → sProp (MT nD τ sig (HIx 1) (Elt F) ℕ UU ℕ)}
    {k : β → Prog (Eff F i) α} (h : P ⊢ W d i p R) :
    P ⊢ iprop((∀ b, R b -∗ W d i (k b) Q) -∗ W d i (p >>= k) Q) := by
  iintro HP HK
  iapply (w_seq d i Q p k)
  iapply (wp_wand_r frame (wpE (defs₀ (F := F)) 𝒱₀ (thr d i) none) Set.univ)
  isplitl [HP]
  · iapply h; iexact HP
  · iexact HK

/-- And with nothing after it. -/
theorem w_last {P : sProp (MT nD τ sig (HIx 1) (Elt F) ℕ UU ℕ)} {p : Prog (Eff F i) α} {R : α → sProp (MT nD τ sig (HIx 1) (Elt F) ℕ UU ℕ)}
    (h : P ⊢ W d i p R) : P ⊢ iprop((∀ b, R b -∗ Q b) -∗ W d i p Q) := by
  iintro HP HK
  iapply (wp_wand_r frame (wpE (defs₀ (F := F)) 𝒱₀ (thr d i) none) Set.univ)
  isplitl [HP]
  · iapply h; iexact HP
  · iexact HK

/-- A loop by its invariant. -/
theorem w_loop {σ : Type} {n : ℕ} (body : Fin n → σ → Prog (Eff F i) σ) (I : ℕ → σ → sProp (MT nD τ sig (HIx 1) (Elt F) ℕ UU ℕ))
    (hb : ∀ (k : Fin n) acc, I k.val acc ⊢ W d i (body k acc) (I (k.val + 1))) (acc : σ) :
    I 0 acc ⊢ W d i (Scf.forFrom body (List.finRange n) acc) (I n) := by
  have := Scf.wp_forFrom frame (wpE (defs₀ (F := F)) 𝒱₀ (thr d i) none) Set.univ body I hb (Q := I n) 0 (Nat.zero_le _) acc
  rw [List.drop_zero] at this
  iintro H
  iapply this
  isplitl [H]; · iexact H
  iintro %a H; iexact H

theorem w_for {σ : Type} (L : Scf.Loop 32) (hL : L.OK) (body : Fin L.trips → σ → Prog (Eff F i) σ) (I : ℕ → σ → sProp (MT nD τ sig (HIx 1) (Elt F) ℕ UU ℕ))
    (hb : ∀ (k : Fin L.trips) acc, I k.val acc ⊢ W d i (body k acc) (I (k.val + 1))) (acc : σ) :
    I 0 acc ⊢ W d i (Scf.Loop.for L hL acc body) (I L.trips) := by
  have := Scf.wp_for frame (wpE (defs₀ (F := F)) 𝒱₀ (thr d i) none) Set.univ L.lb L.ub L.st hL acc body I hb (Q := I L.trips)
  iintro H
  iapply this
  isplitl [H]; · iexact H
  iintro %a H; iexact H

end Steps

/-! ## What a whole buffer's accesses read and leave -/

section Values
variable {Val : EltTy → Type} (b : Ref sig .scVector) (r : Rect b.ty.shape)

theorem rd_apply (f : b.ty.Contents Val) (x : r.shape.Idx) : ((Memref.whole b).access r).read Val f x = f (r.emb x) := by
  rw [View.read_apply]; rfl

theorem wr_in (f : b.ty.Contents Val) (w : r.shape.Idx → Val b.ty.elt) (x : r.shape.Idx) :
    ((Memref.whole b).access r).write Val f w Finset.univ (r.emb x) = w x :=
  (View.write_emb_of_mem (v := (Memref.whole b).access r) f w (Finset.mem_univ x)).trans rfl

theorem wr_out (f : b.ty.Contents Val) (w : r.shape.Idx → Val b.ty.elt) (j : b.ty.shape.Idx) (h : j ∉ r.set) :
    ((Memref.whole b).access r).write Val f w Finset.univ j = f j :=
  View.write_of_not_mem (v := (Memref.whole b).access r) f w Finset.univ (by
    rw [View.setOn_univ]; intro hj; apply h
    obtain ⟨x, -, rfl⟩ := Finset.mem_map.mp hj
    exact (LoadRect.mem_set _).mpr fun a => ⟨(x a).val, (x a).isLt, rfl⟩)

/-- A scatter over a whole buffer, and a gather from it, as functions of its contents. -/
theorem stx_whole (g : b.ty.Contents (Elt F)) {n : Fin 1 → ℕ} (idxs : Fin b.ty.shape.rank → IVec ⟨1, n⟩ 32) (v : Vec F ⟨1, n⟩ b.ty.elt) (mask : IVec ⟨1, n⟩ 1) (add : Bool)
    (h : ∀ a x, (idxs a x).toNat < b.ty.shape.size a) :
    ((Memref.whole b).access (.whole b.ty.shape)).write (Elt F) g (storeIdx (F := F) (((Memref.whole b).access (.whole b.ty.shape)).read (Elt F) g) idxs v mask add h) Finset.univ
      = storeIdx (F := F) g idxs v mask add h := by
  rw [Memref.read_access_whole]
  exact Memref.write_access_whole_univ (Elt F) b g _

theorem ldx_whole (g : b.ty.Contents (Elt F)) {t : Shape} (idxs : Fin b.ty.shape.rank → IVec t 32) (h : ∀ a x, (idxs a x).toNat < b.ty.shape.size a) :
    loadIdx (F := F) (((Memref.whole b).access (.whole b.ty.shape)).read (Elt F) g) idxs h = loadIdx (F := F) g idxs h := by
  rw [Memref.read_access_whole]

end Values

/-- A run of sixteen in a line of `w`. -/
theorem unit_emb {w n : ℕ} (o : Fin 1 → ℕ) (inb : ∀ a, o a + (![n] : Fin 1 → ℕ) a ≤ (⟨1, ![w]⟩ : Shape).size a) (k : ℕ) (hk : k < n) :
    (Rect.unit (s := ⟨1, ![w]⟩) o ![n] inb).emb (at1 k hk) = at1 (o 0 + k) (lt_of_lt_of_le (Nat.add_lt_add_left hk _) (inb 0)) := by
  funext a; rw [Fin.eq_zero a]; apply Fin.ext; simp [Rect.unit, Rect.emb, at1]

theorem unit_notin {w n : ℕ} (o : Fin 1 → ℕ) (inb : ∀ a, o a + (![n] : Fin 1 → ℕ) a ≤ (⟨1, ![w]⟩ : Shape).size a) (c : ℕ) (hc : c < w)
    (h : c < o 0 ∨ o 0 + n ≤ c) : at1 c hc ∉ (Rect.unit (s := ⟨1, ![w]⟩) o ![n] inb).set := by
  intro hm
  have := Rect.mem_set_unit.mp hm 0
  have h1 : o 0 ≤ c := this.1
  have h2 : c < o 0 + n := this.2
  omega

/-- `g` is `f` with sixteen entries from `off` on replaced by `w`. -/
structure Put {n : ℕ} (off : Fin 1 → ℕ) (w : IVec S16 32) (f g : (⟨1, ![n]⟩ : Shape).Idx → BitVec 32) : Prop where
  on : ∀ x (hx : x < 16) (hc : off 0 + x < n), g (at1 (off 0 + x) hc) = w (at1 x hx)
  off : ∀ c (hc : c < n), (c < off 0 ∨ off 0 + 16 ≤ c) → g (at1 c hc) = f (at1 c hc)

theorem Put.at {n : ℕ} {off : Fin 1 → ℕ} {w : IVec S16 32} {f g : (⟨1, ![n]⟩ : Shape).Idx → BitVec 32} (h : Put off w f g) (c : ℕ) (hc : c < n)
    (h1 : off 0 ≤ c) (h2 : c - off 0 < 16) : g (at1 c hc) = w (at1 (c - off 0) h2) := by
  obtain ⟨x, rfl⟩ : ∃ x, c = off 0 + x := ⟨c - off 0, by omega⟩
  have e : off 0 + x - off 0 = x := by omega
  refine (h.on x (by omega) hc).trans ?_
  congr 1; funext a; exact Fin.ext e.symm

section Blocks
variable (d : Dev nD) (i : grid0.Coords) {α : Type} (Q : α → sProp (MT nD τ sig (HIx 1) (Elt F) ℕ UU ℕ))

theorem ldLen (off : Fin 1 → Nat) (inb : ∀ a, off a + S16.size a ≤ S16384.size a) (hl : (vLen).view.LoadsAt (Rect.unit (s := S16384) off S16.size inb).toLoadRect)
    (f : S16384.Idx → BitVec 32) (k : Vec F S16 .i32 → Prog (Eff F i) α) :
    pt (F := F) d i vLen f ⊢ iprop((∀ v : IVec S16 32, ⌜∀ x (hx : x < 16), v (at1 x hx) = f (at1 (off 0 + x) (lt_of_lt_of_le (Nat.add_lt_add_left hx _) (inb 0)))⌝ -∗ pt d i vLen f -∗ W d i (k v) Q)
      -∗ W d i (Prog.lift (TpuEff.load vLen (Rect.unit (s := S16384) off S16.size inb).toLoadRect hl) >>= k) Q) := by
  iintro H HK
  iapply (w_ld d i Q) $$ H
  iintro H
  iapply HK
  · ipureintro
    intro x hx
    refine (rd_apply (Val := Elt F) cc0_scratch0 (Rect.unit (s := S16384) off S16.size inb) f (at1 x hx)).trans ?_
    exact congrArg f (unit_emb (w := 16384) (n := 16) off inb x hx)
  · iexact H

theorem ldPos (off : Fin 1 → Nat) (inb : ∀ a, off a + S16.size a ≤ S256.size a) (hl : (vPos).view.LoadsAt (Rect.unit (s := S256) off S16.size inb).toLoadRect)
    (f : S256.Idx → BitVec 32) (k : Vec F S16 .i32 → Prog (Eff F i) α) :
    pt (F := F) d i vPos f ⊢ iprop((∀ v : IVec S16 32, ⌜∀ x (hx : x < 16), v (at1 x hx) = f (at1 (off 0 + x) (lt_of_lt_of_le (Nat.add_lt_add_left hx _) (inb 0)))⌝ -∗ pt d i vPos f -∗ W d i (k v) Q)
      -∗ W d i (Prog.lift (TpuEff.load vPos (Rect.unit (s := S256) off S16.size inb).toLoadRect hl) >>= k) Q) := by
  iintro H HK
  iapply (w_ld d i Q) $$ H
  iintro H
  iapply HK
  · ipureintro
    intro x hx
    refine (rd_apply (Val := Elt F) cc0_scratch1 (Rect.unit (s := S256) off S16.size inb) f (at1 x hx)).trans ?_
    exact congrArg f (unit_emb (w := 256) (n := 16) off inb x hx)
  · iexact H

theorem stPos (off : Fin 1 → Nat) (inb : ∀ a, off a + S16.size a ≤ S256.size a) (hx : ((vPos).access (Rect.unit (s := S256) off S16.size inb)).Stores Finset.univ)
    (hm : (Finset.univ : Finset (Rect.unit (s := S256) off S16.size inb).shape.Idx) = Finset.univ ∨ ∀ a, (Rect.unit (s := S256) off S16.size inb).stride a = 1)
    (f : S256.Idx → BitVec 32) (w : IVec S16 32) (k : PUnit → Prog (Eff F i) α) :
    pt (F := F) d i vPos f ⊢ iprop((∀ g : S256.Idx → BitVec 32, ⌜Put off w f g⌝ -∗ pt d i vPos g -∗ W d i (k ⟨⟩) Q)
      -∗ W d i (Prog.lift (TpuEff.store vPos (Rect.unit (s := S256) off S16.size inb) w Finset.univ hx hm) >>= k) Q) := by
  iintro H HK
  iapply (w_st d i Q) $$ H
  iintro H
  iapply HK
  rotate_left
  · iexact H
  ipureintro
  refine ⟨fun x hx hc => ?_, fun c hc h => ?_⟩
  · refine Eq.trans (congrArg _ (unit_emb (w := 256) (n := 16) off inb x hx).symm) ?_
    exact wr_in (Val := Elt F) cc0_scratch1 (Rect.unit (s := S256) off S16.size inb) f w _
  · exact wr_out (Val := Elt F) cc0_scratch1 _ f w _ (unit_notin (w := 256) (n := 16) off inb c hc h)

theorem ldIdx (off : Fin 1 → Nat) (inb : ∀ a, off a + S16.size a ≤ S512.size a) (hl : (vIdx).view.LoadsAt (Rect.unit (s := S512) off S16.size inb).toLoadRect)
    (f : S512.Idx → BitVec 32) (k : Vec F S16 .i32 → Prog (Eff F i) α) :
    pt (F := F) d i vIdx f ⊢ iprop((∀ v : IVec S16 32, ⌜∀ x (hx : x < 16), v (at1 x hx) = f (at1 (off 0 + x) (lt_of_lt_of_le (Nat.add_lt_add_left hx _) (inb 0)))⌝ -∗ pt d i vIdx f -∗ W d i (k v) Q)
      -∗ W d i (Prog.lift (TpuEff.load vIdx (Rect.unit (s := S512) off S16.size inb).toLoadRect hl) >>= k) Q) := by
  iintro H HK
  iapply (w_ld d i Q) $$ H
  iintro H
  iapply HK
  · ipureintro
    intro x hx
    refine (rd_apply (Val := Elt F) cc0_scratch2 (Rect.unit (s := S512) off S16.size inb) f (at1 x hx)).trans ?_
    exact congrArg f (unit_emb (w := 512) (n := 16) off inb x hx)
  · iexact H

/-- A load whose words are not used. -/
theorem ldRk (off : Fin 1 → Nat) (inb : ∀ a, off a + S16.size a ≤ S512.size a) (hl : (vRk).view.LoadsAt (Rect.unit (s := S512) off S16.size inb).toLoadRect)
    (f : S512.Idx → BitVec 32) (k : Vec F S16 .i32 → Prog (Eff F i) α) :
    pt (F := F) d i vRk f ⊢ iprop((∀ v : IVec S16 32, pt d i vRk f -∗ W d i (k v) Q)
      -∗ W d i (Prog.lift (TpuEff.load vRk (Rect.unit (s := S512) off S16.size inb).toLoadRect hl) >>= k) Q) := by
  iintro H HK
  iapply (w_ld d i Q) $$ H
  iintro H
  iapply HK
  iexact H

theorem stRk (off : Fin 1 → Nat) (inb : ∀ a, off a + S16.size a ≤ S512.size a) (hx : ((vRk).access (Rect.unit (s := S512) off S16.size inb)).Stores Finset.univ)
    (hm : (Finset.univ : Finset (Rect.unit (s := S512) off S16.size inb).shape.Idx) = Finset.univ ∨ ∀ a, (Rect.unit (s := S512) off S16.size inb).stride a = 1)
    (f : S512.Idx → BitVec 32) (w : IVec S16 32) (k : PUnit → Prog (Eff F i) α) :
    pt (F := F) d i vRk f ⊢ iprop((∀ g : S512.Idx → BitVec 32, ⌜Put off w f g⌝ -∗ pt d i vRk g -∗ W d i (k ⟨⟩) Q)
      -∗ W d i (Prog.lift (TpuEff.store vRk (Rect.unit (s := S512) off S16.size inb) w Finset.univ hx hm) >>= k) Q) := by
  iintro H HK
  iapply (w_st d i Q) $$ H
  iintro H
  iapply HK
  rotate_left
  · iexact H
  ipureintro
  refine ⟨fun x hx hc => ?_, fun c hc h => ?_⟩
  · refine Eq.trans (congrArg _ (unit_emb (w := 512) (n := 16) off inb x hx).symm) ?_
    exact wr_in (Val := Elt F) cc0_scratch3 (Rect.unit (s := S512) off S16.size inb) f w _
  · exact wr_out (Val := Elt F) cc0_scratch3 _ f w _ (unit_notin (w := 512) (n := 16) off inb c hc h)

/-- A load whose words are not used. -/
theorem ldSl (off : Fin 1 → Nat) (inb : ∀ a, off a + S16.size a ≤ S512.size a) (hl : (vSl).view.LoadsAt (Rect.unit (s := S512) off S16.size inb).toLoadRect)
    (f : S512.Idx → BitVec 32) (k : Vec F S16 .i32 → Prog (Eff F i) α) :
    pt (F := F) d i vSl f ⊢ iprop((∀ v : IVec S16 32, pt d i vSl f -∗ W d i (k v) Q)
      -∗ W d i (Prog.lift (TpuEff.load vSl (Rect.unit (s := S512) off S16.size inb).toLoadRect hl) >>= k) Q) := by
  iintro H HK
  iapply (w_ld d i Q) $$ H
  iintro H
  iapply HK
  iexact H

theorem stSl (off : Fin 1 → Nat) (inb : ∀ a, off a + S16.size a ≤ S512.size a) (hx : ((vSl).access (Rect.unit (s := S512) off S16.size inb)).Stores Finset.univ)
    (hm : (Finset.univ : Finset (Rect.unit (s := S512) off S16.size inb).shape.Idx) = Finset.univ ∨ ∀ a, (Rect.unit (s := S512) off S16.size inb).stride a = 1)
    (f : S512.Idx → BitVec 32) (w : IVec S16 32) (k : PUnit → Prog (Eff F i) α) :
    pt (F := F) d i vSl f ⊢ iprop((∀ g : S512.Idx → BitVec 32, ⌜Put off w f g⌝ -∗ pt d i vSl g -∗ W d i (k ⟨⟩) Q)
      -∗ W d i (Prog.lift (TpuEff.store vSl (Rect.unit (s := S512) off S16.size inb) w Finset.univ hx hm) >>= k) Q) := by
  iintro H HK
  iapply (w_st d i Q) $$ H
  iintro H
  iapply HK
  rotate_left
  · iexact H
  ipureintro
  refine ⟨fun x hx hc => ?_, fun c hc h => ?_⟩
  · refine Eq.trans (congrArg _ (unit_emb (w := 512) (n := 16) off inb x hx).symm) ?_
    exact wr_in (Val := Elt F) cc0_scratch4 (Rect.unit (s := S512) off S16.size inb) f w _
  · exact wr_out (Val := Elt F) cc0_scratch4 _ f w _ (unit_notin (w := 512) (n := 16) off inb c hc h)

end Blocks

end Cert.KernelIdeal.Own
-- ==== Proof.Hist.lean ====
/- The tile's first two phases: the histogram of the lengths, and where each value's run begins. -/
module

public import proofs.«01_k».proof.Proof.Setup

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The count table holds `p`. -/
def Tab (f : S256.Idx → BitVec 32) (p : ℕ → ℕ) : Prop := ∀ c (hc : c < 256), f (at1 c hc) = BitVec.ofNat 32 (p c)

/-- The lengths' buffer holds `l`, each below 256. -/
structure Lens (f : S16384.Idx → BitVec 32) (l : ℕ → ℕ) : Prop where
  val : ∀ n (hn : n < 16384), (f (at1 n hn)).toNat = l n
  lt : ∀ n, l n < 256

theorem off1_eq : ∀ k : Fin k0_t1_loop.trips, k0_off1 k 0 = 64 * k.val := by decide +kernel
theorem off2_eq : ∀ k : Fin k0_t1_loop.trips, k0_off2 k 0 = 64 * k.val + 16 := by decide +kernel
theorem off3_eq : ∀ k : Fin k0_t1_loop.trips, k0_off3 k 0 = 64 * k.val + 32 := by decide +kernel
theorem off4_eq : ∀ k : Fin k0_t1_loop.trips, k0_off4 k 0 = 64 * k.val + 48 := by decide +kernel

variable (d : Dev nD) (i : grid0.Coords)

/-- Sixteen words of the lengths, as loaded. -/
theorem len_lane {f : S16384.Idx → BitVec 32} {l : ℕ → ℕ} (hl : Lens f l) (off : Fin 1 → Nat) (inb : ∀ a, off a + S16.size a ≤ S16384.size a)
    (k : ℕ) (hk : k < 16) :
    (((vLen.access (Rect.unit (s := S16384) off S16.size inb)).read (Elt F) f : S16.Idx → BitVec 32) (at1 k hk)).toNat = l (off 0 + k) := by
  refine (congrArg BitVec.toNat (rd_apply (Val := Elt F) cc0_scratch0 (Rect.unit (s := S16384) off S16.size inb) f (at1 k hk))).trans ?_
  refine (congrArg (fun x => (f x).toNat) (unit_emb (w := 16384) (n := 16) off inb k hk)).trans ?_
  exact hl.val _ _

theorem w_zeroBlk (b : Fin 16) (f : S256.Idx → BitVec 32) (h : ∀ c (hc : c < 256), c < 16 * b.val → f (at1 c hc) = 0#32) :
    pt (F := F) d i vPos f ⊢ W d i (zeroBlk i b) fun _ => iprop(∃ g : S256.Idx → BitVec 32, ⌜∀ c (hc : c < 256), c < 16 * (b.val + 1) → g (at1 c hc) = 0#32⌝ ∗ pt d i vPos g) := by
  unfold zeroBlk
  iintro H
  iapply (ldPos d i _) $$ H
  iintro %_ %_ H
  rw [← bind_pure (Prog.lift _)]
  iapply (stPos d i _) $$ H
  iintro %g %hg H
  iapply (w_ret d i _)
  iexists g
  isplitr
  swap
  · iexact H
  ipureintro
  intro c hc hlt
  by_cases hb : 16 * b.val ≤ c
  · exact hg.at c hc hb (by show c - 16 * b.val < 16; omega)
  · exact (hg.off c hc (.inl (by show c < 16 * b.val; omega))).trans (h c hc (by omega))

theorem w_zero (f : S256.Idx → BitVec 32) :
    pt (F := F) d i vPos f ⊢ W d i (Scf.forFrom (fun b (_ : PUnit) => zeroBlk i b) (List.finRange 16) ⟨⟩)
      fun _ => iprop(∃ g : S256.Idx → BitVec 32, ⌜Tab g fun _ => 0⌝ ∗ pt d i vPos g) := by
  iintro H
  iapply (w_last d i _ (w_loop d i (fun b (_ : PUnit) => zeroBlk (F := F) i b)
    (fun k _ => iprop(∃ g : S256.Idx → BitVec 32, ⌜∀ c (hc : c < 256), c < 16 * k → g (at1 c hc) = 0#32⌝ ∗ pt d i vPos g)) ?_ ⟨⟩)) $$ [H]
  · intro k _
    iintro ⟨%g, %hg, H⟩
    iapply (w_zeroBlk d i k g hg) $$ H
  · iexists f
    isplitr
    · ipureintro; intro c hc h; omega
    · iexact H
  iintro %_ ⟨%g, %hg, H⟩
  iexists g
  isplitr
  · ipureintro; intro c hc; exact hg c hc (by omega)
  · iexact H

/-- A scatter over the count table, as a function of the table. -/
theorem stx_pos {n : Fin 1 → ℕ} (g : S256.Idx → BitVec 32) (idxs : Fin 1 → IVec ⟨1, n⟩ 32) (v : IVec ⟨1, n⟩ 32) (mask : IVec ⟨1, n⟩ 1) (add : Bool)
    (h : ∀ a x, (idxs a x).toNat < S256.size a) :
    ((vPos.access (.whole S256)).write (Elt F) g (storeIdx (F := F) (e := .i32) ((vPos.access (.whole S256)).read (Elt F) g) idxs v mask add h) Finset.univ : S256.Idx → BitVec 32)
      = storeIdx (F := F) (s := S256) (e := .i32) g idxs v mask add h :=
  stx_whole cc0_scratch1 g idxs v mask add h

theorem tab_count (g : S256.Idx → BitVec 32) (l : ℕ → ℕ) (o : ℕ) (v : IVec S16 32) (hv : ∀ k (hk : k < 16), (v (at1 k hk)).toNat = l (o + k))
    (h : ∀ a x, ((![v] : Fin 1 → IVec S16 32) a x).toNat < S256.size a) (hg : Tab g fun c => cnt l 0 o c) :
    Tab (storeIdx (F := F) (s := S256) (e := .i32) (d := ![16]) g ![v] (scanCount (broadcast S16 1#1) v).2 (scanCount (broadcast S16 1#1) v).1 true h)
      fun c => cnt l 0 (o + 16) c := by
  intro c hc
  refine (count_step (F := F) (w := 256) (n := 16) g v (fun k => l (o + k)) hv h c hc).trans ?_
  show g (at1 c hc) + _ = BitVec.ofNat 32 (cnt l 0 (o + 16) c)
  rw [hg c hc, cnt_split l c (Nat.zero_le o) (Nat.le_add_right _ 16), cnt_lanes, ← BitVec.ofNat_add]

theorem w_histUnit (off : Fin 1 → Nat) (inb : ∀ a, off a + S16.size a ≤ S16384.size a) {f : S16384.Idx → BitVec 32} {l : ℕ → ℕ} (hl : Lens f l)
    {g : S256.Idx → BitVec 32} (o : ℕ) (ho : off 0 = o) (hg : Tab g fun c => cnt l 0 o c) :
    iprop(pt (F := F) d i vLen f ∗ pt d i vPos g) ⊢ W d i (histUnit i off inb) fun _ =>
      iprop(pt (F := F) d i vLen f ∗ ∃ g : S256.Idx → BitVec 32, ⌜Tab g fun c => cnt l 0 (o + 16) c⌝ ∗ pt d i vPos g) := by
  subst ho
  have hv := len_lane (F := F) hl off inb
  unfold histUnit
  iintro ⟨HL, HP⟩
  iapply (w_ld d i _) $$ HL
  iintro HL
  generalize (vLen.access (Rect.unit (s := S16384) off S16.size inb)).read (Elt F) f = v at hv ⊢
  have hck : k0_chk1 v := by
    intro a x
    rw [Fin.eq_zero a]
    obtain ⟨k, hk, rfl⟩ := at1_ex (n := 16) x
    exact lt_of_eq_of_lt (hv k hk) (hl.lt _)
  iapply (w_as d i _ hck)
  rw [← bind_pure (SparseCore.vectorStoreIdx _ _ _ _ _ _ _)]
  iapply (w_stx d i _ (Memref.set_access_whole _)) $$ HP
  iintro HP
  iapply (w_ret d i _)
  isplitl [HL]; · iexact HL
  iexists (storeIdx (F := F) (s := S256) (e := .i32) (d := ![16]) g ![v] (scanCount (broadcast S16 1#1) v).2 (scanCount (broadcast S16 1#1) v).1 true (k0_idx1_inb v hck))
  isplitr
  · ipureintro
    exact tab_count g l (off 0) v hv _ hg
  · rw [stx_pos]
    iexact HP

theorem w_histTrip (k : Fin k0_t1_loop.trips) {f : S16384.Idx → BitVec 32} {l : ℕ → ℕ} (hl : Lens f l)
    {g : S256.Idx → BitVec 32} (hg : Tab g fun c => cnt l 0 (64 * k.val) c) :
    iprop(pt (F := F) d i vLen f ∗ pt d i vPos g) ⊢ W d i (histTrip i k) fun _ =>
      iprop(pt (F := F) d i vLen f ∗ ∃ g : S256.Idx → BitVec 32, ⌜Tab g fun c => cnt l 0 (64 * (k.val + 1)) c⌝ ∗ pt d i vPos g) := by
  unfold histTrip
  iintro H
  iapply (w_then d i _ (w_histUnit d i (k0_off1 k) (k0_off1_inb k) hl _ (off1_eq k) hg)) $$ H
  iintro %_ ⟨HL, %g1, %h1, HP⟩
  iapply (w_then d i _ (w_histUnit d i (k0_off2 k) (k0_off2_inb k) hl _ (off2_eq k) h1)) $$ [HL HP]; · isplitl [HL] <;> iassumption
  iintro %_ ⟨HL, %g2, %h2, HP⟩
  iapply (w_then d i _ (w_histUnit d i (k0_off3 k) (k0_off3_inb k) hl _ (off3_eq k) h2)) $$ [HL HP]; · isplitl [HL] <;> iassumption
  iintro %_ ⟨HL, %g3, %h3, HP⟩
  iapply (w_last d i _ (w_histUnit d i (k0_off4 k) (k0_off4_inb k) hl _ (off4_eq k) h3)) $$ [HL HP]; · isplitl [HL] <;> iassumption
  iintro %_ ⟨HL, %g4, %h4, HP⟩
  isplitl [HL]; · iexact HL
  iexists g4
  isplitr; · ipureintro; exact h4
  iexact HP

theorem w_hist {f : S16384.Idx → BitVec 32} {l : ℕ → ℕ} (hl : Lens f l) {g : S256.Idx → BitVec 32} (hg : Tab g fun _ => 0) :
    iprop(pt (F := F) d i vLen f ∗ pt d i vPos g) ⊢ W d i (histLoop i) fun _ =>
      iprop(pt (F := F) d i vLen f ∗ ∃ g : S256.Idx → BitVec 32, ⌜Tab g fun c => cnt l 0 16384 c⌝ ∗ pt d i vPos g) := by
  unfold histLoop
  iintro ⟨HL, HP⟩
  iapply (w_last d i _ (w_for d i k0_t1_loop k0_t1_ok (fun k (_ : BitVec 32) => do histTrip (F := F) i k; pure 0#32)
    (fun k _ => iprop(pt (F := F) d i vLen f ∗ ∃ g : S256.Idx → BitVec 32, ⌜Tab g fun c => cnt l 0 (64 * k) c⌝ ∗ pt d i vPos g)) ?_ 0#32)) $$ [HL HP]
  · intro k _
    iintro ⟨HL, %g, %hg, HP⟩
    iapply (w_then d i _ (w_histTrip d i k hl hg)) $$ [HL HP]; · isplitl [HL] <;> iassumption
    iintro %_ H
    iapply (w_ret d i _) $$ H
  · isplitl [HL]; · iexact HL
    iexists g
    isplitr
    · ipureintro; intro c hc; rw [hg c hc]; exact congrArg _ (cnt_self l 0 c).symm
    · iexact HP
  iintro %_ ⟨HL, %g, %hg, HP⟩
  isplitl [HL]; · iexact HL
  iexists g
  isplitr
  · ipureintro; exact hg
  · iexact HP

/-! ## Where each value's run begins -/

/-- What replaces a block's counts, lane by lane. -/
theorem suf_lane (v : IVec S16 32) (g : ℕ → ℕ) (hv : ∀ k (hk : k < 16), v (at1 k hk) = BitVec.ofNat 32 (g k)) (C : ℕ) (x : ℕ) (hx : x < 16) :
    subi (broadcast S16 (Scalar.addi (BitVec.ofNat 32 C) (extractAt ![15] (scan .sum v) inpos_S16_p15))) (scan .sum v) (at1 x hx)
      = BitVec.ofNat 32 (C + ∑ j ∈ Finset.range (15 - x), g (x + 1 + j)) := by
  have h15 : extractAt ![15] (scan .sum v) inpos_S16_p15 = BitVec.ofNat 32 (∑ j ∈ Finset.range 16, g j) := by
    refine Eq.trans ?_ (scan_sum (n := 16) v g hv 15 (by decide))
    unfold extractAt
    congr 1; funext a; rw [Fin.eq_zero a]; rfl
  have hs := scan_sum (n := 16) v g hv x hx
  show BitVec.ofNat 32 C + extractAt ![15] (scan .sum v) inpos_S16_p15 - scan .sum v (at1 x hx) = _
  rw [h15, hs]
  have e : (∑ j ∈ Finset.range 16, g j) = (∑ j ∈ Finset.range (x + 1), g j) + ∑ j ∈ Finset.range (15 - x), g (x + 1 + j) := by
    rw [← Finset.sum_range_add g (x + 1) (15 - x)]
    congr 2; omega
  rw [e, BitVec.ofNat_add, BitVec.ofNat_add, BitVec.add_comm (BitVec.ofNat 32 (∑ j ∈ Finset.range (x + 1), g j)), ← BitVec.add_assoc]
  exact BitVec.add_sub_cancel _ _

theorem suf_tot (v : IVec S16 32) (g : ℕ → ℕ) (hv : ∀ k (hk : k < 16), v (at1 k hk) = BitVec.ofNat 32 (g k)) (C : ℕ) :
    Scalar.addi (BitVec.ofNat 32 C) (extractAt ![15] (scan .sum v) inpos_S16_p15) = BitVec.ofNat 32 (C + ∑ j ∈ Finset.range 16, g j) := by
  have h15 : extractAt ![15] (scan .sum v) inpos_S16_p15 = BitVec.ofNat 32 (∑ j ∈ Finset.range 16, g j) := by
    refine Eq.trans ?_ (scan_sum (n := 16) v g hv 15 (by decide))
    unfold extractAt
    congr 1; funext a; rw [Fin.eq_zero a]; rfl
  show BitVec.ofNat 32 C + _ = _
  rw [h15, BitVec.ofNat_add]

/-- The table with the blocks from `m` on replaced. -/
structure Suf (N : ℕ) (l : ℕ → ℕ) (f : S256.Idx → BitVec 32) (m : ℕ) : Prop where
  hi : ∀ c (hc : c < 256), 16 * m ≤ c → f (at1 c hc) = BitVec.ofNat 32 (above N l c)
  lo : ∀ c (hc : c < 256), c < 16 * m → f (at1 c hc) = BitVec.ofNat 32 (cnt l 0 N c)

theorem suf_next (N : ℕ) (l : ℕ → ℕ) (k r : ℕ) (hkr : r = 15 - k) (C : ℕ) (hC' : ∀ c, c + 1 = 16 * (16 - k) → C = above N l c) (c : ℕ)
    (hc : c + 1 = 16 * (16 - (k + 1))) : C + ∑ j ∈ Finset.range 16, cnt l 0 N (16 * r + j) = above N l c := by
  have e := above_add N l c 16
  have e2 : C = above N l (c + 16) := hC' (c + 16) (by omega)
  have e3 : (∑ j ∈ Finset.range 16, cnt l 0 N (16 * r + j)) = ∑ x ∈ Finset.range 16, cnt l 0 N (c + 1 + x) :=
    Finset.sum_congr rfl fun j _ => congrArg (cnt l 0 N) (by omega)
  omega

theorem suf_put (N : ℕ) (l : ℕ → ℕ) (k r : ℕ) (hk : k < 16) (hkr : r = 15 - k) (C : ℕ) (hC' : ∀ c, c + 1 = 16 * (16 - k) → C = above N l c)
    {f g : S256.Idx → BitVec 32} (hf : Suf N l f (16 - k)) {v : IVec S16 32} (hv : ∀ j (hj : j < 16), v (at1 j hj) = BitVec.ofNat 32 (cnt l 0 N (16 * r + j)))
    (hg : Put (n := 256) ![16 * r] (subi (broadcast S16 (Scalar.addi (BitVec.ofNat 32 C) (extractAt ![15] (scan .sum v) inpos_S16_p15))) (scan .sum v)) f g) :
    Suf N l g (16 - (k + 1)) := by
  refine ⟨fun c hc h => ?_, fun c hc h => ?_⟩
  · by_cases h2 : c < 16 * (16 - k)
    · refine (hg.at c hc (by show 16 * r ≤ c; omega) (by show c - 16 * r < 16; omega)).trans ?_
      refine (suf_lane v _ hv C (c - 16 * r) (by omega)).trans ?_
      refine congrArg (BitVec.ofNat 32) ?_
      have e := above_add N l c (15 - (c - 16 * r))
      have e2 : C = above N l (c + (15 - (c - 16 * r))) := hC' _ (by omega)
      have e3 : (∑ j ∈ Finset.range (15 - (c - 16 * r)), cnt l 0 N (16 * r + (c - 16 * r + 1 + j))) = ∑ x ∈ Finset.range (15 - (c - 16 * r)), cnt l 0 N (c + 1 + x) :=
        Finset.sum_congr rfl fun j _ => congrArg (cnt l 0 N) (by omega)
      omega
    · exact (hg.off c hc (.inr (by show 16 * r + 16 ≤ c; omega))).trans (hf.hi c hc (by omega))
  · exact (hg.off c hc (.inl (by show c < 16 * r; omega))).trans (hf.lo c hc (by omega))

theorem w_sufBlk (N : ℕ) (l : ℕ → ℕ) (k : Fin 16) (carry : BitVec 32) (C : ℕ) (hC : carry = BitVec.ofNat 32 C) (hC' : ∀ c, c + 1 = 16 * (16 - k.val) → C = above N l c)
    {f : S256.Idx → BitVec 32} (hf : Suf N l f (16 - k.val)) :
    pt (F := F) d i vPos f ⊢ W d i (sufBlk i k carry) fun carry' =>
      iprop(∃ (C' : ℕ) (g : S256.Idx → BitVec 32), ⌜carry' = BitVec.ofNat 32 C' ∧ (∀ c, c + 1 = 16 * (16 - (k.val + 1)) → C' = above N l c) ∧ Suf N l g (16 - (k.val + 1))⌝ ∗ pt d i vPos g) := by
  subst hC
  have hk := k.isLt
  have hkr : k.rev.val = 15 - k.val := by rw [Fin.val_rev]; omega
  unfold sufBlk sufHead
  simp only [bind_assoc, pure_bind]
  iintro H
  iapply (ldPos d i _) $$ H
  iintro %v %hv0 H
  have hv : ∀ j (hj : j < 16), v (at1 j hj) = BitVec.ofNat 32 (cnt l 0 N (16 * k.rev.val + j)) := fun j hj =>
    (hv0 j hj).trans (hf.lo _ _ (by show 16 * k.rev.val + j < _; omega))
  iapply (ldPos d i _) $$ H
  iintro %_ %_ H
  iapply (stPos d i _) $$ H
  iintro %g %hg H
  iapply (w_ret d i _)
  iexists (C + ∑ j ∈ Finset.range 16, cnt l 0 N (16 * k.rev.val + j))
  iexists g
  isplitr
  swap
  · iexact H
  ipureintro
  exact ⟨suf_tot v _ hv C, suf_next N l k.val k.rev.val hkr C hC', suf_put N l k.val k.rev.val hk hkr C hC' hf hv hg⟩

theorem w_phaseB (N : ℕ) (l : ℕ → ℕ) (hl : ∀ n, l n < 256) {g : S256.Idx → BitVec 32} (hg : Tab g fun c => cnt l 0 N c) :
    pt (F := F) d i vPos g ⊢ W d i (phaseB i) fun _ =>
      iprop(∃ g : S256.Idx → BitVec 32, ⌜Tab g fun c => above N l c⌝ ∗ pt d i vPos g) := by
  unfold phaseB
  iintro H
  iapply (w_then d i _ (w_loop d i (sufBlk (F := F) i)
    (fun k carry => iprop(∃ (C : ℕ) (g : S256.Idx → BitVec 32), ⌜carry = BitVec.ofNat 32 C ∧ (∀ c, c + 1 = 16 * (16 - k) → C = above N l c) ∧ Suf N l g (16 - k)⌝ ∗ pt d i vPos g)) ?_ 0#32)) $$ [H]
  · intro k carry
    iintro ⟨%C, %g, %h, H⟩
    iapply (w_sufBlk d i N l k carry C h.1 h.2.1 h.2.2) $$ H
  · iexists 0
    iexists g
    isplitr
    · ipureintro
      refine ⟨rfl, fun c hc => ?_, fun c hc h => by omega, fun c hc _ => hg c hc⟩
      have : c = 255 := by omega
      rw [this, above_top N l hl]
    · iexact H
  iintro %_ ⟨%C, %g, %h, H⟩
  iapply (w_ret d i _)
  iexists g
  isplitr
  · ipureintro; intro c hc; exact h.2.2.hi c hc (by omega)
  · iexact H

end Cert.KernelIdeal.Own
-- ==== Proof.Offs.lean ====
/- Where the tile's offsets lie, by trip and worker. -/
module

public import proofs.«01_k».proof.Proof.Setup

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The worker's number. -/
def wn (i : grid0.Coords) : ℕ := 2 * (i 1).val + (i 0).val

theorem wn_lt : ∀ i : grid0.Coords, wn i < 32 := by decide +kernel

theorem off5_eq : ∀ k : Fin k0_t2_loop.trips, k0_off5 k 0 = 32 * k.val := by decide +kernel
theorem off7_eq : ∀ k : Fin k0_t2_loop.trips, k0_off7 k 0 = 32 * k.val + 16 := by decide +kernel
theorem cond1_iff : ∀ (i : grid0.Coords) (k : Fin k0_t2_loop.trips), k0_cond1 i k = 1#1 ↔ (512 * wn i ≤ 32 * k.val ∧ 32 * k.val < 512 * wn i + 512) := by decide +kernel
theorem cond2_iff : ∀ (i : grid0.Coords) (k : Fin k0_t2_loop.trips), k0_cond2 i k = 1#1 ↔ (512 * wn i ≤ 32 * k.val + 16 ∧ 32 * k.val + 16 < 512 * wn i + 512) := by decide +kernel
theorem off6_eq : ∀ (i : grid0.Coords) (k : Fin k0_t2_loop.trips), k0_cond1 i k = 1#1 → k0_off6 i k 0 = 32 * k.val - 512 * wn i := by decide +kernel
theorem off8_eq : ∀ (i : grid0.Coords) (k : Fin k0_t2_loop.trips), k0_cond2 i k = 1#1 → k0_off8 i k 0 = 32 * k.val + 16 - 512 * wn i := by decide +kernel
theorem ent1 : ∀ k : Fin k0_t2_loop.trips, Scalar.addi (Scalar.muli (Scf.iv 0#32 1#32 k.val) 2#32) 0#32 * 16#32 = BitVec.ofNat 32 (32 * k.val) := by decide +kernel
theorem ent2 : ∀ k : Fin k0_t2_loop.trips, Scalar.addi (Scalar.muli (Scf.iv 0#32 1#32 k.val) 2#32) 1#32 * 16#32 = BitVec.ofNat 32 (32 * k.val + 16) := by decide +kernel
theorem t2_trips : k0_t2_loop.trips = 512 := by decide +kernel

end Cert.KernelIdeal.Own
-- ==== Proof.Rank.lean ====
/- The tile's third phase: every entry's rank, the worker's ranks kept, and the entries whose ranks are the worker's put in order. -/
module

public import proofs.«01_k».proof.Proof.Hist
public import proofs.«01_k».proof.Proof.Offs

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem wid_eq (i : grid0.Coords) : wid i = BitVec.ofNat 32 (wn i) := by
  show BitVec.ofNat 32 (i 1).val * 2#32 + BitVec.ofNat 32 (i 0).val = _
  unfold wn
  rw [BitVec.ofNat_add, BitVec.ofNat_mul, BitVec.mul_comm]

/-- A rank's place in the worker's part: the word it is compared by. -/
theorem diff_toInt (R w : ℕ) (hR : R < 16384) (hw : w < 32) :
    (BitVec.ofNat 32 R - BitVec.ofNat 32 w * 512#32).toInt = (R : ℤ) - 512 * w := by
  have e : BitVec.ofNat 32 w * 512#32 = BitVec.ofNat 32 (512 * w) := by rw [BitVec.ofNat_mul, BitVec.mul_comm]
  rw [e, BitVec.toInt_eq_toNat_cond, BitVec.toNat_sub, BitVec.toNat_ofNat, BitVec.toNat_ofNat]
  split <;> omega

theorem mine_iff (i : grid0.Coords) (r : IVec S16 32) (R : ℕ) (hR : R < 16384) (x : ℕ) (hx : x < 16) (hr : r (at1 x hx) = BitVec.ofNat 32 R) :
    mineOf i r (at1 x hx) = 1#1 ↔ 512 * wn i ≤ R ∧ R < 512 * wn i + 512 := by
  have hb : ∀ p q : Bool, BitVec.ofBool p &&& BitVec.ofBool q = 1#1 ↔ (p = true ∧ q = true) := by decide
  have hd := diff_toInt R (wn i) hR (wn_lt i)
  have h0 : (0#32 : BitVec 32).toInt = 0 := by decide
  have h5 : (512#32 : BitVec 32).toInt = 512 := by decide
  show BitVec.ofBool ((0#32).sle (r (at1 x hx) - wid i * 512#32)) &&& BitVec.ofBool ((r (at1 x hx) - wid i * 512#32).slt 512#32) = 1#1 ↔ _
  rw [hb, hr, wid_eq, BitVec.sle_eq_decide, BitVec.slt_eq_decide, hd, h0, h5, decide_eq_true_eq, decide_eq_true_eq]
  omega

theorem slot_mine (i : grid0.Coords) (r : IVec S16 32) (R : ℕ) (hR : R < 16384) (x : ℕ) (hx : x < 16) (hr : r (at1 x hx) = BitVec.ofNat 32 R)
    (hm : mineOf i r (at1 x hx) = 1#1) : (slotOf i r (at1 x hx)).toNat = R - 512 * wn i := by
  have h := (mine_iff i r R hR x hx hr).mp hm
  have hd := diff_toInt R (wn i) hR (wn_lt i)
  have e : slotOf i r (at1 x hx) = BitVec.ofNat 32 R - BitVec.ofNat 32 (wn i) * 512#32 := by
    refine (if_pos hm).trans ?_
    show r (at1 x hx) - wid i * 512#32 = _
    rw [hr, wid_eq]
  rw [e]
  rw [BitVec.toInt_eq_toNat_cond] at hd
  split at hd <;> omega

theorem slot_lt (i : grid0.Coords) (r : IVec S16 32) (R : ℕ → ℕ) (hR : ∀ x, x < 16 → R x < 16384) (hr : ∀ x (hx : x < 16), r (at1 x hx) = BitVec.ofNat 32 (R x)) :
    k0_chk6 (slotOf i r) := by
  intro a y
  rw [Fin.eq_zero a]
  obtain ⟨x, hx, rfl⟩ := at1_ex (n := 16) y
  show (slotOf i r (at1 x hx)).toNat < 512
  by_cases hm : mineOf i r (at1 x hx) = 1#1
  · have h := (mine_iff i r (R x) (hR x hx) x hx (hr x hx)).mp hm
    rw [slot_mine i r (R x) (hR x hx) x hx (hr x hx) hm]
    omega
  · have e : slotOf i r (at1 x hx) = 0#32 := if_neg hm
    rw [e]; decide

/-- The part of the order after the entries below `n`. -/
def Part (l : ℕ → ℕ) (w n : ℕ) (q : S512.Idx → BitVec 32) : Prop :=
  ∀ m, m < n → ∀ p (hp : p < 512), rank 16384 l m = 512 * w + p → q (at1 p hp) = BitVec.ofNat 32 m

theorem part_step (l : ℕ → ℕ) (i : grid0.Coords) (n : ℕ) (hn : n + 16 ≤ 16384) (r u : IVec S16 32)
    (hr : ∀ x (hx : x < 16), r (at1 x hx) = BitVec.ofNat 32 (rank 16384 l (n + x))) (hu : ∀ x (hx : x < 16), u (at1 x hx) = BitVec.ofNat 32 (n + x))
    (h : ∀ a x, ((![slotOf i r] : Fin 1 → IVec S16 32) a x).toNat < S512.size a) (q : S512.Idx → BitVec 32) (hq : Part l (wn i) n q) :
    Part l (wn i) (n + 16) (storeIdx (F := F) (s := S512) (e := .i32) (d := ![16]) q ![slotOf i r] u (mineOf i r) false h) := by
  have hR : ∀ x, x < 16 → rank 16384 l (n + x) < 16384 := fun x hx => rank_lt 16384 l (by omega)
  intro m hm p hp hmp
  refine (storeIdx_apply (F := F) (n := 16) (w := 512) q (slotOf i r) u (mineOf i r) false h (at1 p hp)).trans ?_
  by_cases hlt : m < n
  · refine (foldl_none (κ := Fin 16) (fun k => mineOf i r (at1 k.val k.isLt) = 1 ∧ p = (slotOf i r (at1 k.val k.isLt)).toNat) _ _ _ ?_).trans (hq m hlt p hp hmp)
    rintro k ⟨h1, h2⟩
    have hk := (mine_iff i r _ (hR k.val k.isLt) k.val k.isLt (hr k.val k.isLt)).mp h1
    rw [slot_mine i r _ (hR k.val k.isLt) k.val k.isLt (hr k.val k.isLt) h1] at h2
    have := rank_inj 16384 l (n := m) (m := n + k.val) (by omega) (by have := k.isLt; omega) (by omega)
    omega
  · obtain ⟨x, rfl⟩ : ∃ x, m = n + x := ⟨m - n, by omega⟩
    have hx : x < 16 := by omega
    refine (foldl_one (κ := Fin 16) (fun k => mineOf i r (at1 k.val k.isLt) = 1 ∧ p = (slotOf i r (at1 k.val k.isLt)).toNat) (fun k _ => u (at1 k.val k.isLt)) _ (List.nodup_finRange 16) _ ⟨x, hx⟩
      (List.mem_finRange _) ?_ ?_).trans (hu x hx)
    · have h1 : mineOf i r (at1 x hx) = 1#1 := (mine_iff i r _ (hR x hx) x hx (hr x hx)).mpr (by omega)
      refine ⟨h1, ?_⟩
      show p = (slotOf i r (at1 x hx)).toNat
      rw [slot_mine i r _ (hR x hx) x hx (hr x hx) h1]
      omega
    · rintro k ⟨h1, h2⟩
      have hk := (mine_iff i r _ (hR k.val k.isLt) k.val k.isLt (hr k.val k.isLt)).mp h1
      rw [slot_mine i r _ (hR k.val k.isLt) k.val k.isLt (hr k.val k.isLt) h1] at h2
      have := rank_inj 16384 l (n := n + x) (m := n + k.val) (by omega) (by have := k.isLt; omega) (by omega)
      exact Fin.ext (by show k.val = x; omega)

theorem rank_lanes (g : S256.Idx → BitVec 32) (l : ℕ → ℕ) (n : ℕ) (v : IVec S16 32) (hv : ∀ x (hx : x < 16), (v (at1 x hx)).toNat = l (n + x))
    (h : ∀ a x, ((![v] : Fin 1 → IVec S16 32) a x).toNat < S256.size a) (hg : Tab g fun c => above 16384 l c + cnt l 0 n c) (x : ℕ) (hx : x < 16) :
    subi (addi (loadIdx (F := F) (s := S256) (t := S16) (e := .i32) g ![v] h) (scanCount (broadcast S16 1#1) v).2) (broadcast S16 1#32) (at1 x hx)
      = BitVec.ofNat 32 (rank 16384 l (n + x)) := by
  have h1 : loadIdx (F := F) (s := S256) (t := S16) (e := .i32) g ![v] h (at1 x hx) = BitVec.ofNat 32 (above 16384 l (l (n + x)) + cnt l 0 n (l (n + x))) := by
    refine (loadIdx_lane (F := F) (n := 16) (w := 256) g v h x hx).trans ?_
    refine (hg _ (h 0 (at1 x hx))).trans ?_
    show BitVec.ofNat 32 (above 16384 l (v (at1 x hx)).toNat + cnt l 0 n (v (at1 x hx)).toNat) = _
    rw [hv x hx]
  have h2 := scanCount_count (n := 16) v (fun k => l (n + k)) hv x hx
  have e : ((Finset.range (x + 1)).filter fun y => l (n + y) = l (n + x)).card = cnt l n (n + x) (l (n + x)) + 1 := by
    rw [← cnt_lanes, ← Nat.add_assoc, cnt_succ l _ (Nat.le_add_right n x), if_pos rfl]
  show loadIdx (F := F) (s := S256) (t := S16) (e := .i32) g ![v] h (at1 x hx) + (scanCount (broadcast S16 1#1) v).2 (at1 x hx) - 1#32 = _
  rw [h1]
  refine (congrArg (fun z => BitVec.ofNat 32 (above 16384 l (l (n + x)) + cnt l 0 n (l (n + x))) + z - 1#32) h2).trans ?_
  rw [e]
  unfold rank
  rw [cnt_split l (l (n + x)) (Nat.zero_le n) (Nat.le_add_right n x), BitVec.ofNat_add _ 1, ← BitVec.add_assoc, ← BitVec.ofNat_add, Nat.add_assoc]
  exact BitVec.add_sub_cancel _ _

theorem tab_rank (g : S256.Idx → BitVec 32) (l : ℕ → ℕ) (n : ℕ) (v : IVec S16 32) (hv : ∀ x (hx : x < 16), (v (at1 x hx)).toNat = l (n + x))
    (h : ∀ a x, ((![v] : Fin 1 → IVec S16 32) a x).toNat < S256.size a) (hg : Tab g fun c => above 16384 l c + cnt l 0 n c) :
    Tab (storeIdx (F := F) (s := S256) (e := .i32) (d := ![16]) g ![v] (addi (loadIdx (F := F) (s := S256) (t := S16) (e := .i32) g ![v] h) (scanCount (broadcast S16 1#1) v).2)
      (scanCount (broadcast S16 1#1) v).1 false h) fun c => above 16384 l c + cnt l 0 (n + 16) c := by
  intro c hc
  refine (rank_step (F := F) (w := 256) (n := 16) g v (fun k => l (n + k)) hv h c hc).trans ?_
  show g (at1 c hc) + _ = BitVec.ofNat 32 (above 16384 l c + cnt l 0 (n + 16) c)
  rw [hg c hc, cnt_split l c (Nat.zero_le n) (Nat.le_add_right _ 16), cnt_lanes l n 16, ← Nat.add_assoc, ← BitVec.ofNat_add]

/-- The worker's ranks, of its entries below `n`. -/
def Kept (l : ℕ → ℕ) (w n : ℕ) (r : S512.Idx → BitVec 32) : Prop :=
  ∀ x (hx : x < 512), 512 * w + x < n → r (at1 x hx) = BitVec.ofNat 32 (rank 16384 l (512 * w + x))

theorem kept_put {l : ℕ → ℕ} {w n : ℕ} {r r' : S512.Idx → BitVec 32} {o : Fin 1 → ℕ} {u : IVec S16 32} (h : Kept l w n r) (hp : Put (n := 512) o u r r')
    (h1 : 512 * w ≤ n) (ho : o 0 = n - 512 * w) (hu : ∀ x (hx : x < 16), u (at1 x hx) = BitVec.ofNat 32 (rank 16384 l (n + x))) : Kept l w (n + 16) r' := by
  intro x hx hlt
  by_cases hb : 512 * w + x < n
  · exact (hp.off x hx (.inl (by omega))).trans (h x hx hb)
  · refine (hp.at x hx (by omega) (by omega)).trans ((hu _ _).trans ?_)
    congr 2; omega

theorem kept_skip {l : ℕ → ℕ} {w n : ℕ} {r : S512.Idx → BitVec 32} (h : Kept l w n r) (hm : n % 16 = 0) (h1 : ¬(512 * w ≤ n ∧ n < 512 * w + 512)) : Kept l w (n + 16) r :=
  fun x hx hlt => h x hx (by omega)

section Run
variable (d : Dev nD) (i : grid0.Coords)

theorem stx_idx {n : Fin 1 → ℕ} (g : S512.Idx → BitVec 32) (idxs : Fin 1 → IVec ⟨1, n⟩ 32) (v : IVec ⟨1, n⟩ 32) (mask : IVec ⟨1, n⟩ 1) (add : Bool)
    (h : ∀ a x, (idxs a x).toNat < S512.size a) :
    ((vIdx.access (.whole S512)).write (Elt F) g (storeIdx (F := F) (e := .i32) ((vIdx.access (.whole S512)).read (Elt F) g) idxs v mask add h) Finset.univ : S512.Idx → BitVec 32)
      = storeIdx (F := F) (s := S512) (e := .i32) g idxs v mask add h :=
  stx_whole cc0_scratch2 g idxs v mask add h

theorem ldx_pos (g : S256.Idx → BitVec 32) (idxs : Fin 1 → IVec S16 32) (h : ∀ a x, (idxs a x).toNat < S256.size a) :
    loadIdx (F := F) (e := .i32) ((vPos.access (.whole S256)).read (Elt F) g) idxs h = loadIdx (F := F) (s := S256) (t := S16) (e := .i32) g idxs h :=
  ldx_whole cc0_scratch1 g idxs h

/-- What the ranking holds after `n` entries. -/
def Ranked (l : ℕ → ℕ) (n : ℕ) : sProp (MT nD τ sig (HIx 1) (Elt F) ℕ UU ℕ) :=
  iprop(∃ (g : S256.Idx → BitVec 32) (r q : S512.Idx → BitVec 32), ⌜(Tab g fun c => above 16384 l c + cnt l 0 n c) ∧ Kept l (wn i) n r ∧ Part l (wn i) n q⌝
    ∗ pt d i vPos g ∗ pt d i vRk r ∗ pt d i vIdx q)

theorem w_rankTail (l : ℕ → ℕ) (n : ℕ) (hn : n + 16 ≤ 16384) (e : BitVec 32) (he : e * 16#32 = BitVec.ofNat 32 n) (r : IVec S16 32)
    (hr : ∀ x (hx : x < 16), r (at1 x hx) = BitVec.ofNat 32 (rank 16384 l (n + x)))
    {g : S256.Idx → BitVec 32} {rk q : S512.Idx → BitVec 32} (hg : Tab g fun c => above 16384 l c + cnt l 0 (n + 16) c) (hk : Kept l (wn i) (n + 16) rk) (hq : Part l (wn i) n q) :
    iprop(pt (F := F) d i vPos g ∗ pt d i vRk rk ∗ pt d i vIdx q) ⊢ W d i (do
      have h2 : k0_chk6 (slotOf i r) := (← Prog.lift (TpuEff.assume (k0_chk6 (slotOf i r)) (k0_chk6.dec _))).down
      SparseCore.vectorStoreIdx vIdx ![slotOf i r] (addi (broadcast S16 (Scalar.muli e 16#32)) lanes) (mineOf i r) false
        (k0_idx7_inb _ h2) (View.stores_vmem_bits_univ h_S512 rfl)
      pure ⟨⟩ : Prog (Eff F i) PUnit) fun _ => Ranked (F := F) d i l (n + 16) := by
  have h2 : k0_chk6 (slotOf i r) := slot_lt i r (fun x => rank 16384 l (n + x)) (fun x hx => rank_lt 16384 l (by omega)) hr
  iintro ⟨HP, HR, HI⟩
  iapply (w_as d i _ h2)
  iapply (w_stx d i _ (Memref.set_access_whole _)) $$ HI
  iintro HI
  iapply (w_ret d i _)
  unfold Ranked
  iexists g, rk, (storeIdx (F := F) (s := S512) (e := .i32) (d := ![16]) q ![slotOf i r] (addi (broadcast S16 (Scalar.muli e 16#32)) lanes) (mineOf i r) false (k0_idx7_inb _ h2))
  isplitr
  · ipureintro
    refine ⟨hg, hk, part_step (F := F) l i n hn r _ hr (fun x hx => ?_) _ q hq⟩
    show e * 16#32 + BitVec.ofNat 32 (0 * S16.size 0 + x) = _
    rw [he, ← BitVec.ofNat_add]
    congr 1; omega
  · isplitl [HP]; · iexact HP
    isplitl [HR]; · iexact HR
    rw [stx_idx]
    iexact HI

theorem w_rankOf (l : ℕ → ℕ) (hl : ∀ n, l n < 256) (n : ℕ) (hn : n + 16 ≤ 16384) (hm : n % 16 = 0) (e : BitVec 32) (he : e * 16#32 = BitVec.ofNat 32 n) (c : BitVec 1) (o : Fin 1 → Nat)
    (oinb : c = 1#1 → ∀ a, o a + S16.size a ≤ S512.size a) (hc : c = 1#1 ↔ 512 * wn i ≤ n ∧ n < 512 * wn i + 512) (ho : c = 1#1 → o 0 = n - 512 * wn i)
    (v : IVec S16 32) (hv : ∀ x (hx : x < 16), (v (at1 x hx)).toNat = l (n + x)) :
    Ranked (F := F) d i l n ⊢ W d i (rankOf i e c o oinb v) fun _ => Ranked (F := F) d i l (n + 16) := by
  have hck : k0_chk5 v := by
    have h0 : ∀ a x, ((![v] : Fin 1 → IVec S16 32) a x).toNat < S256.size a := by
      intro a x
      rw [Fin.eq_zero a]
      obtain ⟨k, hk, rfl⟩ := at1_ex (n := 16) x
      exact lt_of_eq_of_lt (hv k hk) (hl _)
    exact ⟨h0, h0⟩
  unfold rankOf rankOfK
  conv => lhs; unfold Ranked
  iintro ⟨%g, %rk, %q, %hh, HP, HR, HI⟩
  obtain ⟨hg, hk, hq⟩ := hh
  iapply (w_as d i _ hck)
  iapply (w_ldx d i _) $$ HP
  iintro HP
  rw [ldx_pos]
  iapply (w_stx d i _ (Memref.set_access_whole _)) $$ HP
  iintro HP
  rw [stx_pos]
  have hr := rank_lanes (F := F) g l n v hv (k0_idx5_inb v hck) hg
  have ht := tab_rank (F := F) g l n v hv (k0_idx5_inb v hck) hg
  by_cases hcc : c = 1#1
  · rw [dif_pos hcc]
    simp only [bind_assoc, pure_bind]
    iapply (ldRk d i _) $$ HR
    iintro %_ HR
    iapply (stRk d i _) $$ HR
    iintro %rk' %hp HR
    iapply (w_rankTail (F := F) d i l n hn e he _ hr ht (kept_put hk hp (hc.mp hcc).1 (ho hcc) hr) hq) $$ [HP HR HI]
    isplitl [HP]; · iexact HP
    isplitl [HR]; · iexact HR
    iexact HI
  · rw [dif_neg hcc]
    simp only [pure_bind]
    iapply (w_rankTail (F := F) d i l n hn e he _ hr ht (kept_skip hk hm (fun h => hcc (hc.mpr h))) hq) $$ [HP HR HI]
    isplitl [HP]; · iexact HP
    isplitl [HR]; · iexact HR
    iexact HI

theorem w_rankTrip (l : ℕ → ℕ) {f : S16384.Idx → BitVec 32} (hl : Lens f l) (k : Fin k0_t2_loop.trips) :
    iprop(pt (F := F) d i vLen f ∗ Ranked (F := F) d i l (32 * k.val)) ⊢ W d i (rankTrip i k) fun _ =>
      iprop(pt (F := F) d i vLen f ∗ Ranked (F := F) d i l (32 * (k.val + 1))) := by
  have hk : k.val < 512 := t2_trips ▸ k.isLt
  unfold rankTrip lenLd
  iintro ⟨HL, H⟩
  iapply (ldLen d i _) $$ HL
  iintro %v %hv HL
  iapply (w_then d i _ (w_rankOf (F := F) d i l hl.lt (32 * k.val) (by omega) (by omega) _ (ent1 k) _ (k0_off6 i k) (k0_off6_inb i k) (cond1_iff i k) (off6_eq i k) v
    (fun x hx => by rw [hv x hx]; exact (hl.val _ _).trans (congrArg l (congrArg (· + x) (off5_eq k)))))) $$ H
  iintro %_ H
  iapply (ldLen d i _) $$ HL
  iintro %w %hw HL
  iapply (w_last d i _ (w_rankOf (F := F) d i l hl.lt (32 * k.val + 16) (by omega) (by omega) _ (ent2 k) _ (k0_off8 i k) (k0_off8_inb i k) (cond2_iff i k) (off8_eq i k) w
    (fun x hx => by rw [hw x hx]; exact (hl.val _ _).trans (congrArg l (congrArg (· + x) (off7_eq k)))))) $$ H
  iintro %_ H
  isplitl [HL]; · iexact HL
  iexact H

theorem tab_zero {g : S256.Idx → BitVec 32} {N : ℕ} {l : ℕ → ℕ} (h : Tab g fun c => above N l c) (m : ℕ) (hm : m = 0) : Tab g fun c => above N l c + cnt l 0 m c := by
  subst hm
  intro c hc
  have e : above N l c + cnt l 0 0 c = above N l c := by rw [cnt_self, Nat.add_zero]
  exact (h c hc).trans (congrArg (BitVec.ofNat 32) e.symm)

theorem w_rankLoop (l : ℕ → ℕ) {f : S16384.Idx → BitVec 32} (hl : Lens f l) {g : S256.Idx → BitVec 32} (hg : Tab g fun c => above 16384 l c) (r q : S512.Idx → BitVec 32) :
    iprop(pt (F := F) d i vLen f ∗ pt d i vPos g ∗ pt d i vRk r ∗ pt d i vIdx q) ⊢ W d i (rankLoop i) fun _ =>
      iprop(pt (F := F) d i vLen f ∗ Ranked (F := F) d i l 16384) := by
  unfold rankLoop
  iintro ⟨HL, HP, HR, HI⟩
  iapply (w_last d i _ (w_for d i k0_t2_loop k0_t2_ok (fun k (_ : BitVec 32) => do rankTrip (F := F) i k; pure 0#32)
    (fun k _ => iprop(pt (F := F) d i vLen f ∗ Ranked (F := F) d i l (32 * k))) ?_ 0#32)) $$ [HL HP HR HI]
  · intro k _
    iintro H
    iapply (w_then d i _ (w_rankTrip d i l hl k)) $$ H
    iintro %_ H
    iapply (w_ret d i _) $$ H
  · isplitl [HL]; · iexact HL
    unfold Ranked
    iexists g, r, q
    isplitr
    · ipureintro
      exact ⟨tab_zero hg _ rfl, fun x hx h => by omega, fun m h => by omega⟩
    · isplitl [HP]; · iexact HP
      isplitl [HR]; · iexact HR
      iexact HI
  iintro %_ H
  iexact H

end Run

end Cert.KernelIdeal.Own
-- ==== Proof.Copy.lean ====
/- Copies and waits of the tile; the lengths and the table in; the sorted lengths; the ranks and the sorted lengths out. -/
module

public import proofs.«01_k».proof.Proof.Rank
public import Idealize.ShloMosaic.Lib.SparseCore.FromWhole

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore

variable {F : FTy → Type} [FloatOps F]

local notation "𝕄" => MT nD τ sig (HIx 1) (Elt F) ℕ UU ℕ

/-- What the tile owes, and that it may wait. -/
def Ows (d : Dev nD) (i : grid0.Coords) (O : CellTallies nD τ sig (HIx 1)) (W₀ : Waits sig (HIx 1)) : sProp (MT nD τ sig (HIx 1) (Elt F) ℕ UU ℕ) :=
  iprop(Transfers.MayWaits (thr d i) (default : HIx 1) O ∗ ∃ W', ⌜∀ p ∈ W', p ∈ W₀ ∨ p.2 = none⌝ ∗ owes (thr d i) O W')

abbrev Fl (d : Dev nD) (i : grid0.Coords) (sem : DmaSem sig) (N : ℕ) (P : sProp (MT nD τ sig (HIx 1) (Elt F) ℕ UU ℕ)) : sProp (MT nD τ sig (HIx 1) (Elt F) ℕ UU ℕ) :=
  Transfers.Flight countersEmb (thr d i) (.dma sem) (default : HIx 1) N P

abbrev sv (d : Dev nD) (i : grid0.Coords) (sem : DmaSem sig) : sProp (MT nD τ sig (HIx 1) (Elt F) ℕ UU ℕ) := semVal (thr d i, SemLoc.dma sem) 0

section Rules
variable (d : Dev nD) (i : grid0.Coords) {α : Type} (Q : α → sProp (MT nD τ sig (HIx 1) (Elt F) ℕ UU ℕ))

theorem fl_mono {sem : DmaSem sig} {N : ℕ} {P P' : sProp (MT nD τ sig (HIx 1) (Elt F) ℕ UU ℕ)} (h : P ⊢ P') : Fl (F := F) d i sem N P ⊢ Fl d i sem N P' :=
  Transfers.Flight_mono countersEmb (thr d i) h

theorem w_dma {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) (p := (thr d i).2) sp (.dma sem) (.here dst)}
    {k : PUnit → Prog (Eff F i) α} {q : PosShare TreeShare} {fs : Buf (Elt F) (src.view.loc (thr d i))} {Sd : Finset (Idx (dst.view.loc (thr d i)))} {fd : Buf (Elt F) (dst.view.loc (thr d i))}
    (h0 : 0 < s.numel) (hSd : dst.view.set ⊆ Sd) :
    iprop((src.view.loc (thr d i) ↦{q} fs) ∗ (dst.view.loc (thr d i) ↦[Sd]{fullShare} fd) ∗ sv (F := F) d i sem)
      ⊢ iprop((Fl d i sem dst.view.dmaCredit iprop((dst.view.loc (thr d i) ↦[Sd]{fullShare} (dst.view.write (Elt F) fd (src.view.read (Elt F) fs) Finset.univ)) ∗ (src.view.loc (thr d i) ↦{q} fs))
          -∗ W d i (k ⟨⟩) Q)
        -∗ W d i (Prog.lift (TpuEff.enqueueDma src (.here dst) (.dma sem) hsrc hdst hsem) >>= k) Q) :=
  Transfers.wp_dmaFromWhole (defs := defs₀ (F := F)) (Q := Q) (k := k) (via := .same) (src := src) (dst := dst) (sm := .dma sem) (q := q) (fs := fs) (Sd := Sd) (fd := fd)
    (hsrc := hsrc) (hdst := hdst) (hsem := hsem) countersEmb 𝒱₀ (thr d i) none (default : HIx 1) dst.view.dmaCredit rfl (View.dmaCredit_pos _ h0) hSd

theorem w_wait {sp sp' : Space} {s' s : Shape} {e' e : EltTy} {sem : DmaSem sig} {srcw : Memref sig .scVector sp' s' e'} {dstw : Memref sig .scVector sp s e}
    {hsrc : srcw.view.WordExact} {hdst : dstw.view.WordExact} {k : PUnit → Prog (Eff F i) α} {N : ℕ} (hN : dstw.view.dmaCredit = N)
    {P : sProp (MT nD τ sig (HIx 1) (Elt F) ℕ UU ℕ)} {O : CellTallies nD τ sig (HIx 1)} {W₀ : Waits sig (HIx 1)} :
    iprop(Fl d i sem N P ∗ Ows (F := F) d i O W₀)
      ⊢ iprop((iprop(P ∗ sv d i sem ∗ Ows (F := F) d i O W₀) -∗ W d i (k ⟨⟩) Q)
        -∗ W d i (Prog.lift (TpuEff.waitDma2 sem srcw dstw hsrc hdst) >>= k) Q) := by
  unfold Ows
  iintro ⟨Hf, #Hm, %W', %hW, HO⟩ HK
  ihave Hmw := (Transfers.MayWaits.elim (SemLoc.dma sem)) $$ Hm
  iapply (Transfers.wp_waitLocalO (defs := defs₀ (F := F)) (Q := Q) (k := k) (srcw := srcw) (dstw := dstw) (sem := sem) (hsrc := hsrc) (hdst := hdst) (D := P) (O := O) (W := W')
    countersEmb 𝒱₀ (thr d i) none (default : HIx 1) hN) $$ [Hf HO Hmw]
  · isplitl [Hf]; · iexact Hf
    isplitl [HO]; · iexact HO
    iexact Hmw
  iintro ⟨HP, Hv, HO⟩
  iapply HK
  isplitl [HP]; · iexact HP
  isplitl [Hv]; · iexact Hv
  isplitr; · iexact Hm
  iexists (insert (SemLoc.dma sem, (default : HIx 1)) W')
  isplitr
  · ipureintro
    intro p hp
    rcases Finset.mem_insert.mp hp with hp | hp
    · exact .inr (hp ▸ rfl)
    · exact hW p hp
  · iexact HO

/-- A copy issued and waited for at once. -/
theorem w_copy {sp sp' : Space} {s : Shape} {e : EltTy} {src : Memref sig .scVector sp s e} {dst : Memref sig .scVector sp' s e} {sem : DmaSem sig}
    {hsrc hsrc' : src.view.WordExact} {hdst hdst' : dst.view.WordExact} {hsem : DmaTarget.Typed (nD := nD) (p := (thr d i).2) sp (.dma sem) (.here dst)}
    {k : PUnit → Prog (Eff F i) α} {q : PosShare TreeShare} {fs : Buf (Elt F) (src.view.loc (thr d i))} {Sd : Finset (Idx (dst.view.loc (thr d i)))} {fd : Buf (Elt F) (dst.view.loc (thr d i))}
    {O : CellTallies nD τ sig (HIx 1)} {W₀ : Waits sig (HIx 1)} (h0 : 0 < s.numel) (hSd : dst.view.set ⊆ Sd) :
    iprop((src.view.loc (thr d i) ↦{q} fs) ∗ (dst.view.loc (thr d i) ↦[Sd]{fullShare} fd) ∗ sv (F := F) d i sem ∗ Ows (F := F) d i O W₀)
      ⊢ iprop((iprop((src.view.loc (thr d i) ↦{q} fs) ∗ (dst.view.loc (thr d i) ↦[Sd]{fullShare} (dst.view.write (Elt F) fd (src.view.read (Elt F) fs) Finset.univ)) ∗ sv (F := F) d i sem ∗ Ows (F := F) d i O W₀)
          -∗ W d i (k ⟨⟩) Q)
        -∗ W d i (Prog.lift (TpuEff.enqueueDma src (.here dst) (.dma sem) hsrc hdst hsem) >>= fun _ => Prog.lift (TpuEff.waitDma2 sem src dst hsrc' hdst') >>= k) Q) := by
  iintro ⟨Hs, Hd, Hv, HO⟩ HK
  iapply (w_dma d i Q h0 hSd) $$ [Hs Hd Hv]
  · isplitl [Hs]; · iexact Hs
    isplitl [Hd]; · iexact Hd
    iexact Hv
  iintro Hf
  iapply (w_wait d i Q rfl) $$ [Hf HO]
  · isplitl [Hf]; · iexact Hf
    iexact HO
  iintro ⟨⟨Hd, Hs⟩, Hv, HO⟩
  iapply HK
  isplitl [Hs]; · iexact Hs
  isplitl [Hd]; · iexact Hd
  isplitl [Hv]; · iexact Hv
  iexact HO

end Rules

section Parts
variable (d : Dev nD) (i : grid0.Coords) (O : CellTallies nD τ sig (HIx 1)) (W₀ : Waits sig (HIx 1))

/-- A share of a whole operand in the device's memory. -/
abbrev hb {s : Shape} {e : EltTy} (M : Memref sig .scVector .hbm s e) (q : PosShare TreeShare) (f : Buf (Elt F) (M.view.loc (thr d i))) : sProp (MT nD τ sig (HIx 1) (Elt F) ℕ UU ℕ) :=
  M.view.loc (thr d i) ↦{q} f

theorem wr_whole {b : Ref sig .scVector} (f w : b.ty.Contents (Elt F)) : (Memref.whole b).view.write (Elt F) f w Finset.univ = w := View.write_whole_univ b f w

theorem w_phaseA0 (q : PosShare TreeShare) (L : S16384.Idx → BitVec 32) (T : S64.Idx → Elt F .f32) :
    iprop(hb (F := F) d i mLen q L ∗ hb (F := F) d i mTab q T ∗ (∃ f, pt (F := F) d i vLen f) ∗ (∃ f, pt (F := F) d i vTab f) ∗ sv (F := F) d i cc0_scoped0.sem ∗ sv (F := F) d i cc0_scoped1.sem ∗ Ows (F := F) d i O W₀)
      ⊢ W d i (phaseA0 i) fun _ =>
        iprop(hb (F := F) d i mLen q L ∗ hb (F := F) d i mTab q T ∗ pt (F := F) d i vLen L ∗ pt (F := F) d i vTab T ∗ sv (F := F) d i cc0_scoped0.sem ∗ sv (F := F) d i cc0_scoped1.sem ∗ Ows (F := F) d i O W₀) := by
  rw [← bind_pure (phaseA0 (F := F) i)]
  unfold phaseA0
  simp only [bind_assoc]
  iintro ⟨HL, HT, ⟨%fl, Hl⟩, ⟨%ft, Ht⟩, Hv0, Hv1, HO⟩
  iapply (w_copy d i _ (by decide) (Finset.subset_univ _)) $$ [HL Hl Hv0 HO]
  · isplitl [HL]; · iexact HL
    isplitl [Hl]; · iexact Hl
    isplitl [Hv0]; · iexact Hv0
    iexact HO
  iintro ⟨HL, Hl, Hv0, HO⟩
  iapply (w_copy d i _ (by decide) (Finset.subset_univ _)) $$ [HT Ht Hv1 HO]
  · isplitl [HT]; · iexact HT
    isplitl [Ht]; · iexact Ht
    isplitl [Hv1]; · iexact Hv1
    iexact HO
  iintro ⟨HT, Ht, Hv1, HO⟩
  iapply (w_ret d i _)
  rw [wr_whole (F := F) (b := cc0_scratch0), wr_whole (F := F) (b := cc0_scratch5)]
  isplitl [HL]; · iexact HL
  isplitl [HT]; · iexact HT
  isplitl [Hl]; · iexact Hl
  isplitl [Ht]; · iexact Ht
  isplitl [Hv0]; · iexact Hv0
  isplitl [Hv1]; · iexact Hv1
  iexact HO

/-! ## The sorted lengths -/

/-- The entry of rank `p`. -/
def ent (l : ℕ → ℕ) (p : ℕ) (hp : p < 16384) : ℕ := (ord 16384 l ⟨p, hp⟩).val

theorem ent_lt (l : ℕ → ℕ) (p : ℕ) (hp : p < 16384) : ent l p hp < 16384 := (ord 16384 l ⟨p, hp⟩).isLt

/-- The worker's part of the order. -/
def Order (l : ℕ → ℕ) (w : ℕ) (q : S512.Idx → BitVec 32) : Prop := ∀ p (hp : p < 512) (h : 512 * w + p < 16384), q (at1 p hp) = BitVec.ofNat 32 (ent l (512 * w + p) h)

theorem order_of {l : ℕ → ℕ} {w : ℕ} {q : S512.Idx → BitVec 32} (h : Part l w 16384 q) : Order l w q := fun p hp hlt =>
  h (ent l (512 * w + p) hlt) (ent_lt l _ hlt) p hp (rank_ord 16384 l ⟨512 * w + p, hlt⟩)

/-- The sorted lengths up to place `n` of the worker's part. -/
def Sorted (L : S16384.Idx → BitVec 32) (l : ℕ → ℕ) (w n : ℕ) (s : S512.Idx → BitVec 32) : Prop :=
  ∀ p (hp : p < 512) (h : 512 * w + p < 16384), p < n → s (at1 p hp) = L (at1 (ent l (512 * w + p) h) (ent_lt l _ h))

theorem ldx_len (g : S16384.Idx → BitVec 32) (idxs : Fin 1 → IVec S16 32) (h : ∀ a x, (idxs a x).toNat < S16384.size a) :
    loadIdx (F := F) (e := .i32) ((vLen.access (.whole S16384)).read (Elt F) g) idxs h = loadIdx (F := F) (s := S16384) (t := S16) (e := .i32) g idxs h :=
  ldx_whole cc0_scratch0 g idxs h

theorem sorted_put {L : S16384.Idx → BitVec 32} {l : ℕ → ℕ} {w b : ℕ} (hw : w < 32) (hb : b < 32) {q s s' : S512.Idx → BitVec 32} (hq : Order l w q) (hs : Sorted L l w (16 * b) s)
    (v : IVec S16 32) (hv : ∀ x (hx : x < 16), v (at1 x hx) = q (at1 (16 * b + x) (by omega)))
    (h : ∀ a x, ((![v] : Fin 1 → IVec S16 32) a x).toNat < S16384.size a)
    (hp : Put (n := 512) ![16 * b] (loadIdx (F := F) (s := S16384) (t := S16) (e := .i32) L ![v] h) s s') : Sorted L l w (16 * (b + 1)) s' := by
  intro p hp' hlt hn
  by_cases hlo : p < 16 * b
  · exact (hp.off p hp' (.inl hlo)).trans (hs p hp' hlt hlo)
  · have hx : p - 16 * b < 16 := by omega
    refine (hp.at p hp' (by show 16 * b ≤ p; omega) hx).trans ?_
    refine (loadIdx_lane (F := F) (n := 16) (w := 16384) L v h (p - 16 * b) hx).trans ?_
    have e1 : v (at1 (p - 16 * b) hx) = BitVec.ofNat 32 (ent l (512 * w + p) hlt) := by
      refine (hv _ hx).trans ?_
      have e0 : 16 * b + (p - 16 * b) = p := by omega
      refine Eq.trans ?_ (hq p hp' hlt)
      congr 1; funext a; exact Fin.ext e0
    have e2 : (v (at1 (p - 16 * b) hx)).toNat = ent l (512 * w + p) hlt := by
      rw [e1, BitVec.toNat_ofNat]
      have := ent_lt l (512 * w + p) hlt
      exact Nat.mod_eq_of_lt (by omega)
    refine congrArg L ?_
    funext a; exact Fin.ext e2

theorem w_slUnit (b : Fin 32) {L : S16384.Idx → BitVec 32} {l : ℕ → ℕ} {q s : S512.Idx → BitVec 32} (hq : Order l (wn i) q) (hs : Sorted L l (wn i) (16 * b.val) s) :
    iprop(pt (F := F) d i vLen L ∗ pt d i vIdx q ∗ pt d i vSl s) ⊢ W d i (slUnit i b) fun _ =>
      iprop(pt (F := F) d i vLen L ∗ pt d i vIdx q ∗ ∃ s : S512.Idx → BitVec 32, ⌜Sorted L l (wn i) (16 * (b.val + 1)) s⌝ ∗ pt d i vSl s) := by
  have hw := wn_lt i
  have hb := b.isLt
  unfold slUnit
  iintro ⟨HL, HI, HS⟩
  iapply (ldIdx d i _) $$ HI
  iintro %v %hv HI
  have hck : k0_chk9 v := by
    intro a x
    rw [Fin.eq_zero a]
    obtain ⟨k, hk, rfl⟩ := at1_ex (n := 16) x
    show (v (at1 k hk)).toNat < 16384
    have e : v (at1 k hk) = BitVec.ofNat 32 (ent l (512 * wn i + (16 * b.val + k)) (by omega)) := (hv k hk).trans (hq (16 * b.val + k) (by omega) _)
    rw [e, BitVec.toNat_ofNat]
    exact lt_of_le_of_lt (Nat.mod_le _ _) (ent_lt l _ _)
  iapply (w_as d i _ hck)
  iapply (w_ldx d i _) $$ HL
  iintro HL
  rw [ldx_len]
  iapply (ldSl d i _) $$ HS
  iintro %_ HS
  rw [← bind_pure (Prog.lift _)]
  iapply (stSl d i _) $$ HS
  iintro %s' %hp HS
  iapply (w_ret d i _)
  isplitl [HL]; · iexact HL
  isplitl [HI]; · iexact HI
  iexists s'
  isplitr
  · ipureintro; exact sorted_put (F := F) hw hb hq hs v hv _ hp
  · iexact HS

theorem w_slAll {L : S16384.Idx → BitVec 32} {l : ℕ → ℕ} {q s : S512.Idx → BitVec 32} (hq : Order l (wn i) q) :
    iprop(pt (F := F) d i vLen L ∗ pt d i vIdx q ∗ pt d i vSl s) ⊢ W d i (Scf.forFrom (fun b (_ : PUnit) => slUnit i b) (List.finRange 32) ⟨⟩) fun _ =>
      iprop(pt (F := F) d i vLen L ∗ pt d i vIdx q ∗ ∃ s : S512.Idx → BitVec 32, ⌜Sorted L l (wn i) 512 s⌝ ∗ pt d i vSl s) := by
  iintro ⟨HL, HI, HS⟩
  iapply (w_last d i _ (w_loop d i (fun b (_ : PUnit) => slUnit (F := F) i b)
    (fun k _ => iprop(pt (F := F) d i vLen L ∗ pt d i vIdx q ∗ ∃ s : S512.Idx → BitVec 32, ⌜Sorted L l (wn i) (16 * k) s⌝ ∗ pt d i vSl s)) ?_ ⟨⟩)) $$ [HL HI HS]
  · intro k _
    iintro ⟨HL, HI, %s, %hs, HS⟩
    iapply (w_slUnit d i k hq hs) $$ [HL HI HS]
    isplitl [HL]; · iexact HL
    isplitl [HI]; · iexact HI
    iexact HS
  · isplitl [HL]; · iexact HL
    isplitl [HI]; · iexact HI
    iexists s
    isplitr
    · ipureintro; intro p hp hlt h; omega
    · iexact HS
  iintro %_ H
  iexact H

/-! ## The ranks and the sorted lengths written out -/

/-- The ranks. -/
def rkT (l : ℕ → ℕ) : S16384.Idx → BitVec 32 := fun j => BitVec.ofNat 32 (rank 16384 l (j 0).val)
/-- The sorted lengths. -/
def slT (L : S16384.Idx → BitVec 32) (l : ℕ → ℕ) : S16384.Idx → BitVec 32 := fun j => L (at1 (ent l (j 0).val (j 0).isLt) (ent_lt l _ _))

theorem off9_eq : ∀ i : grid0.Coords, k0_off9 i 0 = 512 * wn i := by decide +kernel

theorem w_phaseD2 {L : S16384.Idx → BitVec 32} {l : ℕ → ℕ} {r s : S512.Idx → BitVec 32} (hr : Kept l (wn i) 16384 r) (hs : Sorted L l (wn i) 512 s) :
    iprop(pt (F := F) d i vRk r ∗ pt d i vSl s ∗ (∃ f, (rkDst i).view.loc (thr d i) ↦[(rkDst i).view.set]{fullShare} f) ∗ (∃ f, (slDst i).view.loc (thr d i) ↦[(slDst i).view.set]{fullShare} f)
        ∗ sv (F := F) d i cc0_scoped2.sem ∗ sv (F := F) d i cc0_scoped3.sem ∗ Ows (F := F) d i O W₀)
      ⊢ W d i (phaseD2 i) fun _ =>
        iprop(pt (F := F) d i vRk r ∗ pt d i vSl s ∗ ((rkDst i).view.loc (thr d i) ↦[(rkDst i).view.set]{fullShare} rkT l) ∗ ((slDst i).view.loc (thr d i) ↦[(slDst i).view.set]{fullShare} slT L l)
        ∗ sv (F := F) d i cc0_scoped2.sem ∗ sv (F := F) d i cc0_scoped3.sem ∗ Ows (F := F) d i O W₀) := by
  have hw := wn_lt i
  rw [← bind_pure (phaseD2 (F := F) i)]
  unfold phaseD2
  simp only [bind_assoc]
  iintro ⟨HR, HS, ⟨%fr, Hr⟩, ⟨%fs, Hs⟩, Hv2, Hv3, HO⟩
  iapply (w_copy d i _ (by decide) (Finset.Subset.refl _)) $$ [HR Hr Hv2 HO]
  · isplitl [HR]; · iexact HR
    isplitl [Hr]; · iexact Hr
    isplitl [Hv2]; · iexact Hv2
    iexact HO
  iintro ⟨HR, Hr, Hv2, HO⟩
  iapply (w_copy d i _ (by decide) (Finset.Subset.refl _)) $$ [HS Hs Hv3 HO]
  · isplitl [HS]; · iexact HS
    isplitl [Hs]; · iexact Hs
    isplitl [Hv3]; · iexact Hv3
    iexact HO
  iintro ⟨HS, Hs, Hv3, HO⟩
  iapply (w_ret d i _)
  have er : ∀ j ∈ (rkDst i).view.set, (rkDst i).view.write (Elt F) fr (vRk.view.read (Elt F) r) Finset.univ j = rkT l j := by
    intro j hj
    obtain ⟨x, -, rfl⟩ := Finset.mem_map.mp hj
    refine (View.write_emb_of_mem (v := (rkDst i).view) fr _ (Finset.mem_univ x)).trans ?_
    obtain ⟨p, hp, rfl⟩ := at1_ex (n := 512) x
    refine (hr p hp (by omega)).trans ?_
    refine congrArg (fun z => BitVec.ofNat 32 (rank 16384 l z)) ?_
    show 512 * wn i + p = k0_off9 i 0 + 1 * p
    rw [off9_eq]; omega
  have es : ∀ j ∈ (slDst i).view.set, (slDst i).view.write (Elt F) fs (vSl.view.read (Elt F) s) Finset.univ j = slT L l j := by
    intro j hj
    obtain ⟨x, -, rfl⟩ := Finset.mem_map.mp hj
    refine (View.write_emb_of_mem (v := (slDst i).view) fs _ (Finset.mem_univ x)).trans ?_
    obtain ⟨p, hp, rfl⟩ := at1_ex (n := 512) x
    refine (hs p hp (by omega) hp).trans ?_
    have e : ∀ (z z' : ℕ) (h : z < 16384) (h' : z' < 16384), z = z' → L (at1 (ent l z h) (ent_lt l _ h)) = L (at1 (ent l z' h') (ent_lt l _ h')) := by
      intro z z' h h' e; subst e; rfl
    refine e _ _ _ _ ?_
    show 512 * wn i + p = k0_off9 i 0 + 1 * p
    rw [off9_eq]; omega
  isplitl [HR]; · iexact HR
  isplitl [HS]; · iexact HS
  isplitl [Hr]
  · iapply (Entails.of_eq (pointsTo_congr er)) $$ Hr
  isplitl [Hs]
  · iapply (Entails.of_eq (pointsTo_congr es)) $$ Hs
  isplitl [Hv2]; · iexact Hv2
  isplitl [Hv3]; · iexact Hv3
  iexact HO

end Parts

end Cert.KernelIdeal.Own
-- ==== Proof.Expand.lean ====
/- One block of twenty columns: the rows' words looked up in the table and stored. -/
module

public import proofs.«01_k».proof.Proof.Copy

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## Places -/

abbrev at3 {n0 n1 n2 : ℕ} (a b c : ℕ) (ha : a < n0) (hb : b < n1) (hc : c < n2) : (⟨3, ![n0, n1, n2]⟩ : Shape).Idx := fun x =>
  match x with
  | ⟨0, _⟩ => ⟨a, ha⟩
  | ⟨1, _⟩ => ⟨b, hb⟩
  | ⟨2, _⟩ => ⟨c, hc⟩

abbrev at4 {n0 n1 n2 n3 : ℕ} (a b c e : ℕ) (ha : a < n0) (hb : b < n1) (hc : c < n2) (he : e < n3) : (⟨4, ![n0, n1, n2, n3]⟩ : Shape).Idx := fun x =>
  match x with
  | ⟨0, _⟩ => ⟨a, ha⟩
  | ⟨1, _⟩ => ⟨b, hb⟩
  | ⟨2, _⟩ => ⟨c, hc⟩
  | ⟨3, _⟩ => ⟨e, he⟩

theorem at3_ext {n0 n1 n2 : ℕ} {x y : (⟨3, ![n0, n1, n2]⟩ : Shape).Idx} (h0 : (x 0).val = (y 0).val) (h1 : (x 1).val = (y 1).val) (h2 : (x 2).val = (y 2).val) : x = y := by
  funext a
  match a with
  | ⟨0, _⟩ => exact Fin.ext h0
  | ⟨1, _⟩ => exact Fin.ext h1
  | ⟨2, _⟩ => exact Fin.ext h2

theorem at4_ext {n0 n1 n2 n3 : ℕ} {x y : (⟨4, ![n0, n1, n2, n3]⟩ : Shape).Idx} (h0 : (x 0).val = (y 0).val) (h1 : (x 1).val = (y 1).val) (h2 : (x 2).val = (y 2).val)
    (h3 : (x 3).val = (y 3).val) : x = y := by
  funext a
  match a with
  | ⟨0, _⟩ => exact Fin.ext h0
  | ⟨1, _⟩ => exact Fin.ext h1
  | ⟨2, _⟩ => exact Fin.ext h2
  | ⟨3, _⟩ => exact Fin.ext h3

/-- `g` is `f` with sixteen entries from `off` on replaced by `v`. -/
structure Put4 (off : Fin 4 → ℕ) (v : S1x1x1x16.Idx → Elt F .f32) (f g : S20x1x8x128.Idx → Elt F .f32) : Prop where
  on : ∀ x (hx : x < 16) (h0 : off 0 < 20) (h2 : off 2 < 8) (h3 : off 3 + x < 128), g (at4 (off 0) 0 (off 2) (off 3 + x) h0 (by decide) h2 h3) = v (at4 0 0 0 x (by decide) (by decide) (by decide) hx)
  off : ∀ k c b (hk : k < 20) (hc : c < 8) (hb : b < 128), (k ≠ off 0 ∨ c ≠ off 2 ∨ b < off 3 ∨ off 3 + 16 ≤ b) →
    g (at4 k 0 c b hk (by decide) hc hb) = f (at4 k 0 c b hk (by decide) hc hb)

/-- A buffer of out cells: what one cell's load and store do to it. -/
structure OBuf (d : Dev nD) (i : grid0.Coords) (ob : Memref sig .scVector .vmem S20x1x8x128 .f32) (C : (S20x1x8x128.Idx → Elt F .f32) → sProp (MT nD τ sig (HIx 1) (Elt F) ℕ UU ℕ)) : Prop where
  cell : ∀ (off : Fin 4 → ℕ) (inb : ∀ a, off a + S1x1x1x16.size a ≤ S20x1x8x128.size a) (hl : ob.view.LoadsAt (Rect.unit (s := S20x1x8x128) off S1x1x1x16.size inb).toLoadRect)
    (hx : (ob.access (Rect.unit (s := S20x1x8x128) off S1x1x1x16.size inb)).Stores Finset.univ)
    (hm : (Finset.univ : Finset (Rect.unit (s := S20x1x8x128) off S1x1x1x16.size inb).shape.Idx) = Finset.univ ∨ ∀ a, (Rect.unit (s := S20x1x8x128) off S1x1x1x16.size inb).stride a = 1)
    (f : S20x1x8x128.Idx → Elt F .f32) (v : S1x1x1x16.Idx → Elt F .f32),
    C f ⊢ W d i (Prog.lift (TpuEff.load ob (Rect.unit (s := S20x1x8x128) off S1x1x1x16.size inb).toLoadRect hl) >>= fun (_ : Vec F S1x1x1x16 .f32) =>
        Prog.lift (TpuEff.store ob (Rect.unit (s := S20x1x8x128) off S1x1x1x16.size inb) v Finset.univ hx hm)) fun _ =>
      iprop(∃ g : S20x1x8x128.Idx → Elt F .f32, ⌜Put4 off v f g⌝ ∗ C g)

/-- A buffer of staged rows: what a gather of its words gives. -/
structure XBuf (d : Dev nD) (i : grid0.Coords) (xb : Memref sig .scVector .vmem S128x2x128 .i32) (C : (S128x2x128.Idx → BitVec 32) → sProp (MT nD τ sig (HIx 1) (Elt F) ℕ UU ℕ)) : Prop where
  ldx : ∀ (idxs : Fin 3 → IVec S16 32) (h : ∀ a x, (idxs a x).toNat < S128x2x128.size a) (hl : xb.view.Loads) (f : S128x2x128.Idx → BitVec 32),
    C f ⊢ W d i (SparseCore.vectorLoadIdx xb idxs h hl : Prog (Eff F i) (Vec F S16 .i32)) fun v =>
      iprop(⌜∀ x (hx : x < 16), v (at1 x hx) = f (at3 (idxs 0 (at1 x hx)).toNat (idxs 1 (at1 x hx)).toNat (idxs 2 (at1 x hx)).toNat (h 0 _) (h 1 _) (h 2 _))⌝ ∗ C f)

/-- A program before its return. -/
theorem w_one (d : Dev nD) (i : grid0.Coords) {α : Type} (p : Prog (Eff F i) α) (Q : α → sProp (MT nD τ sig (HIx 1) (Elt F) ℕ UU ℕ)) : W d i (p >>= pure) Q ⊢ W d i p Q := by
  rw [bind_pure]

section Buffers
variable (d : Dev nD) (i : grid0.Coords)

theorem oBuf0 : OBuf (F := F) d i vO0 (pt (F := F) d i vO0) where
  cell off inb hl hx hm f v := by
    iintro H
    iapply (w_ld d i _) $$ H
    iintro H
    iapply (w_one d i _ _)
    iapply (w_st d i _) $$ H
    iintro H
    iapply (w_ret d i _)
    iexists ((vO0.access (Rect.unit (s := S20x1x8x128) off S1x1x1x16.size inb)).write (Elt F) f v Finset.univ)
    isplitr
    swap
    · iexact H
    ipureintro
    have h1 : off 1 + 1 ≤ 1 := inb 1
    refine ⟨fun x hx' h0 h2 h3 => ?_, fun k c b hk hc hb h => ?_⟩
    · refine Eq.trans (congrArg _ ?_) (wr_in (Val := Elt F) cc0_scratch8 (Rect.unit (s := S20x1x8x128) off S1x1x1x16.size inb) f v (at4 0 0 0 x (by decide) (by decide) (by decide) hx'))
      refine at4_ext (n0 := 20) (n1 := 1) (n2 := 8) (n3 := 128) ?_ ?_ ?_ ?_
      · show off 0 = off 0 + 1 * 0; omega
      · show 0 = off 1 + 1 * 0; omega
      · show off 2 = off 2 + 1 * 0; omega
      · show off 3 + x = off 3 + 1 * x; omega
    · refine wr_out (Val := Elt F) cc0_scratch8 (Rect.unit (s := S20x1x8x128) off S1x1x1x16.size inb) f v _ ?_
      intro hm'
      have hm := Rect.mem_set_unit.mp hm'
      have e0 : off 0 ≤ k ∧ k < off 0 + 1 := hm 0
      have e2 : off 2 ≤ c ∧ c < off 2 + 1 := hm 2
      have e3 : off 3 ≤ b ∧ b < off 3 + 16 := hm 3
      omega

theorem oBuf1 : OBuf (F := F) d i vO1 (pt (F := F) d i vO1) where
  cell off inb hl hx hm f v := by
    iintro H
    iapply (w_ld d i _) $$ H
    iintro H
    iapply (w_one d i _ _)
    iapply (w_st d i _) $$ H
    iintro H
    iapply (w_ret d i _)
    iexists ((vO1.access (Rect.unit (s := S20x1x8x128) off S1x1x1x16.size inb)).write (Elt F) f v Finset.univ)
    isplitr
    swap
    · iexact H
    ipureintro
    have h1 : off 1 + 1 ≤ 1 := inb 1
    refine ⟨fun x hx' h0 h2 h3 => ?_, fun k c b hk hc hb h => ?_⟩
    · refine Eq.trans (congrArg _ ?_) (wr_in (Val := Elt F) cc0_scratch9 (Rect.unit (s := S20x1x8x128) off S1x1x1x16.size inb) f v (at4 0 0 0 x (by decide) (by decide) (by decide) hx'))
      refine at4_ext (n0 := 20) (n1 := 1) (n2 := 8) (n3 := 128) ?_ ?_ ?_ ?_
      · show off 0 = off 0 + 1 * 0; omega
      · show 0 = off 1 + 1 * 0; omega
      · show off 2 = off 2 + 1 * 0; omega
      · show off 3 + x = off 3 + 1 * x; omega
    · refine wr_out (Val := Elt F) cc0_scratch9 (Rect.unit (s := S20x1x8x128) off S1x1x1x16.size inb) f v _ ?_
      intro hm'
      have hm := Rect.mem_set_unit.mp hm'
      have e0 : off 0 ≤ k ∧ k < off 0 + 1 := hm 0
      have e2 : off 2 ≤ c ∧ c < off 2 + 1 := hm 2
      have e3 : off 3 ≤ b ∧ b < off 3 + 16 := hm 3
      omega

theorem xBuf0 : XBuf (F := F) d i vX0 (pt (F := F) d i vX0) where
  ldx idxs h hl f := by
    iintro H
    iapply (w_one d i _ _)
    iapply (w_ldx d i _) $$ H
    iintro H
    iapply (w_ret d i _)
    isplitr
    swap
    · iexact H
    ipureintro
    intro x hx
    refine (congrFun (ldx_whole (F := F) cc0_scratch6 f idxs h) (at1 x hx)).trans ?_
    refine congrArg f (at3_ext (n0 := 128) (n1 := 2) (n2 := 128) ?_ ?_ ?_) <;> rfl

theorem xBuf1 : XBuf (F := F) d i vX1 (pt (F := F) d i vX1) where
  ldx idxs h hl f := by
    iintro H
    iapply (w_one d i _ _)
    iapply (w_ldx d i _) $$ H
    iintro H
    iapply (w_ret d i _)
    isplitr
    swap
    · iexact H
    ipureintro
    intro x hx
    refine (congrFun (ldx_whole (F := F) cc0_scratch7 f idxs h) (at1 x hx)).trans ?_
    refine congrArg f (at3_ext (n0 := 128) (n1 := 2) (n2 := 128) ?_ ?_ ?_) <;> rfl

end Buffers

section Trip
variable (d : Dev nD) (i : grid0.Coords)

/-- The lanes of one gather's row numbers. -/
theorem lane_row (g : ℕ) (hg : g < 8) (x : ℕ) (hx : x < 16) : (addi (broadcast S16 (BitVec.ofNat 32 (16 * g))) lanes (at1 x hx)).toNat = 16 * g + x := by
  show (BitVec.ofNat 32 (16 * g) + BitVec.ofNat 32 (0 * S16.size 0 + x)).toNat = _
  rw [← BitVec.ofNat_add, BitVec.toNat_ofNat]
  omega

theorem shr_col : ∀ t : Fin 200, (IntOp.shrsi .vector (BitVec.ofNat 32 t.val) 7#32).toNat = t.val / 128 := by decide +kernel
theorem and_col : ∀ t : Fin 200, (IntOp.andi (BitVec.ofNat 32 t.val) 127#32).toNat = t.val % 128 := by decide +kernel

theorem w_gather {xb : Memref sig .scVector .vmem S128x2x128 .i32} {C : (S128x2x128.Idx → BitVec 32) → sProp (MT nD τ sig (HIx 1) (Elt F) ℕ UU ℕ)} (hX : XBuf (F := F) d i xb C)
    (g : ℕ) (hg : g < 8) (t : ℕ) (ht : t < 200) (f : S128x2x128.Idx → BitVec 32) :
    C f ⊢ W d i (gatherWords i xb lanes (broadcast S16 (BitVec.ofNat 32 t)) (BitVec.ofNat 32 (16 * g))) fun w =>
      iprop(⌜∀ x (hx : x < 16), w (at1 x hx) = f (at3 (16 * g + x) (t / 128) (t % 128) (by omega) (by omega) (by omega))⌝ ∗ C f) := by
  have h0 : ∀ x (hx : x < 16), (addi (broadcast S16 (BitVec.ofNat 32 (16 * g))) lanes (at1 x hx)).toNat = 16 * g + x := lane_row g hg
  have h1 : ∀ y, (shrsi (broadcast S16 (BitVec.ofNat 32 t)) (broadcast S16 7#32) y).toNat = t / 128 := fun y => shr_col ⟨t, ht⟩
  have h2 : ∀ y, (andi (broadcast S16 (BitVec.ofNat 32 t)) (broadcast S16 127#32) y).toNat = t % 128 := fun y => and_col ⟨t, ht⟩
  have hck : k0_chk41 (addi (broadcast S16 (BitVec.ofNat 32 (16 * g))) lanes) (shrsi (broadcast S16 (BitVec.ofNat 32 t)) (broadcast S16 7#32)) (andi (broadcast S16 (BitVec.ofNat 32 t)) (broadcast S16 127#32)) := by
    intro a y
    obtain ⟨x, hx, rfl⟩ := at1_ex (n := 16) y
    match a with
    | ⟨0, _⟩ => exact lt_of_eq_of_lt (h0 x hx) (by show 16 * g + x < 128; omega)
    | ⟨1, _⟩ => exact lt_of_eq_of_lt (h1 _) (by show t / 128 < 2; omega)
    | ⟨2, _⟩ => exact lt_of_eq_of_lt (h2 _) (by show t % 128 < 128; omega)
  unfold gatherWords
  iintro H
  iapply (w_as d i _ hck)
  iapply (w_last d i _ (hX.ldx _ _ _ f)) $$ H
  iintro %v ⟨%hv, H⟩
  isplitr
  swap
  · iexact H
  ipureintro
  intro x hx
  refine (hv x hx).trans (congrArg f (at3_ext (n0 := 128) (n1 := 2) (n2 := 128) (h0 x hx) (h1 _) (h2 _)))

/-- A block of out cells filled up to cell `m` of column `r`, by `G`. -/
def Filled (G : ℕ → ℕ → ℕ → Elt F .f32) (r m : ℕ) (f : S20x1x8x128.Idx → Elt F .f32) : Prop :=
  ∀ k c b (hk : k < 20) (hc : c < 8) (hb : b < 128), (k < r ∨ (k = r ∧ 8 * (b / 16) + c < m)) → f (at4 k 0 c b hk (by decide) hc hb) = G k c b

theorem filled_next {G : ℕ → ℕ → ℕ → Elt F .f32} {r : ℕ} {f : S20x1x8x128.Idx → Elt F .f32} (h : Filled G r 64 f) : Filled G (r + 1) 0 f := fun k c b hk hc hb hl =>
  h k c b hk hc hb (by omega)

theorem cast16 : ∀ x (hx : x < 16), Shape.reshapeEquiv shapeCasts_S16_S1x1x1x16 (at4 (n0 := 1) (n1 := 1) (n2 := 1) (n3 := 16) 0 0 0 x (by decide) (by decide) (by decide) hx) = at1 (n := 16) x hx := by
  have h : ∀ x : Fin 16, (Shape.reshapeEquiv shapeCasts_S16_S1x1x1x16 (at4 (n0 := 1) (n1 := 1) (n2 := 1) (n3 := 16) 0 0 0 x.val (by decide) (by decide) (by decide) x.isLt) 0).val = x.val := by decide +kernel
  intro x hx
  funext a
  rw [Fin.eq_zero a]
  exact Fin.ext (h ⟨x, hx⟩)

theorem filled_put {G : ℕ → ℕ → ℕ → Elt F .f32} {rb : BitVec 32} {r g c : ℕ} (hr : (Scalar.indexCast rb).toNat = r) (hr20 : r < 20) (hg : g < 8) (hc : c < 8) {f f' : S20x1x8x128.Idx → Elt F .f32}
    (h : Filled G r (8 * g + c) f) (v : S16.Idx → Elt F .f32) (hv : ∀ x (hx : x < 16), v (at1 x hx) = G r c (16 * g + x))
    (hp : Put4 (cellOff rb c (16 * g)) (shapeCast S1x1x1x16 v shapeCasts_S16_S1x1x1x16) f f') : Filled G r (8 * g + c + 1) f' := by
  have o0 : cellOff rb c (16 * g) 0 = r := hr
  have o2 : cellOff rb c (16 * g) 2 = c := rfl
  have o3 : cellOff rb c (16 * g) 3 = 16 * g := rfl
  intro k c' b hk hc' hb hlt
  by_cases hin : k = r ∧ c' = c ∧ b / 16 = g
  · obtain ⟨rfl, rfl, hbg⟩ := hin
    obtain ⟨x, rfl⟩ : ∃ x, b = 16 * g + x := ⟨b - 16 * g, by omega⟩
    have hx : x < 16 := by omega
    refine Eq.trans (congrArg f' ?_) ((hp.on x hx (by omega) (by omega) (by omega)).trans ?_)
    · refine at4_ext (n0 := 20) (n1 := 1) (n2 := 8) (n3 := 128) ?_ rfl ?_ ?_
      · exact o0.symm
      · exact o2.symm
      · exact congrArg (· + x) o3.symm
    · refine Eq.trans (congrArg v (cast16 x hx)) (hv x hx)
  · refine (hp.off k c' b hk hc' hb (by rw [o0, o2, o3]; omega)).trans (h k c' b hk hc' hb (by omega))

theorem word_idx (n c : ℕ) (hn : n < 8) (hc : c < 8) (w : BitVec 32) (hw : w.toNat = n) : (w * 8#32 + BitVec.ofNat 32 c).toNat = 8 * n + c := by
  rw [BitVec.toNat_add, BitVec.toNat_mul, hw, BitVec.toNat_ofNat, BitVec.toNat_ofNat]
  omega

theorem ldx_tab (g : S64.Idx → Elt F .f32) (idxs : Fin 1 → IVec S16 32) (h : ∀ a x, (idxs a x).toNat < S64.size a) :
    loadIdx (F := F) (e := .f32) ((vTab.access (.whole S64)).read (Elt F) g) idxs h = loadIdx (F := F) (s := S64) (t := S16) (e := .f32) g idxs h :=
  ldx_whole cc0_scratch5 g idxs h

/-- What sixteen words look up. -/
def Looks (T : S64.Idx → Elt F .f32) (G : ℕ → ℕ → ℕ → Elt F .f32) (r g : ℕ) (w : IVec S16 32) : Prop :=
  ∀ x (hx : x < 16), ∃ h : (w (at1 x hx)).toNat < 8, ∀ c (hc : c < 8), T (at1 (8 * (w (at1 x hx)).toNat + c) (by omega)) = G r c (16 * g + x)

theorem w_putCell {ob : Memref sig .scVector .vmem S20x1x8x128 .f32} {C : (S20x1x8x128.Idx → Elt F .f32) → sProp (MT nD τ sig (HIx 1) (Elt F) ℕ UU ℕ)} (hO : OBuf (F := F) d i ob C)
    {T : S64.Idx → Elt F .f32} {G : ℕ → ℕ → ℕ → Elt F .f32} {rb : BitVec 32} {r g : ℕ} (hr : (Scalar.indexCast rb).toNat = r) (hr20 : r < 20) (hg : g < 8) {w : IVec S16 32} (hw : Looks T G r g w)
    (c : ℕ) (hc : c < 8) (inb : ∀ a, cellOff rb c (16 * g) a + S1x1x1x16.size a ≤ S20x1x8x128.size a) :
    iprop(pt (F := F) d i vTab T ∗ ∃ f, ⌜Filled G r (8 * g + c) f⌝ ∗ C f) ⊢ W d i (putCell i vTab ob w (BitVec.ofNat 32 c) (cellOff rb c (16 * g)) inb) fun _ =>
      iprop(pt (F := F) d i vTab T ∗ ∃ f, ⌜Filled G r (8 * g + c + 1) f⌝ ∗ C f) := by
  have hi : ∀ x (hx : x < 16), (addi (muli w (broadcast S16 8#32)) (broadcast S16 (BitVec.ofNat 32 c)) (at1 x hx)).toNat = 8 * (w (at1 x hx)).toNat + c := fun x hx => by
    obtain ⟨h8, -⟩ := hw x hx
    exact word_idx _ c h8 hc _ rfl
  have hck : k0_chk49 (addi (muli w (broadcast S16 8#32)) (broadcast S16 (BitVec.ofNat 32 c))) := by
    intro a y
    rw [Fin.eq_zero a]
    obtain ⟨x, hx, rfl⟩ := at1_ex (n := 16) y
    obtain ⟨h8, -⟩ := hw x hx
    exact lt_of_eq_of_lt (hi x hx) (by show 8 * (w (at1 x hx)).toNat + c < 64; omega)
  unfold putCell
  iintro ⟨HT, %f, %hf, H⟩
  iapply (w_as d i _ hck)
  iapply (w_ldx d i _) $$ HT
  iintro HT
  rw [ldx_tab]
  iapply (w_last d i _ (hO.cell _ _ _ _ _ f _)) $$ H
  iintro %_ ⟨%f', %hp, H⟩
  isplitl [HT]; · iexact HT
  iexists f'
  isplitr
  swap
  · iexact H
  ipureintro
  refine filled_put (F := F) hr hr20 hg hc hf _ (fun x hx => ?_) hp
  refine (congrArg T ?_).trans ((hw x hx).2 c hc)
  funext a
  rw [Fin.eq_zero a]
  exact Fin.ext (hi x hx)

theorem w_putRow {ob : Memref sig .scVector .vmem S20x1x8x128 .f32} {C : (S20x1x8x128.Idx → Elt F .f32) → sProp (MT nD τ sig (HIx 1) (Elt F) ℕ UU ℕ)} (hO : OBuf (F := F) d i ob C)
    {T : S64.Idx → Elt F .f32} {G : ℕ → ℕ → ℕ → Elt F .f32} {rb : BitVec 32} {r : ℕ} (hr : (Scalar.indexCast rb).toNat = r) (hr20 : (Scalar.indexCast rb).toNat < 20) (g : Fin 8) {w : IVec S16 32} (hw : Looks T G r g.val w) (m m' : ℕ)
    (hm : m = 8 * g.val) (hm' : m' = 8 * g.val + 8) :
    iprop(pt (F := F) d i vTab T ∗ ∃ f, ⌜Filled G r m f⌝ ∗ C f) ⊢ W d i (putRow i vTab ob rb hr20 w g) fun _ =>
      iprop(pt (F := F) d i vTab T ∗ ∃ f, ⌜Filled G r m' f⌝ ∗ C f) := by
  subst hm hm'
  have h20 : r < 20 := hr ▸ hr20
  unfold putRow
  iintro H
  iapply (w_then d i _ (w_putCell (F := F) d i hO hr h20 g.isLt hw 0 (by decide) (cellOff_inb rb hr20 0 g))) $$ H
  iintro %_ H
  iapply (w_then d i _ (w_putCell (F := F) d i hO hr h20 g.isLt hw 1 (by decide) (cellOff_inb rb hr20 1 g))) $$ H
  iintro %_ H
  iapply (w_then d i _ (w_putCell (F := F) d i hO hr h20 g.isLt hw 2 (by decide) (cellOff_inb rb hr20 2 g))) $$ H
  iintro %_ H
  iapply (w_then d i _ (w_putCell (F := F) d i hO hr h20 g.isLt hw 3 (by decide) (cellOff_inb rb hr20 3 g))) $$ H
  iintro %_ H
  iapply (w_then d i _ (w_putCell (F := F) d i hO hr h20 g.isLt hw 4 (by decide) (cellOff_inb rb hr20 4 g))) $$ H
  iintro %_ H
  iapply (w_then d i _ (w_putCell (F := F) d i hO hr h20 g.isLt hw 5 (by decide) (cellOff_inb rb hr20 5 g))) $$ H
  iintro %_ H
  iapply (w_then d i _ (w_putCell (F := F) d i hO hr h20 g.isLt hw 6 (by decide) (cellOff_inb rb hr20 6 g))) $$ H
  iintro %_ H
  iapply (w_last d i _ (w_putCell (F := F) d i hO hr h20 g.isLt hw 7 (by decide) (cellOff_inb rb hr20 7 g))) $$ H
  iintro %_ H
  iexact H

theorem w_trip {xb : Memref sig .scVector .vmem S128x2x128 .i32} {CX : (S128x2x128.Idx → BitVec 32) → sProp (MT nD τ sig (HIx 1) (Elt F) ℕ UU ℕ)} (hX : XBuf (F := F) d i xb CX)
    {ob : Memref sig .scVector .vmem S20x1x8x128 .f32} {C : (S20x1x8x128.Idx → Elt F .f32) → sProp (MT nD τ sig (HIx 1) (Elt F) ℕ UU ℕ)} (hO : OBuf (F := F) d i ob C)
    {T : S64.Idx → Elt F .f32} {X : S128x2x128.Idx → BitVec 32} {G : ℕ → ℕ → ℕ → Elt F .f32} {rb : BitVec 32} {r : ℕ} (hr : (Scalar.indexCast rb).toNat = r) (hr20 : (Scalar.indexCast rb).toNat < 20)
    (tb : BitVec 32) (t : ℕ) (ht : t < 200) (htb : tb = BitVec.ofNat 32 t)
    (hG : ∀ b (hb : b < 128), ∃ h : (X (at3 b (t / 128) (t % 128) hb (by omega) (by omega))).toNat < 8,
      ∀ c (hc : c < 8), T (at1 (8 * (X (at3 b (t / 128) (t % 128) hb (by omega) (by omega))).toNat + c) (by omega)) = G r c b) :
    iprop(CX X ∗ pt (F := F) d i vTab T ∗ ∃ f, ⌜Filled G r 0 f⌝ ∗ C f) ⊢ W d i (trip i xb vTab ob lanes rb hr20 tb) fun _ =>
      iprop(CX X ∗ pt (F := F) d i vTab T ∗ ∃ f, ⌜Filled G (r + 1) 0 f⌝ ∗ C f) := by
  subst htb
  have hL : ∀ (g : ℕ) (hg : g < 8) (w : IVec S16 32), (∀ x (hx : x < 16), w (at1 x hx) = X (at3 (16 * g + x) (t / 128) (t % 128) (by omega) (by omega) (by omega))) → Looks T G r g w := by
    intro g hg w hw x hx
    obtain ⟨h8, hT⟩ := hG (16 * g + x) (by omega)
    refine ⟨by rw [hw x hx]; exact h8, fun c hc => ?_⟩
    refine Eq.trans (congrArg T ?_) (hT c hc)
    funext a
    rw [Fin.eq_zero a]
    refine Fin.ext ?_
    show 8 * (w (at1 x hx)).toNat + c = _
    rw [hw x hx]
  unfold trip
  iintro ⟨HX, H⟩
  iapply (w_then d i _ (w_gather (F := F) d i hX 0 (by decide) t ht X)) $$ HX
  iintro %w0 ⟨%h0, HX⟩
  iapply (w_then d i _ (w_gather (F := F) d i hX 1 (by decide) t ht X)) $$ HX
  iintro %w1 ⟨%h1, HX⟩
  iapply (w_then d i _ (w_gather (F := F) d i hX 2 (by decide) t ht X)) $$ HX
  iintro %w2 ⟨%h2, HX⟩
  iapply (w_then d i _ (w_gather (F := F) d i hX 3 (by decide) t ht X)) $$ HX
  iintro %w3 ⟨%h3, HX⟩
  iapply (w_then d i _ (w_gather (F := F) d i hX 4 (by decide) t ht X)) $$ HX
  iintro %w4 ⟨%h4, HX⟩
  iapply (w_then d i _ (w_gather (F := F) d i hX 5 (by decide) t ht X)) $$ HX
  iintro %w5 ⟨%h5, HX⟩
  iapply (w_then d i _ (w_gather (F := F) d i hX 6 (by decide) t ht X)) $$ HX
  iintro %w6 ⟨%h6, HX⟩
  iapply (w_then d i _ (w_gather (F := F) d i hX 7 (by decide) t ht X)) $$ HX
  iintro %w7 ⟨%h7, HX⟩
  iapply (w_then d i _ (w_putRow (F := F) d i hO hr hr20 0 (hL 0 (by decide) w0 h0) 0 8 rfl rfl)) $$ H
  iintro %_ H
  iapply (w_then d i _ (w_putRow (F := F) d i hO hr hr20 1 (hL 1 (by decide) w1 h1) 8 16 rfl rfl)) $$ H
  iintro %_ H
  iapply (w_then d i _ (w_putRow (F := F) d i hO hr hr20 2 (hL 2 (by decide) w2 h2) 16 24 rfl rfl)) $$ H
  iintro %_ H
  iapply (w_then d i _ (w_putRow (F := F) d i hO hr hr20 3 (hL 3 (by decide) w3 h3) 24 32 rfl rfl)) $$ H
  iintro %_ H
  iapply (w_then d i _ (w_putRow (F := F) d i hO hr hr20 4 (hL 4 (by decide) w4 h4) 32 40 rfl rfl)) $$ H
  iintro %_ H
  iapply (w_then d i _ (w_putRow (F := F) d i hO hr hr20 5 (hL 5 (by decide) w5 h5) 40 48 rfl rfl)) $$ H
  iintro %_ H
  iapply (w_then d i _ (w_putRow (F := F) d i hO hr hr20 6 (hL 6 (by decide) w6 h6) 48 56 rfl rfl)) $$ H
  iintro %_ H
  iapply (w_last d i _ (w_putRow (F := F) d i hO hr hr20 7 (hL 7 (by decide) w7 h7) 56 64 rfl rfl)) $$ H
  iintro %_ ⟨HT, %f, %hf, H⟩
  isplitl [HX]; · iexact HX
  isplitl [HT]; · iexact HT
  iexists f
  isplitr; · ipureintro; exact filled_next hf
  iexact H

theorem iv_row (k : ℕ) (hk : k < 20) : (Scalar.indexCast (Scf.iv 0#32 1#32 k)).toNat = k := by
  simp only [Scf.iv, Scalar.indexCast]
  simp
  omega

/-- Twenty columns. -/
theorem w_expand {xb : Memref sig .scVector .vmem S128x2x128 .i32} {CX : (S128x2x128.Idx → BitVec 32) → sProp (MT nD τ sig (HIx 1) (Elt F) ℕ UU ℕ)} (hX : XBuf (F := F) d i xb CX)
    {ob : Memref sig .scVector .vmem S20x1x8x128 .f32} {C : (S20x1x8x128.Idx → Elt F .f32) → sProp (MT nD τ sig (HIx 1) (Elt F) ℕ UU ℕ)} (hO : OBuf (F := F) d i ob C)
    {T : S64.Idx → Elt F .f32} {X : S128x2x128.Idx → BitVec 32} {G : ℕ → ℕ → ℕ → Elt F .f32} (L : Scf.Loop 32) (hL : L.OK) (hL20 : L.trips = 20)
    (tb : Fin L.trips → BitVec 32) (u : ℕ) (hu : u < 10) (htb : ∀ k : Fin L.trips, tb k = BitVec.ofNat 32 (20 * u + k.val)) (hr : ∀ k : Fin L.trips, (Scalar.indexCast (Scf.iv 0#32 1#32 k.val)).toNat < 20)
    (hG : ∀ k (hk : k < 20) b (hb : b < 128), ∃ h : (X (at3 b ((20 * u + k) / 128) ((20 * u + k) % 128) hb (by omega) (by omega))).toNat < 8,
      ∀ c (hc : c < 8), T (at1 (8 * (X (at3 b ((20 * u + k) / 128) ((20 * u + k) % 128) hb (by omega) (by omega))).toNat + c) (by omega)) = G k c b) :
    iprop(CX X ∗ pt (F := F) d i vTab T ∗ ∃ f, C f) ⊢ W d i (Scf.Loop.for L hL 0#32 fun k (_ : BitVec 32) => do
        trip i xb vTab ob lanes (Scf.iv 0#32 1#32 k.val) (hr k) (tb k)
        pure 0#32) fun _ =>
      iprop(CX X ∗ pt (F := F) d i vTab T ∗ ∃ f, ⌜Filled G 20 0 f⌝ ∗ C f) := by
  iintro ⟨HX, HT, %f, H⟩
  iapply (w_last d i _ (w_for d i L hL (fun k (_ : BitVec 32) => do
        trip (F := F) i xb vTab ob lanes (Scf.iv 0#32 1#32 k.val) (hr k) (tb k)
        pure 0#32)
    (fun k _ => iprop(CX X ∗ pt (F := F) d i vTab T ∗ ∃ f, ⌜Filled G k 0 f⌝ ∗ C f)) ?_ 0#32)) $$ [HX HT H]
  · intro k _
    have hk : k.val < 20 := hL20 ▸ k.isLt
    iintro H
    iapply (w_then d i _ (w_trip (F := F) d i hX hO (iv_row k.val hk) (hr k) (tb k) (20 * u + k.val) (by omega) (htb k) (hG k.val hk))) $$ H
    iintro %_ H
    iapply (w_ret d i _) $$ H
  · isplitl [HX]; · iexact HX
    isplitl [HT]; · iexact HT
    iexists f
    isplitr
    · ipureintro; intro k c b hk hc hb h; omega
    · iexact H
  rw [hL20]
  iintro %_ H
  iexact H

end Trip

end Cert.KernelIdeal.Own
-- ==== Proof.Blocks.lean ====
/- Where the result's blocks lie, by worker and trip, and the columns of a trip. -/
module

public import proofs.«01_k».proof.Proof.Offs

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

theorem off10_eq : ∀ k : Fin k0_t3_loop.trips, k0_off10 k 0 = 256 * k.val + 128 := by decide +kernel
theorem t3_trips : k0_t3_loop.trips = 2 := by decide +kernel
theorem t4_trips : k0_t4_loop.trips = 5 := by decide +kernel
theorem t7_trips : k0_t7_loop.trips = 5 := by decide +kernel
theorem t5_trips : k0_t5_loop.trips = 20 := by decide +kernel
theorem t6_trips : k0_t6_loop.trips = 20 := by decide +kernel
theorem t8_trips : k0_t8_loop.trips = 20 := by decide +kernel
theorem t9_trips : k0_t9_loop.trips = 20 := by decide +kernel
theorem cond3_iff : ∀ (k : Fin k0_t3_loop.trips) (t : Fin k0_t4_loop.trips), k0_cond3 k t = 1#1 ↔ 2 ≤ 20 * k.val + 2 * t.val := by decide +kernel
theorem cond4_iff : ∀ (k : Fin k0_t3_loop.trips) (t : Fin k0_t4_loop.trips), k0_cond4 k t = 1#1 ↔ 2 ≤ 20 * k.val + 2 * t.val + 1 := by decide +kernel
theorem cond6_true : k0_cond6 = 1#1 := by decide +kernel
theorem cond7_true : k0_cond7 = 1#1 := by decide +kernel
theorem first_iff : ∀ k : Fin k0_t3_loop.trips, Scalar.cmpi .ne (Scalar.extui (Scalar.cmpi .eq (Scf.iv 0#32 1#32 k.val) 0#32) : BitVec 32) 0#32 = 1#1 ↔ k.val = 0 := by decide +kernel
theorem off76_eq : ∀ (i : grid0.Coords) (k : Fin k0_t3_loop.trips) (t : Fin k0_t4_loop.trips), k0_off76 i k t = ![20 * (2 * t.val + 0), 4 * wn i + (2 * k.val + 0), 0, 0] := by decide +kernel
theorem off142_eq : ∀ (i : grid0.Coords) (k : Fin k0_t3_loop.trips) (t : Fin k0_t4_loop.trips), k0_off142 i k t = ![20 * (2 * t.val + 1), 4 * wn i + (2 * k.val + 0), 0, 0] := by decide +kernel
theorem off208_eq : ∀ (i : grid0.Coords) (k : Fin k0_t3_loop.trips) (t : Fin k0_t7_loop.trips), k0_off208 i k t = ![20 * (2 * t.val + 0), 4 * wn i + (2 * k.val + 1), 0, 0] := by decide +kernel
theorem off274_eq : ∀ (i : grid0.Coords) (k : Fin k0_t3_loop.trips) (t : Fin k0_t7_loop.trips), k0_off274 i k t = ![20 * (2 * t.val + 1), 4 * wn i + (2 * k.val + 1), 0, 0] := by decide +kernel
theorem col5 : ∀ (t : Fin k0_t4_loop.trips) (k : Fin k0_t5_loop.trips), Scalar.addi (Scalar.muli (Scalar.muli 2#32 (Scf.iv 0#32 1#32 t.val)) 20#32) (Scf.iv 0#32 1#32 k.val) = BitVec.ofNat 32 (20 * (2 * t.val + 0) + k.val) := by decide +kernel
theorem col6 : ∀ (t : Fin k0_t4_loop.trips) (k : Fin k0_t6_loop.trips), Scalar.addi (Scalar.muli (Scalar.addi (Scalar.muli 2#32 (Scf.iv 0#32 1#32 t.val)) 1#32) 20#32) (Scf.iv 0#32 1#32 k.val) = BitVec.ofNat 32 (20 * (2 * t.val + 1) + k.val) := by decide +kernel
theorem col8 : ∀ (t : Fin k0_t7_loop.trips) (k : Fin k0_t8_loop.trips), Scalar.addi (Scalar.muli (Scalar.muli 2#32 (Scf.iv 0#32 1#32 t.val)) 20#32) (Scf.iv 0#32 1#32 k.val) = BitVec.ofNat 32 (20 * (2 * t.val + 0) + k.val) := by decide +kernel
theorem col9 : ∀ (t : Fin k0_t7_loop.trips) (k : Fin k0_t9_loop.trips), Scalar.addi (Scalar.muli (Scalar.addi (Scalar.muli 2#32 (Scf.iv 0#32 1#32 t.val)) 1#32) 20#32) (Scf.iv 0#32 1#32 k.val) = BitVec.ofNat 32 (20 * (2 * t.val + 1) + k.val) := by decide +kernel

end Cert.KernelIdeal.Own
-- ==== Proof.Pieces.lean ====
/- Rows gathered in, blocks of the result sent out: the pieces of the last phase. -/
module

public import proofs.«01_k».proof.Proof.Expand
public import proofs.«01_k».proof.Proof.Blocks

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore

variable {F : FTy → Type} [FloatOps F]

local notation "𝕄" => MT nD τ sig (HIx 1) (Elt F) ℕ UU ℕ

/-! ## The result -/

/-- The result's entry at column `t`, batch block `c`, component `dd`, lane `b`. -/
def outN (T : S64.Idx → Elt F .f32) (X : S16384x2x128.Idx → BitVec 32) (l : ℕ → ℕ) (t c dd b : ℕ) : Elt F .f32 :=
  T (at1 ((8 * (X (at3 (ent l ((128 * c + b) % 16384) (Nat.mod_lt _ (by decide))) (t / 128 % 2) (t % 128) (ent_lt l _ _) (Nat.mod_lt _ (by decide)) (Nat.mod_lt _ (by decide)))).toNat + dd) % 64) (Nat.mod_lt _ (by decide)))

/-- The whole result. -/
def outT (T : S64.Idx → Elt F .f32) (X : S16384x2x128.Idx → BitVec 32) (l : ℕ → ℕ) : S200x128x8x128.Idx → Elt F .f32 := fun j => outN T X l (j 0).val (j 1).val (j 2).val (j 3).val

/-- Words below eight in the columns that are looked up. -/
def Small (X : S16384x2x128.Idx → BitVec 32) : Prop := ∀ n (hn : n < 16384) t (ht : t < 200), (X (at3 n (t / 128) (t % 128) hn (by omega) (by omega))).toNat < 8

/-- The staged rows of batch block `j` of worker `w`. -/
def Rows (X : S16384x2x128.Idx → BitVec 32) (l : ℕ → ℕ) (w j : ℕ) (X' : S128x2x128.Idx → BitVec 32) : Prop :=
  ∀ b h c (hb : b < 128) (hh : h < 2) (hc : c < 128), X' (at3 b h c hb hh hc) = X (at3 (ent l ((128 * (4 * w + j) + b) % 16384) (Nat.mod_lt _ (by decide))) h c (ent_lt l _ _) hh hc)

theorem rows_look {T : S64.Idx → Elt F .f32} {X : S16384x2x128.Idx → BitVec 32} {l : ℕ → ℕ} {w j : ℕ} {X' : S128x2x128.Idx → BitVec 32} (hX : Small X) (hR : Rows X l w j X') (u : ℕ) (hu : u < 10) :
    ∀ k (hk : k < 20) b (hb : b < 128), ∃ h : (X' (at3 b ((20 * u + k) / 128) ((20 * u + k) % 128) hb (by omega) (by omega))).toNat < 8,
      ∀ c (hc : c < 8), T (at1 (8 * (X' (at3 b ((20 * u + k) / 128) ((20 * u + k) % 128) hb (by omega) (by omega))).toNat + c) (by omega)) = outN T X l (20 * u + k) (4 * w + j) c b := by
  intro k hk b hb
  have e := hR b ((20 * u + k) / 128) ((20 * u + k) % 128) hb (by omega) (by omega)
  have h8 := hX (ent l ((128 * (4 * w + j) + b) % 16384) (Nat.mod_lt _ (by decide))) (ent_lt l _ _) (20 * u + k) (by omega)
  refine ⟨by rw [e]; exact h8, fun c hc => ?_⟩
  unfold outN
  refine congrArg T ?_
  funext a
  rw [Fin.eq_zero a]
  refine Fin.ext ?_
  show 8 * (X' _).toNat + c = (8 * (X _).toNat + c) % 64
  rw [e]
  have e2 : (at3 (n0 := 16384) (n1 := 2) (n2 := 128) (ent l ((128 * (4 * w + j) + b) % 16384) (Nat.mod_lt _ (by decide))) ((20 * u + k) / 128) ((20 * u + k) % 128) (ent_lt l _ _) (by omega) (by omega))
      = at3 (n0 := 16384) (n1 := 2) (n2 := 128) (ent l ((128 * (4 * w + j) + b) % 16384) (Nat.mod_lt _ (by decide))) ((20 * u + k) / 128 % 2) ((20 * u + k) % 128) (ent_lt l _ _) (Nat.mod_lt _ (by decide)) (Nat.mod_lt _ (by decide)) := by
    refine at3_ext rfl ?_ rfl
    show (20 * u + k) / 128 = (20 * u + k) / 128 % 2
    omega
  rw [← e2]
  exact (Nat.mod_eq_of_lt (by omega)).symm

/-! ## The worker's part of the result, block by block -/

/-- Where a worker's blocks of the result lie, by their order. -/
def code (w : ℕ) (j : S200x128x8x128.Idx) : ℕ := 10 * ((j 1).val - 4 * w) + (j 0).val / 20
def own (w : ℕ) (j : S200x128x8x128.Idx) : Prop := 4 * w ≤ (j 1).val ∧ (j 1).val < 4 * w + 4
instance (w : ℕ) (j : S200x128x8x128.Idx) : Decidable (own w j) := inferInstanceAs (Decidable (_ ∧ _))
def ownS (w : ℕ) : Finset S200x128x8x128.Idx := Finset.univ.filter fun j => own w j
def regS (w n : ℕ) : Finset S200x128x8x128.Idx := Finset.univ.filter fun j => own w j ∧ code w j = n
def ltS (w n : ℕ) : Finset S200x128x8x128.Idx := Finset.univ.filter fun j => own w j ∧ code w j < n
def geS (w n : ℕ) : Finset S200x128x8x128.Idx := Finset.univ.filter fun j => own w j ∧ n ≤ code w j

theorem code_lt {w : ℕ} {j : S200x128x8x128.Idx} (h : own w j) : code w j < 40 := by
  have h0 : (j 0).val < 200 := (j 0).isLt
  obtain ⟨h1, h2⟩ := h
  unfold code; omega

theorem mem_own {w : ℕ} {j : S200x128x8x128.Idx} : j ∈ ownS w ↔ own w j :=
  ⟨fun h => (Finset.mem_filter.mp h).2, fun h => Finset.mem_filter.mpr ⟨Finset.mem_univ _, h⟩⟩
theorem mem_reg {w n : ℕ} {j : S200x128x8x128.Idx} : j ∈ regS w n ↔ own w j ∧ code w j = n :=
  ⟨fun h => (Finset.mem_filter.mp h).2, fun h => Finset.mem_filter.mpr ⟨Finset.mem_univ _, h⟩⟩
theorem mem_lt {w n : ℕ} {j : S200x128x8x128.Idx} : j ∈ ltS w n ↔ own w j ∧ code w j < n :=
  ⟨fun h => (Finset.mem_filter.mp h).2, fun h => Finset.mem_filter.mpr ⟨Finset.mem_univ _, h⟩⟩
theorem mem_ge {w n : ℕ} {j : S200x128x8x128.Idx} : j ∈ geS w n ↔ own w j ∧ n ≤ code w j :=
  ⟨fun h => (Finset.mem_filter.mp h).2, fun h => Finset.mem_filter.mpr ⟨Finset.mem_univ _, h⟩⟩

theorem reg_ge (w n : ℕ) : regS w n ⊆ geS w n := fun j h => by
  rw [mem_reg] at h
  rw [mem_ge]
  exact ⟨h.1, h.2.ge⟩

theorem ge_diff (w n : ℕ) : geS w n \ regS w n = geS w (n + 1) := by
  ext j
  rw [Finset.mem_sdiff, mem_ge, mem_reg, mem_ge]
  constructor
  · rintro ⟨⟨h1, h2⟩, h3⟩; exact ⟨h1, Nat.lt_of_le_of_ne h2 fun e => h3 ⟨h1, e.symm⟩⟩
  · rintro ⟨h1, h2⟩; exact ⟨⟨h1, Nat.le_of_succ_le h2⟩, fun h => absurd h.2 (by omega)⟩

theorem lt_disj (w n : ℕ) : Disjoint (ltS w n) (regS w n) := by
  rw [Finset.disjoint_left]
  intro j h h'
  rw [mem_lt] at h
  rw [mem_reg] at h'
  omega

theorem lt_union (w n : ℕ) : ltS w n ∪ regS w n = ltS w (n + 1) := by
  ext j
  rw [Finset.mem_union, mem_lt, mem_reg, mem_lt]
  constructor
  · rintro (⟨h1, h2⟩ | ⟨h1, h2⟩)
    · exact ⟨h1, by omega⟩
    · exact ⟨h1, by omega⟩
  · rintro ⟨h1, h2⟩
    by_cases h : code w j < n
    · exact .inl ⟨h1, h⟩
    · exact .inr ⟨h1, by omega⟩

theorem lt_zero (w : ℕ) : ltS w 0 = ∅ := by
  ext j
  rw [mem_lt]
  exact ⟨fun h => absurd h.2 (Nat.not_lt_zero _), fun h => absurd h (Finset.notMem_empty _)⟩

theorem ge_zero (w : ℕ) : geS w 0 = ownS w := by
  ext j
  rw [mem_ge, mem_own]
  exact ⟨fun h => h.1, fun h => ⟨h, Nat.zero_le _⟩⟩

theorem lt_all (w : ℕ) : ltS w 40 = ownS w := by
  ext j
  rw [mem_lt, mem_own]
  exact ⟨fun h => h.1, fun h => ⟨h, code_lt h⟩⟩

theorem dst_set {w u j n : ℕ} (hu : u < 10) (hj : j < 4) (hn : n = 10 * j + u) {off : Fin 4 → ℕ} (inb : ∀ a, off a + S20x1x8x128.size a ≤ S200x128x8x128.size a)
    (ho : off = ![20 * u, 4 * w + j, 0, 0]) : (Rect.unit (s := S200x128x8x128) off S20x1x8x128.size inb).set = regS w n := by
  subst ho hn
  ext y
  have y0 : (y 0).val < 200 := (y 0).isLt
  have y2 : (y 2).val < 8 := (y 2).isLt
  have y3 : (y 3).val < 128 := (y 3).isLt
  rw [mem_reg]
  unfold own code
  constructor
  · intro h
    have h := Rect.mem_set_unit.mp h
    have h0 : 20 * u ≤ (y 0).val ∧ (y 0).val < 20 * u + 20 := h 0
    have h1 : 4 * w + j ≤ (y 1).val ∧ (y 1).val < 4 * w + j + 1 := h 1
    omega
  · rintro ⟨⟨h1, h2⟩, h3⟩
    refine Rect.mem_set_unit.mpr fun a => ?_
    match a with
    | ⟨0, _⟩ => show 20 * u ≤ (y 0).val ∧ (y 0).val < 20 * u + 20; omega
    | ⟨1, _⟩ => show 4 * w + j ≤ (y 1).val ∧ (y 1).val < 4 * w + j + 1; omega
    | ⟨2, _⟩ => show 0 ≤ (y 2).val ∧ (y 2).val < 0 + 8; omega
    | ⟨3, _⟩ => show 0 ≤ (y 3).val ∧ (y 3).val < 0 + 128; omega

section Moves
variable (d : Dev nD) (i : grid0.Coords)

/-- The credit of one block's copy. -/
def NO : ℕ := (oDst ![0, 0, 0, 0] inb_S200x128x8x128_S20x1x8x128_0_0_0_0).view.dmaCredit

theorem credit_out (off : Fin 4 → ℕ) (inb : ∀ a, off a + S20x1x8x128.size a ≤ S200x128x8x128.size a) : (oDst off inb).view.dmaCredit = NO := rfl

/-- The result's elements in `S`, at `f`. -/
abbrev op (S : Finset S200x128x8x128.Idx) (f : S200x128x8x128.Idx → Elt F .f32) : sProp (MT nD τ sig (HIx 1) (Elt F) ℕ UU ℕ) := mOut.view.loc (thr d i) ↦[S]{fullShare} f

/-- A buffer of out cells, and its copy out. -/
structure OSend (ob : Memref sig .scVector .vmem S20x1x8x128 .f32) (hob : ob.IsWhole) (C : (S20x1x8x128.Idx → Elt F .f32) → sProp (MT nD τ sig (HIx 1) (Elt F) ℕ UU ℕ)) : Prop extends OBuf d i ob C where
  send : ∀ (sm : DmaSems sig S_) (off : Fin 4 → ℕ) (inb : ∀ a, off a + S20x1x8x128.size a ≤ S200x128x8x128.size a) (f : S20x1x8x128.Idx → Elt F .f32) (fd : S200x128x8x128.Idx → Elt F .f32),
    iprop(C f ∗ op d i (oDst off inb).view.set fd ∗ sv (F := F) d i sm.sem) ⊢ W d i (putOut i ob hob sm off inb) fun _ =>
      Fl d i sm.sem NO iprop(op d i (oDst off inb).view.set ((oDst off inb).view.write (Elt F) fd f Finset.univ) ∗ C f)

theorem oSend0 : OSend (F := F) d i vO0 (Memref.isWhole_whole _) (pt (F := F) d i vO0) where
  toOBuf := oBuf0 d i
  send sm off inb f fd := by
    iintro ⟨H, HO, Hv⟩
    iapply (w_one d i _ _)
    unfold putOut
    iapply (w_dma d i _ (by decide) (Finset.Subset.refl _)) $$ [H HO Hv]
    · isplitl [H]; · iexact H
      isplitl [HO]; · iexact HO
      iexact Hv
    iintro H
    iapply (w_ret d i _)
    iexact H

theorem oSend1 : OSend (F := F) d i vO1 (Memref.isWhole_whole _) (pt (F := F) d i vO1) where
  toOBuf := oBuf1 d i
  send sm off inb f fd := by
    iintro ⟨H, HO, Hv⟩
    iapply (w_one d i _ _)
    unfold putOut
    iapply (w_dma d i _ (by decide) (Finset.Subset.refl _)) $$ [H HO Hv]
    · isplitl [H]; · iexact H
      isplitl [HO]; · iexact HO
      iexact Hv
    iintro H
    iapply (w_ret d i _)
    iexact H

/-- A staging buffer, and the gather into it. -/
structure XFetch (q : PosShare TreeShare) (X : S16384x2x128.Idx → BitVec 32) (l : ℕ → ℕ) (qi : S512.Idx → BitVec 32) (xb : Memref sig .scVector .vmem S128x2x128 .i32)
    (C : (S128x2x128.Idx → BitVec 32) → sProp (MT nD τ sig (HIx 1) (Elt F) ℕ UU ℕ)) : Prop extends XBuf d i xb C where
  fetch : ∀ (sm : DmaSems sig S_) (off : Fin 1 → ℕ) (inb : ∀ a, off a + S128.size a ≤ S512.size a) (j : ℕ) (hj : j < 4) (ho : off 0 = 128 * j) (hq : Order l (wn i) qi) (f : S128x2x128.Idx → BitVec 32),
    iprop(C f ∗ hb (F := F) d i mX q X ∗ pt (F := F) d i vIdx qi ∗ sv (F := F) d i sm.sem) ⊢ W d i (getRows i xb off inb sm) fun _ =>
      Fl d i sm.sem xb.view.dmaCredit iprop((∃ X', ⌜Rows X l (wn i) j X'⌝ ∗ C X') ∗ hb (F := F) d i mX q X ∗ pt (F := F) d i vIdx qi)

theorem rowMajor_back (k : Fin S128.numel) (k' : ℕ) (hk : k' < 128) (e : k.val = k') : S128.rowMajor.symm k = at1 (n := 128) k' hk := by
  rw [Equiv.symm_apply_eq]
  refine Fin.ext ?_
  rw [show ((S128.rowMajor (at1 (n := 128) k' hk)).val = k') from Shape.rowMajor_val_one (d := ![128]) (at1 (n := 128) k' hk)]
  exact e

theorem list_at {off : Fin 1 → ℕ} (inb : ∀ a, off a + S128.size a ≤ S512.size a) {j w : ℕ} (hw : w < 32) (hj : j < 4) (ho : off 0 = 128 * j) {l : ℕ → ℕ} {qi : S512.Idx → BitVec 32} (hq : Order l w qi)
    (b : ℕ) (hb : b < 128) : ((vIdx.slice (Rect.unit (s := S512) off S128.size inb) (fun _ => rfl)).view.read (Elt F) qi (at1 (n := 128) b hb)).toNat = ent l ((128 * (4 * w + j) + b) % 16384) (Nat.mod_lt _ (by decide)) := by
  have e : (vIdx.slice (Rect.unit (s := S512) off S128.size inb) (fun _ => rfl)).view.read (Elt F) qi (at1 (n := 128) b hb) = qi (at1 (n := 512) (128 * j + b) (by omega)) := by
    rw [View.read_apply]
    refine congrArg qi ?_
    refine (unit_emb (w := 512) (n := 128) off inb b hb).trans ?_
    funext a; rw [Fin.eq_zero a]
    exact Fin.ext (congrArg (· + b) ho)
  have e1 : 512 * w + (128 * j + b) < 16384 := by omega
  have e2 := hq (128 * j + b) (by omega) e1
  have e3 : ∀ z (hz : z < 16384) z' (hz' : z' < 16384), z = z' → ent l z hz = ent l z' hz' := by intro z hz z' hz' e; subst e; rfl
  refine (congrArg BitVec.toNat (e.trans e2)).trans ?_
  rw [BitVec.toNat_ofNat]
  have := ent_lt l (512 * w + (128 * j + b)) e1
  refine (Nat.mod_eq_of_lt (by omega)).trans (e3 _ _ _ _ (by omega))

theorem rows_of {off : Fin 1 → ℕ} (inb : ∀ a, off a + S128.size a ≤ S512.size a) {j w : ℕ} (hw : w < 32) (hj : j < 4) (ho : off 0 = 128 * j) {l : ℕ → ℕ} {qi : S512.Idx → BitVec 32} (hq : Order l w qi)
    (X : S16384x2x128.Idx → BitVec 32) (hn : S128.numel = S128x2x128.size gathers_S16384x2x128_S128x2x128.axis')
    (hin : ∀ x, ((vIdx.slice (Rect.unit (s := S512) off S128.size inb) (fun _ => rfl)).view.read (Elt F) qi x).toNat < S16384x2x128.size gathers_S16384x2x128_S128x2x128.axis) :
    Rows X l w j (gatherPayload (F := F) (e := .i32) gathers_S16384x2x128_S128x2x128 (xAll.view.read (Elt F) X)
      (rows ((vIdx.slice (Rect.unit (s := S512) off S128.size inb) (fun _ => rfl)).view.read (Elt F) qi) hn hin)) := by
  intro b h c hb hh hc
  refine (View.read_apply (v := xAll.view) (Val := Elt F) X _).trans ?_
  refine congrArg X (at3_ext (n0 := 16384) (n1 := 2) (n2 := 128) ?_ ?_ ?_)
  · refine Eq.trans ?_ (list_at (F := F) inb hw hj ho hq b hb)
    refine Eq.trans (Nat.zero_add _) ((Nat.one_mul _).trans ?_)
    refine (congrArg Fin.val (Shape.Gathers.idx_axis gathers_S16384x2x128_S128x2x128 _ _)).trans ?_
    refine congrArg (fun z => BitVec.toNat ((vIdx.slice (Rect.unit (s := S512) off S128.size inb) (fun _ => rfl)).view.read (Elt F) qi z)) ?_
    exact rowMajor_back _ b hb rfl
  · refine Eq.trans (Nat.zero_add _) ((Nat.one_mul _).trans ?_)
    exact Shape.Gathers.idx_of_ne gathers_S16384x2x128_S128x2x128 _ _ 1 (by decide)
  · refine Eq.trans (Nat.zero_add _) ((Nat.one_mul _).trans ?_)
    exact Shape.Gathers.idx_of_ne gathers_S16384x2x128_S128x2x128 _ _ 2 (by decide)

theorem credit_x0 : ∑ j, (vX0.slice (S128x2x128.rowRect gathers_S16384x2x128_S128x2x128.axis' j) (S128x2x128.stride_rowRect gathers_S16384x2x128_S128x2x128.axis' j)).view.dmaCredit = vX0.view.dmaCredit := by decide +kernel

theorem xFetch0 (q : PosShare TreeShare) (X : S16384x2x128.Idx → BitVec 32) (l : ℕ → ℕ) (qi : S512.Idx → BitVec 32) : XFetch (F := F) d i q X l qi vX0 (pt (F := F) d i vX0) where
  toXBuf := xBuf0 d i
  fetch sm off inb j hj ho hq f := by
    have hw := wn_lt i
    have hin : ∀ x, ((vIdx.slice (Rect.unit (s := S512) off S128.size inb) (fun _ => rfl)).view.read (Elt F) qi x).toNat < S16384x2x128.size gathers_S16384x2x128_S128x2x128.axis := by
      intro x
      obtain ⟨b, hb, rfl⟩ := at1_ex (n := 128) x
      exact lt_of_eq_of_lt (list_at (F := F) inb hw hj ho hq b hb) (ent_lt l _ _)
    iintro ⟨H, HX, HI, Hv⟩
    iapply (w_one d i _ _)
    unfold getRows
    iapply (wp_gatherFromWhole (defs := defs₀ (F := F)) (src := xAll) (dst := vX0) (hg := gathers_S16384x2x128_S128x2x128) (offs := vIdx.slice (Rect.unit (s := S512) off S128.size inb) (fun _ => rfl)) (sem := sm.sem)
      (q := q) (qo := fullShare) (fs := X) (fd := f) (fo := qi) countersEmb 𝒱₀ (thr d i) none (default : HIx 1) vX0.view.dmaCredit credit_x0 (by decide) hin) $$ [H HX HI Hv]
    · isplitl [HX]; · iexact HX
      isplitl [H]; · iexact H
      isplitl [HI]; · iexact HI
      iexact Hv
    iintro H
    iapply (w_ret d i _)
    iapply (fl_mono d i ?_) $$ H
    iintro ⟨H, HX, HI⟩
    isplitl [H]
    · iexists (gatherPayload (F := F) (e := .i32) gathers_S16384x2x128_S128x2x128 (xAll.view.read (Elt F) X)
        (rows ((vIdx.slice (Rect.unit (s := S512) off S128.size inb) (fun _ => rfl)).view.read (Elt F) qi) rfl hin))
      isplitr
      · ipureintro; exact rows_of inb hw hj ho hq X rfl hin
      · rw [wr_whole (F := F) (b := cc0_scratch6)]
        iexact H
    isplitl [HX]; · iexact HX
    iexact HI

theorem credit_x1 : ∑ j, (vX1.slice (S128x2x128.rowRect gathers_S16384x2x128_S128x2x128.axis' j) (S128x2x128.stride_rowRect gathers_S16384x2x128_S128x2x128.axis' j)).view.dmaCredit = vX1.view.dmaCredit := by decide +kernel

theorem xFetch1 (q : PosShare TreeShare) (X : S16384x2x128.Idx → BitVec 32) (l : ℕ → ℕ) (qi : S512.Idx → BitVec 32) : XFetch (F := F) d i q X l qi vX1 (pt (F := F) d i vX1) where
  toXBuf := xBuf1 d i
  fetch sm off inb j hj ho hq f := by
    have hw := wn_lt i
    have hin : ∀ x, ((vIdx.slice (Rect.unit (s := S512) off S128.size inb) (fun _ => rfl)).view.read (Elt F) qi x).toNat < S16384x2x128.size gathers_S16384x2x128_S128x2x128.axis := by
      intro x
      obtain ⟨b, hb, rfl⟩ := at1_ex (n := 128) x
      exact lt_of_eq_of_lt (list_at (F := F) inb hw hj ho hq b hb) (ent_lt l _ _)
    iintro ⟨H, HX, HI, Hv⟩
    iapply (w_one d i _ _)
    unfold getRows
    iapply (wp_gatherFromWhole (defs := defs₀ (F := F)) (src := xAll) (dst := vX1) (hg := gathers_S16384x2x128_S128x2x128) (offs := vIdx.slice (Rect.unit (s := S512) off S128.size inb) (fun _ => rfl)) (sem := sm.sem)
      (q := q) (qo := fullShare) (fs := X) (fd := f) (fo := qi) countersEmb 𝒱₀ (thr d i) none (default : HIx 1) vX1.view.dmaCredit credit_x1 (by decide) hin) $$ [H HX HI Hv]
    · isplitl [HX]; · iexact HX
      isplitl [H]; · iexact H
      isplitl [HI]; · iexact HI
      iexact Hv
    iintro H
    iapply (w_ret d i _)
    iapply (fl_mono d i ?_) $$ H
    iintro ⟨H, HX, HI⟩
    isplitl [H]
    · iexists (gatherPayload (F := F) (e := .i32) gathers_S16384x2x128_S128x2x128 (xAll.view.read (Elt F) X)
        (rows ((vIdx.slice (Rect.unit (s := S512) off S128.size inb) (fun _ => rfl)).view.read (Elt F) qi) rfl hin))
      isplitr
      · ipureintro; exact rows_of inb hw hj ho hq X rfl hin
      · rw [wr_whole (F := F) (b := cc0_scratch7)]
        iexact H
    isplitl [HX]; · iexact HX
    iexact HI

end Moves

end Cert.KernelIdeal.Own
-- ==== Proof.Outer.lean ====
/- The last phase: every batch block gathered, looked up and sent out. -/
module

public import proofs.«01_k».proof.Proof.Pieces

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore

variable {F : FTy → Type} [FloatOps F]

local notation "𝕄" => MT nD τ sig (HIx 1) (Elt F) ℕ UU ℕ

section Outer
variable (d : Dev nD) (i : grid0.Coords) (O : CellTallies nD τ sig (HIx 1)) (W₀ : Waits sig (HIx 1))
  (q : PosShare TreeShare) (T : S64.Idx → Elt F .f32) (X : S16384x2x128.Idx → BitVec 32) (l : ℕ → ℕ) (qi : S512.Idx → BitVec 32)

/-- The worker's first `m` blocks of the result, done. -/
def Lt (m : ℕ) : sProp (MT nD τ sig (HIx 1) (Elt F) ℕ UU ℕ) := op (F := F) d i (ltS (wn i) m) (outT T X l)
/-- Those from the `m`th on, yet to do. -/
def Ge (m : ℕ) : sProp (MT nD τ sig (HIx 1) (Elt F) ℕ UU ℕ) := iprop(∃ f, op (F := F) d i (geS (wn i) m) f)

/-- A buffer whose copy into block `n` may be under way. -/
def Busy (C : (S20x1x8x128.Idx → Elt F .f32) → sProp (MT nD τ sig (HIx 1) (Elt F) ℕ UU ℕ)) (sm : DmaSems sig S_) (n : ℕ) : sProp (MT nD τ sig (HIx 1) (Elt F) ℕ UU ℕ) :=
  Fl (F := F) d i sm.sem NO iprop(op (F := F) d i (regS (wn i) n) (outT T X l) ∗ ∃ f, C f)
def Free (C : (S20x1x8x128.Idx → Elt F .f32) → sProp (MT nD τ sig (HIx 1) (Elt F) ℕ UU ℕ)) (sm : DmaSems sig S_) : sProp (MT nD τ sig (HIx 1) (Elt F) ℕ UU ℕ) := iprop((∃ f, C f) ∗ sv (F := F) d i sm.sem)
/-- A buffer whose next block is `n`. -/
def Slot (C : (S20x1x8x128.Idx → Elt F .f32) → sProp (MT nD τ sig (HIx 1) (Elt F) ℕ UU ℕ)) (sm : DmaSems sig S_) (n : ℕ) : sProp (MT nD τ sig (HIx 1) (Elt F) ℕ UU ℕ) :=
  iprop((⌜n < 2⌝ ∗ Free d i C sm) ∨ ∃ n', ⌜n = n' + 2⌝ ∗ Busy d i T X l C sm n')

theorem lt_grow (n : ℕ) : iprop(Lt (F := F) d i T X l n ∗ op (F := F) d i (regS (wn i) n) (outT T X l)) ⊢ Lt (F := F) d i T X l (n + 1) := by
  unfold Lt
  rw [← lt_union]
  exact (pointsTo_union (lt_disj (wn i) n)).2

theorem ge_take (n : ℕ) : Ge (F := F) d i n ⊢ iprop((∃ f, op (F := F) d i (regS (wn i) n) f) ∗ Ge (F := F) d i (n + 1)) := by
  unfold Ge
  iintro ⟨%f, H⟩
  ihave ⟨H1, H2⟩ := (pointsTo_split_subset (reg_ge (wn i) n)).1 $$ H
  rw [ge_diff]
  isplitl [H1]
  · iexists f; iexact H1
  · iexists f; iexact H2

theorem w_forN {σ : Type} {N : ℕ} (Lp : Scf.Loop 32) (hL : Lp.OK) (hN : Lp.trips = N) (body : Fin Lp.trips → σ → Prog (Eff F i) σ) (I : ℕ → σ → sProp (MT nD τ sig (HIx 1) (Elt F) ℕ UU ℕ))
    (hb : ∀ (k : Fin Lp.trips) acc, I k.val acc ⊢ W d i (body k acc) (I (k.val + 1))) (acc : σ) :
    I 0 acc ⊢ W d i (Scf.Loop.for Lp hL acc body) (I N) := by
  subst hN
  exact w_for d i Lp hL body I hb acc

section Steps
variable {α : Type} (Q : α → sProp (MT nD τ sig (HIx 1) (Elt F) ℕ UU ℕ))

theorem w_waitSlot {ob : Memref sig .scVector .vmem S20x1x8x128 .f32} {hob : ob.IsWhole} {C : (S20x1x8x128.Idx → Elt F .f32) → sProp (MT nD τ sig (HIx 1) (Elt F) ℕ UU ℕ)} {sm : DmaSems sig S_}
    {off : Fin 4 → ℕ} {inb : ∀ a, off a + S20x1x8x128.size a ≤ S200x128x8x128.size a} {k : PUnit → Prog (Eff F i) α} (n m m' : ℕ) (h2 : 2 ≤ n) (hm : m = n - 2) (hm' : m' = n - 1) :
    iprop(Lt (F := F) d i T X l m ∗ Slot d i T X l C sm n ∗ Ows (F := F) d i O W₀)
      ⊢ iprop((iprop(Lt (F := F) d i T X l m' ∗ Free d i C sm ∗ Ows (F := F) d i O W₀) -∗ W d i (k ⟨⟩) Q) -∗ W d i (waitOut i ob hob sm off inb >>= k) Q) := by
  subst hm hm'
  unfold Slot
  iintro ⟨HL, (⟨%hlt, -⟩ | ⟨%n', %e, HB⟩), HO⟩ HK
  · exact absurd hlt (by omega)
  subst e
  unfold Busy waitOut
  iapply (w_wait d i Q (credit_out off inb)) $$ [HB HO]
  · isplitl [HB]; · iexact HB
    iexact HO
  iintro ⟨⟨HR, HC⟩, Hv, HO⟩
  iapply HK
  isplitl [HL HR]
  · iapply (lt_grow d i T X l n')
    isplitl [HL]; · iexact HL
    iexact HR
  isplitl [HC Hv]
  · unfold Free
    isplitl [HC]; · iexact HC
    iexact Hv
  iexact HO

theorem w_cwait {ob : Memref sig .scVector .vmem S20x1x8x128 .f32} {hob : ob.IsWhole} {C : (S20x1x8x128.Idx → Elt F .f32) → sProp (MT nD τ sig (HIx 1) (Elt F) ℕ UU ℕ)} {sm : DmaSems sig S_} {P : Prop} {dP : Decidable P}
    {off : Fin 4 → ℕ} {inb : P → ∀ a, off a + S20x1x8x128.size a ≤ S200x128x8x128.size a} {k : Prog (Eff F i) α} (n m m' : ℕ) (hP : P ↔ 2 ≤ n) (hm : m = n - 2) (hm' : m' = n - 1) :
    iprop(Lt (F := F) d i T X l m ∗ Slot d i T X l C sm n ∗ Ows (F := F) d i O W₀)
      ⊢ iprop((iprop(Lt (F := F) d i T X l m' ∗ Free d i C sm ∗ Ows (F := F) d i O W₀) -∗ W d i k Q) -∗ W d i (dite P (fun h => waitOut i ob hob sm off (inb h) >>= fun _ => k) (fun _ => k)) Q) := by
  by_cases h : P
  · rw [dif_pos h]
    exact w_waitSlot d i O W₀ T X l Q (k := fun _ => k) n m m' (hP.mp h) hm hm'
  · rw [dif_neg h]
    have hn : n < 2 := by
      by_contra h'; exact h (hP.mpr (by omega))
    have e : m = m' := by omega
    subst e
    unfold Slot
    iintro ⟨HL, (⟨-, HF⟩ | ⟨%n', %e, -⟩), HO⟩ HK
    · iapply HK
      isplitl [HL]; · iexact HL
      isplitl [HF]; · iexact HF
      iexact HO
    · exact absurd hn (by omega)

end Steps

theorem w_send {ob : Memref sig .scVector .vmem S20x1x8x128 .f32} {hob : ob.IsWhole} {C : (S20x1x8x128.Idx → Elt F .f32) → sProp (MT nD τ sig (HIx 1) (Elt F) ℕ UU ℕ)} (hO : OSend (F := F) d i ob hob C) {sm : DmaSems sig S_}
    {off : Fin 4 → ℕ} {inb : ∀ a, off a + S20x1x8x128.size a ≤ S200x128x8x128.size a} {u j : ℕ} (n n1 n2 : ℕ) (hu : u < 10) (hj : j < 4) (hn : n = 10 * j + u) (h1 : n1 = n + 1) (h2 : n2 = n + 2) (ho : off = ![20 * u, 4 * wn i + j, 0, 0]) :
    iprop((∃ f, ⌜Filled (fun k c b => outN T X l (20 * u + k) (4 * wn i + j) c b) 20 0 f⌝ ∗ C f) ∗ sv (F := F) d i sm.sem ∗ Ge (F := F) d i n)
      ⊢ W d i (putOut i ob hob sm off inb) fun _ => iprop(Slot d i T X l C sm n2 ∗ Ge (F := F) d i n1) := by
  subst h1 h2
  have hset : (oDst off inb).view.set = regS (wn i) n := (View.set_slice_whole main_v3_0_scv _).trans (dst_set hu hj hn inb ho)
  iintro ⟨⟨%f, %hf, HC⟩, Hv, HG⟩
  ihave ⟨⟨%fo, HR⟩, HG⟩ := (ge_take (F := F) d i n) $$ HG
  iapply (w_last d i _ (hO.send sm off inb f fo)) $$ [HC HR Hv]
  · isplitl [HC]; · iexact HC
    isplitl [HR]; · rw [hset]; iexact HR
    iexact Hv
  iintro %_ H
  isplitr [HG]
  · unfold Slot Busy
    iright
    iexists n
    isplitr; · ipureintro; rfl
    iapply (fl_mono d i ?_) $$ H
    iintro ⟨HR, HC⟩
    isplitl [HR]
    · rw [← hset]
      iapply (Entails.of_eq (pointsTo_congr ?_)) $$ HR
      intro y hy
      obtain ⟨x, -, rfl⟩ := Finset.mem_map.mp hy
      refine (View.write_emb_of_mem (v := (oDst off inb).view) fo f (Finset.mem_univ x)).trans ?_
      subst ho
      have x1 : (x 1).val = 0 := by have : (x 1).val < 1 := (x 1).isLt; omega
      have ex : x = at4 (n0 := 20) (n1 := 1) (n2 := 8) (n3 := 128) (x 0).val 0 (x 2).val (x 3).val (x 0).isLt (by decide) (x 2).isLt (x 3).isLt := at4_ext rfl x1 rfl rfl
      have hx := hf (x 0).val (x 2).val (x 3).val (x 0).isLt (x 2).isLt (x 3).isLt (.inl (x 0).isLt)
      refine (congrArg f ex).trans (hx.trans ?_)
      show outN T X l _ _ _ _ = outN T X l (20 * u + 1 * (x 0).val) (4 * wn i + j + 1 * (x 1).val) (0 + 1 * (x 2).val) (0 + 1 * (x 3).val)
      rw [x1]
      simp only [Nat.one_mul, Nat.zero_add, Nat.mul_zero, Nat.add_zero]
    · iexists f; iexact HC
  · iexact HG

/-- The state between two pairs of column blocks, `n` blocks sent. -/
def PairInv (CX : (S128x2x128.Idx → BitVec 32) → sProp (MT nD τ sig (HIx 1) (Elt F) ℕ UU ℕ)) (X' : S128x2x128.Idx → BitVec 32) (n : ℕ) : sProp (MT nD τ sig (HIx 1) (Elt F) ℕ UU ℕ) :=
  iprop(CX X' ∗ pt (F := F) d i vTab T ∗ Lt (F := F) d i T X l (n - 2) ∗ Ge (F := F) d i n ∗ Slot d i T X l (pt (F := F) d i vO0) cc0_scratch12 n
    ∗ Slot d i T X l (pt (F := F) d i vO1) cc0_scratch13 (n + 1) ∗ Ows (F := F) d i O W₀)

theorem w_pairA (k : Fin k0_t3_loop.trips) (t : Fin k0_t4_loop.trips) {X' : S128x2x128.Idx → BitVec 32} (hX : Small X) (hR : Rows X l (wn i) (2 * k.val + 0) X') :
    PairInv (F := F) d i O W₀ T X l (pt (F := F) d i vX0) X' (20 * k.val + 2 * t.val) ⊢ W d i (pairA i k t >>= fun _ => putOut i vO1 (Memref.isWhole_whole _) cc0_scratch13 (k0_off142 i k t) (k0_off142_inb i k t) >>= fun _ => pure 0#32) fun _ =>
      PairInv (F := F) d i O W₀ T X l (pt (F := F) d i vX0) X' (20 * k.val + 2 * (t.val + 1)) := by
  have hk : k.val < 2 := t3_trips ▸ k.isLt
  have ht : t.val < 5 := t4_trips ▸ t.isLt
  have hu0 : 2 * t.val + 0 < 10 := by omega
  have hu1 : 2 * t.val + 1 < 10 := by omega
  have hA : iprop(pt (F := F) d i vX0 X' ∗ pt (F := F) d i vTab T ∗ Lt (F := F) d i T X l (20 * k.val + 2 * t.val - 2) ∗ Ge (F := F) d i (20 * k.val + 2 * t.val) ∗ Slot d i T X l (pt (F := F) d i vO0) cc0_scratch12 (20 * k.val + 2 * t.val)
    ∗ Slot d i T X l (pt (F := F) d i vO1) cc0_scratch13 (20 * k.val + 2 * t.val + 1) ∗ Ows (F := F) d i O W₀) ⊢ W d i (pairA i k t) fun _ =>
      iprop(pt (F := F) d i vX0 X' ∗ pt (F := F) d i vTab T ∗ Lt (F := F) d i T X l (20 * k.val + 2 * t.val) ∗ Ge (F := F) d i (20 * k.val + 2 * t.val + 1) ∗ Slot d i T X l (pt (F := F) d i vO0) cc0_scratch12 (20 * k.val + 2 * t.val + 2)
        ∗ (∃ f, ⌜Filled (fun k' c b => outN T X l (20 * (2 * t.val + 1) + k') (4 * wn i + (2 * k.val + 0)) c b) 20 0 f⌝ ∗ pt (F := F) d i vO1 f) ∗ sv (F := F) d i cc0_scratch13.sem ∗ Ows (F := F) d i O W₀) := by
    unfold pairA
    iintro ⟨HX, HT, HL, HG, HS0, HS1, HO⟩
    iapply (w_cwait d i O W₀ T X l _ (C := pt (F := F) d i vO0) (20 * k.val + 2 * t.val) (20 * k.val + 2 * t.val - 2) (20 * k.val + 2 * t.val - 1) (cond3_iff k t) (by omega) (by omega)) $$ [HL HS0 HO]
    · isplitl [HL]; · iexact HL
      isplitl [HS0]; · iexact HS0
      iexact HO
    unfold Free
    iintro ⟨HL, ⟨HC, Hv⟩, HO⟩
    iapply (w_then d i _ (w_expand d i (xBuf0 d i) (oBuf0 d i) (T := T) k0_t5_loop k0_t5_ok t5_trips _ _ (hu0) (col5 t) (fun k => row_lt k.val (t5_lt k)) (rows_look hX hR _ hu0))) $$ [HX HT HC]
    · isplitl [HX]; · iexact HX
      isplitl [HT]; · iexact HT
      iexact HC
    iintro %_ ⟨HX, HT, HC⟩
    iapply (w_then d i _ (w_send d i T X l (oSend0 d i) (j := 2 * k.val + 0) (20 * k.val + 2 * t.val) (20 * k.val + 2 * t.val + 1) (20 * k.val + 2 * t.val + 2) hu0 (by omega) (by omega) rfl rfl (off76_eq i k t))) $$ [HC Hv HG]
    · isplitl [HC]; · iexact HC
      isplitl [Hv]; · iexact Hv
      iexact HG
    iintro %_ ⟨HS0, HG⟩
    iapply (w_cwait d i O W₀ T X l _ (C := pt (F := F) d i vO1) (20 * k.val + 2 * t.val + 1) (20 * k.val + 2 * t.val - 1) (20 * k.val + 2 * t.val) (cond4_iff k t) (by omega) (by omega)) $$ [HL HS1 HO]
    · isplitl [HL]; · iexact HL
      isplitl [HS1]; · iexact HS1
      iexact HO
    unfold Free
    iintro ⟨HL, ⟨HC, Hv⟩, HO⟩
    iapply (w_then d i _ (w_expand d i (xBuf0 d i) (oBuf1 d i) (T := T) k0_t6_loop k0_t6_ok t6_trips _ _ (hu1) (col6 t) (fun k => row_lt k.val (t6_lt k)) (rows_look hX hR _ hu1))) $$ [HX HT HC]
    · isplitl [HX]; · iexact HX
      isplitl [HT]; · iexact HT
      iexact HC
    iintro %_ ⟨HX, HT, HC⟩
    iapply (w_ret d i _)
    isplitl [HX]; · iexact HX
    isplitl [HT]; · iexact HT
    isplitl [HL]; · iexact HL
    isplitl [HG]; · iexact HG
    isplitl [HS0]; · iexact HS0
    isplitl [HC]; · iexact HC
    isplitl [Hv]; · iexact Hv
    iexact HO
  unfold PairInv
  iintro H
  iapply (w_then d i _ hA) $$ H
  iintro %_ ⟨HX, HT, HL, HG, HS0, HC, Hv, HO⟩
  iapply (w_then d i _ (w_send d i T X l (oSend1 d i) (j := 2 * k.val + 0) (20 * k.val + 2 * t.val + 1) (20 * k.val + 2 * t.val + 1 + 1) (20 * k.val + 2 * t.val + 1 + 2) hu1 (by omega) (by omega) rfl rfl (off142_eq i k t))) $$ [HC Hv HG]
  · isplitl [HC]; · iexact HC
    isplitl [Hv]; · iexact Hv
    iexact HG
  iintro %_ ⟨HS1, HG⟩
  iapply (w_ret d i _)
  have e : 20 * k.val + 2 * (t.val + 1) = 20 * k.val + 2 * t.val + 2 := by omega
  rw [e]
  isplitl [HX]; · iexact HX
  isplitl [HT]; · iexact HT
  isplitl [HL]; · iexact HL
  isplitl [HG]; · iexact HG
  isplitl [HS0]; · iexact HS0
  isplitl [HS1]; · iexact HS1
  iexact HO

theorem w_pairB (k : Fin k0_t3_loop.trips) (t : Fin k0_t7_loop.trips) {X' : S128x2x128.Idx → BitVec 32} (hX : Small X) (hR : Rows X l (wn i) (2 * k.val + 1) X') :
    PairInv (F := F) d i O W₀ T X l (pt (F := F) d i vX1) X' (20 * k.val + 10 + 2 * t.val) ⊢ W d i (pairB i k t) fun _ =>
      PairInv (F := F) d i O W₀ T X l (pt (F := F) d i vX1) X' (20 * k.val + 10 + 2 * (t.val + 1)) := by
  have hk : k.val < 2 := t3_trips ▸ k.isLt
  have ht : t.val < 5 := t7_trips ▸ t.isLt
  have hu0 : 2 * t.val + 0 < 10 := by omega
  have hu1 : 2 * t.val + 1 < 10 := by omega
  unfold PairInv pairB
  iintro ⟨HX, HT, HL, HG, HS0, HS1, HO⟩
  iapply (w_cwait d i O W₀ T X l _ (C := pt (F := F) d i vO0) (20 * k.val + 10 + 2 * t.val) (20 * k.val + 10 + 2 * t.val - 2) (20 * k.val + 10 + 2 * t.val - 1) (iff_of_true cond6_true (by omega)) (by omega) (by omega)) $$ [HL HS0 HO]
  · isplitl [HL]; · iexact HL
    isplitl [HS0]; · iexact HS0
    iexact HO
  unfold Free
  iintro ⟨HL, ⟨HC, Hv⟩, HO⟩
  iapply (w_then d i _ (w_expand d i (xBuf1 d i) (oBuf0 d i) (T := T) k0_t8_loop k0_t8_ok t8_trips _ _ (hu0) (col8 t) (fun k => row_lt k.val (t8_lt k)) (rows_look hX hR _ hu0))) $$ [HX HT HC]
  · isplitl [HX]; · iexact HX
    isplitl [HT]; · iexact HT
    iexact HC
  iintro %_ ⟨HX, HT, HC⟩
  iapply (w_then d i _ (w_send d i T X l (oSend0 d i) (j := 2 * k.val + 1) (20 * k.val + 10 + 2 * t.val) (20 * k.val + 10 + 2 * t.val + 1) (20 * k.val + 10 + 2 * t.val + 2) hu0 (by omega) (by omega) rfl rfl (off208_eq i k t))) $$ [HC Hv HG]
  · isplitl [HC]; · iexact HC
    isplitl [Hv]; · iexact Hv
    iexact HG
  iintro %_ ⟨HS0, HG⟩
  iapply (w_cwait d i O W₀ T X l _ (C := pt (F := F) d i vO1) (20 * k.val + 10 + 2 * t.val + 1) (20 * k.val + 10 + 2 * t.val - 1) (20 * k.val + 10 + 2 * t.val) (iff_of_true cond7_true (by omega)) (by omega) (by omega)) $$ [HL HS1 HO]
  · isplitl [HL]; · iexact HL
    isplitl [HS1]; · iexact HS1
    iexact HO
  unfold Free
  iintro ⟨HL, ⟨HC, Hv⟩, HO⟩
  iapply (w_then d i _ (w_expand d i (xBuf1 d i) (oBuf1 d i) (T := T) k0_t9_loop k0_t9_ok t9_trips _ _ (hu1) (col9 t) (fun k => row_lt k.val (t9_lt k)) (rows_look hX hR _ hu1))) $$ [HX HT HC]
  · isplitl [HX]; · iexact HX
    isplitl [HT]; · iexact HT
    iexact HC
  iintro %_ ⟨HX, HT, HC⟩
  iapply (w_then d i _ (w_send d i T X l (oSend1 d i) (j := 2 * k.val + 1) (20 * k.val + 10 + 2 * t.val + 1) (20 * k.val + 10 + 2 * t.val + 1 + 1) (20 * k.val + 10 + 2 * t.val + 1 + 2) hu1 (by omega) (by omega) rfl rfl (off274_eq i k t))) $$ [HC Hv HG]
  · isplitl [HC]; · iexact HC
    isplitl [Hv]; · iexact Hv
    iexact HG
  iintro %_ ⟨HS1, HG⟩
  iapply (w_ret d i _)
  have e : 20 * k.val + 10 + 2 * (t.val + 1) = 20 * k.val + 10 + 2 * t.val + 2 := by omega
  rw [e]
  isplitl [HX]; · iexact HX
  isplitl [HT]; · iexact HT
  isplitl [HL]; · iexact HL
  isplitl [HG]; · iexact HG
  isplitl [HS0]; · iexact HS0
  isplitl [HS1]; · iexact HS1
  iexact HO

/-- A batch block's rows in a staging buffer, and the operands of its gather back. -/
def Got (C : (S128x2x128.Idx → BitVec 32) → sProp (MT nD τ sig (HIx 1) (Elt F) ℕ UU ℕ)) (j : ℕ) : sProp (MT nD τ sig (HIx 1) (Elt F) ℕ UU ℕ) :=
  iprop((∃ X', ⌜Rows X l (wn i) j X'⌝ ∗ C X') ∗ hb (F := F) d i mX q X ∗ pt (F := F) d i vIdx qi)

theorem w_rows {α : Type} (Q : α → sProp (MT nD τ sig (HIx 1) (Elt F) ℕ UU ℕ)) {xb : Memref sig .scVector .vmem S128x2x128 .i32} {hxb : xb.IsWhole} {sm : DmaSems sig S_} {P : sProp (MT nD τ sig (HIx 1) (Elt F) ℕ UU ℕ)} {k : PUnit → Prog (Eff F i) α} :
    iprop(Fl (F := F) d i sm.sem xb.view.dmaCredit P ∗ Ows (F := F) d i O W₀) ⊢ iprop((iprop(P ∗ sv (F := F) d i sm.sem ∗ Ows (F := F) d i O W₀) -∗ W d i (k ⟨⟩) Q) -∗ W d i (waitRows i xb hxb sm >>= k) Q) :=
  w_wait d i Q rfl

/-- The state between two turns of the outer loop. -/
def OutInv (m : ℕ) : sProp (MT nD τ sig (HIx 1) (Elt F) ℕ UU ℕ) :=
  iprop(pt (F := F) d i vTab T ∗ Lt (F := F) d i T X l (20 * m - 2) ∗ Ge (F := F) d i (20 * m) ∗ Slot d i T X l (pt (F := F) d i vO0) cc0_scratch12 (20 * m)
    ∗ Slot d i T X l (pt (F := F) d i vO1) cc0_scratch13 (20 * m + 1) ∗ Ows (F := F) d i O W₀ ∗ (∃ f, pt (F := F) d i vX1 f) ∗ sv (F := F) d i cc0_scratch11.sem
    ∗ ((⌜m < 2⌝ ∗ Fl (F := F) d i cc0_scratch10.sem vX0.view.dmaCredit (Got d i q X l qi (pt (F := F) d i vX0) (2 * m)))
      ∨ (⌜m = 2⌝ ∗ (∃ f, pt (F := F) d i vX0 f) ∗ hb (F := F) d i mX q X ∗ pt (F := F) d i vIdx qi ∗ sv (F := F) d i cc0_scratch10.sem)))

theorem w_outer (k : Fin k0_t3_loop.trips) (hX : Small X) (hq : Order l (wn i) qi) :
    OutInv (F := F) d i O W₀ q T X l qi k.val ⊢ W d i (outer i k) fun _ => OutInv (F := F) d i O W₀ q T X l qi (k.val + 1) := by
  have hk : k.val < 2 := t3_trips ▸ k.isLt
  unfold OutInv outer
  iintro ⟨HT, HL, HG, HS0, HS1, HO, ⟨%fx, HX1⟩, Hv11, (⟨%hm, HF⟩ | ⟨%hm, -⟩)⟩
  swap
  · exact absurd hm (by omega)
  iapply (w_rows d i O W₀ _) $$ [HF HO]
  · isplitl [HF]; · iexact HF
    iexact HO
  unfold Got
  iintro ⟨⟨⟨%X0, %hR0, HX0⟩, Hx, HI⟩, Hv10, HO⟩
  iapply (w_then d i _ ((xFetch1 d i q X l qi).fetch cc0_scratch11 (k0_off10 k) (k0_off10_inb k) (2 * k.val + 1) (by omega) ((off10_eq k).trans (by omega)) hq fx)) $$ [HX1 Hx HI Hv11]
  · isplitl [HX1]; · iexact HX1
    isplitl [Hx]; · iexact Hx
    isplitl [HI]; · iexact HI
    iexact Hv11
  iintro %_ HF1
  iapply (w_then d i _ (w_forN d i k0_t4_loop k0_t4_ok t4_trips (fun t4 (_ : BitVec 32) => do
      pairA (F := F) i k t4
      putOut i vO1 (Memref.isWhole_whole _) cc0_scratch13 (k0_off142 i k t4) (k0_off142_inb i k t4)
      pure 0#32)
    (fun t _ => PairInv (F := F) d i O W₀ T X l (pt (F := F) d i vX0) X0 (20 * k.val + 2 * t)) (fun t _ => w_pairA d i O W₀ T X l k t hX hR0) 0#32)) $$ [HX0 HT HL HG HS0 HS1 HO]
  · unfold PairInv
    rw [show 20 * k.val + 2 * 0 = 20 * k.val from rfl]
    isplitl [HX0]; · iexact HX0
    isplitl [HT]; · iexact HT
    isplitl [HL]; · iexact HL
    isplitl [HG]; · iexact HG
    isplitl [HS0]; · iexact HS0
    isplitl [HS1]; · iexact HS1
    iexact HO
  unfold PairInv
  iintro %_ ⟨HX0, HT, HL, HG, HS0, HS1, HO⟩
  iapply (w_rows d i O W₀ _) $$ [HF1 HO]
  · isplitl [HF1]; · iexact HF1
    iexact HO
  iintro ⟨⟨⟨%X1, %hR1, HX1⟩, Hx, HI⟩, Hv11, HO⟩
  have hT7 : ∀ (Z : sProp (MT nD τ sig (HIx 1) (Elt F) ℕ UU ℕ)), iprop(Z ∗ PairInv (F := F) d i O W₀ T X l (pt (F := F) d i vX1) X1 (20 * k.val + 10 + 2 * 0)) ⊢ W d i (do
      let _y : BitVec 32 ← Scf.Loop.for k0_t7_loop k0_t7_ok 0#32 fun t7 _ => do
        let c ← pairB (F := F) i k t7
        pure c
      pure 0#32 : Prog (Eff F i) (BitVec 32)) fun _ => iprop(Z ∗ PairInv (F := F) d i O W₀ T X l (pt (F := F) d i vX1) X1 (20 * k.val + 10 + 2 * 5)) := by
    intro Z
    iintro ⟨HZ, H⟩
    iapply (w_then d i _ (w_forN d i k0_t7_loop k0_t7_ok t7_trips (fun t7 (_ : BitVec 32) => do
        let c ← pairB (F := F) i k t7
        pure c)
      (fun t _ => PairInv (F := F) d i O W₀ T X l (pt (F := F) d i vX1) X1 (20 * k.val + 10 + 2 * t)) ?_ 0#32)) $$ H
    · intro t _
      exact w_pairB d i O W₀ T X l k t hX hR1
    iintro %_ H
    iapply (w_ret d i _)
    isplitl [HZ]; · iexact HZ
    iexact H
  have e20 : 20 * (k.val + 1) = 20 * k.val + 10 + 2 * 5 := by omega
  have e10 : 20 * k.val + 2 * 5 = 20 * k.val + 10 + 2 * 0 := by omega
  rw [e10]
  by_cases h0 : k.val = 0
  · rw [dif_pos ((first_iff k).mpr h0)]
    iapply (w_then d i _ ((xFetch0 d i q X l qi).fetch cc0_scratch10 ![256] inb_S512_S128_256 2 (by decide) rfl hq X0)) $$ [HX0 Hx HI Hv10]
    · isplitl [HX0]; · iexact HX0
      isplitl [Hx]; · iexact Hx
      isplitl [HI]; · iexact HI
      iexact Hv10
    iintro %_ HF
    iapply (w_last d i _ (hT7 iprop(sv (F := F) d i cc0_scratch11.sem ∗ Fl (F := F) d i cc0_scratch10.sem vX0.view.dmaCredit (Got d i q X l qi (pt (F := F) d i vX0) 2)))) $$ [HX1 HT HL HG HS0 HS1 HO Hv11 HF]
    · isplitl [Hv11 HF]
      · isplitl [Hv11]; · iexact Hv11
        iexact HF
      unfold PairInv
      isplitl [HX1]; · iexact HX1
      isplitl [HT]; · iexact HT
      isplitl [HL]; · iexact HL
      isplitl [HG]; · iexact HG
      isplitl [HS0]; · iexact HS0
      isplitl [HS1]; · iexact HS1
      iexact HO
    unfold PairInv
    iintro %_ ⟨⟨Hv11, HF⟩, HX1, HT, HL, HG, HS0, HS1, HO⟩
    rw [e20]
    isplitl [HT]; · iexact HT
    isplitl [HL]; · iexact HL
    isplitl [HG]; · iexact HG
    isplitl [HS0]; · iexact HS0
    isplitl [HS1]; · iexact HS1
    isplitl [HO]; · iexact HO
    isplitl [HX1]; · iexists X1; iexact HX1
    isplitl [Hv11]; · iexact Hv11
    ileft
    isplitr; · ipureintro; omega
    rw [h0]
    iexact HF
  · rw [dif_neg (fun h => h0 ((first_iff k).mp h))]
    iapply (w_last d i _ (hT7 iprop(sv (F := F) d i cc0_scratch11.sem ∗ pt (F := F) d i vX0 X0 ∗ hb (F := F) d i mX q X ∗ pt (F := F) d i vIdx qi ∗ sv (F := F) d i cc0_scratch10.sem))) $$ [HX1 HT HL HG HS0 HS1 HO Hv11 HX0 Hx HI Hv10]
    · isplitl [Hv11 HX0 Hx HI Hv10]
      · isplitl [Hv11]; · iexact Hv11
        isplitl [HX0]; · iexact HX0
        isplitl [Hx]; · iexact Hx
        isplitl [HI]; · iexact HI
        iexact Hv10
      unfold PairInv
      isplitl [HX1]; · iexact HX1
      isplitl [HT]; · iexact HT
      isplitl [HL]; · iexact HL
      isplitl [HG]; · iexact HG
      isplitl [HS0]; · iexact HS0
      isplitl [HS1]; · iexact HS1
      iexact HO
    unfold PairInv
    iintro %_ ⟨⟨Hv11, HX0, Hx, HI, Hv10⟩, HX1, HT, HL, HG, HS0, HS1, HO⟩
    rw [e20]
    isplitl [HT]; · iexact HT
    isplitl [HL]; · iexact HL
    isplitl [HG]; · iexact HG
    isplitl [HS0]; · iexact HS0
    isplitl [HS1]; · iexact HS1
    isplitl [HO]; · iexact HO
    isplitl [HX1]; · iexists X1; iexact HX1
    isplitl [Hv11]; · iexact Hv11
    iright
    isplitr; · ipureintro; omega
    isplitl [HX0]; · iexists X0; iexact HX0
    isplitl [Hx]; · iexact Hx
    isplitl [HI]; · iexact HI
    iexact Hv10

theorem w_outerLoop (hX : Small X) (hq : Order l (wn i) qi) :
    OutInv (F := F) d i O W₀ q T X l qi 0 ⊢ W d i (outerLoop i) fun _ => OutInv (F := F) d i O W₀ q T X l qi 2 := by
  unfold outerLoop
  iintro H
  iapply (w_last d i _ (w_forN d i k0_t3_loop k0_t3_ok t3_trips (fun k (_ : BitVec 32) => outer (F := F) i k) (fun m _ => OutInv (F := F) d i O W₀ q T X l qi m) (fun k _ => w_outer d i O W₀ q T X l qi k hX hq) 0#32)) $$ H
  iintro %_ H
  iexact H

/-- The last phase. -/
theorem w_phaseE (hX : Small X) (hq : Order l (wn i) qi) :
    iprop(hb (F := F) d i mX q X ∗ pt (F := F) d i vIdx qi ∗ pt (F := F) d i vTab T ∗ (∃ f, pt (F := F) d i vX0 f) ∗ (∃ f, pt (F := F) d i vX1 f) ∗ (∃ f, pt (F := F) d i vO0 f) ∗ (∃ f, pt (F := F) d i vO1 f)
        ∗ (∃ f, op (F := F) d i (ownS (wn i)) f) ∗ sv (F := F) d i cc0_scratch10.sem ∗ sv (F := F) d i cc0_scratch11.sem ∗ sv (F := F) d i cc0_scratch12.sem ∗ sv (F := F) d i cc0_scratch13.sem ∗ Ows (F := F) d i O W₀)
      ⊢ W d i (getRows i vX0 ![0] inb_S512_S128_0 cc0_scratch10 >>= fun _ => outerLoop i >>= fun _ => endA i >>= fun _ => endB i) fun _ =>
        iprop(hb (F := F) d i mX q X ∗ pt (F := F) d i vIdx qi ∗ pt (F := F) d i vTab T ∗ (∃ f, pt (F := F) d i vX0 f) ∗ (∃ f, pt (F := F) d i vX1 f) ∗ (∃ f, pt (F := F) d i vO0 f) ∗ (∃ f, pt (F := F) d i vO1 f)
        ∗ op (F := F) d i (ownS (wn i)) (outT T X l) ∗ sv (F := F) d i cc0_scratch10.sem ∗ sv (F := F) d i cc0_scratch11.sem ∗ sv (F := F) d i cc0_scratch12.sem ∗ sv (F := F) d i cc0_scratch13.sem ∗ Ows (F := F) d i O W₀) := by
  iintro ⟨Hx, HI, HT, ⟨%f0, HX0⟩, HX1, HO0, HO1, HD, Hv10, Hv11, Hv12, Hv13, HO⟩
  iapply (w_then d i _ ((xFetch0 d i q X l qi).fetch cc0_scratch10 ![0] inb_S512_S128_0 0 (by decide) rfl hq f0)) $$ [HX0 Hx HI Hv10]
  · isplitl [HX0]; · iexact HX0
    isplitl [Hx]; · iexact Hx
    isplitl [HI]; · iexact HI
    iexact Hv10
  iintro %_ HF
  iapply (w_then d i _ (w_outerLoop d i O W₀ q T X l qi hX hq)) $$ [HT HX1 HO0 HO1 HD Hv11 Hv12 Hv13 HO HF]
  · unfold OutInv Slot Free
    isplitl [HT]; · iexact HT
    isplitr [HD HO0 HO1 Hv12 Hv13 HO HX1 Hv11 HF]
    · unfold Lt op
      rw [show 20 * 0 - 2 = 0 from rfl, lt_zero, pointsTo_empty]
      exact Entails.rfl
    isplitl [HD]
    · unfold Ge
      rw [show 20 * 0 = 0 from rfl, ge_zero]
      iexact HD
    isplitl [HO0 Hv12]
    · ileft
      isplitr; · ipureintro; decide
      isplitl [HO0]; · iexact HO0
      iexact Hv12
    isplitl [HO1 Hv13]
    · ileft
      isplitr; · ipureintro; decide
      isplitl [HO1]; · iexact HO1
      iexact Hv13
    isplitl [HO]; · iexact HO
    isplitl [HX1]; · iexact HX1
    isplitl [Hv11]; · iexact Hv11
    ileft
    isplitr; · ipureintro; decide
    unfold Got
    iexact HF
  unfold OutInv
  iintro %_ ⟨HT, HL, HG, HS0, HS1, HO, HX1, Hv11, (⟨%hm, -⟩ | ⟨-, HX0, Hx, HI, Hv10⟩)⟩
  · exact absurd hm (by decide)
  unfold endA
  iapply (w_waitSlot d i O W₀ T X l _ (C := pt (F := F) d i vO0) (20 * 2) (20 * 2 - 2) 39 (by decide) rfl rfl) $$ [HL HS0 HO]
  · isplitl [HL]; · iexact HL
    isplitl [HS0]; · iexact HS0
    iexact HO
  unfold Free
  iintro ⟨HL, ⟨HO0, Hv12⟩, HO⟩
  iapply (w_one d i _ _)
  unfold endB
  iapply (w_waitSlot d i O W₀ T X l _ (C := pt (F := F) d i vO1) (20 * 2 + 1) 39 40 (by decide) rfl rfl) $$ [HL HS1 HO]
  · isplitl [HL]; · iexact HL
    isplitl [HS1]; · iexact HS1
    iexact HO
  unfold Free
  iintro ⟨HL, ⟨HO1, Hv13⟩, HO⟩
  iapply (w_ret d i _)
  isplitl [Hx]; · iexact Hx
  isplitl [HI]; · iexact HI
  isplitl [HT]; · iexact HT
  isplitl [HX0]; · iexact HX0
  isplitl [HX1]; · iexact HX1
  isplitl [HO0]; · iexact HO0
  isplitl [HO1]; · iexact HO1
  isplitl [HL]
  · unfold Lt
    rw [lt_all]
    iexact HL
  isplitl [Hv10]; · iexact Hv10
  isplitl [Hv11]; · iexact Hv11
  isplitl [Hv12]; · iexact Hv12
  isplitl [Hv13]; · iexact Hv13
  iexact HO

end Outer

end Cert.KernelIdeal.Own
-- ==== Proof.BodyEq.lean ====
/- The printed body equal to the restated one. -/
module

public import proofs.«01_k».proof.Proof.Body
public import Idealize.ShloMosaic.Lib.Tactic

@[expose] public section

noncomputable section

namespace Cert.KernelIdeal.Own

open Idealize.ShloMosaic Idealize.SL.Sem
open Cert.KernelIdeal Cert.KernelIdeal.Gen

variable {F : FTy → Type} [FloatOps F]

set_option maxRecDepth 100000 in
theorem part85_eq (i : grid0.Coords) :
    k0_part85 (F := F) i (Memref.whole main_v1_scv) (Memref.isWhole_whole _) (Memref.whole main_arg1_scv) (Memref.isWhole_whole _) (Memref.whole main_v2_scv) (Memref.isWhole_whole _) (Memref.whole main_v3_0_scv) (Memref.isWhole_whole _) (Memref.whole main_v3_1_scv) (Memref.isWhole_whole _) (Memref.whole main_v3_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scoped0 cc0_scoped1 cc0_scoped2 cc0_scoped3 (broadcast S16 0#32) = (Scf.forFrom (fun b (_ : PUnit) => zeroBlk i b) [8, 9, 10, 11, 12, 13, 14, 15] ⟨⟩ >>= fun _ =>
      histLoop i >>= fun _ => sufHead i 0 0#32) := by
  sl_kernel_rfl

set_option maxRecDepth 100000 in
theorem part90_eqK (i : grid0.Coords) (c t : BitVec 32) (v : IVec S16 32) :
    k0_part90 (F := F) i (Memref.whole main_v1_scv) (Memref.isWhole_whole _) (Memref.whole main_arg1_scv) (Memref.isWhole_whole _) (Memref.whole main_v2_scv) (Memref.isWhole_whole _) (Memref.whole main_v3_0_scv) (Memref.isWhole_whole _) (Memref.whole main_v3_1_scv) (Memref.isWhole_whole _) (Memref.whole main_v3_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scoped0 cc0_scoped1 cc0_scoped2 cc0_scoped3 (wid i) lanes (Scalar.muli (wid i) 512#32) c t v = (
      (Prog.lift (.load vPos (Rect.unit (s := S256) ![16 * 0] S16.size (blk_inb 0)).toLoadRect (View.loadsAt_vmem h_S16)) : Prog (Eff F i) (Vec F S16 .i32)) >>= fun _ =>
      Prog.lift (.store vPos (Rect.unit (s := S256) ![16 * 0] S16.size (blk_inb 0)) v Finset.univ (View.stores_vmem_bits_univ h_S16 rfl) (.inl rfl)) >>= fun _ =>
      rankLoopK i >>= fun _ =>
      Scf.forFrom (fun b (_ : PUnit) => slUnit i b) [0, 1, 2, 3, 4, 5, 6] ⟨⟩) := by
  sl_kernel_rfl

set_option maxRecDepth 100000 in
theorem body_eq (i : grid0.Coords) :
    cc0__sc_body (F := F) i (Memref.whole main_v1_scv) (Memref.isWhole_whole _) (Memref.whole main_arg1_scv) (Memref.isWhole_whole _) (Memref.whole main_v2_scv) (Memref.isWhole_whole _) (Memref.whole main_v3_0_scv) (Memref.isWhole_whole _) (Memref.whole main_v3_1_scv) (Memref.isWhole_whole _) (Memref.whole main_v3_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scoped0 cc0_scoped1 cc0_scoped2 cc0_scoped3 = body i := by
  unfold cc0__sc_body body
  simp only [← rankLoopK_eq]
  have h84 : k0_part84 (F := F) i (Memref.whole main_v1_scv) (Memref.isWhole_whole _) (Memref.whole main_arg1_scv) (Memref.isWhole_whole _) (Memref.whole main_v2_scv) (Memref.isWhole_whole _) (Memref.whole main_v3_0_scv) (Memref.isWhole_whole _) (Memref.whole main_v3_1_scv) (Memref.isWhole_whole _) (Memref.whole main_v3_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scoped0 cc0_scoped1 cc0_scoped2 cc0_scoped3 = (phaseA0 i >>= fun _ => Scf.forFrom (fun b (_ : PUnit) => zeroBlk i b) [0, 1, 2, 3, 4, 5, 6, 7] ⟨⟩ >>= fun _ =>
      (pure ⟨wid i, lanes, Scalar.muli (wid i) 512#32, broadcast S16 0#32⟩ : Prog (Eff F i) (Σ' (v1 : BitVec 32) (v2 : IVec S16 32) (v7 : BitVec 32), IVec S16 32))) := by
    sl_kernel_rfl
  simp only [h84, part85_eq, part90_eqK, bind_assoc, pure_bind]
  sl_kernel_rfl

end Cert.KernelIdeal.Own
-- ==== Proof.Tile.lean ====
/- One tile's whole program, from what it is given to what it leaves. -/
module

public import proofs.«01_k».proof.Proof.Outer
public import proofs.«01_k».proof.Proof.BodyEq

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore

variable {F : FTy → Type} [FloatOps F]

local notation "𝕄" => MT nD τ sig (HIx 1) (Elt F) ℕ UU ℕ

/-- The lengths as a function of the row. -/
def lenOf (L : S16384.Idx → BitVec 32) (n : ℕ) : ℕ := if h : n < 16384 then (L (at1 n h)).toNat else 0

theorem lens_of {L : S16384.Idx → BitVec 32} (h : ∀ j, (L j).toNat < 256) : Lens L (lenOf L) where
  val n hn := by unfold lenOf; rw [dif_pos hn]
  lt n := by
    unfold lenOf
    split
    · exact h _
    · omega

section Tile
variable (d : Dev nD) (i : grid0.Coords) (O : CellTallies nD τ sig (HIx 1)) (W₀ : Waits sig (HIx 1))
  (q : PosShare TreeShare) (X : S16384x2x128.Idx → BitVec 32) (L : S16384.Idx → BitVec 32) (T : S64.Idx → Elt F .f32)

/-- What a tile reads: a share of the rows, the lengths and the table. -/
def Reads : sProp (MT nD τ sig (HIx 1) (Elt F) ℕ UU ℕ) := iprop(hb (F := F) d i mX q X ∗ hb (F := F) d i mLen q L ∗ hb (F := F) d i mTab q T)

/-- What it is given to fill: its parts of the three results. -/
def Blank : sProp (MT nD τ sig (HIx 1) (Elt F) ℕ UU ℕ) :=
  iprop((∃ f, op (F := F) d i (ownS (wn i)) f) ∗ (∃ f, (rkDst i).view.loc (thr d i) ↦[(rkDst i).view.set]{fullShare} f) ∗ (∃ f, (slDst i).view.loc (thr d i) ↦[(slDst i).view.set]{fullShare} f))

/-- Those parts filled. -/
def Full : sProp (MT nD τ sig (HIx 1) (Elt F) ℕ UU ℕ) :=
  iprop(op (F := F) d i (ownS (wn i)) (outT T X (lenOf L)) ∗ ((rkDst i).view.loc (thr d i) ↦[(rkDst i).view.set]{fullShare} rkT (lenOf L))
    ∗ ((slDst i).view.loc (thr d i) ↦[(slDst i).view.set]{fullShare} slT L (lenOf L)))

/-- Its own buffers, holding anything. -/
def Bufs : sProp (MT nD τ sig (HIx 1) (Elt F) ℕ UU ℕ) :=
  iprop((∃ f, pt (F := F) d i vLen f) ∗ (∃ f, pt (F := F) d i vPos f) ∗ (∃ f, pt (F := F) d i vIdx f) ∗ (∃ f, pt (F := F) d i vRk f) ∗ (∃ f, pt (F := F) d i vSl f)
    ∗ (∃ f, pt (F := F) d i vTab f) ∗ (∃ f, pt (F := F) d i vX0 f) ∗ (∃ f, pt (F := F) d i vX1 f) ∗ (∃ f, pt (F := F) d i vO0 f) ∗ (∃ f, pt (F := F) d i vO1 f))

/-- Its semaphores at zero. -/
def Sems : sProp (MT nD τ sig (HIx 1) (Elt F) ℕ UU ℕ) :=
  iprop(sv (F := F) d i cc0_scratch10.sem ∗ sv (F := F) d i cc0_scratch11.sem ∗ sv (F := F) d i cc0_scratch12.sem ∗ sv (F := F) d i cc0_scratch13.sem
    ∗ sv (F := F) d i cc0_scoped0.sem ∗ sv (F := F) d i cc0_scoped1.sem ∗ sv (F := F) d i cc0_scoped2.sem ∗ sv (F := F) d i cc0_scoped3.sem)

theorem w_phaseA : iprop(hb (F := F) d i mLen q L ∗ hb (F := F) d i mTab q T ∗ (∃ f, pt (F := F) d i vLen f) ∗ (∃ f, pt (F := F) d i vTab f) ∗ (∃ f, pt (F := F) d i vPos f) ∗ sv (F := F) d i cc0_scoped0.sem ∗ sv (F := F) d i cc0_scoped1.sem ∗ Ows (F := F) d i O W₀)
      ⊢ W d i (phaseA i) fun _ =>
        iprop(hb (F := F) d i mLen q L ∗ hb (F := F) d i mTab q T ∗ pt (F := F) d i vLen L ∗ pt (F := F) d i vTab T ∗ (∃ g : S256.Idx → BitVec 32, ⌜Tab g fun _ => 0⌝ ∗ pt (F := F) d i vPos g) ∗ sv (F := F) d i cc0_scoped0.sem ∗ sv (F := F) d i cc0_scoped1.sem ∗ Ows (F := F) d i O W₀) := by
  unfold phaseA
  iintro ⟨HL, HT, Hl, Ht, ⟨%fp, Hp⟩, Hv0, Hv1, HO⟩
  iapply (w_then d i _ (w_phaseA0 d i O W₀ q L T)) $$ [HL HT Hl Ht Hv0 Hv1 HO]
  · isplitl [HL]; · iexact HL
    isplitl [HT]; · iexact HT
    isplitl [Hl]; · iexact Hl
    isplitl [Ht]; · iexact Ht
    isplitl [Hv0]; · iexact Hv0
    isplitl [Hv1]; · iexact Hv1
    iexact HO
  iintro %_ ⟨HL, HT, Hl, Ht, Hv0, Hv1, HO⟩
  iapply (w_last d i _ (w_zero d i fp)) $$ Hp
  iintro %_ Hp
  isplitl [HL]; · iexact HL
  isplitl [HT]; · iexact HT
  isplitl [Hl]; · iexact Hl
  isplitl [Ht]; · iexact Ht
  isplitl [Hp]; · iexact Hp
  isplitl [Hv0]; · iexact Hv0
  isplitl [Hv1]; · iexact Hv1
  iexact HO

/-- The tile's program: its parts of the results filled, everything else given back. -/
theorem w_body (hL : ∀ j, (L j).toNat < 256) (hX : Small X) :
    iprop(Reads (F := F) d i q X L T ∗ Blank (F := F) d i ∗ Bufs (F := F) d i ∗ Sems (F := F) d i ∗ Ows (F := F) d i O W₀)
      ⊢ W d i (body i) fun _ => iprop(Reads (F := F) d i q X L T ∗ Full (F := F) d i X L T ∗ Bufs (F := F) d i ∗ Sems (F := F) d i ∗ Ows (F := F) d i O W₀) := by
  have hl := lens_of hL
  unfold body Reads Blank Full Bufs Sems
  iintro ⟨⟨HX, HL, HT⟩, ⟨Hout, Hrk, Hsl⟩, ⟨Hl, Hp, ⟨%fi, Hi⟩, ⟨%fr, Hr⟩, ⟨%fs, Hs⟩, Ht, Hx0, Hx1, Ho0, Ho1⟩, ⟨Hva, Hvb, Hvc, Hvd, Hv0, Hv1, Hv2, Hv3⟩, HO⟩
  iapply (w_then d i _ (w_phaseA d i O W₀ q L T)) $$ [HL HT Hl Ht Hp Hv0 Hv1 HO]
  · isplitl [HL]; · iexact HL
    isplitl [HT]; · iexact HT
    isplitl [Hl]; · iexact Hl
    isplitl [Ht]; · iexact Ht
    isplitl [Hp]; · iexact Hp
    isplitl [Hv0]; · iexact Hv0
    isplitl [Hv1]; · iexact Hv1
    iexact HO
  iintro %_ ⟨HL, HT, Hl, Ht, ⟨%g0, %hg0, Hp⟩, Hv0, Hv1, HO⟩
  iapply (w_then d i _ (w_hist d i hl hg0)) $$ [Hl Hp]
  · isplitl [Hl]; · iexact Hl
    iexact Hp
  iintro %_ ⟨Hl, %g1, %hg1, Hp⟩
  iapply (w_then d i _ (w_phaseB d i 16384 (lenOf L) hl.lt hg1)) $$ Hp
  iintro %_ ⟨%g2, %hg2, Hp⟩
  iapply (w_then d i _ (w_rankLoop d i (lenOf L) hl hg2 fr fi)) $$ [Hl Hp Hr Hi]
  · isplitl [Hl]; · iexact Hl
    isplitl [Hp]; · iexact Hp
    isplitl [Hr]; · iexact Hr
    iexact Hi
  iintro %_ ⟨Hl, Hk⟩
  unfold Ranked
  icases Hk with ⟨%g3, %r3, %q3, %h3, Hp, Hr, Hi⟩
  obtain ⟨_, hr3, hq3⟩ := h3
  have hq := order_of hq3
  iapply (w_then d i _ (w_slAll d i hq)) $$ [Hl Hi Hs]
  · isplitl [Hl]; · iexact Hl
    isplitl [Hi]; · iexact Hi
    iexact Hs
  iintro %_ ⟨Hl, Hi, %s4, %hs4, Hs⟩
  iapply (w_then d i _ (w_phaseD2 d i O W₀ hr3 hs4)) $$ [Hr Hs Hrk Hsl Hv2 Hv3 HO]
  · isplitl [Hr]; · iexact Hr
    isplitl [Hs]; · iexact Hs
    isplitl [Hrk]; · iexact Hrk
    isplitl [Hsl]; · iexact Hsl
    isplitl [Hv2]; · iexact Hv2
    isplitl [Hv3]; · iexact Hv3
    iexact HO
  iintro %_ ⟨Hr, Hs, Hrk, Hsl, Hv2, Hv3, HO⟩
  iapply (w_last d i _ (w_phaseE d i O W₀ q T X (lenOf L) q3 hX hq)) $$ [HX Hi Ht Hx0 Hx1 Ho0 Ho1 Hout Hva Hvb Hvc Hvd HO]
  · isplitl [HX]; · iexact HX
    isplitl [Hi]; · iexact Hi
    isplitl [Ht]; · iexact Ht
    isplitl [Hx0]; · iexact Hx0
    isplitl [Hx1]; · iexact Hx1
    isplitl [Ho0]; · iexact Ho0
    isplitl [Ho1]; · iexact Ho1
    isplitl [Hout]; · iexact Hout
    isplitl [Hva]; · iexact Hva
    isplitl [Hvb]; · iexact Hvb
    isplitl [Hvc]; · iexact Hvc
    isplitl [Hvd]; · iexact Hvd
    iexact HO
  iintro %_ ⟨HX, Hi, Ht, Hx0, Hx1, Ho0, Ho1, Hout, Hva, Hvb, Hvc, Hvd, HO⟩
  isplitl [HX HL HT]
  · isplitl [HX]; · iexact HX
    isplitl [HL]; · iexact HL
    iexact HT
  isplitl [Hout Hrk Hsl]
  · isplitl [Hout]; · iexact Hout
    isplitl [Hrk]; · iexact Hrk
    iexact Hsl
  isplitl [Hl Hp Hi Hr Hs Ht Hx0 Hx1 Ho0 Ho1]
  · isplitl [Hl]; · iexists _; iexact Hl
    isplitl [Hp]; · iexists _; iexact Hp
    isplitl [Hi]; · iexists _; iexact Hi
    isplitl [Hr]; · iexists _; iexact Hr
    isplitl [Hs]; · iexists _; iexact Hs
    isplitl [Ht]; · iexists _; iexact Ht
    isplitl [Hx0]; · iexact Hx0
    isplitl [Hx1]; · iexact Hx1
    isplitl [Ho0]; · iexact Ho0
    iexact Ho1
  isplitr [HO]
  · isplitl [Hva]; · iexact Hva
    isplitl [Hvb]; · iexact Hvb
    isplitl [Hvc]; · iexact Hvc
    isplitl [Hvd]; · iexact Hvd
    isplitl [Hv0]; · iexact Hv0
    isplitl [Hv1]; · iexact Hv1
    isplitl [Hv2]; · iexact Hv2
    iexact Hv3
  iexact HO

end Tile

end Cert.KernelIdeal.Own
-- ==== Proof.Grid.lean ====
/- The operands of the call dealt to the thirty-two tiles, and the results put together again. -/
module

public import proofs.«01_k».proof.Proof.Tile
public import Idealize.ShloMosaic.Lib.ShareLeaves

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore

variable {F : FTy → Type} [FloatOps F]

local notation "𝕄" => MT nD τ sig (HIx 1) (Elt F) ℕ UU ℕ

/-- The tile of a SparseCore and a subcore. -/
def tileAt (c : Fin (grid0.bound 0)) (s : Fin (grid0.bound 1)) : grid0.Coords :=
  fun | 0 => c | 1 => s | ⟨_ + 2, h⟩ => absurd h (Nat.not_lt.2 (Nat.le_add_left _ _))

/-- Tile `p`. -/
abbrev co (p : Fin 2 × Fin 16) : grid0.Coords := tileAt p.1 p.2

theorem wn_co (p : Fin 2 × Fin 16) : wn (co p) = 2 * p.2.val + p.1.val := rfl

/-- Its number among the shares. -/
def nth : Fin 2 × Fin 16 ≃ Fin (2 ^ 5) := finProdFinEquiv.trans (finCongr (by decide))

/-- Its share of what every tile reads. -/
def shareAt (i : grid0.Coords) : PosShare TreeShare := ShareLeaves.leaf 5 fullShare (nth (i 0, i 1))

section Deal
variable {ℓ : Loc nD τ sig}

theorem deal_share (f : Buf (Elt F) ℓ) :
    (ℓ ↦{fullShare} f : sProp 𝕄) = bigSep Finset.univ fun p : Fin 2 × Fin 16 => ℓ ↦{shareAt (co p)} f :=
  (ShareLeaves.pointsTo_leaves Finset.univ f 5 fullShare).trans
    (bigSep_univ_equiv nth (fun k : Fin (2 ^ 5) => (ℓ ↦{ShareLeaves.leaf 5 fullShare k} f : sProp 𝕄)))

theorem deal_set (f : Buf (Elt F) ℓ) (S : Fin 2 × Fin 16 → Finset (Idx ℓ)) (hd : ∀ p p', p ≠ p' → Disjoint (S p) (S p')) (hc : ∀ j, ∃ p, j ∈ S p) :
    (ℓ ↦{fullShare} f : sProp 𝕄) = bigSep Finset.univ fun p : Fin 2 × Fin 16 => ℓ ↦[S p]{fullShare} f := by
  classical
  rw [← pointsTo_biUnion Finset.univ (ℓ := ℓ) S (fun p _ p' _ h => hd p p' h)]
  have : Finset.univ.biUnion S = Finset.univ := by
    refine Finset.eq_univ_of_forall fun j => ?_
    obtain ⟨p, hp⟩ := hc j
    exact Finset.mem_biUnion.mpr ⟨p, Finset.mem_univ _, hp⟩
  rw [this]

end Deal

theorem wn_inj {p p' : Fin 2 × Fin 16} (h : p ≠ p') : wn (co p) ≠ wn (co p') := by
  rw [wn_co, wn_co]
  intro e
  have h1 := p.1.isLt
  have h2 := p'.1.isLt
  exact h (Prod.ext (Fin.ext (by omega)) (Fin.ext (by omega)))

theorem wn_surj (w : ℕ) (hw : w < 32) : ∃ p : Fin 2 × Fin 16, wn (co p) = w :=
  ⟨(⟨w % 2, by omega⟩, ⟨w / 2, by omega⟩), by rw [wn_co]; show 2 * (w / 2) + w % 2 = w; omega⟩

/-- The positions of worker `w`'s block of a result of one word per row. -/
def blkS (w : ℕ) : Finset S16384.Idx := Finset.univ.filter fun j => 512 * w ≤ (j 0).val ∧ (j 0).val < 512 * w + 512

theorem mem_blk {w : ℕ} {j : S16384.Idx} : j ∈ blkS w ↔ 512 * w ≤ (j 0).val ∧ (j 0).val < 512 * w + 512 :=
  ⟨fun h => (Finset.mem_filter.mp h).2, fun h => Finset.mem_filter.mpr ⟨Finset.mem_univ _, h⟩⟩

theorem unit_blk (off : Fin 1 → ℕ) (inb : ∀ a, off a + S512.size a ≤ S16384.size a) (w : ℕ) (h : off 0 = 512 * w) :
    (Rect.unit (s := S16384) off S512.size inb).set = blkS w := by
  ext j
  rw [mem_blk, Rect.mem_set_unit]
  constructor
  · intro H
    have := H 0
    rw [h] at this
    exact this
  · intro H a
    obtain rfl : a = 0 := Subsingleton.elim _ _
    rw [h]
    exact H

theorem rkDst_set (i : grid0.Coords) : (rkDst i).view.set = blkS (wn i) :=
  (View.set_slice_whole _ _).trans (unit_blk _ (k0_off9_inb i) _ (off9_eq i))
theorem slDst_set (i : grid0.Coords) : (slDst i).view.set = blkS (wn i) :=
  (View.set_slice_whole _ _).trans (unit_blk _ (k0_off9_inb i) _ (off9_eq i))

theorem own_disj (p p' : Fin 2 × Fin 16) (h : p ≠ p') : Disjoint (ownS (wn (co p))) (ownS (wn (co p'))) :=
  Finset.disjoint_left.mpr fun j h1 h2 => by
    have e1 := mem_own.mp h1
    have e2 := mem_own.mp h2
    unfold own at e1 e2
    have := wn_inj h
    omega

theorem own_cov (j : S200x128x8x128.Idx) : ∃ p, j ∈ ownS (wn (co p)) := by
  have hj : (j 1).val < 128 := (j 1).isLt
  obtain ⟨p, hp⟩ := wn_surj ((j 1).val / 4) (by omega)
  refine ⟨p, mem_own.mpr ?_⟩
  unfold own
  omega

theorem blk_disj (p p' : Fin 2 × Fin 16) (h : p ≠ p') : Disjoint (blkS (wn (co p))) (blkS (wn (co p'))) :=
  Finset.disjoint_left.mpr fun j h1 h2 => by
    have e1 := mem_blk.mp h1
    have e2 := mem_blk.mp h2
    have := wn_inj h
    omega

theorem blk_cov (j : S16384.Idx) : ∃ p, j ∈ blkS (wn (co p)) := by
  have hj : (j 0).val < 16384 := (j 0).isLt
  obtain ⟨p, hp⟩ := wn_surj ((j 0).val / 512) (by omega)
  exact ⟨p, mem_blk.mpr (by omega)⟩

section Tiles
variable (d : Dev nD) (X : S16384x2x128.Idx → BitVec 32) (L : S16384.Idx → BitVec 32) (T : S64.Idx → Elt F .f32)

/-- An array of the device's, whole. -/
abbrev ar (b : Ref sig .tc) (f : Buf (Elt F) ((SparseCore.T d : Thread nD τ).loc b)) : sProp (MT nD τ sig (HIx 1) (Elt F) ℕ UU ℕ) :=
  (SparseCore.T d : Thread nD τ).loc b ↦{fullShare} f

/-- What a tile is given. -/
def tileIn (i : grid0.Coords) : sProp (MT nD τ sig (HIx 1) (Elt F) ℕ UU ℕ) := iprop(Reads (F := F) d i (shareAt i) X L T ∗ Blank (F := F) d i)
/-- What it gives back. -/
def tileOut (i : grid0.Coords) : sProp (MT nD τ sig (HIx 1) (Elt F) ℕ UU ℕ) := iprop(Reads (F := F) d i (shareAt i) X L T ∗ Full (F := F) d i X L T)

/-- The three arrays the tiles read. -/
def Srcs : sProp (MT nD τ sig (HIx 1) (Elt F) ℕ UU ℕ) := iprop(ar (F := F) d main_v1 X ∗ ar (F := F) d main_arg1 L ∗ ar (F := F) d main_v2 T)

theorem srcs_eq : (Srcs (F := F) d X L T) = bigSep Finset.univ fun p : Fin 2 × Fin 16 => Reads (F := F) d (co p) (shareAt (co p)) X L T := by
  unfold Srcs Reads
  rw [bigSep_sep', bigSep_sep']
  unfold ar
  rw [deal_share (ℓ := (SparseCore.T d : Thread nD τ).loc main_v1), deal_share (ℓ := (SparseCore.T d : Thread nD τ).loc main_arg1), deal_share (ℓ := (SparseCore.T d : Thread nD τ).loc main_v2)]

theorem out_eq (f : S200x128x8x128.Idx → Elt F .f32) : (ar (F := F) d main_v3_0 f) = bigSep Finset.univ fun p : Fin 2 × Fin 16 => op (F := F) d (co p) (ownS (wn (co p))) f :=
  deal_set (ℓ := (SparseCore.T d : Thread nD τ).loc main_v3_0) f (fun p => ownS (wn (co p))) own_disj own_cov

theorem rk_eq (f : S16384.Idx → BitVec 32) : (ar (F := F) d main_v3_2 f) = bigSep Finset.univ fun p : Fin 2 × Fin 16 => ((rkDst (co p)).view.loc (thr d (co p)) ↦[(rkDst (co p)).view.set]{fullShare} f : sProp 𝕄) := by
  refine (deal_set (ℓ := (SparseCore.T d : Thread nD τ).loc main_v3_2) f (fun p => blkS (wn (co p))) blk_disj blk_cov).trans (bigSep_congr fun p _ => ?_)
  rw [rkDst_set]

theorem sl_eq (f : S16384.Idx → BitVec 32) : (ar (F := F) d main_v3_1 f) = bigSep Finset.univ fun p : Fin 2 × Fin 16 => ((slDst (co p)).view.loc (thr d (co p)) ↦[(slDst (co p)).view.set]{fullShare} f : sProp 𝕄) := by
  refine (deal_set (ℓ := (SparseCore.T d : Thread nD τ).loc main_v3_1) f (fun p => blkS (wn (co p))) blk_disj blk_cov).trans (bigSep_congr fun p _ => ?_)
  rw [slDst_set]

theorem some_of {I : Type} (s : Finset I) {A : Type} (Φ : I → A → sProp (MT nD τ sig (HIx 1) (Elt F) ℕ UU ℕ)) (a : A) :
    bigSep s (fun k => Φ k a) ⊢ bigSep s fun k => iprop(∃ a, Φ k a) :=
  bigSep_mono fun k _ => exists_intro (Φ := Φ k) a

/-- The operands dealt out. -/
theorem deal (fo : S200x128x8x128.Idx → Elt F .f32) (fs fr : S16384.Idx → BitVec 32) :
    iprop(Srcs (F := F) d X L T ∗ ar (F := F) d main_v3_0 fo ∗ ar (F := F) d main_v3_1 fs ∗ ar (F := F) d main_v3_2 fr)
      ⊢ bigSep Finset.univ fun c : Fin 2 => bigSep Finset.univ fun s : Fin 16 => tileIn (F := F) d X L T (co (c, s)) := by
  suffices h : iprop(Srcs (F := F) d X L T ∗ ar (F := F) d main_v3_0 fo ∗ ar (F := F) d main_v3_1 fs ∗ ar (F := F) d main_v3_2 fr)
      ⊢ bigSep Finset.univ fun p : Fin 2 × Fin 16 => tileIn (F := F) d X L T (co p) from
    h.trans (Entails.of_eq (bigSep_univ_prod (fun p : Fin 2 × Fin 16 => tileIn (F := F) d X L T (co p))))
  unfold tileIn Blank
  rw [bigSep_sep', bigSep_sep', bigSep_sep', srcs_eq, out_eq, sl_eq, rk_eq]
  iintro ⟨H, Ho, Hs, Hr⟩
  isplitl [H]; · iexact H
  isplitl [Ho]; · iapply (some_of (F := F) _ (fun p f => op (F := F) d (co p) (ownS (wn (co p))) f) fo) $$ Ho
  isplitl [Hr]
  · iapply (some_of (F := F) _ (fun p f => ((rkDst (co p)).view.loc (thr d (co p)) ↦[(rkDst (co p)).view.set]{fullShare} f : sProp 𝕄)) fr) $$ Hr
  · iapply (some_of (F := F) _ (fun p f => ((slDst (co p)).view.loc (thr d (co p)) ↦[(slDst (co p)).view.set]{fullShare} f : sProp 𝕄)) fs) $$ Hs

/-- The results put together. -/
theorem collect : (bigSep Finset.univ fun c : Fin 2 => bigSep Finset.univ fun s : Fin 16 => tileOut (F := F) d X L T (co (c, s)))
      ⊢ iprop(Srcs (F := F) d X L T ∗ ar (F := F) d main_v3_0 (outT T X (lenOf L)) ∗ ar (F := F) d main_v3_1 (slT L (lenOf L)) ∗ ar (F := F) d main_v3_2 (rkT (lenOf L))) := by
  refine (Entails.of_eq (bigSep_univ_prod (fun p : Fin 2 × Fin 16 => tileOut (F := F) d X L T (co p))).symm).trans ?_
  unfold tileOut Full
  rw [bigSep_sep', bigSep_sep', bigSep_sep', srcs_eq, out_eq, sl_eq, rk_eq]
  iintro ⟨H, Ho, Hr, Hs⟩
  isplitl [H]; · iexact H
  isplitl [Ho]; · iexact Ho
  isplitl [Hs]; · iexact Hs
  iexact Hr

end Tiles

end Cert.KernelIdeal.Own
-- ==== Proof.Task.lean ====
/- The call as the launch sees it: what its handshakes carry, one task's run, and the split of the operands. -/
module

public import proofs.«01_k».proof.Proof.Grid

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore

variable {F : FTy → Type} [FloatOps F]

local notation "𝕄" => MT nD τ sig (HIx 1) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state in the certificate's. -/
abbrev EH : Emb UH (MT nD τ sig (HIx 1) (Elt F) ℕ UU ℕ) := embL

section Pays
variable (X : Dev nD → S16384x2x128.Idx → BitVec 32) (L : Dev nD → S16384.Idx → BitVec 32) (T : Dev nD → S64.Idx → Elt F .f32)

instance storReads (d : Dev nD) (i : grid0.Coords) (q : PosShare TreeShare) (X : S16384x2x128.Idx → BitVec 32) (L : S16384.Idx → BitVec 32) (T : S64.Idx → Elt F .f32) :
    BI.Storable (upEmb : UEmb _ 𝕄) (Reads (F := F) d i q X L T) := by
  unfold Reads; infer_instance
instance storBlank (d : Dev nD) (i : grid0.Coords) : BI.Storable (upEmb : UEmb _ 𝕄) (Blank (F := F) d i) := by
  unfold Blank
  have h1 : BI.Storable (upEmb : UEmb _ 𝕄) iprop(∃ f, op (F := F) d i (ownS (wn i)) f) := inferInstance
  have h2 : BI.Storable (upEmb : UEmb _ 𝕄) iprop(∃ f, (rkDst i).view.loc (thr d i) ↦[(rkDst i).view.set]{fullShare} f) := inferInstance
  have h3 : BI.Storable (upEmb : UEmb _ 𝕄) iprop(∃ f, (slDst i).view.loc (thr d i) ↦[(slDst i).view.set]{fullShare} f) := inferInstance
  infer_instance
instance storFull (d : Dev nD) (i : grid0.Coords) (X : S16384x2x128.Idx → BitVec 32) (L : S16384.Idx → BitVec 32) (T : S64.Idx → Elt F .f32) :
    BI.Storable (upEmb : UEmb _ 𝕄) (Full (F := F) d i X L T) := by
  unfold Full; infer_instance
instance storIn (d : Dev nD) (i : grid0.Coords) : BI.Storable (upEmb : UEmb _ 𝕄) (tileIn (F := F) d (X d) (L d) (T d) i) := by
  unfold tileIn; infer_instance
instance storOut (d : Dev nD) (i : grid0.Coords) : BI.Storable (upEmb : UEmb _ 𝕄) (tileOut (F := F) d (X d) (L d) (T d) i) := by
  unfold tileOut; infer_instance

/-- What the sixteen tiles of a SparseCore are given, and what they give back. -/
def coreIn (d : Dev nD) (c : Fin 2) : sProp (MT nD τ sig (HIx 1) (Elt F) ℕ UU ℕ) := bigSep Finset.univ fun s : Fin 16 => tileIn (F := F) d (X d) (L d) (T d) (co (c, s))
def coreOut (d : Dev nD) (c : Fin 2) : sProp (MT nD τ sig (HIx 1) (Elt F) ℕ UU ℕ) := bigSep Finset.univ fun s : Fin 16 => tileOut (F := F) d (X d) (L d) (T d) (co (c, s))

instance storCin (d : Dev nD) (c : Fin 2) : BI.Storable (upEmb : UEmb _ 𝕄) (coreIn (F := F) X L T d c) := by
  unfold coreIn; infer_instance
instance storCout (d : Dev nD) (c : Fin 2) : BI.Storable (upEmb : UEmb _ 𝕄) (coreOut (F := F) X L T d c) := by
  unfold coreOut; infer_instance

/-- What the call's handshakes carry. -/
def P : (K (F := F)).Pay (nD := nD) (Val := Elt F) (Name := ℕ) (U := UU) where
  st := fun q d c => match q with | 0 => coreIn (F := F) X L T d c
  dn := fun q d c => match q with | 0 => coreOut (F := F) X L T d c
  go := fun q d c s => match q with | 0 => tileIn (F := F) d (X d) (L d) (T d) (co (c, s))
  td := fun q d c s => match q with | 0 => tileOut (F := F) d (X d) (L d) (T d) (co (c, s))
  x := fun _ _ => iprop(emp)

instance P_storable : (P (F := F) X L T).IsStorable where
  st q d c := match q with | 0 => (inferInstance : BI.Storable (upEmb : UEmb _ 𝕄) (coreIn (F := F) X L T d c))
  dn q d c := match q with | 0 => (inferInstance : BI.Storable (upEmb : UEmb _ 𝕄) (coreOut (F := F) X L T d c))
  go q d c s := match q with | 0 => (inferInstance : BI.Storable (upEmb : UEmb _ 𝕄) (tileIn (F := F) d (X d) (L d) (T d) (co (c, s))))
  td q d c s := match q with | 0 => (inferInstance : BI.Storable (upEmb : UEmb _ 𝕄) (tileOut (F := F) d (X d) (L d) (T d) (co (c, s))))

theorem vecSplit : (K (F := F)).VecSplit' (P X L T) 0 := by
  intro d c
  show coreIn (F := F) X L T d c ⊢ |={Set.univ}=> iprop(coreIn (F := F) X L T d c ∗ (coreOut (F := F) X L T d c -∗ coreOut (F := F) X L T d c))
  iintro H; imodintro
  isplitl [H]; · iexact H
  iintro H; iexact H

end Pays

/-! ## A tile's own semaphores and buffers -/

section Own
variable (d : Dev nD) (i : grid0.Coords)

theorem ne_cell {a b : SemLoc sig} (h : a ≠ b) : ((thr d i, a) : GSem nD τ sig) ≠ (thr d i, b) := fun e => h (congrArg Prod.snd e)
theorem ne_buf {a b : Ref sig .scVector} (h : a ≠ b) : (Proc.scVector (cV i) (jV i)).devRef a ≠ (Proc.scVector (cV i) (jV i)).devRef b :=
  fun e => h (Proc.devRef_injective _ e)

/-- The semaphores the tile leaves alone. -/
def restSems : sProp (MT nD τ sig (HIx 1) (Elt F) ℕ UU ℕ) := bigSep (((((((((ownCells (thr d i)).erase ((thr d i, SemLoc.dma cc0_scratch10.sem) : GSem nD τ sig)).erase ((thr d i, SemLoc.dma cc0_scratch11.sem) : GSem nD τ sig)).erase ((thr d i, SemLoc.dma cc0_scratch12.sem) : GSem nD τ sig)).erase ((thr d i, SemLoc.dma cc0_scratch13.sem) : GSem nD τ sig)).erase ((thr d i, SemLoc.dma cc0_scoped0.sem) : GSem nD τ sig)).erase ((thr d i, SemLoc.dma cc0_scoped1.sem) : GSem nD τ sig)).erase ((thr d i, SemLoc.dma cc0_scoped2.sem) : GSem nD τ sig)).erase ((thr d i, SemLoc.dma cc0_scoped3.sem) : GSem nD τ sig)) fun g => semVal g 0

theorem sems_eq : (ownSems0 (thr d i) : sProp 𝕄) = iprop(sv (F := F) d i cc0_scratch10.sem ∗ sv (F := F) d i cc0_scratch11.sem ∗ sv (F := F) d i cc0_scratch12.sem ∗ sv (F := F) d i cc0_scratch13.sem ∗ sv (F := F) d i cc0_scoped0.sem ∗ sv (F := F) d i cc0_scoped1.sem ∗ sv (F := F) d i cc0_scoped2.sem ∗ sv (F := F) d i cc0_scoped3.sem ∗ restSems (F := F) d i) := by
  unfold SparseCore.Cfg.ownSems0 restSems
  rw [SparseCore.bigSep_erase' ((mem_ownCells (g := ((thr d i, SemLoc.dma cc0_scratch10.sem) : GSem nD τ sig))).mpr ⟨rfl, by show (SemLoc.dma cc0_scratch10.sem : SemLoc sig).isScoped .scVector = true; decide⟩),
    SparseCore.bigSep_erase' (Finset.mem_erase.mpr ⟨ne_cell d i (show (SemLoc.dma cc0_scratch11.sem : SemLoc sig) ≠ SemLoc.dma cc0_scratch10.sem by decide), (mem_ownCells (g := ((thr d i, SemLoc.dma cc0_scratch11.sem) : GSem nD τ sig))).mpr ⟨rfl, by show (SemLoc.dma cc0_scratch11.sem : SemLoc sig).isScoped .scVector = true; decide⟩⟩),
    SparseCore.bigSep_erase' (Finset.mem_erase.mpr ⟨ne_cell d i (show (SemLoc.dma cc0_scratch12.sem : SemLoc sig) ≠ SemLoc.dma cc0_scratch11.sem by decide), Finset.mem_erase.mpr ⟨ne_cell d i (show (SemLoc.dma cc0_scratch12.sem : SemLoc sig) ≠ SemLoc.dma cc0_scratch10.sem by decide), (mem_ownCells (g := ((thr d i, SemLoc.dma cc0_scratch12.sem) : GSem nD τ sig))).mpr ⟨rfl, by show (SemLoc.dma cc0_scratch12.sem : SemLoc sig).isScoped .scVector = true; decide⟩⟩⟩),
    SparseCore.bigSep_erase' (Finset.mem_erase.mpr ⟨ne_cell d i (show (SemLoc.dma cc0_scratch13.sem : SemLoc sig) ≠ SemLoc.dma cc0_scratch12.sem by decide), Finset.mem_erase.mpr ⟨ne_cell d i (show (SemLoc.dma cc0_scratch13.sem : SemLoc sig) ≠ SemLoc.dma cc0_scratch11.sem by decide), Finset.mem_erase.mpr ⟨ne_cell d i (show (SemLoc.dma cc0_scratch13.sem : SemLoc sig) ≠ SemLoc.dma cc0_scratch10.sem by decide), (mem_ownCells (g := ((thr d i, SemLoc.dma cc0_scratch13.sem) : GSem nD τ sig))).mpr ⟨rfl, by show (SemLoc.dma cc0_scratch13.sem : SemLoc sig).isScoped .scVector = true; decide⟩⟩⟩⟩),
    SparseCore.bigSep_erase' (Finset.mem_erase.mpr ⟨ne_cell d i (show (SemLoc.dma cc0_scoped0.sem : SemLoc sig) ≠ SemLoc.dma cc0_scratch13.sem by decide), Finset.mem_erase.mpr ⟨ne_cell d i (show (SemLoc.dma cc0_scoped0.sem : SemLoc sig) ≠ SemLoc.dma cc0_scratch12.sem by decide), Finset.mem_erase.mpr ⟨ne_cell d i (show (SemLoc.dma cc0_scoped0.sem : SemLoc sig) ≠ SemLoc.dma cc0_scratch11.sem by decide), Finset.mem_erase.mpr ⟨ne_cell d i (show (SemLoc.dma cc0_scoped0.sem : SemLoc sig) ≠ SemLoc.dma cc0_scratch10.sem by decide), (mem_ownCells (g := ((thr d i, SemLoc.dma cc0_scoped0.sem) : GSem nD τ sig))).mpr ⟨rfl, by show (SemLoc.dma cc0_scoped0.sem : SemLoc sig).isScoped .scVector = true; decide⟩⟩⟩⟩⟩),
    SparseCore.bigSep_erase' (Finset.mem_erase.mpr ⟨ne_cell d i (show (SemLoc.dma cc0_scoped1.sem : SemLoc sig) ≠ SemLoc.dma cc0_scoped0.sem by decide), Finset.mem_erase.mpr ⟨ne_cell d i (show (SemLoc.dma cc0_scoped1.sem : SemLoc sig) ≠ SemLoc.dma cc0_scratch13.sem by decide), Finset.mem_erase.mpr ⟨ne_cell d i (show (SemLoc.dma cc0_scoped1.sem : SemLoc sig) ≠ SemLoc.dma cc0_scratch12.sem by decide), Finset.mem_erase.mpr ⟨ne_cell d i (show (SemLoc.dma cc0_scoped1.sem : SemLoc sig) ≠ SemLoc.dma cc0_scratch11.sem by decide), Finset.mem_erase.mpr ⟨ne_cell d i (show (SemLoc.dma cc0_scoped1.sem : SemLoc sig) ≠ SemLoc.dma cc0_scratch10.sem by decide), (mem_ownCells (g := ((thr d i, SemLoc.dma cc0_scoped1.sem) : GSem nD τ sig))).mpr ⟨rfl, by show (SemLoc.dma cc0_scoped1.sem : SemLoc sig).isScoped .scVector = true; decide⟩⟩⟩⟩⟩⟩),
    SparseCore.bigSep_erase' (Finset.mem_erase.mpr ⟨ne_cell d i (show (SemLoc.dma cc0_scoped2.sem : SemLoc sig) ≠ SemLoc.dma cc0_scoped1.sem by decide), Finset.mem_erase.mpr ⟨ne_cell d i (show (SemLoc.dma cc0_scoped2.sem : SemLoc sig) ≠ SemLoc.dma cc0_scoped0.sem by decide), Finset.mem_erase.mpr ⟨ne_cell d i (show (SemLoc.dma cc0_scoped2.sem : SemLoc sig) ≠ SemLoc.dma cc0_scratch13.sem by decide), Finset.mem_erase.mpr ⟨ne_cell d i (show (SemLoc.dma cc0_scoped2.sem : SemLoc sig) ≠ SemLoc.dma cc0_scratch12.sem by decide), Finset.mem_erase.mpr ⟨ne_cell d i (show (SemLoc.dma cc0_scoped2.sem : SemLoc sig) ≠ SemLoc.dma cc0_scratch11.sem by decide), Finset.mem_erase.mpr ⟨ne_cell d i (show (SemLoc.dma cc0_scoped2.sem : SemLoc sig) ≠ SemLoc.dma cc0_scratch10.sem by decide), (mem_ownCells (g := ((thr d i, SemLoc.dma cc0_scoped2.sem) : GSem nD τ sig))).mpr ⟨rfl, by show (SemLoc.dma cc0_scoped2.sem : SemLoc sig).isScoped .scVector = true; decide⟩⟩⟩⟩⟩⟩⟩),
    SparseCore.bigSep_erase' (Finset.mem_erase.mpr ⟨ne_cell d i (show (SemLoc.dma cc0_scoped3.sem : SemLoc sig) ≠ SemLoc.dma cc0_scoped2.sem by decide), Finset.mem_erase.mpr ⟨ne_cell d i (show (SemLoc.dma cc0_scoped3.sem : SemLoc sig) ≠ SemLoc.dma cc0_scoped1.sem by decide), Finset.mem_erase.mpr ⟨ne_cell d i (show (SemLoc.dma cc0_scoped3.sem : SemLoc sig) ≠ SemLoc.dma cc0_scoped0.sem by decide), Finset.mem_erase.mpr ⟨ne_cell d i (show (SemLoc.dma cc0_scoped3.sem : SemLoc sig) ≠ SemLoc.dma cc0_scratch13.sem by decide), Finset.mem_erase.mpr ⟨ne_cell d i (show (SemLoc.dma cc0_scoped3.sem : SemLoc sig) ≠ SemLoc.dma cc0_scratch12.sem by decide), Finset.mem_erase.mpr ⟨ne_cell d i (show (SemLoc.dma cc0_scoped3.sem : SemLoc sig) ≠ SemLoc.dma cc0_scratch11.sem by decide), Finset.mem_erase.mpr ⟨ne_cell d i (show (SemLoc.dma cc0_scoped3.sem : SemLoc sig) ≠ SemLoc.dma cc0_scratch10.sem by decide), (mem_ownCells (g := ((thr d i, SemLoc.dma cc0_scoped3.sem) : GSem nD τ sig))).mpr ⟨rfl, by show (SemLoc.dma cc0_scoped3.sem : SemLoc sig).isScoped .scVector = true; decide⟩⟩⟩⟩⟩⟩⟩⟩)]

/-- The buffers it leaves alone. -/
def restBufs : sProp (MT nD τ sig (HIx 1) (Elt F) ℕ UU ℕ) := bigSep (((((((((((ownRefs (τ := τ) (.scVector (cV i) (jV i))).erase ((Proc.scVector (cV i) (jV i)).devRef cc0_scratch0)).erase ((Proc.scVector (cV i) (jV i)).devRef cc0_scratch1)).erase ((Proc.scVector (cV i) (jV i)).devRef cc0_scratch2)).erase ((Proc.scVector (cV i) (jV i)).devRef cc0_scratch3)).erase ((Proc.scVector (cV i) (jV i)).devRef cc0_scratch4)).erase ((Proc.scVector (cV i) (jV i)).devRef cc0_scratch5)).erase ((Proc.scVector (cV i) (jV i)).devRef cc0_scratch6)).erase ((Proc.scVector (cV i) (jV i)).devRef cc0_scratch7)).erase ((Proc.scVector (cV i) (jV i)).devRef cc0_scratch8)).erase ((Proc.scVector (cV i) (jV i)).devRef cc0_scratch9)) fun b => iprop(∃ f, ((d, b) : Loc nD τ sig) ↦{fullShare} f)

theorem bufs_eq : (ownBufs (thr d i) : sProp 𝕄) = iprop((∃ f, pt (F := F) d i vLen f) ∗ (∃ f, pt (F := F) d i vPos f) ∗ (∃ f, pt (F := F) d i vIdx f) ∗ (∃ f, pt (F := F) d i vRk f) ∗ (∃ f, pt (F := F) d i vSl f) ∗ (∃ f, pt (F := F) d i vTab f) ∗ (∃ f, pt (F := F) d i vX0 f) ∗ (∃ f, pt (F := F) d i vX1 f) ∗ (∃ f, pt (F := F) d i vO0 f) ∗ (∃ f, pt (F := F) d i vO1 f) ∗ restBufs (F := F) d i) := by
  unfold SparseCore.Cfg.ownBufs restBufs
  refine (SparseCore.bigSep_erase' (SparseCore.Cfg.mem_ownRefs_of_owner (p := Proc.scVector (cV i) (jV i)) (b := ((Proc.scVector (cV i) (jV i)).devRef cc0_scratch0)) rfl)).trans ?_
  rw [SparseCore.bigSep_erase' (Finset.mem_erase.mpr ⟨ne_buf i (show (cc0_scratch1 : Ref sig .scVector) ≠ cc0_scratch0 by decide), SparseCore.Cfg.mem_ownRefs_of_owner (p := Proc.scVector (cV i) (jV i)) (b := ((Proc.scVector (cV i) (jV i)).devRef cc0_scratch1)) rfl⟩),
    SparseCore.bigSep_erase' (Finset.mem_erase.mpr ⟨ne_buf i (show (cc0_scratch2 : Ref sig .scVector) ≠ cc0_scratch1 by decide), Finset.mem_erase.mpr ⟨ne_buf i (show (cc0_scratch2 : Ref sig .scVector) ≠ cc0_scratch0 by decide), SparseCore.Cfg.mem_ownRefs_of_owner (p := Proc.scVector (cV i) (jV i)) (b := ((Proc.scVector (cV i) (jV i)).devRef cc0_scratch2)) rfl⟩⟩),
    SparseCore.bigSep_erase' (Finset.mem_erase.mpr ⟨ne_buf i (show (cc0_scratch3 : Ref sig .scVector) ≠ cc0_scratch2 by decide), Finset.mem_erase.mpr ⟨ne_buf i (show (cc0_scratch3 : Ref sig .scVector) ≠ cc0_scratch1 by decide), Finset.mem_erase.mpr ⟨ne_buf i (show (cc0_scratch3 : Ref sig .scVector) ≠ cc0_scratch0 by decide), SparseCore.Cfg.mem_ownRefs_of_owner (p := Proc.scVector (cV i) (jV i)) (b := ((Proc.scVector (cV i) (jV i)).devRef cc0_scratch3)) rfl⟩⟩⟩),
    SparseCore.bigSep_erase' (Finset.mem_erase.mpr ⟨ne_buf i (show (cc0_scratch4 : Ref sig .scVector) ≠ cc0_scratch3 by decide), Finset.mem_erase.mpr ⟨ne_buf i (show (cc0_scratch4 : Ref sig .scVector) ≠ cc0_scratch2 by decide), Finset.mem_erase.mpr ⟨ne_buf i (show (cc0_scratch4 : Ref sig .scVector) ≠ cc0_scratch1 by decide), Finset.mem_erase.mpr ⟨ne_buf i (show (cc0_scratch4 : Ref sig .scVector) ≠ cc0_scratch0 by decide), SparseCore.Cfg.mem_ownRefs_of_owner (p := Proc.scVector (cV i) (jV i)) (b := ((Proc.scVector (cV i) (jV i)).devRef cc0_scratch4)) rfl⟩⟩⟩⟩),
    SparseCore.bigSep_erase' (Finset.mem_erase.mpr ⟨ne_buf i (show (cc0_scratch5 : Ref sig .scVector) ≠ cc0_scratch4 by decide), Finset.mem_erase.mpr ⟨ne_buf i (show (cc0_scratch5 : Ref sig .scVector) ≠ cc0_scratch3 by decide), Finset.mem_erase.mpr ⟨ne_buf i (show (cc0_scratch5 : Ref sig .scVector) ≠ cc0_scratch2 by decide), Finset.mem_erase.mpr ⟨ne_buf i (show (cc0_scratch5 : Ref sig .scVector) ≠ cc0_scratch1 by decide), Finset.mem_erase.mpr ⟨ne_buf i (show (cc0_scratch5 : Ref sig .scVector) ≠ cc0_scratch0 by decide), SparseCore.Cfg.mem_ownRefs_of_owner (p := Proc.scVector (cV i) (jV i)) (b := ((Proc.scVector (cV i) (jV i)).devRef cc0_scratch5)) rfl⟩⟩⟩⟩⟩),
    SparseCore.bigSep_erase' (Finset.mem_erase.mpr ⟨ne_buf i (show (cc0_scratch6 : Ref sig .scVector) ≠ cc0_scratch5 by decide), Finset.mem_erase.mpr ⟨ne_buf i (show (cc0_scratch6 : Ref sig .scVector) ≠ cc0_scratch4 by decide), Finset.mem_erase.mpr ⟨ne_buf i (show (cc0_scratch6 : Ref sig .scVector) ≠ cc0_scratch3 by decide), Finset.mem_erase.mpr ⟨ne_buf i (show (cc0_scratch6 : Ref sig .scVector) ≠ cc0_scratch2 by decide), Finset.mem_erase.mpr ⟨ne_buf i (show (cc0_scratch6 : Ref sig .scVector) ≠ cc0_scratch1 by decide), Finset.mem_erase.mpr ⟨ne_buf i (show (cc0_scratch6 : Ref sig .scVector) ≠ cc0_scratch0 by decide), SparseCore.Cfg.mem_ownRefs_of_owner (p := Proc.scVector (cV i) (jV i)) (b := ((Proc.scVector (cV i) (jV i)).devRef cc0_scratch6)) rfl⟩⟩⟩⟩⟩⟩),
    SparseCore.bigSep_erase' (Finset.mem_erase.mpr ⟨ne_buf i (show (cc0_scratch7 : Ref sig .scVector) ≠ cc0_scratch6 by decide), Finset.mem_erase.mpr ⟨ne_buf i (show (cc0_scratch7 : Ref sig .scVector) ≠ cc0_scratch5 by decide), Finset.mem_erase.mpr ⟨ne_buf i (show (cc0_scratch7 : Ref sig .scVector) ≠ cc0_scratch4 by decide), Finset.mem_erase.mpr ⟨ne_buf i (show (cc0_scratch7 : Ref sig .scVector) ≠ cc0_scratch3 by decide), Finset.mem_erase.mpr ⟨ne_buf i (show (cc0_scratch7 : Ref sig .scVector) ≠ cc0_scratch2 by decide), Finset.mem_erase.mpr ⟨ne_buf i (show (cc0_scratch7 : Ref sig .scVector) ≠ cc0_scratch1 by decide), Finset.mem_erase.mpr ⟨ne_buf i (show (cc0_scratch7 : Ref sig .scVector) ≠ cc0_scratch0 by decide), SparseCore.Cfg.mem_ownRefs_of_owner (p := Proc.scVector (cV i) (jV i)) (b := ((Proc.scVector (cV i) (jV i)).devRef cc0_scratch7)) rfl⟩⟩⟩⟩⟩⟩⟩),
    SparseCore.bigSep_erase' (Finset.mem_erase.mpr ⟨ne_buf i (show (cc0_scratch8 : Ref sig .scVector) ≠ cc0_scratch7 by decide), Finset.mem_erase.mpr ⟨ne_buf i (show (cc0_scratch8 : Ref sig .scVector) ≠ cc0_scratch6 by decide), Finset.mem_erase.mpr ⟨ne_buf i (show (cc0_scratch8 : Ref sig .scVector) ≠ cc0_scratch5 by decide), Finset.mem_erase.mpr ⟨ne_buf i (show (cc0_scratch8 : Ref sig .scVector) ≠ cc0_scratch4 by decide), Finset.mem_erase.mpr ⟨ne_buf i (show (cc0_scratch8 : Ref sig .scVector) ≠ cc0_scratch3 by decide), Finset.mem_erase.mpr ⟨ne_buf i (show (cc0_scratch8 : Ref sig .scVector) ≠ cc0_scratch2 by decide), Finset.mem_erase.mpr ⟨ne_buf i (show (cc0_scratch8 : Ref sig .scVector) ≠ cc0_scratch1 by decide), Finset.mem_erase.mpr ⟨ne_buf i (show (cc0_scratch8 : Ref sig .scVector) ≠ cc0_scratch0 by decide), SparseCore.Cfg.mem_ownRefs_of_owner (p := Proc.scVector (cV i) (jV i)) (b := ((Proc.scVector (cV i) (jV i)).devRef cc0_scratch8)) rfl⟩⟩⟩⟩⟩⟩⟩⟩),
    SparseCore.bigSep_erase' (Finset.mem_erase.mpr ⟨ne_buf i (show (cc0_scratch9 : Ref sig .scVector) ≠ cc0_scratch8 by decide), Finset.mem_erase.mpr ⟨ne_buf i (show (cc0_scratch9 : Ref sig .scVector) ≠ cc0_scratch7 by decide), Finset.mem_erase.mpr ⟨ne_buf i (show (cc0_scratch9 : Ref sig .scVector) ≠ cc0_scratch6 by decide), Finset.mem_erase.mpr ⟨ne_buf i (show (cc0_scratch9 : Ref sig .scVector) ≠ cc0_scratch5 by decide), Finset.mem_erase.mpr ⟨ne_buf i (show (cc0_scratch9 : Ref sig .scVector) ≠ cc0_scratch4 by decide), Finset.mem_erase.mpr ⟨ne_buf i (show (cc0_scratch9 : Ref sig .scVector) ≠ cc0_scratch3 by decide), Finset.mem_erase.mpr ⟨ne_buf i (show (cc0_scratch9 : Ref sig .scVector) ≠ cc0_scratch2 by decide), Finset.mem_erase.mpr ⟨ne_buf i (show (cc0_scratch9 : Ref sig .scVector) ≠ cc0_scratch1 by decide), Finset.mem_erase.mpr ⟨ne_buf i (show (cc0_scratch9 : Ref sig .scVector) ≠ cc0_scratch0 by decide), SparseCore.Cfg.mem_ownRefs_of_owner (p := Proc.scVector (cV i) (jV i)) (b := ((Proc.scVector (cV i) (jV i)).devRef cc0_scratch9)) rfl⟩⟩⟩⟩⟩⟩⟩⟩⟩)]

theorem open_sems : (ownSems0 (thr d i) : sProp 𝕄) ⊢ iprop(Sems (F := F) d i ∗ restSems (F := F) d i) := by
  rw [sems_eq]
  unfold Sems
  iintro ⟨H1, H2, H3, H4, H5, H6, H7, H8, HR⟩
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact HR

theorem close_sems : iprop(Sems (F := F) d i ∗ restSems (F := F) d i) ⊢ (ownSems0 (thr d i) : sProp 𝕄) := by
  rw [sems_eq]
  unfold Sems
  iintro ⟨⟨H1, H2, H3, H4, H5, H6, H7, H8⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HR

theorem open_bufs : (ownBufs (thr d i) : sProp 𝕄) ⊢ iprop(Bufs (F := F) d i ∗ restBufs (F := F) d i) := by
  rw [bufs_eq]
  unfold Bufs
  iintro ⟨H1, H2, H3, H4, H5, H6, H7, H8, H9, H0, HR⟩
  isplitr [HR]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H0
  iexact HR

theorem close_bufs : iprop(Bufs (F := F) d i ∗ restBufs (F := F) d i) ⊢ (ownBufs (thr d i) : sProp 𝕄) := by
  rw [bufs_eq]
  unfold Bufs
  iintro ⟨⟨H1, H2, H3, H4, H5, H6, H7, H8, H9, H0⟩, HR⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H0]; · iexact H0
  iexact HR

end Own

/-! ## One task -/

section Task
variable (X : Dev nD → S16384x2x128.Idx → BitVec 32) (L : Dev nD → S16384.Idx → BitVec 32) (T : Dev nD → S64.Idx → Elt F .f32)

/-- The arguments the printed program is run on. -/
abbrev printed (i : grid0.Coords) : Prog (Eff F i) PUnit :=
  cc0__sc_body (F := F) i (Memref.whole main_v1_scv) (Memref.isWhole_whole _) (Memref.whole main_arg1_scv) (Memref.isWhole_whole _) (Memref.whole main_v2_scv) (Memref.isWhole_whole _) (Memref.whole main_v3_0_scv) (Memref.isWhole_whole _) (Memref.whole main_v3_1_scv) (Memref.isWhole_whole _) (Memref.whole main_v3_2_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scratch10 cc0_scratch11 cc0_scratch12 cc0_scratch13 cc0_scratch14 cc0_scoped0 cc0_scoped1 cc0_scoped2 cc0_scoped3

theorem task (d : Dev nD) (i : grid0.Coords) (hL : ∀ d j, (L d j).toNat < 256) (hX : ∀ d, Small (X d)) (O : CellTallies nD τ sig (HIx 1)) (W₀ : Waits sig (HIx 1)) (hO : ∀ g, O g none = 0) :
    iprop(levAts (K (F := F)).L (K (F := F)).lev ∗ emp ∗ tileIn (F := F) d (X d) (L d) (T d) i
        ∗ scopedBufs (thr d i) ∗ scopedSems0 (thr d i) ∗ owes (thr d i) O W₀)
      ⊢ W d i (printed i)
          fun _ => iprop(tileOut (F := F) d (X d) (L d) (T d) i ∗ scopedBufs (thr d i) ∗ scopedSems0 (thr d i)
            ∗ ∃ W', ⌜∀ p ∈ W', p ∈ W₀ ∨ p.2 = none⌝ ∗ owes (thr d i) O W') := by
  rw [show printed (F := F) i = body i from body_eq i]
  rw [(K (F := F)).scopedBufs_V facts d (cV i) (jV i), SparseCore.Cfg.scopedSems0_V (Val := Elt F) d (cV i) (jV i)]
  unfold tileIn tileOut
  iintro ⟨#Hlv, -, ⟨HR, HB⟩, Hb, Hs, HO⟩
  ihave Hmw := (show levAts (K (F := F)).L (K (F := F)).lev ⊢ Transfers.MayWaits (thr d i) (default : HIx 1) O from
    (K (F := F)).mayWaits_none (thr := thr d i) hO) $$ Hlv
  ihave Hb' := (open_bufs (F := F) d i) $$ Hb
  icases Hb' with ⟨Hb, Hbr⟩
  ihave Hs' := (open_sems (F := F) d i) $$ Hs
  icases Hs' with ⟨Hs, Hsr⟩
  iapply (w_last d i _ (w_body d i O W₀ (shareAt i) (X d) (L d) (T d) (hL d) (hX d))) $$ [HR HB Hb Hs HO]
  · isplitl [HR]; · iexact HR
    isplitl [HB]; · iexact HB
    isplitl [Hb]; · iexact Hb
    isplitl [Hs]; · iexact Hs
    unfold Ows
    isplitr; · iexact Hmw
    iexists W₀
    isplitr; · ipureintro; exact fun p hp => .inl hp
    iexact HO
  iintro %_ ⟨HR, HF, Hb, Hs, HO⟩
  isplitl [HR HF]
  · isplitl [HR]; · iexact HR
    iexact HF
  isplitl [Hb Hbr]
  · iapply (close_bufs (F := F) d i)
    isplitl [Hb]; · iexact Hb
    iexact Hbr
  isplitl [Hs Hsr]
  · iapply (close_sems (F := F) d i)
    isplitl [Hs]; · iexact Hs
    iexact Hsr
  unfold Ows
  icases HO with ⟨-, HO⟩
  iexact HO

theorem defs₀_tile (c : Fin τ.nSC) (s : Fin τ.nSub) :
    defs₀ (F := F) (.scVector c s) 0 () = SparseCore.onTile hcore0 hsub0 (fun c s => printed (F := F) (tileAt c s)) ⟨⟩ c s := rfl

theorem later_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hL : ∀ d j, (L d j).toNat < 256) (hX : ∀ d, Small (X d)) : (K (F := F)).TileObl (D (F := F)) 𝒱 (P X L T) v₀ 0 := by
  intro d c s O W₀ hO _ _
  simp only [show (P X L T).ox = fun _ _ => 0 from rfl, add_zero]
  have hci : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg (D (F := F)) (Pipeline.defs_kernel pcfgs defs₀) 𝒱₀ _ Set.univ none _ _)
  rw [defs₀_tile]; simp only [SparseCore.onTile, hci, and_self, ↓reduceDIte]
  exact (task X L T d (tileAt ⟨_, hci.1⟩ ⟨_, hci.2⟩) hL hX O W₀ hO).trans (wp_mono frame _ _ fun _ => later_post)

end Task

end Cert.KernelIdeal.Own
-- ==== Proof.Launch.lean ====
/- The whole program's run: the host's operations before and after the call, and what every run leaves. -/
module

public import proofs.«01_k».proof.Proof.Task
public import Idealize.ShloMosaic.Lib.Pipeline.Frame

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

open Idealize.ShloMosaic.SparseCore
open Idealize.ShloMosaic.Rounds
open Idealize.ShloMosaic.StableHlo (held after TRef)
open Idealize.ShloMosaic.Pipeline (ucRefs unscopedBufs_held sub_ucRefs)

variable {F : FTy → Type} [FloatOps F]

local notation "𝕄" => MT nD τ sig (HIx 1) (Elt F) ℕ UU ℕ

/-! ## The values around the call -/

/-- The rows as the call takes them: padded to 256 columns, in two halves. -/
def xOf (x : S16384x200.Idx → BitVec 32) : S16384x2x128.Idx → BitVec 32 :=
  shapeCast S16384x2x128 (pad S16384x256 ![0, 0] ![0, 56] ![0, 0] x (constantI S_ 32 0#32) pads_S16384x200_S16384x256_000_0560 h_S_) shapeCasts_S16384x256_S16384x2x128

/-- The table as the call takes it. -/
def tOf (t : S8x8.Idx → Elt F .f32) : S64.Idx → Elt F .f32 := shapeCast S64 t shapeCasts_S8x8_S64

/-- The first result from what the call leaves. -/
def rOf (o : S200x128x8x128.Idx → Elt F .f32) : S16384x200x8.Idx → Elt F .f32 :=
  shapeCast S16384x200x8 (transpose S128x128x200x8 [1, 3, 0, 2] o transposes_S200x128x8x128_S128x128x200x8_1_3_0_2) shapeCasts_S128x128x200x8_S16384x200x8

/-! ## The operations before and after the call -/

abbrev opsA : List (HloOp τ sig (Elt F)) :=
  [StableHlo.nullary main_c (constantI S_ 32 0#32),
    TRef.unary (TRef.of (T := ⟨S_, .i32⟩) main_c) (TRef.of (T := ⟨S_, .i32⟩) main_call0_v0) id,
    TRef.binary (TRef.of (T := ⟨S16384x200, .i32⟩) main_arg0) (TRef.of (T := ⟨S_, .i32⟩) main_call0_v0) (TRef.of (T := ⟨S16384x256, .i32⟩) main_v0) (fun x v => pad S16384x256 ![0, 0] ![0, 56] ![0, 0] x v pads_S16384x200_S16384x256_000_0560 h_S_),
    StableHlo.reshape main_v0 main_v1 (rfl : (.i32 : EltTy) = .i32) shapeCasts_S16384x256_S16384x2x128,
    StableHlo.reshape main_arg2 main_v2 (rfl : (.f32 : EltTy) = .f32) shapeCasts_S8x8_S64]

abbrev opsB : List (HloOp τ sig (Elt F)) :=
  [StableHlo.unary main_v3_0 main_v4 ((transpose S128x128x200x8 [1, 3, 0, 2] · transposes_S200x128x8x128_S128x128x200x8_1_3_0_2) : (⟨S200x128x8x128, .f32⟩ : BufTy).Contents (Elt F) → (⟨S128x128x200x8, .f32⟩ : BufTy).Contents (Elt F)),
    StableHlo.reshape main_v4 main_v5 (rfl : (.f32 : EltTy) = .f32) shapeCasts_S128x128x200x8_S16384x200x8]

theorem main_eq (d : Dev nD) : (main (F := F)) d = StableHlo.seq opsA >>= fun _ => (sc (F := F)).run d 0 >>= fun _ => StableHlo.seq opsB >>= fun _ => pure ⟨⟩ := rfl

abbrev dr (b : Ref sig .tc) : DevRef τ sig := Proc.devRef .tc b

theorem A_sub : ∀ op ∈ opsA (F := F), op.bufs ⊆ ucRefs τ sig := by
  intro op h
  refine sub_ucRefs op ?_
  simp only [opsA, List.mem_cons, List.not_mem_nil, or_false] at h
  rcases h with rfl | rfl | rfl | rfl | rfl
  · exact StableHlo.nullary_bufs_sub ..
  · exact StableHlo.unary_bufs_sub ..
  · exact StableHlo.binary_bufs_sub ..
  · exact StableHlo.reshape_bufs_sub ..
  · exact StableHlo.reshape_bufs_sub ..
theorem A_fresh : ∀ op ∈ opsA (F := F), op.fresh = ∅ := by
  intro _ h; (repeat (cases h with | head => rfl | tail _ h => ?_)); exact nomatch h
theorem B_sub : ∀ op ∈ opsB (F := F), op.bufs ⊆ ucRefs τ sig := by
  intro op h
  refine sub_ucRefs op ?_
  simp only [opsB, List.mem_cons, List.not_mem_nil, or_false] at h
  rcases h with rfl | rfl
  · exact StableHlo.unary_bufs_sub ..
  · exact StableHlo.reshape_bufs_sub ..
theorem B_fresh : ∀ op ∈ opsB (F := F), op.fresh = ∅ := by
  intro _ h; (repeat (cases h with | head => rfl | tail _ h => ?_)); exact nomatch h

section Vals
variable (V : Valuation τ sig (Elt F))

theorem A_v1 : after opsA V (dr main_v1) = xOf (V (dr main_arg0)) := by
  simp only [opsA, TRef.binary, TRef.nullary, TRef.ternary, TRef.unary, TRef.toBuf, TRef.ofBuf, cast_eq]
  after_results_simp
  rfl
theorem A_v2 : after opsA V (dr main_v2) = tOf (V (dr main_arg2)) := by
  simp only [opsA, TRef.binary, TRef.nullary, TRef.ternary, TRef.unary, TRef.toBuf, TRef.ofBuf, cast_eq]
  after_results_simp
  rfl
theorem A_arg0 : after opsA V (dr main_arg0) = V (dr main_arg0) := by
  simp only [opsA, TRef.binary, TRef.nullary, TRef.ternary, TRef.unary, TRef.toBuf, TRef.ofBuf, cast_eq]
  after_results_simp
theorem A_arg1 : after opsA V (dr main_arg1) = V (dr main_arg1) := by
  simp only [opsA, TRef.binary, TRef.nullary, TRef.ternary, TRef.unary, TRef.toBuf, TRef.ofBuf, cast_eq]
  after_results_simp
theorem A_arg2 : after opsA V (dr main_arg2) = V (dr main_arg2) := by
  simp only [opsA, TRef.binary, TRef.nullary, TRef.ternary, TRef.unary, TRef.toBuf, TRef.ofBuf, cast_eq]
  after_results_simp

theorem B_v5 : after opsB V (dr main_v5) = rOf (V (dr main_v3_0)) := by
  simp only [opsB]
  after_results_simp
  rfl
theorem B_keep (b : Ref sig .tc) (h4 : b ≠ main_v4) (h5 : b ≠ main_v5) : after opsB V (dr b) = V (dr b) :=
  (StableHlo.result_of_writes_ne _ _ main_v5 b rfl h5).trans (StableHlo.result_of_writes_ne _ _ main_v4 b rfl h4)

end Vals

section Run
variable (m : (ℓ : Loc nD τ sig) → Buf (Elt F) ℓ) (ρ : Dev nD → PrngReg)

/-- The arguments. -/
abbrev a0 (d : Dev nD) : S16384x200.Idx → BitVec 32 := m ((SparseCore.T d : Thread nD τ).loc main_arg0)
abbrev a1 (d : Dev nD) : S16384.Idx → BitVec 32 := m ((SparseCore.T d : Thread nD τ).loc main_arg1)
abbrev a2 (d : Dev nD) : S8x8.Idx → Elt F .f32 := m ((SparseCore.T d : Thread nD τ).loc main_arg2)

/-- What the call is given, per device. -/
abbrev Xm (d : Dev nD) : S16384x2x128.Idx → BitVec 32 := xOf (a0 m d)
abbrev Tm (d : Dev nD) : S64.Idx → Elt F .f32 := tOf (a2 m d)

/-- The contents at the launch, at the call, after it, and at the end. -/
def V0 (d : Dev nD) : Valuation τ sig (Elt F) := fun b => m (d, b)
def V1 (d : Dev nD) : Valuation τ sig (Elt F) := after opsA (V0 m d)
def V2 (d : Dev nD) : Valuation τ sig (Elt F) :=
  Function.update (Function.update (Function.update (V1 m d) (dr main_v3_0) (outT (Tm m d) (Xm m d) (lenOf (a1 m d)))) (dr main_v3_1) (slT (a1 m d) (lenOf (a1 m d)))) (dr main_v3_2) (rkT (lenOf (a1 m d)))
def V3 (d : Dev nD) : Valuation τ sig (Elt F) := after opsB (V2 m d)

theorem V2_keep (d : Dev nD) (b : DevRef τ sig) (h0 : b ≠ dr main_v3_0) (h1 : b ≠ dr main_v3_1) (h2 : b ≠ dr main_v3_2) : V2 m d b = V1 m d b :=
  (Function.update_of_ne h2 _ _).trans ((Function.update_of_ne h1 _ _).trans (Function.update_of_ne h0 _ _))
theorem V2_out (d : Dev nD) : V2 m d (dr main_v3_0) = outT (Tm m d) (Xm m d) (lenOf (a1 m d)) :=
  (Function.update_of_ne (show dr main_v3_0 ≠ dr main_v3_2 by decide) _ _).trans ((Function.update_of_ne (show dr main_v3_0 ≠ dr main_v3_1 by decide) _ _).trans (Function.update_self _ _ _))
theorem V2_sl (d : Dev nD) : V2 m d (dr main_v3_1) = slT (a1 m d) (lenOf (a1 m d)) :=
  (Function.update_of_ne (show dr main_v3_1 ≠ dr main_v3_2 by decide) _ _).trans (Function.update_self _ _ _)
theorem V2_rk (d : Dev nD) : V2 m d (dr main_v3_2) = rkT (lenOf (a1 m d)) := Function.update_self _ _ _

/-- The arrays of the call. -/
abbrev six : Finset (DevRef τ sig) := {dr main_v1, dr main_arg1, dr main_v2, dr main_v3_0, dr main_v3_1, dr main_v3_2}

theorem six_sub : six ⊆ ucRefs τ sig := by
  intro b hb
  simp only [six, Finset.mem_insert, Finset.mem_singleton] at hb
  rcases hb with rfl | rfl | rfl | rfl | rfl | rfl <;> exact Finset.mem_filter.mpr ⟨StableHlo.devRef_mem_tcRefs _, by decide⟩

theorem held_six (d : Dev nD) (V : Valuation τ sig (Elt F)) :
    (held (T d) six V : sProp 𝕄) = iprop(ar (F := F) d main_v1 (V (dr main_v1)) ∗ ar (F := F) d main_arg1 (V (dr main_arg1)) ∗ ar (F := F) d main_v2 (V (dr main_v2))
      ∗ ar (F := F) d main_v3_0 (V (dr main_v3_0)) ∗ ar (F := F) d main_v3_1 (V (dr main_v3_1)) ∗ ar (F := F) d main_v3_2 (V (dr main_v3_2))) := by
  unfold held six
  rw [SparseCore.bigSep_insert' (by decide), SparseCore.bigSep_insert' (by decide), SparseCore.bigSep_insert' (by decide), SparseCore.bigSep_insert' (by decide),
    SparseCore.bigSep_insert' (by decide), bigSep_singleton]

theorem give (d : Dev nD) : (held (T d) (ucRefs τ sig) (V1 m d) : sProp 𝕄)
    ⊢ iprop((bigSep Finset.univ fun c : Fin 2 => coreIn (F := F) (Xm m) (a1 m) (Tm m) d c) ∗ held (T d) (ucRefs τ sig \ six) (V1 m d)) := by
  rw [StableHlo.held_sub_split (T d) six_sub, held_six]
  rw [show V1 m d (dr main_v1) = Xm m d from A_v1 _, show V1 m d (dr main_v2) = Tm m d from A_v2 _, show V1 m d (dr main_arg1) = a1 m d from A_arg1 _]
  iintro ⟨⟨HX, HL, HT, Ho, Hs, Hr⟩, Hh⟩
  isplitr [Hh]
  · iapply (deal (F := F) d (Xm m d) (a1 m d) (Tm m d) _ _ _)
    unfold Srcs
    isplitl [HX HL HT]
    · isplitl [HX]; · iexact HX
      isplitl [HL]; · iexact HL
      iexact HT
    isplitl [Ho]; · iexact Ho
    isplitl [Hs]; · iexact Hs
    iexact Hr
  iexact Hh

theorem take (d : Dev nD) : iprop((bigSep Finset.univ fun c : Fin 2 => coreOut (F := F) (Xm m) (a1 m) (Tm m) d c) ∗ held (T d) (ucRefs τ sig \ six) (V1 m d))
    ⊢ (held (T d) (ucRefs τ sig) (V2 m d) : sProp 𝕄) := by
  rw [StableHlo.held_sub_split (T d) six_sub (V2 m d), held_six, V2_out, V2_sl, V2_rk]
  rw [show V2 m d (dr main_v1) = Xm m d from (V2_keep m d _ (by decide) (by decide) (by decide)).trans (A_v1 _),
    show V2 m d (dr main_v2) = Tm m d from (V2_keep m d _ (by decide) (by decide) (by decide)).trans (A_v2 _),
    show V2 m d (dr main_arg1) = a1 m d from (V2_keep m d _ (by decide) (by decide) (by decide)).trans (A_arg1 _)]
  rw [StableHlo.held_congr (T d) (S := ucRefs τ sig \ six) (V := V2 m d) (V' := V1 m d) (fun b hb => by
    have hn := (Finset.mem_sdiff.mp hb).2
    exact V2_keep m d b (fun e => hn (by rw [e]; decide)) (fun e => hn (by rw [e]; decide)) (fun e => hn (by rw [e]; decide)))]
  iintro ⟨Hc, Hh⟩
  ihave H := (show (bigSep Finset.univ fun c : Fin 2 => coreOut (F := F) (Xm m) (a1 m) (Tm m) d c) ⊢ _ from collect (F := F) d (Xm m d) (a1 m d) (Tm m d)) $$ Hc
  unfold Srcs
  icases H with ⟨⟨HX, HL, HT⟩, Ho, Hs, Hr⟩
  isplitr [Hh]
  · isplitl [HX]; · iexact HX
    isplitl [HL]; · iexact HL
    isplitl [HT]; · iexact HT
    isplitl [Ho]; · iexact Ho
    isplitl [Hs]; · iexact Hs
    iexact Hr
  iexact Hh

/-! ## The launch element of the ghost state -/

abbrev Pm : (K (F := F)).Pay (nD := nD) (Val := Elt F) (Name := ℕ) (U := UU) := P (Xm m) (a1 m) (Tm m)

def u₀ : UU := (initOf (K (F := F)).hsCells (K (F := F)).hsToks, 1)

theorem emp_all {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (Pm m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emp_all]; iempintro
  rw [show (bigSep Finset.univ fun thr : Thread nD τ => bigSep Finset.univ fun q : Fin 1 => (Pm (F := F) m).x q thr) = bigSep Finset.univ fun _ => iprop(emp) from
    bigSep_congr fun _ _ => bigSep_univ_of_subsingleton (0 : Fin 1), emp_all]
  iempintro

/-! ## The program on the TensorCore -/

theorem hmain (κ : GSem nD τ sig → ℕ) (d : Dev nD) :
    iprop((K (F := F)).ctx EH (Pm m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ held (T d) (ucRefs τ sig) (V3 m d) ∗ (K (F := F)).tcEnd d) := by
  unfold SparseCore.Cfg.tcRes SparseCore.Cfg.tcEnd
  rw [show (unscopedBufs d (fun b => m ((SparseCore.T d : Thread nD τ).loc b)) : sProp 𝕄) = held (T d) (ucRefs τ sig) (V0 m d) from unscopedBufs_held d (V0 m d), main_eq]
  iintro ⟨#Hctx, Hst, ⟨Hb, Hheld, Hts, -⟩, -⟩
  iapply (StableHlo.wp_seq 𝒱 none Set.univ d (ucRefs τ sig) _ opsA
    A_sub A_fresh (V0 m d)) $$ [Hb Hheld]
  · isplitl [Hb]; · iexact Hb
    iexact Hheld
  iintro ⟨Hb, Hheld⟩
  ihave Hg := (show (held (T d) (ucRefs τ sig) (after opsA (V0 m d)) : sProp 𝕄) ⊢ _ from give (F := F) m d) $$ Hheld
  icases Hg with ⟨Hc, Hh⟩
  rw [wp_bind]
  iapply ((K (F := F)).wp_run (D (F := F)) 𝒱 (EH := EH) (P := Pm m) κ d 0) $$ [Hst Hc Hh Hb Hts]
  isplitr; · iexact Hctx
  isplitl [Hst]; · iexact Hst
  isplitl [Hc]; · iexact Hc
  iintro ⟨Hst, Hdn⟩
  ihave Hheld := (take (F := F) m d) $$ [Hdn Hh]
  · isplitl [Hdn]; · iexact Hdn
    iexact Hh
  iapply (StableHlo.wp_seq 𝒱 none Set.univ d (ucRefs τ sig) _ opsB
    B_sub B_fresh (V2 m d)) $$ [Hb Hheld]
  · isplitl [Hb]; · iexact Hb
    iexact Hheld
  iintro ⟨Hb, Hheld⟩
  rw [wp_pure]
  imodintro
  isplitl [Hst]; · iexact Hst
  isplitl [Hheld]; · iexact Hheld
  isplitl [Hb] <;> iassumption

/-- What the end state holds on one device. -/
def fq (d : Dev nD) (s' : Phys nD τ sig (Elt F)) : Prop := ∀ b ∈ ucRefs τ sig, s'.mem.mem (d, b) = V3 m d b

theorem hfin (d : Dev nD) (s' : Phys nD τ sig (Elt F)) : iprop(held (T d) (ucRefs τ sig) (V3 m d) ∗ SI s') ⊢ (⌜fq m d s'⌝ : sProp 𝕄) := by
  unfold held
  iintro ⟨H, HSI⟩
  ihave %h := (SI_pointsTo_bufs_agree (st := s') (qs := fun _ => fullShare) (ucRefs τ sig)) $$ [HSI H]
  · isplitl [HSI]; · iexact HSI
    iexact H
  ipureintro
  exact h

/-- What every run leaves: the three results, the arguments as they were, every semaphore at zero. -/
structure Left (r : PUnit × MemSt nD τ sig (Elt F)) : Prop where
  out (c : Dev nD) : r.2.mem ((c.tc : Thread nD τ).loc main_v5) = rOf (outT (Tm m c) (Xm m c) (lenOf (a1 m c)))
  sl (c : Dev nD) : r.2.mem ((c.tc : Thread nD τ).loc main_v3_1) = slT (a1 m c) (lenOf (a1 m c))
  rk (c : Dev nD) : r.2.mem ((c.tc : Thread nD τ).loc main_v3_2) = rkT (lenOf (a1 m c))
  arg0 (c : Dev nD) : r.2.mem ((c.tc : Thread nD τ).loc main_arg0) = m ((c.tc : Thread nD τ).loc main_arg0)
  arg1 (c : Dev nD) : r.2.mem ((c.tc : Thread nD τ).loc main_arg1) = m ((c.tc : Thread nD τ).loc main_arg1)
  arg2 (c : Dev nD) : r.2.mem ((c.tc : Thread nD τ).loc main_arg2) = m ((c.tc : Thread nD τ).loc main_arg2)
  sem : r.2.sem = fun _ => 0

theorem mem_uc (b : Ref sig .tc) (h : ¬ (dr b).isScoped) : dr b ∈ ucRefs τ sig := Finset.mem_filter.mpr ⟨StableHlo.devRef_mem_tcRefs _, h⟩

theorem left_of (r : PUnit × MemSt nD τ sig (Elt F)) (h : ∀ d, ∀ b ∈ ucRefs τ sig, r.2.mem (d, b) = V3 m d b) (hz : r.2.sem = fun _ => 0) : Left m r where
  out c := (h c _ (mem_uc main_v5 (by decide))).trans ((B_v5 _).trans (congrArg rOf (V2_out m c)))
  sl c := (h c _ (mem_uc main_v3_1 (by decide))).trans ((B_keep _ main_v3_1 (by decide) (by decide)).trans (V2_sl m c))
  rk c := (h c _ (mem_uc main_v3_2 (by decide))).trans ((B_keep _ main_v3_2 (by decide) (by decide)).trans (V2_rk m c))
  arg0 c := (h c _ (mem_uc main_arg0 (by decide))).trans ((B_keep _ main_arg0 (by decide) (by decide)).trans ((V2_keep m c _ (by decide) (by decide) (by decide)).trans (A_arg0 _)))
  arg1 c := (h c _ (mem_uc main_arg1 (by decide))).trans ((B_keep _ main_arg1 (by decide) (by decide)).trans ((V2_keep m c _ (by decide) (by decide) (by decide)).trans (A_arg1 _)))
  arg2 c := (h c _ (mem_uc main_arg2 (by decide))).trans ((B_keep _ main_arg2 (by decide) (by decide)).trans ((V2_keep m c _ (by decide) (by decide) (by decide)).trans (A_arg2 _)))
  sem := hz

/-- The run. -/
theorem run_main [∀ e, Nonempty (Elt F e)] (hL : ∀ d j, (a1 m d j).toNat < 256) (hX : ∀ d, Small (Xm m d)) :
    θ_run (Cert.KernelIdeal.defs (F := F)) (Cert.KernelIdeal.threads (F := F)) ⟨m, fun _ => 0, ρ⟩ (Left m) :=
  SparseCore.Cfg.θ_run_sc_quiescent (K := K (F := F)) (D := D (F := F)) (𝒱 := 𝒱) (EH := EH) (P := Pm m) (A := ∅) facts v₀
    (fun q hq => match q with | 0 => nomatch hq)
    (fun q _ => match q with | 0 => tileObl (Xm m) (a1 m) (Tm m) hL hX)
    (fun q _ => match q with | 0 => SparseCore.Cfg.VecSplit.of_plain (vecSplit (Xm m) (a1 m) (Tm m)))
    m ρ main (fun _ => iprop(emp)) (fun d => held (T d) (ucRefs τ sig) (V3 m d)) (u₀ (F := F)) (sep_elim_left.trans (hu₀ m)) (hmain m ρ) (fq m) (hfin m) (Left m)
    (fun r h hz => left_of m (⟨⟩, r.mem) h hz)

end Run

end Cert.KernelIdeal.Own
-- ==== Proof.Ranges.lean ====
/- The ranges that the claims suppose, read from the predicate as it prints. -/
module

public import proofs.«01_k».proof.Proof.Launch
public import proofs.«01_k».proof.Proof.Gen.Pre_ranges
public import Idealize.ShloMosaic.Lib.ReduceAll
public import Idealize.ShloMosaic.Lib.KernelVsHost
public import Idealize.ShloMosaic.Lib.Pipeline.Value

@[expose] public section

noncomputable section

namespace Cert.KernelIdeal.Own

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

abbrev at2 {n0 n1 : ℕ} (a b : ℕ) (ha : a < n0) (hb : b < n1) : (⟨2, ![n0, n1]⟩ : Shape).Idx := fun x =>
  match x with
  | ⟨0, _⟩ => ⟨a, ha⟩
  | ⟨1, _⟩ => ⟨b, hb⟩

theorem at2_eta {n0 n1 : ℕ} (j : (⟨2, ![n0, n1]⟩ : Shape).Idx) : j = at2 (j 0).val (j 1).val (j 0).isLt (j 1).isLt := by
  funext a
  match a with
  | ⟨0, _⟩ => rfl
  | ⟨1, _⟩ => rfl

/-- The arguments within their ranges. -/
structure Ranged (x : S16384x200.Idx → BitVec 32) (L : S16384.Idx → BitVec 32) : Prop where
  x_lt : ∀ i, (x i).toNat < 8
  len_pos : ∀ i, 1 ≤ (L i).toNat
  len_le : ∀ i, (L i).toNat ≤ 200

theorem Ranged.len {x : S16384x200.Idx → BitVec 32} {L : S16384.Idx → BitVec 32} (h : Ranged x L) (i : S16384.Idx) : (L i).toNat < 256 := by
  have := h.len_le i; omega

theorem nat_lo {w : BitVec 32} {n : ℕ} (hn : n < 2147483648) (h : ((BitVec.ofNat 32 n).toInt) ≤ w.toInt) : n ≤ w.toNat ∧ w.toNat < 2147483648 := by
  rw [BitVec.toInt_eq_toNat_cond, BitVec.toInt_eq_toNat_cond, BitVec.toNat_ofNat] at h
  have := w.isLt
  split at h <;> split at h <;> omega

theorem nat_hi {w : BitVec 32} {n : ℕ} (hn : n < 2147483648) (hw : w.toNat < 2147483648) (h : w.toInt ≤ (BitVec.ofNat 32 n).toInt) : w.toNat ≤ n := by
  rw [BitVec.toInt_eq_toNat_cond, BitVec.toInt_eq_toNat_cond, BitVec.toNat_ofNat] at h
  split at h <;> split at h <;> omega

theorem nat_hi' {w : BitVec 32} {n : ℕ} (hn : n < 2147483648) (hw : w.toNat < 2147483648) (h : w.toInt < (BitVec.ofNat 32 n).toInt) : w.toNat < n := by
  rw [BitVec.toInt_eq_toNat_cond, BitVec.toInt_eq_toNat_cond, BitVec.toNat_ofNat] at h
  split at h <;> split at h <;> omega

theorem ranged_of (x : S16384x200.Idx → BitVec 32) (L : S16384.Idx → BitVec 32) (t : S8x8.Idx → F .f32) (h : Cert.Pre_ranges.fn (F := F) x L t = fun _ => 1#1) : Ranged x L := by
  have h0 := congrFun h (Shape.Idx.first h_S_)
  unfold Cert.Pre_ranges.fn at h0
  obtain ⟨h1, hle⟩ := IntOp.andi_eq_one.1 h0
  obtain ⟨h2, hge⟩ := IntOp.andi_eq_one.1 h1
  obtain ⟨h3, h4⟩ := IntOp.andi_eq_one.1 h2
  have x0 : ∀ i, 0 ≤ (x i).toNat ∧ (x i).toNat < 2147483648 := fun i =>
    nat_lo (n := 0) (by decide) (IntOp.cmpi_sge.1 (Host.reduce_andi_all _ _ _ _ _ h3 i))
  have l0 : ∀ i, 1 ≤ (L i).toNat ∧ (L i).toNat < 2147483648 := fun i =>
    nat_lo (n := 1) (by decide) (IntOp.cmpi_sge.1 (Host.reduce_andi_all _ _ _ _ _ hge i))
  exact ⟨fun i => nat_hi' (n := 8) (by decide) (x0 i).2 (IntOp.cmpi_slt.1 (Host.reduce_andi_all _ _ _ _ _ h4 i)),
    fun i => (l0 i).1,
    fun i => nat_hi (n := 200) (by decide) (l0 i).2 (IntOp.cmpi_sle.1 (Host.reduce_andi_all _ _ _ _ _ hle i))⟩

/-- A looked-up column of the padded rows is the argument's. -/
theorem xOf_at (x : S16384x200.Idx → BitVec 32) (n : ℕ) (hn : n < 16384) (t : ℕ) (ht : t < 200) :
    xOf x (at3 n (t / 128) (t % 128) hn (by omega) (by omega)) = x (at2 n t hn ht) := by
  unfold xOf
  refine (shapeCast_apply _ _ _ (at2 (n0 := 16384) (n1 := 256) n t hn (by omega)) ?_).trans ?_
  · rw [Shape.rowMajor_val_two, Shape.rowMajor_val_three]
    show n * 256 + t = (n * 2 + t / 128) * 128 + t % 128
    omega
  · refine pad_apply_of_inside _ _ _ _ _ _ _ _ _ fun a => ?_
    match a with
    | ⟨0, _⟩ => show n = 0 + n * (0 + 1); omega
    | ⟨1, _⟩ => show t = 0 + t * (0 + 1); omega

theorem small_of {x : S16384x200.Idx → BitVec 32} (h : ∀ i, (x i).toNat < 8) : Small (xOf x) := fun n hn t ht => by
  rw [xOf_at x n hn t ht]; exact h _

end Cert.KernelIdeal.Own

end
-- ==== Proof.Frames.lean ====
/- The claims about one program each: both prints of the kernel and the reference run, and leave their arguments as they were. -/
module

public import proofs.«01_k».proof.Defs
public import proofs.«01_k».proof.Proof.Ranges
public import proofs.«01_k».proof.Proof.Gen.Kernel
public import proofs.«01_k».proof.Proof.Gen.ReferenceIdeal
public import proofs.«01_k».proof.Proof.Gen.ReferenceIdeal.Run

@[expose] public section

noncomputable section

namespace Cert.KernelIdeal.Own

open Idealize.ShloMosaic Idealize.SL.Sem

/-- The run of the kernel in the ranges, over any float values. -/
theorem run_in {F : FTy → Type} [FloatOps F] [∀ e, Nonempty (Elt F e)] (m : (ℓ : Loc Cert.KernelIdeal.nD Cert.KernelIdeal.τ Cert.KernelIdeal.sig) → Buf (Elt F) ℓ) (ρ : Dev Cert.KernelIdeal.nD → PrngReg)
    (h : ∀ d, Ranged (a0 m d) (a1 m d)) : θ_run Cert.KernelIdeal.defs Cert.KernelIdeal.threads ⟨m, fun _ => 0, ρ⟩ (Left m) :=
  run_main m ρ (fun d => (h d).len) fun d => small_of (h d).x_lt

theorem frame_kernel : Cert.quiescent_Kernel := fun m ρ hp =>
  (θ_run Cert.KernelIdeal.defs _ _).mono (fun _ h => ⟨fun c => ⟨h.arg0 c, h.arg1 c, h.arg2 c⟩, h.sem⟩) (run_in (F := Bits) m ρ fun d => ranged_of _ _ _ (hp d))

theorem frame_kernelIdeal : Cert.quiescent_KernelIdeal := fun m ρ hp =>
  (θ_run Cert.KernelIdeal.defs _ _).mono (fun _ h => ⟨fun c => ⟨h.arg0 c, h.arg1 c, h.arg2 c⟩, h.sem⟩) (run_in (F := Ideal) m ρ fun d => ranged_of _ _ _ (hp d))

theorem frame_reference : Cert.quiescent_ReferenceIdeal := fun m ρ _ =>
  (θ_run Cert.ReferenceIdeal.defs _ _).mono (fun r h => ⟨fun c => (h c).2.2.2, Idealize.ShloMosaic.sem_eq_zero_of_no_sems (by decide) r.2⟩) (Cert.ReferenceIdeal.Value.run (F := Ideal) m ρ)

theorem frame_reference_ranges : Cert.quiescent_ReferenceIdeal_pre_ranges := fun m ρ _ => frame_reference m ρ trivial

end Cert.KernelIdeal.Own

end
-- ==== Proof.Sorts.lean ====
/- The reference's two stable sorts, read: the first leaves the order of the entries, the second their ranks. -/
module

public import proofs.«01_k».proof.ReferenceIdeal
public import proofs.«01_k».proof.Proof.Ranges
public import proofs.«01_k».proof.Proof.Gen.ReferenceIdeal
public import Idealize.ShloMosaic.Lib.PlanTiles.StableSort
public import Idealize.ShloMosaic.Lib.PlanTiles.Words
public import Idealize.ShloMosaic.Lib.SortFacts

@[expose] public section

noncomputable section

namespace Cert.ReferenceIdeal.Own

open Cert.ReferenceIdeal Cert.ReferenceIdeal.Gen
open Idealize.ShloMosaic
open Cert.KernelIdeal.Own (at1 at1_eta Before rank rankE rankFin rank_lt rank_lt_of_before rank_ord ord ord_eq ent ent_lt lenOf rkT)

/-- A strictly increasing map of the first `N` numbers to themselves moves none. -/
theorem mono_id {N : ℕ} (f : Fin N → Fin N) (h : StrictMono f) (r : Fin N) : f r = r := by
  have st : ∀ k (a : Fin N) (h' : a.val + k < N), (f a).val + k ≤ (f ⟨a.val + k, h'⟩).val := fun k => by
    induction k with
    | zero => exact fun a h' => le_refl _
    | succ k ih =>
      intro a h'
      have h1 := ih a (by omega)
      have h2 : (f ⟨a.val + k, by omega⟩).val < (f ⟨a.val + (k + 1), h'⟩).val := h (by show a.val + k < a.val + (k + 1); omega)
      omega
  have hr := r.isLt
  have h1 := st r.val ⟨0, by omega⟩ (by show 0 + r.val < N; omega)
  have h2 : (f ⟨0 + r.val, by omega⟩).val = (f r).val := congrArg (fun x => (f x).val) (Fin.ext (Nat.zero_add _))
  have h3 := st (N - 1 - r.val) r (by omega)
  have h4 := (f ⟨r.val + (N - 1 - r.val), by omega⟩).isLt
  refine Fin.ext ?_
  have h5 : (f ⟨0, by omega⟩).val + r.val ≤ (f r).val := h2 ▸ h1
  omega

/-- The stable sort by a falling number leaves the order. -/
theorem sortedFrom_ord (N : ℕ) (G : ℕ → ℕ) (r : Fin N) : sortedFrom (fun a b : Fin N => decide (G b.val < G a.val)) r = ord N G r := by
  have hp : (sortPositions N fun a b : Fin N => decide (G b.val < G a.val)).Pairwise (PlanTiles.Lex (fun a : Fin N => G a.val) (· < ·)) :=
    PlanTiles.pairwise_stableSort_lex (fun a : Fin N => G a.val) (· < ·) (List.finRange N) (List.pairwise_lt_finRange N)
  have hb : ∀ i j : Fin N, i < j → Before G (sortedFrom (fun a b : Fin N => decide (G b.val < G a.val)) i).val (sortedFrom (fun a b : Fin N => decide (G b.val < G a.val)) j).val := fun i j hij => by
    have hg := List.pairwise_iff_get.mp hp (i.cast (length_sortPositions N _).symm) (j.cast (length_sortPositions N _).symm) hij
    exact hg
  have hm : StrictMono fun i : Fin N => rankFin N G (sortedFrom (fun a b : Fin N => decide (G b.val < G a.val)) i) := fun i j hij =>
    rank_lt_of_before N G (Fin.isLt _) (Fin.isLt _) (hb i j hij)
  exact (ord_eq N G (congrArg Fin.val (mono_id _ hm r))).symm

/-- The printed sort, read. -/
theorem sort_at {n : ℕ} (cmp : BitVec 32 × BitVec 32 → BitVec 32 × BitVec 32 → BitVec 1) (hc : ∀ l r, cmp l r = IntOp.cmpi .slt l.1 r.1)
    (x y : (⟨1, ![n]⟩ : Shape).Idx → BitVec 32) (G : ℕ → ℕ) (hx : ∀ a b (ha : a < n) (hb : b < n), (x (at1 a ha)).slt (x (at1 b hb)) = decide (G b < G a)) (r : ℕ) (hr : r < n) :
    (Host.sort2 (⟨1, ![n]⟩ : Shape) 0 cmp x y).2 (at1 r hr) = y (at1 (ord n G ⟨r, hr⟩).val (Fin.isLt _)) := by
  have hd : 0 < (⟨1, ![n]⟩ : Shape).rank := Nat.zero_lt_one
  have e : ∀ (j : (⟨1, ![n]⟩ : Shape).Idx) (c : Fin n), j.along (⟨0, hd⟩ : Fin (⟨1, ![n]⟩ : Shape).rank) c = at1 c.val c.isLt := fun j c =>
    (Shape.Idx.along_rank1 j c).trans (by funext a; rw [Fin.eq_zero a]; rfl)
  have hbf : ∀ j : (⟨1, ![n]⟩ : Shape).Idx,
      (fun a b : Fin n => cmp (x (j.along ⟨0, hd⟩ a), y (j.along ⟨0, hd⟩ a)) (x (j.along ⟨0, hd⟩ b), y (j.along ⟨0, hd⟩ b)) == 1#1)
        = fun a b => decide (G b.val < G a.val) := fun j => by
    funext a b
    rw [hc]
    show (BitVec.ofBool ((x (j.along ⟨0, hd⟩ a)).slt (x (j.along ⟨0, hd⟩ b))) == 1#1) = _
    rw [e j a, e j b, hx a.val b.val a.isLt b.isLt]
    by_cases h : G b.val < G a.val <;> simp [h]
  have hs : sortedFrom (n := n)
      (fun a b : Fin n => cmp (x ((at1 r hr).along ⟨0, hd⟩ a), y ((at1 r hr).along ⟨0, hd⟩ a)) (x ((at1 r hr).along ⟨0, hd⟩ b), y ((at1 r hr).along ⟨0, hd⟩ b)) == 1#1) ⟨r, hr⟩
        = ord n G ⟨r, hr⟩ := by
    rw [hbf (at1 r hr)]
    exact sortedFrom_ord n G ⟨r, hr⟩
  unfold Host.sort2
  rw [dif_pos hd]
  exact (congrArg (fun c : Fin n => y ((at1 r hr).along ⟨0, hd⟩ c)) hs).trans (congrArg y (e _ _))

/-- The order of the entries by falling lengths, as the reference has it. -/
def argA (L : S16384.Idx → BitVec 32) : S16384.Idx → BitVec 32 := (Host.sort2 S16384 0 comparator_i32_i32_d0 (negi L) (iotaInDim S16384 32 0)).2

/-- The order of those. -/
def argB (L : S16384.Idx → BitVec 32) : S16384.Idx → BitVec 32 := (Host.sort2 S16384 0 comparator_i32_i32_d0 (argA L) (iotaInDim S16384 32 0)).2

theorem argA_at {L : S16384.Idx → BitVec 32} (hL : ∀ i, (L i).toNat < 256) (p : ℕ) (hp : p < 16384) :
    argA L (at1 p hp) = BitVec.ofNat 32 (ent (lenOf L) p hp) := by
  refine (sort_at (n := 16384) comparator_i32_i32_d0 (fun _ _ => rfl) (negi L) (iotaInDim S16384 32 0) (lenOf L) ?_ p hp).trans ?_
  · intro a b ha hb
    have f : ∀ k (hk : k < 16384), negi L (at1 k hk) = -BitVec.ofNat 32 (lenOf L k) := fun k hk => by
      unfold lenOf; rw [dif_pos hk]
      show -(L (at1 k hk)) = _
      rw [BitVec.ofNat_toNat, BitVec.setWidth_eq]
    have g : ∀ k, lenOf L k < 2 ^ 31 := fun k => by
      unfold lenOf; split
      · exact lt_trans (hL _) (by decide)
      · decide
    rw [f a ha, f b hb, PlanTiles.slt_neg_ofNat32 (g a) (g b)]
  · rfl

theorem slt_nat {a b : ℕ} (ha : a < 2 ^ 31) (hb : b < 2 ^ 31) : (BitVec.ofNat 32 a).slt (BitVec.ofNat 32 b) = decide (a < b) := by
  rw [BitVec.slt_eq_decide, BitVec.toInt_eq_toNat_cond, BitVec.toInt_eq_toNat_cond, BitVec.toNat_ofNat, BitVec.toNat_ofNat, Nat.mod_eq_of_lt (by omega), Nat.mod_eq_of_lt (by omega), if_pos (by omega), if_pos (by omega)]
  exact decide_eq_decide.mpr (by omega)

/-- The numbers that fall as the order rises. -/
def back (l : ℕ → ℕ) (a : ℕ) : ℕ := if h : a < 16384 then 16384 - ent l a h else 0

theorem ent_rank (l : ℕ → ℕ) (n : ℕ) (hn : n < 16384) : ent l (rank 16384 l n) (rank_lt 16384 l hn) = n :=
  congrArg Fin.val (ord_eq 16384 l (p := ⟨_, rank_lt 16384 l hn⟩) (n := ⟨n, hn⟩) rfl)

theorem ord_back (l : ℕ → ℕ) (r : Fin 16384) : (ord 16384 (back l) r).val = rank 16384 l r.val := by
  have v : ∀ n : Fin 16384, back l (rankFin 16384 l n).val = 16384 - n.val := fun n => by
    unfold back
    exact (dif_pos (rank_lt 16384 l n.isLt)).trans (congrArg (16384 - ·) (ent_rank l n.val n.isLt))
  have hm : StrictMono fun n : Fin 16384 => rankFin 16384 (back l) (rankFin 16384 l n) := fun n n' h =>
    rank_lt_of_before 16384 (back l) (rank_lt 16384 l n.isLt) (rank_lt 16384 l n'.isLt) (Or.inl (by
      have h1 : n.val < n'.val := h
      have h2 := n'.isLt
      rw [v n, v n']
      omega))
  exact congrArg Fin.val (ord_eq 16384 (back l) (p := r) (n := rankFin 16384 l r) (congrArg Fin.val (mono_id _ hm r)))

theorem argB_at {L : S16384.Idx → BitVec 32} (hL : ∀ i, (L i).toNat < 256) (p : ℕ) (hp : p < 16384) :
    argB L (at1 p hp) = BitVec.ofNat 32 (rank 16384 (lenOf L) p) := by
  refine (sort_at (n := 16384) comparator_i32_i32_d0 (fun _ _ => rfl) (argA L) (iotaInDim S16384 32 0) (back (lenOf L)) ?_ p hp).trans ?_
  · intro a b ha hb
    have h1 := ent_lt (lenOf L) a ha
    have h2 := ent_lt (lenOf L) b hb
    refine (congrArg₂ BitVec.slt (argA_at hL a ha) (argA_at hL b hb)).trans ((slt_nat (by omega) (by omega)).trans ?_)
    unfold back
    rw [dif_pos ha, dif_pos hb]
    exact decide_eq_decide.mpr (by omega)
  · exact congrArg (BitVec.ofNat 32) (ord_back (lenOf L) ⟨p, hp⟩)

theorem argB_eq {L : S16384.Idx → BitVec 32} (hL : ∀ i, (L i).toNat < 256) : argB L = rkT (lenOf L) := by
  funext j
  exact (congrArg (argB L) (at1_eta j).symm).trans (argB_at hL (j 0).val (j 0).isLt)

end Cert.ReferenceIdeal.Own

end
-- ==== Proof.Takes.lean ====
/- The reference's three lookups, read at indices within their ranges. -/
module

public import proofs.«01_k».proof.ReferenceIdeal
public import proofs.«01_k».proof.Proof.Ranges
public import proofs.«01_k».proof.Proof.Gen.ReferenceIdeal
public import Idealize.ShloMosaic.Lib.Routing.Ops
public import Idealize.ShloMosaic.Lib.StableHlo.Predicate

@[expose] public section

noncomputable section

namespace Cert.ReferenceIdeal.Own

open Cert.ReferenceIdeal Cert.ReferenceIdeal.Gen
open Idealize.ShloMosaic
open Cert.KernelIdeal.Own (at1 at2 at3 at1_eta at2_eta)

variable {F : FTy → Type} [FloatOps F]

theorem toInt_small {w : BitVec 32} (h : w.toNat < 2147483648) : w.toInt = (w.toNat : Int) := by
  rw [BitVec.toInt_eq_toNat_cond, if_pos (by omega)]

/-- An index that is not negative is taken as it is. -/
theorem fix_small {s : Shape} (q z n : IVec s 32) (hz : ∀ i, z i = 0#32) (hq : ∀ i, (q i).toNat < 2147483648) : select (cmpi .slt q z) (addi q n) q = q := by
  funext i
  have e : cmpi .slt q z i ≠ 1#1 := fun h => by
    have h' : (q i).toInt < (z i).toInt := IntOp.cmpi_slt.1 h
    rw [hz i, toInt_small (hq i)] at h'
    have : (0#32 : BitVec 32).toInt = 0 := by decide
    omega
  unfold select
  exact if_neg e

theorem select_one {s : Shape} {α : Type} (c : s.Idx → BitVec 1) (a b : s.Idx → α) (i : s.Idx) (h : c i = 1#1) : select c a b i = a i := by
  unfold select; exact if_pos h

/-- A word between two others. -/
theorem within {s : Shape} (q z n : IVec s 32) (N : ℕ) (hN : N < 2147483648) (hz : ∀ i, z i = 0#32) (hn : ∀ i, n i = BitVec.ofNat 32 N) (hq : ∀ i, (q i).toNat ≤ N) (i : s.Idx) :
    andi (cmpi .sge q z) (cmpi .sle q n) i = 1#1 := by
  have h0 : (q i).toInt = ((q i).toNat : Int) := toInt_small (lt_of_le_of_lt (hq i) hN)
  have hzi : (z i).toInt = 0 := by rw [hz i]; decide
  have hni : (n i).toInt = (N : Int) := by
    rw [hn i, toInt_small (by rw [BitVec.toNat_ofNat]; omega), BitVec.toNat_ofNat, Nat.mod_eq_of_lt (by omega)]
  refine IntOp.andi_eq_one.2 ⟨IntOp.cmpi_sge.2 ?_, IntOp.cmpi_sle.2 ?_⟩
  · rw [hzi, h0]; exact Int.natCast_nonneg _
  · rw [hni, h0]; exact Int.ofNat_le.2 (hq i)

/-! ## The lookups along the batch -/

def fixI (q : S16384.Idx → BitVec 32) : S16384.Idx → BitVec 32 :=
  select (cmpi .slt q (broadcastInDim S16384 ![] bcast_S_S16384 (constantI S_ 32 0#32))) (addi q (broadcastInDim S16384 ![] bcast_S_S16384 (constantI S_ 32 16384#32))) q
def colI (q : S16384.Idx → BitVec 32) : S16384x1.Idx → BitVec 32 := broadcastInDim S16384x1 ![0] bcast_S16384_S16384x1_0 (fixI q)
def okI (q : S16384.Idx → BitVec 32) : S16384.Idx → BitVec 1 :=
  Host.reduce IntOp.andi (andi (cmpi .sge (colI q) (broadcastInDim S16384x1 ![] bcast_S_S16384x1 (constantI S_ 32 0#32))) (cmpi .sle (colI q) (broadcastInDim S16384x1 ![0, 1] bcast_S1x1_S16384x1_0_1 (broadcastInDim S1x1 ![1] bcast_S1_S1x1_1 (constantI S1 32 16383#32))))) (constantI S_ 1 1#1) reducesTo_S16384x1_S16384_d1 h_S_
def takeL (q L : S16384.Idx → BitVec 32) : S16384.Idx → BitVec 32 :=
  select (okI q) (Host.gather gather_S16384_S16384x1_S16384_n_0_n_n_0_1_1 L (colI q)) (broadcastInDim S16384 ![] bcast_S_S16384 (constantI S_ 32 2147483648#32))
def takeX (q : S16384.Idx → BitVec 32) (x : S16384x200.Idx → BitVec 32) : S16384x200.Idx → BitVec 32 :=
  select (broadcastInDim S16384x200 ![0] bcast_S16384_S16384x200_0 (okI q)) (Host.gather gather_S16384x200_S16384x1_S16384x200_1_0_n_n_0_1_1200 x (colI q)) (broadcastInDim S16384x200 ![] bcast_S_S16384x200 (constantI S_ 32 2147483648#32))

theorem fixI_eq {q : S16384.Idx → BitVec 32} (hq : ∀ i, (q i).toNat < 16384) : fixI q = q :=
  fix_small q _ _ (fun _ => rfl) fun i => lt_trans (hq i) (by decide)

theorem colI_at {q : S16384.Idx → BitVec 32} (hq : ∀ i, (q i).toNat < 16384) (j : S16384x1.Idx) : colI q j = q (at1 (j 0).val (j 0).isLt) := by
  unfold colI
  rw [fixI_eq hq]
  refine broadcastInDim_apply _ _ _ _ _ fun a => ?_
  rw [Fin.eq_zero a, if_neg (by decide)]
  rfl

theorem okI_eq {q : S16384.Idx → BitVec 32} (hq : ∀ i, (q i).toNat < 16384) (j : S16384.Idx) : okI q j = 1#1 := by
  unfold okI
  refine Host.reduce_andi_one _ _ _ _ _ rfl fun i => within _ _ _ 16383 (by decide) (fun _ => rfl) (fun _ => rfl) (fun i => ?_) i
  rw [colI_at hq i]
  have := hq (at1 (i 0).val (i 0).isLt)
  omega

theorem takeL_at {q L : S16384.Idx → BitVec 32} (hq : ∀ i, (q i).toNat < 16384) (p : ℕ) (hp : p < 16384) : takeL q L (at1 p hp) = L (at1 (q (at1 p hp)).toNat (hq _)) := by
  have h1 : takeL q L (at1 p hp) = Host.gather gather_S16384_S16384x1_S16384_n_0_n_n_0_1_1 L (colI q) (at1 p hp) := by
    unfold takeL; exact select_one _ _ _ _ (okI_eq hq _)
  refine h1.trans ?_
  have h2 := StableHlo.Predicate.gather_take gather_S16384_S16384x1_S16384_n_0_n_n_0_1_1 rfl rfl rfl rfl L (colI q) ⟨p, hp⟩ (by decide)
  have e : ∀ k : Fin 16384, (Shape.Idx.ofFin k : S16384.Idx) = at1 k.val k.isLt := fun k => by funext a; rw [Fin.eq_zero a]; rfl
  rw [e, e] at h2
  refine h2.trans ?_
  have h3 : colI q (StableHlo.Predicate.ixP ⟨p, hp⟩) = q (at1 p hp) := colI_at hq _
  have h4 := hq (at1 p hp)
  have h5 : min (colI q (StableHlo.Predicate.ixP ⟨p, hp⟩)).toInt.toNat (16384 - 1) = (q (at1 p hp)).toNat := by
    rw [h3, toInt_small (by omega), Int.toNat_natCast]; omega
  exact congrArg L (by funext a; rw [Fin.eq_zero a]; exact Fin.ext h5)

theorem takeX_at {q : S16384.Idx → BitVec 32} {x : S16384x200.Idx → BitVec 32} (hq : ∀ i, (q i).toNat < 16384) (p : ℕ) (hp : p < 16384) (t : ℕ) (ht : t < 200) :
    takeX q x (at2 p t hp ht) = x (at2 (q (at1 p hp)).toNat t (hq _) ht) := by
  have hok : broadcastInDim S16384x200 ![0] bcast_S16384_S16384x200_0 (okI q) (at2 p t hp ht) = 1#1 := by
    unfold broadcastInDim; exact okI_eq hq _
  have h1 : takeX q x (at2 p t hp ht) = Host.gather gather_S16384x200_S16384x1_S16384x200_1_0_n_n_0_1_1200 x (colI q) (at2 p t hp ht) := by
    unfold takeX; exact select_one _ _ _ _ hok
  refine h1.trans ?_
  have e : ∀ (n k : ℕ) (a : Fin n) (b : Fin k), (ValueIdx.ix2 a b) = at2 a.val b.val a.isLt b.isLt := fun n k a b => by
    funext c
    match c with
    | ⟨0, _⟩ => rfl
    | ⟨1, _⟩ => rfl
  have h3 : colI q (ValueIdx.ix2 (⟨p, hp⟩ : Fin 16384) (0 : Fin 1)) = BitVec.ofNat 32 (q (at1 p hp)).toNat := by
    rw [BitVec.ofNat_toNat, BitVec.setWidth_eq]; exact colI_at hq _
  have h2 := Routing.gather_row gather_S16384x200_S16384x1_S16384x200_1_0_n_n_0_1_1200 rfl rfl rfl rfl rfl x (colI q) ⟨p, hp⟩ ⟨t, ht⟩ ⟨(q (at1 p hp)).toNat, hq _⟩ h3 (by decide)
  rw [e, e] at h2
  exact h2

/-! ## The lookup in the table -/

/-- Rows of a table at indices of two axes. -/
abbrev rowDims (N C n k : ℕ) (wf : GatherDims.WF ⟨2, ![N, C]⟩ ⟨3, ![n, k, 1]⟩ ⟨3, ![n, k, C]⟩ [2] [0] [] [0] [] 2 ![1, C]) :
    GatherDims ⟨2, ![N, C]⟩ ⟨3, ![n, k, 1]⟩ ⟨3, ![n, k, C]⟩ where
  offsetDims := [2]
  collapsedSliceDims := [0]
  operandBatchingDims := []
  startIndicesBatchingDims := []
  startIndexMap := [0]
  indexVectorDim := 2
  sliceSizes := ![1, C]
  wf := wf

theorem rows_at {α : Type} {N C n k : ℕ} (wf : GatherDims.WF ⟨2, ![N, C]⟩ ⟨3, ![n, k, 1]⟩ ⟨3, ![n, k, C]⟩ [2] [0] [] [0] [] 2 ![1, C])
    (x : (⟨2, ![N, C]⟩ : Shape).Idx → α) (idx : IVec ⟨3, ![n, k, 1]⟩ 32) (a b c : ℕ) (ha : a < n) (hb : b < k) (hc : c < C) (r : ℕ) (hr : r < N)
    (h : (idx (at3 a b 0 ha hb Nat.one_pos)).toInt.toNat = r) :
    Host.gather (rowDims N C n k wf) x idx (at3 a b c ha hb hc) = x (at2 r c hr hc) := by
  unfold Host.gather
  refine congrArg x (funext fun z => Fin.ext ?_)
  show (rowDims N C n k wf).start (at3 a b c ha hb hc) idx z + (rowDims N C n k wf).batchCoord (at3 a b c ha hb hc) z + (rowDims N C n k wf).offCoord (at3 a b c ha hb hc) z = _
  rw [GatherDims.batchCoord_eq_zero _ _ _ List.not_mem_nil, Nat.add_zero]
  have h10 : (1 : Fin 2) ∉ ([0] : List (Fin 2)) := by decide
  have h01 : z = (0 : Fin 2) ∨ z = (1 : Fin 2) := by
    match z with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (rowDims N C n k wf).startIndexMap from List.mem_singleton.mpr rfl)]
    have hsi : (rowDims N C n k wf).siIdx (at3 a b c ha hb hc) ⟨List.idxOf (0 : Fin 2) (rowDims N C n k wf).startIndexMap,
        List.idxOf_lt_length_iff.2 (List.mem_singleton.mpr rfl)⟩ = at3 a b 0 ha hb Nat.one_pos := by
      funext y; refine Fin.ext ?_
      match y with
      | ⟨0, _⟩ => rfl
      | ⟨1, _⟩ => rfl
      | ⟨2, _⟩ => rfl
    show min (idx ((rowDims N C n k wf).siIdx (at3 a b c ha hb hc) ⟨List.idxOf (0 : Fin 2) (rowDims N C n k wf).startIndexMap, _⟩)).toInt.toNat (N - 1) = r
    rw [hsi, h]; omega
  · have hs : (rowDims N C n k wf).start (at3 a b c ha hb hc) idx (1 : Fin 2) = 0 := by
      unfold GatherDims.start
      exact dif_neg h10
    have ho : (rowDims N C n k wf).offCoord (at3 a b c ha hb hc) (1 : Fin 2) = c := by
      unfold GatherDims.offCoord
      rw [dif_pos ((GatherDims.mem_sKept _ _).mpr ⟨h10, List.not_mem_nil⟩)]
      rfl
    exact (congrArg₂ (· + ·) hs ho).trans (Nat.zero_add c)

def fixT (y : S16384x200.Idx → BitVec 32) : S16384x200.Idx → BitVec 32 :=
  select (cmpi .slt y (broadcastInDim S16384x200 ![] bcast_S_S16384x200 (constantI S_ 32 0#32))) (addi y (broadcastInDim S16384x200 ![] bcast_S_S16384x200 (constantI S_ 32 8#32))) y
def colT (y : S16384x200.Idx → BitVec 32) : S16384x200x1.Idx → BitVec 32 := broadcastInDim S16384x200x1 ![0, 1] bcast_S16384x200_S16384x200x1_0_1 (fixT y)
def okT (y : S16384x200.Idx → BitVec 32) : S16384x200.Idx → BitVec 1 :=
  Host.reduce IntOp.andi (andi (cmpi .sge (colT y) (broadcastInDim S16384x200x1 ![] bcast_S_S16384x200x1 (constantI S_ 32 0#32))) (cmpi .sle (colT y) (broadcastInDim S16384x200x1 ![0, 1, 2] bcast_S1x1x1_S16384x200x1_0_1_2 (broadcastInDim S1x1x1 ![2] bcast_S1_S1x1x1_2 (constantI S1 32 7#32))))) (constantI S_ 1 1#1) reducesTo_S16384x200x1_S16384x200_d2 h_S_
def takeT (y : S16384x200.Idx → BitVec 32) (t : S8x8.Idx → F .f32) : S16384x200x8.Idx → F .f32 :=
  select (broadcastInDim S16384x200x8 ![0, 1] bcast_S16384x200_S16384x200x8_0_1 (okT y)) (Host.gather gather_S8x8_S16384x200x1_S16384x200x8_2_0_n_n_0_2_18 t (colT y)) (broadcastInDim S16384x200x8 ![] bcast_S_S16384x200x8 (constant S_ .f32 0x7FC00000#32))

theorem fixT_eq {y : S16384x200.Idx → BitVec 32} (hy : ∀ i, (y i).toNat < 8) : fixT y = y :=
  fix_small y _ _ (fun _ => rfl) fun i => lt_trans (hy i) (by decide)

theorem colT_at {y : S16384x200.Idx → BitVec 32} (hy : ∀ i, (y i).toNat < 8) (j : S16384x200x1.Idx) : colT y j = y (at2 (j 0).val (j 1).val (j 0).isLt (j 1).isLt) := by
  unfold colT
  rw [fixT_eq hy]
  refine broadcastInDim_apply _ _ _ _ _ fun a => ?_
  match a with
  | ⟨0, _⟩ => exact (if_neg (show ¬ (16384 : ℕ) = 1 by decide)).symm
  | ⟨1, _⟩ => exact (if_neg (show ¬ (200 : ℕ) = 1 by decide)).symm

theorem okT_eq {y : S16384x200.Idx → BitVec 32} (hy : ∀ i, (y i).toNat < 8) (j : S16384x200.Idx) : okT y j = 1#1 := by
  unfold okT
  refine Host.reduce_andi_one _ _ _ _ _ rfl fun i => within _ _ _ 7 (by decide) (fun _ => rfl) (fun _ => rfl) (fun i => ?_) i
  rw [colT_at hy i]
  have := hy (at2 (i 0).val (i 1).val (i 0).isLt (i 1).isLt)
  omega

theorem takeT_at {y : S16384x200.Idx → BitVec 32} {t : S8x8.Idx → F .f32} (hy : ∀ i, (y i).toNat < 8) (a b c : ℕ) (ha : a < 16384) (hb : b < 200) (hc : c < 8) :
    takeT y t (at3 a b c ha hb hc) = t (at2 (y (at2 a b ha hb)).toNat c (hy _) hc) := by
  have hok : broadcastInDim S16384x200x8 ![0, 1] bcast_S16384x200_S16384x200x8_0_1 (okT y) (at3 a b c ha hb hc) = 1#1 := by
    unfold broadcastInDim; exact okT_eq hy _
  have h1 : takeT y t (at3 a b c ha hb hc) = Host.gather gather_S8x8_S16384x200x1_S16384x200x8_2_0_n_n_0_2_18 t (colT y) (at3 a b c ha hb hc) := by
    unfold takeT; exact select_one _ _ _ _ hok
  refine h1.trans ?_
  have h3 : colT y (at3 a b 0 ha hb Nat.one_pos) = y (at2 a b ha hb) := colT_at hy _
  have h4 := hy (at2 a b ha hb)
  exact rows_at (N := 8) (C := 8) (n := 16384) (k := 200) _ t (colT y) a b c ha hb hc _ (hy _) (by rw [h3, toInt_small (by omega), Int.toNat_natCast])

end Cert.ReferenceIdeal.Own

end
-- ==== Proof.Same.lean ====
/- The two prints of the reference are one text. -/
module

public import proofs.«01_k».proof.Proof.Gen.Reference
public import proofs.«01_k».proof.Proof.Gen.ReferenceIdeal

@[expose] public section

noncomputable section

namespace Cert.ReferenceIdeal.Own

open Idealize.ShloMosaic Idealize.SL.Sem

set_option maxHeartbeats 4000000 in
theorem defs_same {F : FTy → Type} [FloatOps F] : Cert.Reference.defs (F := F) = Cert.ReferenceIdeal.defs (F := F) := rfl

set_option maxHeartbeats 4000000 in
theorem main_same {F : FTy → Type} [FloatOps F] : Cert.Reference.main (F := F) = Cert.ReferenceIdeal.main (F := F) := rfl

/-- A run of the one print is a run of the other. -/
theorem run_same {F : FTy → Type} [FloatOps F] : θ_run (Cert.Reference.defs (F := F)) (onTc (τ := Cert.Reference.τ) (Cert.Reference.main (F := F)))
    = θ_run (Cert.ReferenceIdeal.defs (F := F)) (onTc (τ := Cert.ReferenceIdeal.τ) (Cert.ReferenceIdeal.main (F := F))) :=
  (congrArg (fun p => θ_run (Cert.Reference.defs (F := F)) (onTc (τ := Cert.Reference.τ) p)) (main_same (F := F))).trans
    (congrArg (fun d => θ_run d (onTc (τ := Cert.ReferenceIdeal.τ) (Cert.ReferenceIdeal.main (F := F)))) (defs_same (F := F)))

end Cert.ReferenceIdeal.Own

end
-- ==== Proof.Values.lean ====
/- What the kernel leaves is what the reference computes. -/
module

public import proofs.«01_k».proof.Proof.Frames
public import proofs.«01_k».proof.Proof.Sorts
public import proofs.«01_k».proof.Proof.Takes
public import proofs.«01_k».proof.Proof.Same

@[expose] public section

noncomputable section

namespace Cert.ReferenceIdeal.Own

open Cert.ReferenceIdeal Cert.ReferenceIdeal.Gen
open Idealize.ShloMosaic Idealize.SL.Sem
open Cert.KernelIdeal.Own (at1 at2 at3 at4 at1_eta at2_eta ent ent_lt lenOf rkT slT outT outN xOf xOf_at tOf rOf Ranged Left run_in ranged_of a0 a1 a2)

variable {F : FTy → Type} [FloatOps F]

theorem at3_eta {n0 n1 n2 : ℕ} (j : (⟨3, ![n0, n1, n2]⟩ : Shape).Idx) : j = at3 (j 0).val (j 1).val (j 2).val (j 0).isLt (j 1).isLt (j 2).isLt := by
  funext a
  match a with
  | ⟨0, _⟩ => rfl
  | ⟨1, _⟩ => rfl
  | ⟨2, _⟩ => rfl

/-! ## The kernel's side -/

/-- A word of the table as the call takes it. -/
theorem tOf_at (t : S8x8.Idx → F .f32) (v c : ℕ) (hv : v < 8) (hc : c < 8) (k : ℕ) (hk : k < 64) (e : k = 8 * v + c) : tOf (F := F) t (at1 k hk) = t (at2 v c hv hc) := by
  unfold tOf
  refine shapeCast_apply _ _ _ (at2 (n0 := 8) (n1 := 8) v c hv hc) ?_
  rw [Shape.rowMajor_val_two, Shape.rowMajor_val_one]
  show v * 8 + c = k
  omega

/-- An element of the first result from what the call leaves. -/
theorem rOf_at (o : Cert.KernelIdeal.S200x128x8x128.Idx → F .f32) (a b c : ℕ) (ha : a < 16384) (hb : b < 200) (hc : c < 8) :
    rOf (F := F) o (at3 a b c ha hb hc) = o (at4 b (a / 128) c (a % 128) hb (by omega) hc (by omega)) := by
  unfold rOf
  refine (shapeCast_apply _ _ _ (at4 (n0 := 128) (n1 := 128) (n2 := 200) (n3 := 8) (a / 128) (a % 128) b c (by omega) (by omega) hb hc) ?_).trans ?_
  · rw [Shape.rowMajor_val_four, Shape.rowMajor_val_three]
    show ((a / 128 * 128 + a % 128) * 200 + b) * 8 + c = (a * 200 + b) * 8 + c
    have : a / 128 * 128 + a % 128 = a := by omega
    rw [this]
  · refine transpose_apply _ _ _ _ _ fun z => ?_
    match z with
    | ⟨0, _⟩ => rfl
    | ⟨1, _⟩ => rfl
    | ⟨2, _⟩ => rfl
    | ⟨3, _⟩ => rfl

theorem outN_at (t : S8x8.Idx → F .f32) (x : S16384x200.Idx → BitVec 32) (l : ℕ → ℕ) (hx : ∀ i, (x i).toNat < 8) (a b c : ℕ) (ha : a < 16384) (hb : b < 200) (hc : c < 8) :
    outN (F := F) (tOf t) (xOf x) l b (a / 128) c (a % 128) = t (at2 (x (at2 (ent l a ha) b (ent_lt l a ha) hb)).toNat c (hx _) hc) := by
  unfold outN
  have e1 : ∀ (p : ℕ) (hp : p < 16384) (h : ℕ) (hh : h < 2) (e : p = a) (e' : h = b / 128),
      xOf x (at3 (ent l p hp) h (b % 128) (ent_lt l p hp) hh (by omega)) = x (at2 (ent l a ha) b (ent_lt l a ha) hb) := by
    intro p hp h hh e e'
    subst e e'
    exact xOf_at x _ _ b hb
  have e2 := e1 ((128 * (a / 128) + a % 128) % 16384) (Nat.mod_lt _ (by decide)) (b / 128 % 2) (Nat.mod_lt _ (by decide)) (by omega) (by omega)
  have h3 := hx (at2 (ent l a ha) b (ent_lt l a ha) hb)
  refine tOf_at t _ c (hx _) hc _ _ ?_
  rw [e2]
  omega

/-! ## The two together -/

theorem out_same {t : S8x8.Idx → F .f32} {x : S16384x200.Idx → BitVec 32} {L : S16384.Idx → BitVec 32} (h : Ranged x L) :
    takeT (takeX (argA L) x) t = rOf (F := F) (outT (tOf t) (xOf x) (lenOf L)) := by
  have hA : ∀ p (hp : p < 16384), (argA L (at1 p hp)).toNat = ent (lenOf L) p hp := fun p hp => by
    have := ent_lt (lenOf L) p hp
    rw [argA_at h.len p hp, BitVec.toNat_ofNat, Nat.mod_eq_of_lt (by omega)]
  have hq : ∀ i, (argA L i).toNat < 16384 := fun i => by
    exact lt_of_eq_of_lt ((congrArg (fun z => (argA L z).toNat) (at1_eta i).symm).trans (hA (i 0).val (i 0).isLt)) (ent_lt _ _ _)
  have e : ∀ (p p' : ℕ) (hp : p < 16384) (hp' : p' < 16384) (b : ℕ) (hb : b < 200), p = p' → x (at2 p b hp hb) = x (at2 p' b hp' hb) := by
    intro p p' hp hp' b hb e; subst e; rfl
  have hX : ∀ a b (ha : a < 16384) (hb : b < 200), takeX (argA L) x (at2 a b ha hb) = x (at2 (ent (lenOf L) a ha) b (ent_lt _ _ _) hb) := fun a b ha hb =>
    (takeX_at hq a ha b hb).trans (e _ _ _ _ b hb (hA a ha))
  have hy : ∀ i, (takeX (argA L) x i).toNat < 8 := fun i => by
    exact lt_of_eq_of_lt (congrArg BitVec.toNat ((congrArg (takeX (argA L) x) (at2_eta i)).trans (hX (i 0).val (i 1).val (i 0).isLt (i 1).isLt))) (h.x_lt _)
  funext j
  rw [at3_eta j]
  refine (takeT_at hy (j 0).val (j 1).val (j 2).val (j 0).isLt (j 1).isLt (j 2).isLt).trans ?_
  refine Eq.trans ?_ (rOf_at (F := F) _ (j 0).val (j 1).val (j 2).val (j 0).isLt (j 1).isLt (j 2).isLt).symm
  refine Eq.trans ?_ (outN_at (F := F) t x (lenOf L) h.x_lt (j 0).val (j 1).val (j 2).val (j 0).isLt (j 1).isLt (j 2).isLt).symm
  have e3 : ∀ (w w' : BitVec 32) (hw : w.toNat < 8) (hw' : w'.toNat < 8) (c : ℕ) (hc : c < 8), w = w' → t (at2 w.toNat c hw hc) = t (at2 w'.toNat c hw' hc) := by
    intro w w' hw hw' c hc e; subst e; rfl
  exact e3 _ _ _ _ _ _ (hX (j 0).val (j 1).val (j 0).isLt (j 1).isLt)

theorem sl_same {x : S16384x200.Idx → BitVec 32} {L : S16384.Idx → BitVec 32} (h : Ranged x L) : takeL (argA L) L = slT L (lenOf L) := by
  have hA : ∀ p (hp : p < 16384), (argA L (at1 p hp)).toNat = ent (lenOf L) p hp := fun p hp => by
    have := ent_lt (lenOf L) p hp
    rw [argA_at h.len p hp, BitVec.toNat_ofNat, Nat.mod_eq_of_lt (by omega)]
  have hq : ∀ i, (argA L i).toNat < 16384 := fun i => by
    exact lt_of_eq_of_lt ((congrArg (fun z => (argA L z).toNat) (at1_eta i).symm).trans (hA (i 0).val (i 0).isLt)) (ent_lt _ _ _)
  have e : ∀ (p p' : ℕ) (hp : p < 16384) (hp' : p' < 16384), p = p' → L (at1 p hp) = L (at1 p' hp') := by
    intro p p' hp hp' e; subst e; rfl
  funext j
  refine (congrArg (takeL (argA L) L) (at1_eta j).symm).trans ?_
  exact (takeL_at hq (j 0).val (j 0).isLt).trans (e _ _ _ _ (hA (j 0).val (j 0).isLt))

/-! ## The claim -/

theorem res_eq (m : (ℓ : Loc nD τ sig) → Buf (Elt F) ℓ) (c : Dev nD) :
    Value.res_out0 m c = takeT (F := F) (takeX (argA (m ((c.tc : Thread nD τ).loc main_arg1))) (m ((c.tc : Thread nD τ).loc main_arg0))) (m ((c.tc : Thread nD τ).loc main_arg2)) := by
  unfold Value.res_out0 Value.res_main_v5 takeT okT colT fixT takeX okI colI fixI argA
  rfl

/-- What the reference leaves, over any float values, from arguments in the ranges: the kernel's own three results. -/
theorem run_reference (m : (ℓ : Loc nD τ sig) → Buf (Elt F) ℓ) (ρ : Dev nD → PrngReg)
    (x : (c : Dev nD) → S16384x200.Idx → BitVec 32) (L : (c : Dev nD) → S16384.Idx → BitVec 32) (t : (c : Dev nD) → S8x8.Idx → F .f32)
    (hr : ∀ c, Ranged (x c) (L c))
    (ha : ∀ c : Dev nD, m ((c.tc : Thread nD τ).loc main_arg0) = x c ∧ m ((c.tc : Thread nD τ).loc main_arg1) = L c ∧ m ((c.tc : Thread nD τ).loc main_arg2) = t c) :
    θ_run (defs (F := F)) (onTc (τ := τ) (main (F := F))) ⟨m, fun _ => 0, ρ⟩ fun r => ∀ c : Dev nD,
      r.2.mem ((c.tc : Thread nD τ).loc main_v5) = rOf (F := F) (outT (tOf (t c)) (xOf (x c)) (lenOf (L c)))
      ∧ r.2.mem ((c.tc : Thread nD τ).loc main_v4) = slT (L c) (lenOf (L c))
      ∧ r.2.mem ((c.tc : Thread nD τ).loc main_v2) = rkT (lenOf (L c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := F) m ρ)
  obtain ⟨h5, h4, h2, h6, h7, h8⟩ := h c
  obtain ⟨e0, e1, e2⟩ := ha c
  have o : Value.res_out0 m c = rOf (F := F) (outT (tOf (t c)) (xOf (x c)) (lenOf (L c))) := by
    rw [res_eq m c, e0, e1, e2]; exact out_same (hr c)
  have s : takeL (argA (m ((c.tc : Thread nD τ).loc main_arg1))) (m ((c.tc : Thread nD τ).loc main_arg1)) = slT (L c) (lenOf (L c)) := by
    rw [e1]; exact sl_same (hr c)
  have k : argB (m ((c.tc : Thread nD τ).loc main_arg1)) = rkT (lenOf (L c)) := by
    rw [e1]; exact argB_eq (hr c).len
  refine ⟨h5.trans o, h4.trans (Eq.trans ?_ s), h2.trans (Eq.trans ?_ k), h6, h7, h8⟩
  · unfold takeL okI colI fixI argA; rfl
  · unfold argB argA; rfl

/-- Over the extended reals, all three results of the kernel are the reference's. -/
theorem algebraic : Cert.algebraic_KernelIdeal_ReferenceIdeal := by
  intro m g m' g' hp ha
  have hr : ∀ d, Ranged (a0 m d) (a1 m d) := fun d => ranged_of _ _ _ (hp d)
  exact ⟨fun c => rOf (F := Ideal) (outT (tOf (a2 m c)) (xOf (a0 m c)) (lenOf (a1 m c))), fun c => slT (a1 m c) (lenOf (a1 m c)), fun c => rkT (lenOf (a1 m c)),
    (θ_run Cert.KernelIdeal.defs _ _).mono (fun _ h c => ⟨h.out c, h.sl c, h.rk c, h.arg0 c, h.arg1 c, h.arg2 c⟩) (run_in (F := Ideal) m g hr),
    run_reference (F := Ideal) m' g' (a0 m) (a1 m) (a2 m) hr ha⟩

/-- The reference's frame over the float words. -/
theorem frame_words : Cert.quiescent_Reference := by
  intro m ρ _
  rw [run_same]
  exact (θ_run Cert.ReferenceIdeal.defs _ _).mono (fun r h => ⟨fun c => (h c).2.2.2, Idealize.ShloMosaic.sem_eq_zero_of_no_sems (by decide) r.2⟩) (Value.run (F := Bits) m ρ)

theorem frame_words_ranges : Cert.quiescent_Reference_pre_ranges := fun m ρ _ => frame_words m ρ trivial

/-- Word by word, all three results of the kernel are the reference's. -/
theorem bitexact : Cert.bitexact_Kernel_Reference := by
  intro m g m' g' hp ha
  have hr : ∀ d, Ranged (a0 (F := Bits) m d) (a1 (F := Bits) m d) := fun d => ranged_of _ _ _ (hp d)
  refine ⟨fun c => rOf (F := Bits) (outT (tOf (a2 (F := Bits) m c)) (xOf (a0 (F := Bits) m c)) (lenOf (a1 (F := Bits) m c))),
    fun c => slT (a1 (F := Bits) m c) (lenOf (a1 (F := Bits) m c)), fun c => rkT (lenOf (a1 (F := Bits) m c)),
    (θ_run Cert.KernelIdeal.defs _ _).mono (fun _ h c => ⟨h.out c, h.sl c, h.rk c, h.arg0 c, h.arg1 c, h.arg2 c⟩) (run_in (F := Bits) m g hr), ?_⟩
  rw [run_same]
  exact run_reference (F := Bits) m' g' (a0 (F := Bits) m) (a1 (F := Bits) m) (a2 (F := Bits) m) hr ha

end Cert.ReferenceIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_ranges
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- All the claims: the frames of the two kernel programs and of the reference, the ideal program as
the kernel's own text, and the equality of all three results with the reference's, over the extended reals and word by word. -/
theorem claim : Cert.Claim :=
  ⟨Cert.Kernel.Gen.facts, Cert.KernelIdeal.Gen.facts, Cert.ReferenceIdeal.Gen.facts, Cert.Reference.Gen.facts, Cert.Pre_ranges.Gen.facts,
    Cert.KernelIdeal.Own.frame_kernel, Cert.KernelIdeal.Own.frame_kernelIdeal, Cert.KernelIdeal.Own.frame_reference,
    Cert.KernelIdeal.Own.frame_reference_ranges, Cert.ReferenceIdeal.Own.frame_words, Cert.ReferenceIdeal.Own.frame_words_ranges, trivial,
    Cert.ReferenceIdeal.Own.algebraic, Cert.ReferenceIdeal.Own.bitexact⟩

end Cert.Proof

end
